-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7)) (m ((c.tc : Thread Cert.KernelFwdIdeal.nD Cert.KernelFwdIdeal.τ).loc Cert.KernelFwdIdeal.main_arg8))).1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7)) (m ((c.tc : Thread Cert.KernelFwdIdeal.nD Cert.KernelFwdIdeal.τ).loc Cert.KernelFwdIdeal.main_arg8))).2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7)) (m ((c.tc : Thread Cert.KernelFwdIdeal.nD Cert.KernelFwdIdeal.τ).loc Cert.KernelFwdIdeal.main_arg8))).2.2 = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7)) (m ((c.tc : Thread Cert.ReferenceFwdIdeal.nD Cert.ReferenceFwdIdeal.τ).loc Cert.ReferenceFwdIdeal.main_arg8))).1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7)) (m ((c.tc : Thread Cert.ReferenceFwdIdeal.nD Cert.ReferenceFwdIdeal.τ).loc Cert.ReferenceFwdIdeal.main_arg8))).2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7)) (m ((c.tc : Thread Cert.ReferenceFwdIdeal.nD Cert.ReferenceFwdIdeal.τ).loc Cert.ReferenceFwdIdeal.main_arg8))).2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelSumUp (m : (ℓ : Loc Cert.KernelSumUp.nD Cert.KernelSumUp.τ Cert.KernelSumUp.sig) → Buf (Elt Bits) ℓ) : Prop :=
  True

def Pre_KernelSumUpIdeal (m : (ℓ : Loc Cert.KernelSumUpIdeal.nD Cert.KernelSumUpIdeal.τ Cert.KernelSumUpIdeal.sig) → Buf (Elt Ideal) ℓ) : Prop :=
  True

def Pre_ReferenceSumUpIdeal (m : (ℓ : Loc Cert.ReferenceSumUpIdeal.nD Cert.ReferenceSumUpIdeal.τ Cert.ReferenceSumUpIdeal.sig) → Buf (Elt Ideal) ℓ) : Prop :=
  True

def Pre_KernelWMod (m : (ℓ : Loc Cert.KernelWMod.nD Cert.KernelWMod.τ Cert.KernelWMod.sig) → Buf (Elt Bits) ℓ) : Prop :=
  True

def Pre_KernelWModIdeal (m : (ℓ : Loc Cert.KernelWModIdeal.nD Cert.KernelWModIdeal.τ Cert.KernelWModIdeal.sig) → Buf (Elt Ideal) ℓ) : Prop :=
  True

def Pre_ReferenceWModIdeal (m : (ℓ : Loc Cert.ReferenceWModIdeal.nD Cert.ReferenceWModIdeal.τ Cert.ReferenceWModIdeal.sig) → Buf (Elt Ideal) ℓ) : Prop :=
  True

def Pre_KernelWIn (m : (ℓ : Loc Cert.KernelWIn.nD Cert.KernelWIn.τ Cert.KernelWIn.sig) → Buf (Elt Bits) ℓ) : Prop :=
  True

def Pre_KernelWInIdeal (m : (ℓ : Loc Cert.KernelWInIdeal.nD Cert.KernelWInIdeal.τ Cert.KernelWInIdeal.sig) → Buf (Elt Ideal) ℓ) : Prop :=
  True

def Pre_ReferenceWInIdeal (m : (ℓ : Loc Cert.ReferenceWInIdeal.nD Cert.ReferenceWInIdeal.τ Cert.ReferenceWInIdeal.sig) → Buf (Elt Ideal) ℓ) : Prop :=
  True

def Pre_KernelWUp (m : (ℓ : Loc Cert.KernelWUp.nD Cert.KernelWUp.τ Cert.KernelWUp.sig) → Buf (Elt Bits) ℓ) : Prop :=
  True

def Pre_KernelWUpIdeal (m : (ℓ : Loc Cert.KernelWUpIdeal.nD Cert.KernelWUpIdeal.τ Cert.KernelWUpIdeal.sig) → Buf (Elt Ideal) ℓ) : Prop :=
  True

def Pre_ReferenceWUpIdeal (m : (ℓ : Loc Cert.ReferenceWUpIdeal.nD Cert.ReferenceWUpIdeal.τ Cert.ReferenceWUpIdeal.sig) → Buf (Elt Ideal) ℓ) : Prop :=
  True

def Pre_KernelConvW (m : (ℓ : Loc Cert.KernelConvW.nD Cert.KernelConvW.τ Cert.KernelConvW.sig) → Buf (Elt Bits) ℓ) : Prop :=
  True

def Pre_KernelConvWIdeal (m : (ℓ : Loc Cert.KernelConvWIdeal.nD Cert.KernelConvWIdeal.τ Cert.KernelConvWIdeal.sig) → Buf (Elt Ideal) ℓ) : Prop :=
  True

def Pre_ReferenceConvWIdeal (m : (ℓ : Loc Cert.ReferenceConvWIdeal.nD Cert.ReferenceConvWIdeal.τ Cert.ReferenceConvWIdeal.sig) → Buf (Elt Ideal) ℓ) : Prop :=
  True

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelWDown (m : (ℓ : Loc Cert.KernelWDown.nD Cert.KernelWDown.τ Cert.KernelWDown.sig) → Buf (Elt Bits) ℓ) : Prop :=
  True

def Pre_KernelWDownIdeal (m : (ℓ : Loc Cert.KernelWDownIdeal.nD Cert.KernelWDownIdeal.τ Cert.KernelWDownIdeal.sig) → Buf (Elt Ideal) ℓ) : Prop :=
  True

def Pre_ReferenceWDownIdeal (m : (ℓ : Loc Cert.ReferenceWDownIdeal.nD Cert.ReferenceWDownIdeal.τ Cert.ReferenceWDownIdeal.sig) → Buf (Elt Ideal) ℓ) : Prop :=
  True

def Pre_KernelWGlu (m : (ℓ : Loc Cert.KernelWGlu.nD Cert.KernelWGlu.τ Cert.KernelWGlu.sig) → Buf (Elt Bits) ℓ) : Prop :=
  True

def Pre_KernelWGluIdeal (m : (ℓ : Loc Cert.KernelWGluIdeal.nD Cert.KernelWGluIdeal.τ Cert.KernelWGluIdeal.sig) → Buf (Elt Ideal) ℓ) : Prop :=
  True

def Pre_ReferenceWGluIdeal (m : (ℓ : Loc Cert.ReferenceWGluIdeal.nD Cert.ReferenceWGluIdeal.τ Cert.ReferenceWGluIdeal.sig) → Buf (Elt Ideal) ℓ) : Prop :=
  True

def Pre_KernelAdaFwd (m : (ℓ : Loc Cert.KernelAdaFwd.nD Cert.KernelAdaFwd.τ Cert.KernelAdaFwd.sig) → Buf (Elt Bits) ℓ) : Prop :=
  True

def Pre_KernelAdaFwdIdeal (m : (ℓ : Loc Cert.KernelAdaFwdIdeal.nD Cert.KernelAdaFwdIdeal.τ Cert.KernelAdaFwdIdeal.sig) → Buf (Elt Ideal) ℓ) : Prop :=
  True

def Pre_ReferenceAdaFwdIdeal (m : (ℓ : Loc Cert.ReferenceAdaFwdIdeal.nD Cert.ReferenceAdaFwdIdeal.τ Cert.ReferenceAdaFwdIdeal.sig) → Buf (Elt Ideal) ℓ) : Prop :=
  True

def Pre_KernelAdaBwd (m : (ℓ : Loc Cert.KernelAdaBwd.nD Cert.KernelAdaBwd.τ Cert.KernelAdaBwd.sig) → Buf (Elt Bits) ℓ) : Prop :=
  True

def Pre_KernelAdaBwdIdeal (m : (ℓ : Loc Cert.KernelAdaBwdIdeal.nD Cert.KernelAdaBwdIdeal.τ Cert.KernelAdaBwdIdeal.sig) → Buf (Elt Ideal) ℓ) : Prop :=
  True

def Pre_ReferenceAdaBwdIdeal (m : (ℓ : Loc Cert.ReferenceAdaBwdIdeal.nD Cert.ReferenceAdaBwdIdeal.τ Cert.ReferenceAdaBwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6)
      ∧ r.2.mem ((c.tc : Thread Cert.KernelFwd.nD Cert.KernelFwd.τ).loc Cert.KernelFwd.main_arg7) = m ((c.tc : Thread Cert.KernelFwd.nD Cert.KernelFwd.τ).loc Cert.KernelFwd.main_arg7)
      ∧ r.2.mem ((c.tc : Thread Cert.KernelFwd.nD Cert.KernelFwd.τ).loc Cert.KernelFwd.main_arg8) = m ((c.tc : Thread Cert.KernelFwd.nD Cert.KernelFwd.τ).loc Cert.KernelFwd.main_arg8))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
      ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
      ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7)
      ∧ r.2.mem ((c.tc : Thread Cert.ReferenceFwdIdeal.nD Cert.ReferenceFwdIdeal.τ).loc Cert.ReferenceFwdIdeal.main_arg8) = m ((c.tc : Thread Cert.ReferenceFwdIdeal.nD Cert.ReferenceFwdIdeal.τ).loc Cert.ReferenceFwdIdeal.main_arg8))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7)
      ∧ r.2.mem ((c.tc : Thread Cert.ReferenceFwdIdeal.nD Cert.ReferenceFwdIdeal.τ).loc Cert.ReferenceFwdIdeal.main_arg8) = m ((c.tc : Thread Cert.ReferenceFwdIdeal.nD Cert.ReferenceFwdIdeal.τ).loc Cert.ReferenceFwdIdeal.main_arg8))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelSumUp [hKernelSumUp : Cert.KernelSumUp.Facts] : Prop :=
  ∀ (m : (ℓ : Loc Cert.KernelSumUp.nD Cert.KernelSumUp.τ Cert.KernelSumUp.sig) → Buf (Elt Bits) ℓ) (g : Dev Cert.KernelSumUp.nD → PrngReg), Pre_KernelSumUp m →
    θ_run (Cert.KernelSumUp.defs (F := Bits)) (onTc (τ := Cert.KernelSumUp.τ) (Cert.KernelSumUp.main (F := Bits))) ⟨m, fun _ => 0, g⟩ (fun r => (∀ c : Dev Cert.KernelSumUp.nD,
      r.2.mem ((c.tc : Thread Cert.KernelSumUp.nD Cert.KernelSumUp.τ).loc Cert.KernelSumUp.main_arg0) = m ((c.tc : Thread Cert.KernelSumUp.nD Cert.KernelSumUp.τ).loc Cert.KernelSumUp.main_arg0))
      ∧ r.2.sem = fun _ => 0)

def quiescent_KernelSumUpIdeal [hKernelSumUpIdeal : Cert.KernelSumUpIdeal.Facts] : Prop :=
  ∀ (m : (ℓ : Loc Cert.KernelSumUpIdeal.nD Cert.KernelSumUpIdeal.τ Cert.KernelSumUpIdeal.sig) → Buf (Elt Ideal) ℓ) (g : Dev Cert.KernelSumUpIdeal.nD → PrngReg), Pre_KernelSumUpIdeal m →
    θ_run (Cert.KernelSumUpIdeal.defs (F := Ideal)) (onTc (τ := Cert.KernelSumUpIdeal.τ) (Cert.KernelSumUpIdeal.main (F := Ideal))) ⟨m, fun _ => 0, g⟩ (fun r => (∀ c : Dev Cert.KernelSumUpIdeal.nD,
      r.2.mem ((c.tc : Thread Cert.KernelSumUpIdeal.nD Cert.KernelSumUpIdeal.τ).loc Cert.KernelSumUpIdeal.main_arg0) = m ((c.tc : Thread Cert.KernelSumUpIdeal.nD Cert.KernelSumUpIdeal.τ).loc Cert.KernelSumUpIdeal.main_arg0))
      ∧ r.2.sem = fun _ => 0)

def quiescent_ReferenceSumUpIdeal [hReferenceSumUpIdeal : Cert.ReferenceSumUpIdeal.Facts] : Prop :=
  ∀ (m : (ℓ : Loc Cert.ReferenceSumUpIdeal.nD Cert.ReferenceSumUpIdeal.τ Cert.ReferenceSumUpIdeal.sig) → Buf (Elt Ideal) ℓ) (g : Dev Cert.ReferenceSumUpIdeal.nD → PrngReg), Pre_ReferenceSumUpIdeal m →
    θ_run (Cert.ReferenceSumUpIdeal.defs (F := Ideal)) (onTc (τ := Cert.ReferenceSumUpIdeal.τ) (Cert.ReferenceSumUpIdeal.main (F := Ideal))) ⟨m, fun _ => 0, g⟩ (fun r => (∀ c : Dev Cert.ReferenceSumUpIdeal.nD,
      r.2.mem ((c.tc : Thread Cert.ReferenceSumUpIdeal.nD Cert.ReferenceSumUpIdeal.τ).loc Cert.ReferenceSumUpIdeal.main_arg0) = m ((c.tc : Thread Cert.ReferenceSumUpIdeal.nD Cert.ReferenceSumUpIdeal.τ).loc Cert.ReferenceSumUpIdeal.main_arg0))
      ∧ r.2.sem = fun _ => 0)

def quiescent_KernelWMod [hKernelWMod : Cert.KernelWMod.Facts] : Prop :=
  ∀ (m : (ℓ : Loc Cert.KernelWMod.nD Cert.KernelWMod.τ Cert.KernelWMod.sig) → Buf (Elt Bits) ℓ) (g : Dev Cert.KernelWMod.nD → PrngReg), Pre_KernelWMod m →
    θ_run (Cert.KernelWMod.defs (F := Bits)) (onTc (τ := Cert.KernelWMod.τ) (Cert.KernelWMod.main (F := Bits))) ⟨m, fun _ => 0, g⟩ (fun r => (∀ c : Dev Cert.KernelWMod.nD,
      r.2.mem ((c.tc : Thread Cert.KernelWMod.nD Cert.KernelWMod.τ).loc Cert.KernelWMod.main_arg0) = m ((c.tc : Thread Cert.KernelWMod.nD Cert.KernelWMod.τ).loc Cert.KernelWMod.main_arg0)
      ∧ r.2.mem ((c.tc : Thread Cert.KernelWMod.nD Cert.KernelWMod.τ).loc Cert.KernelWMod.main_arg1) = m ((c.tc : Thread Cert.KernelWMod.nD Cert.KernelWMod.τ).loc Cert.KernelWMod.main_arg1)
      ∧ r.2.mem ((c.tc : Thread Cert.KernelWMod.nD Cert.KernelWMod.τ).loc Cert.KernelWMod.main_arg2) = m ((c.tc : Thread Cert.KernelWMod.nD Cert.KernelWMod.τ).loc Cert.KernelWMod.main_arg2)
      ∧ r.2.mem ((c.tc : Thread Cert.KernelWMod.nD Cert.KernelWMod.τ).loc Cert.KernelWMod.main_arg3) = m ((c.tc : Thread Cert.KernelWMod.nD Cert.KernelWMod.τ).loc Cert.KernelWMod.main_arg3))
      ∧ r.2.sem = fun _ => 0)

def quiescent_KernelWModIdeal [hKernelWModIdeal : Cert.KernelWModIdeal.Facts] : Prop :=
  ∀ (m : (ℓ : Loc Cert.KernelWModIdeal.nD Cert.KernelWModIdeal.τ Cert.KernelWModIdeal.sig) → Buf (Elt Ideal) ℓ) (g : Dev Cert.KernelWModIdeal.nD → PrngReg), Pre_KernelWModIdeal m →
    θ_run (Cert.KernelWModIdeal.defs (F := Ideal)) (onTc (τ := Cert.KernelWModIdeal.τ) (Cert.KernelWModIdeal.main (F := Ideal))) ⟨m, fun _ => 0, g⟩ (fun r => (∀ c : Dev Cert.KernelWModIdeal.nD,
      r.2.mem ((c.tc : Thread Cert.KernelWModIdeal.nD Cert.KernelWModIdeal.τ).loc Cert.KernelWModIdeal.main_arg0) = m ((c.tc : Thread Cert.KernelWModIdeal.nD Cert.KernelWModIdeal.τ).loc Cert.KernelWModIdeal.main_arg0)
      ∧ r.2.mem ((c.tc : Thread Cert.KernelWModIdeal.nD Cert.KernelWModIdeal.τ).loc Cert.KernelWModIdeal.main_arg1) = m ((c.tc : Thread Cert.KernelWModIdeal.nD Cert.KernelWModIdeal.τ).loc Cert.KernelWModIdeal.main_arg1)
      ∧ r.2.mem ((c.tc : Thread Cert.KernelWModIdeal.nD Cert.KernelWModIdeal.τ).loc Cert.KernelWModIdeal.main_arg2) = m ((c.tc : Thread Cert.KernelWModIdeal.nD Cert.KernelWModIdeal.τ).loc Cert.KernelWModIdeal.main_arg2)
      ∧ r.2.mem ((c.tc : Thread Cert.KernelWModIdeal.nD Cert.KernelWModIdeal.τ).loc Cert.KernelWModIdeal.main_arg3) = m ((c.tc : Thread Cert.KernelWModIdeal.nD Cert.KernelWModIdeal.τ).loc Cert.KernelWModIdeal.main_arg3))
      ∧ r.2.sem = fun _ => 0)

def quiescent_ReferenceWModIdeal [hReferenceWModIdeal : Cert.ReferenceWModIdeal.Facts] : Prop :=
  ∀ (m : (ℓ : Loc Cert.ReferenceWModIdeal.nD Cert.ReferenceWModIdeal.τ Cert.ReferenceWModIdeal.sig) → Buf (Elt Ideal) ℓ) (g : Dev Cert.ReferenceWModIdeal.nD → PrngReg), Pre_ReferenceWModIdeal m →
    θ_run (Cert.ReferenceWModIdeal.defs (F := Ideal)) (onTc (τ := Cert.ReferenceWModIdeal.τ) (Cert.ReferenceWModIdeal.main (F := Ideal))) ⟨m, fun _ => 0, g⟩ (fun r => (∀ c : Dev Cert.ReferenceWModIdeal.nD,
      r.2.mem ((c.tc : Thread Cert.ReferenceWModIdeal.nD Cert.ReferenceWModIdeal.τ).loc Cert.ReferenceWModIdeal.main_arg0) = m ((c.tc : Thread Cert.ReferenceWModIdeal.nD Cert.ReferenceWModIdeal.τ).loc Cert.ReferenceWModIdeal.main_arg0)
      ∧ r.2.mem ((c.tc : Thread Cert.ReferenceWModIdeal.nD Cert.ReferenceWModIdeal.τ).loc Cert.ReferenceWModIdeal.main_arg1) = m ((c.tc : Thread Cert.ReferenceWModIdeal.nD Cert.ReferenceWModIdeal.τ).loc Cert.ReferenceWModIdeal.main_arg1)
      ∧ r.2.mem ((c.tc : Thread Cert.ReferenceWModIdeal.nD Cert.ReferenceWModIdeal.τ).loc Cert.ReferenceWModIdeal.main_arg2) = m ((c.tc : Thread Cert.ReferenceWModIdeal.nD Cert.ReferenceWModIdeal.τ).loc Cert.ReferenceWModIdeal.main_arg2)
      ∧ r.2.mem ((c.tc : Thread Cert.ReferenceWModIdeal.nD Cert.ReferenceWModIdeal.τ).loc Cert.ReferenceWModIdeal.main_arg3) = m ((c.tc : Thread Cert.ReferenceWModIdeal.nD Cert.ReferenceWModIdeal.τ).loc Cert.ReferenceWModIdeal.main_arg3))
      ∧ r.2.sem = fun _ => 0)

def quiescent_KernelWIn [hKernelWIn : Cert.KernelWIn.Facts] : Prop :=
  ∀ (m : (ℓ : Loc Cert.KernelWIn.nD Cert.KernelWIn.τ Cert.KernelWIn.sig) → Buf (Elt Bits) ℓ) (g : Dev Cert.KernelWIn.nD → PrngReg), Pre_KernelWIn m →
    θ_run (Cert.KernelWIn.defs (F := Bits)) (onTc (τ := Cert.KernelWIn.τ) (Cert.KernelWIn.main (F := Bits))) ⟨m, fun _ => 0, g⟩ (fun r => (∀ c : Dev Cert.KernelWIn.nD,
      r.2.mem ((c.tc : Thread Cert.KernelWIn.nD Cert.KernelWIn.τ).loc Cert.KernelWIn.main_arg0) = m ((c.tc : Thread Cert.KernelWIn.nD Cert.KernelWIn.τ).loc Cert.KernelWIn.main_arg0)
      ∧ r.2.mem ((c.tc : Thread Cert.KernelWIn.nD Cert.KernelWIn.τ).loc Cert.KernelWIn.main_arg1) = m ((c.tc : Thread Cert.KernelWIn.nD Cert.KernelWIn.τ).loc Cert.KernelWIn.main_arg1)
      ∧ r.2.mem ((c.tc : Thread Cert.KernelWIn.nD Cert.KernelWIn.τ).loc Cert.KernelWIn.main_arg2) = m ((c.tc : Thread Cert.KernelWIn.nD Cert.KernelWIn.τ).loc Cert.KernelWIn.main_arg2)
      ∧ r.2.mem ((c.tc : Thread Cert.KernelWIn.nD Cert.KernelWIn.τ).loc Cert.KernelWIn.main_arg3) = m ((c.tc : Thread Cert.KernelWIn.nD Cert.KernelWIn.τ).loc Cert.KernelWIn.main_arg3))
      ∧ r.2.sem = fun _ => 0)

def quiescent_KernelWInIdeal [hKernelWInIdeal : Cert.KernelWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg), Pre_KernelWInIdeal m →
    θ_run (Cert.KernelWInIdeal.defs (F := Ideal)) (onTc (τ := Cert.KernelWInIdeal.τ) (Cert.KernelWInIdeal.main (F := Ideal))) ⟨m, fun _ => 0, g⟩ (fun r => (∀ c : Dev Cert.KernelWInIdeal.nD,
      r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
      ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1)
      ∧ r.2.mem ((c.tc : Thread Cert.KernelWInIdeal.nD Cert.KernelWInIdeal.τ).loc Cert.KernelWInIdeal.main_arg2) = m ((c.tc : Thread Cert.KernelWInIdeal.nD Cert.KernelWInIdeal.τ).loc Cert.KernelWInIdeal.main_arg2)
      ∧ r.2.mem ((c.tc : Thread Cert.KernelWInIdeal.nD Cert.KernelWInIdeal.τ).loc Cert.KernelWInIdeal.main_arg3) = m ((c.tc : Thread Cert.KernelWInIdeal.nD Cert.KernelWInIdeal.τ).loc Cert.KernelWInIdeal.main_arg3))
      ∧ r.2.sem = fun _ => 0)

def quiescent_ReferenceWInIdeal [hReferenceWInIdeal : Cert.ReferenceWInIdeal.Facts] : Prop :=
  ∀ (m : (ℓ : Loc Cert.ReferenceWInIdeal.nD Cert.ReferenceWInIdeal.τ Cert.ReferenceWInIdeal.sig) → Buf (Elt Ideal) ℓ) (g : Dev Cert.ReferenceWInIdeal.nD → PrngReg), Pre_ReferenceWInIdeal m →
    θ_run (Cert.ReferenceWInIdeal.defs (F := Ideal)) (onTc (τ := Cert.ReferenceWInIdeal.τ) (Cert.ReferenceWInIdeal.main (F := Ideal))) ⟨m, fun _ => 0, g⟩ (fun r => (∀ c : Dev Cert.ReferenceWInIdeal.nD,
      r.2.mem ((c.tc : Thread Cert.ReferenceWInIdeal.nD Cert.ReferenceWInIdeal.τ).loc Cert.ReferenceWInIdeal.main_arg0) = m ((c.tc : Thread Cert.ReferenceWInIdeal.nD Cert.ReferenceWInIdeal.τ).loc Cert.ReferenceWInIdeal.main_arg0)
      ∧ r.2.mem ((c.tc : Thread Cert.ReferenceWInIdeal.nD Cert.ReferenceWInIdeal.τ).loc Cert.ReferenceWInIdeal.main_arg1) = m ((c.tc : Thread Cert.ReferenceWInIdeal.nD Cert.ReferenceWInIdeal.τ).loc Cert.ReferenceWInIdeal.main_arg1)
      ∧ r.2.mem ((c.tc : Thread Cert.ReferenceWInIdeal.nD Cert.ReferenceWInIdeal.τ).loc Cert.ReferenceWInIdeal.main_arg2) = m ((c.tc : Thread Cert.ReferenceWInIdeal.nD Cert.ReferenceWInIdeal.τ).loc Cert.ReferenceWInIdeal.main_arg2)
      ∧ r.2.mem ((c.tc : Thread Cert.ReferenceWInIdeal.nD Cert.ReferenceWInIdeal.τ).loc Cert.ReferenceWInIdeal.main_arg3) = m ((c.tc : Thread Cert.ReferenceWInIdeal.nD Cert.ReferenceWInIdeal.τ).loc Cert.ReferenceWInIdeal.main_arg3))
      ∧ r.2.sem = fun _ => 0)

def quiescent_KernelWUp [hKernelWUp : Cert.KernelWUp.Facts] : Prop :=
  ∀ (m : (ℓ : Loc Cert.KernelWUp.nD Cert.KernelWUp.τ Cert.KernelWUp.sig) → Buf (Elt Bits) ℓ) (g : Dev Cert.KernelWUp.nD → PrngReg), Pre_KernelWUp m →
    θ_run (Cert.KernelWUp.defs (F := Bits)) (onTc (τ := Cert.KernelWUp.τ) (Cert.KernelWUp.main (F := Bits))) ⟨m, fun _ => 0, g⟩ (fun r => (∀ c : Dev Cert.KernelWUp.nD,
      r.2.mem ((c.tc : Thread Cert.KernelWUp.nD Cert.KernelWUp.τ).loc Cert.KernelWUp.main_arg0) = m ((c.tc : Thread Cert.KernelWUp.nD Cert.KernelWUp.τ).loc Cert.KernelWUp.main_arg0)
      ∧ r.2.mem ((c.tc : Thread Cert.KernelWUp.nD Cert.KernelWUp.τ).loc Cert.KernelWUp.main_arg1) = m ((c.tc : Thread Cert.KernelWUp.nD Cert.KernelWUp.τ).loc Cert.KernelWUp.main_arg1)
      ∧ r.2.mem ((c.tc : Thread Cert.KernelWUp.nD Cert.KernelWUp.τ).loc Cert.KernelWUp.main_arg2) = m ((c.tc : Thread Cert.KernelWUp.nD Cert.KernelWUp.τ).loc Cert.KernelWUp.main_arg2)
      ∧ r.2.mem ((c.tc : Thread Cert.KernelWUp.nD Cert.KernelWUp.τ).loc Cert.KernelWUp.main_arg3) = m ((c.tc : Thread Cert.KernelWUp.nD Cert.KernelWUp.τ).loc Cert.KernelWUp.main_arg3))
      ∧ r.2.sem = fun _ => 0)

def quiescent_KernelWUpIdeal [hKernelWUpIdeal : Cert.KernelWUpIdeal.Facts] : Prop :=
  ∀ (m : (ℓ : Loc Cert.KernelWUpIdeal.nD Cert.KernelWUpIdeal.τ Cert.KernelWUpIdeal.sig) → Buf (Elt Ideal) ℓ) (g : Dev Cert.KernelWUpIdeal.nD → PrngReg), Pre_KernelWUpIdeal m →
    θ_run (Cert.KernelWUpIdeal.defs (F := Ideal)) (onTc (τ := Cert.KernelWUpIdeal.τ) (Cert.KernelWUpIdeal.main (F := Ideal))) ⟨m, fun _ => 0, g⟩ (fun r => (∀ c : Dev Cert.KernelWUpIdeal.nD,
      r.2.mem ((c.tc : Thread Cert.KernelWUpIdeal.nD Cert.KernelWUpIdeal.τ).loc Cert.KernelWUpIdeal.main_arg0) = m ((c.tc : Thread Cert.KernelWUpIdeal.nD Cert.KernelWUpIdeal.τ).loc Cert.KernelWUpIdeal.main_arg0)
      ∧ r.2.mem ((c.tc : Thread Cert.KernelWUpIdeal.nD Cert.KernelWUpIdeal.τ).loc Cert.KernelWUpIdeal.main_arg1) = m ((c.tc : Thread Cert.KernelWUpIdeal.nD Cert.KernelWUpIdeal.τ).loc Cert.KernelWUpIdeal.main_arg1)
      ∧ r.2.mem ((c.tc : Thread Cert.KernelWUpIdeal.nD Cert.KernelWUpIdeal.τ).loc Cert.KernelWUpIdeal.main_arg2) = m ((c.tc : Thread Cert.KernelWUpIdeal.nD Cert.KernelWUpIdeal.τ).loc Cert.KernelWUpIdeal.main_arg2)
      ∧ r.2.mem ((c.tc : Thread Cert.KernelWUpIdeal.nD Cert.KernelWUpIdeal.τ).loc Cert.KernelWUpIdeal.main_arg3) = m ((c.tc : Thread Cert.KernelWUpIdeal.nD Cert.KernelWUpIdeal.τ).loc Cert.KernelWUpIdeal.main_arg3))
      ∧ r.2.sem = fun _ => 0)

def quiescent_ReferenceWUpIdeal [hReferenceWUpIdeal : Cert.ReferenceWUpIdeal.Facts] : Prop :=
  ∀ (m : (ℓ : Loc Cert.ReferenceWUpIdeal.nD Cert.ReferenceWUpIdeal.τ Cert.ReferenceWUpIdeal.sig) → Buf (Elt Ideal) ℓ) (g : Dev Cert.ReferenceWUpIdeal.nD → PrngReg), Pre_ReferenceWUpIdeal m →
    θ_run (Cert.ReferenceWUpIdeal.defs (F := Ideal)) (onTc (τ := Cert.ReferenceWUpIdeal.τ) (Cert.ReferenceWUpIdeal.main (F := Ideal))) ⟨m, fun _ => 0, g⟩ (fun r => (∀ c : Dev Cert.ReferenceWUpIdeal.nD,
      r.2.mem ((c.tc : Thread Cert.ReferenceWUpIdeal.nD Cert.ReferenceWUpIdeal.τ).loc Cert.ReferenceWUpIdeal.main_arg0) = m ((c.tc : Thread Cert.ReferenceWUpIdeal.nD Cert.ReferenceWUpIdeal.τ).loc Cert.ReferenceWUpIdeal.main_arg0)
      ∧ r.2.mem ((c.tc : Thread Cert.ReferenceWUpIdeal.nD Cert.ReferenceWUpIdeal.τ).loc Cert.ReferenceWUpIdeal.main_arg1) = m ((c.tc : Thread Cert.ReferenceWUpIdeal.nD Cert.ReferenceWUpIdeal.τ).loc Cert.ReferenceWUpIdeal.main_arg1)
      ∧ r.2.mem ((c.tc : Thread Cert.ReferenceWUpIdeal.nD Cert.ReferenceWUpIdeal.τ).loc Cert.ReferenceWUpIdeal.main_arg2) = m ((c.tc : Thread Cert.ReferenceWUpIdeal.nD Cert.ReferenceWUpIdeal.τ).loc Cert.ReferenceWUpIdeal.main_arg2)
      ∧ r.2.mem ((c.tc : Thread Cert.ReferenceWUpIdeal.nD Cert.ReferenceWUpIdeal.τ).loc Cert.ReferenceWUpIdeal.main_arg3) = m ((c.tc : Thread Cert.ReferenceWUpIdeal.nD Cert.ReferenceWUpIdeal.τ).loc Cert.ReferenceWUpIdeal.main_arg3))
      ∧ r.2.sem = fun _ => 0)

def quiescent_KernelConvW [hKernelConvW : Cert.KernelConvW.Facts] : Prop :=
  ∀ (m : (ℓ : Loc Cert.KernelConvW.nD Cert.KernelConvW.τ Cert.KernelConvW.sig) → Buf (Elt Bits) ℓ) (g : Dev Cert.KernelConvW.nD → PrngReg), Pre_KernelConvW m →
    θ_run (Cert.KernelConvW.defs (F := Bits)) (onTc (τ := Cert.KernelConvW.τ) (Cert.KernelConvW.main (F := Bits))) ⟨m, fun _ => 0, g⟩ (fun r => (∀ c : Dev Cert.KernelConvW.nD,
      r.2.mem ((c.tc : Thread Cert.KernelConvW.nD Cert.KernelConvW.τ).loc Cert.KernelConvW.main_arg0) = m ((c.tc : Thread Cert.KernelConvW.nD Cert.KernelConvW.τ).loc Cert.KernelConvW.main_arg0)
      ∧ r.2.mem ((c.tc : Thread Cert.KernelConvW.nD Cert.KernelConvW.τ).loc Cert.KernelConvW.main_arg1) = m ((c.tc : Thread Cert.KernelConvW.nD Cert.KernelConvW.τ).loc Cert.KernelConvW.main_arg1)
      ∧ r.2.mem ((c.tc : Thread Cert.KernelConvW.nD Cert.KernelConvW.τ).loc Cert.KernelConvW.main_arg2) = m ((c.tc : Thread Cert.KernelConvW.nD Cert.KernelConvW.τ).loc Cert.KernelConvW.main_arg2)
      ∧ r.2.mem ((c.tc : Thread Cert.KernelConvW.nD Cert.KernelConvW.τ).loc Cert.KernelConvW.main_arg3) = m ((c.tc : Thread Cert.KernelConvW.nD Cert.KernelConvW.τ).loc Cert.KernelConvW.main_arg3))
      ∧ r.2.sem = fun _ => 0)

def quiescent_KernelConvWIdeal [hKernelConvWIdeal : Cert.KernelConvWIdeal.Facts] : Prop :=
  ∀ (m : (ℓ : Loc Cert.KernelConvWIdeal.nD Cert.KernelConvWIdeal.τ Cert.KernelConvWIdeal.sig) → Buf (Elt Ideal) ℓ) (g : Dev Cert.KernelConvWIdeal.nD → PrngReg), Pre_KernelConvWIdeal m →
    θ_run (Cert.KernelConvWIdeal.defs (F := Ideal)) (onTc (τ := Cert.KernelConvWIdeal.τ) (Cert.KernelConvWIdeal.main (F := Ideal))) ⟨m, fun _ => 0, g⟩ (fun r => (∀ c : Dev Cert.KernelConvWIdeal.nD,
      r.2.mem ((c.tc : Thread Cert.KernelConvWIdeal.nD Cert.KernelConvWIdeal.τ).loc Cert.KernelConvWIdeal.main_arg0) = m ((c.tc : Thread Cert.KernelConvWIdeal.nD Cert.KernelConvWIdeal.τ).loc Cert.KernelConvWIdeal.main_arg0)
      ∧ r.2.mem ((c.tc : Thread Cert.KernelConvWIdeal.nD Cert.KernelConvWIdeal.τ).loc Cert.KernelConvWIdeal.main_arg1) = m ((c.tc : Thread Cert.KernelConvWIdeal.nD Cert.KernelConvWIdeal.τ).loc Cert.KernelConvWIdeal.main_arg1)
      ∧ r.2.mem ((c.tc : Thread Cert.KernelConvWIdeal.nD Cert.KernelConvWIdeal.τ).loc Cert.KernelConvWIdeal.main_arg2) = m ((c.tc : Thread Cert.KernelConvWIdeal.nD Cert.KernelConvWIdeal.τ).loc Cert.KernelConvWIdeal.main_arg2)
      ∧ r.2.mem ((c.tc : Thread Cert.KernelConvWIdeal.nD Cert.KernelConvWIdeal.τ).loc Cert.KernelConvWIdeal.main_arg3) = m ((c.tc : Thread Cert.KernelConvWIdeal.nD Cert.KernelConvWIdeal.τ).loc Cert.KernelConvWIdeal.main_arg3))
      ∧ r.2.sem = fun _ => 0)

def quiescent_ReferenceConvWIdeal [hReferenceConvWIdeal : Cert.ReferenceConvWIdeal.Facts] : Prop :=
  ∀ (m : (ℓ : Loc Cert.ReferenceConvWIdeal.nD Cert.ReferenceConvWIdeal.τ Cert.ReferenceConvWIdeal.sig) → Buf (Elt Ideal) ℓ) (g : Dev Cert.ReferenceConvWIdeal.nD → PrngReg), Pre_ReferenceConvWIdeal m →
    θ_run (Cert.ReferenceConvWIdeal.defs (F := Ideal)) (onTc (τ := Cert.ReferenceConvWIdeal.τ) (Cert.ReferenceConvWIdeal.main (F := Ideal))) ⟨m, fun _ => 0, g⟩ (fun r => (∀ c : Dev Cert.ReferenceConvWIdeal.nD,
      r.2.mem ((c.tc : Thread Cert.ReferenceConvWIdeal.nD Cert.ReferenceConvWIdeal.τ).loc Cert.ReferenceConvWIdeal.main_arg0) = m ((c.tc : Thread Cert.ReferenceConvWIdeal.nD Cert.ReferenceConvWIdeal.τ).loc Cert.ReferenceConvWIdeal.main_arg0)
      ∧ r.2.mem ((c.tc : Thread Cert.ReferenceConvWIdeal.nD Cert.ReferenceConvWIdeal.τ).loc Cert.ReferenceConvWIdeal.main_arg1) = m ((c.tc : Thread Cert.ReferenceConvWIdeal.nD Cert.ReferenceConvWIdeal.τ).loc Cert.ReferenceConvWIdeal.main_arg1)
      ∧ r.2.mem ((c.tc : Thread Cert.ReferenceConvWIdeal.nD Cert.ReferenceConvWIdeal.τ).loc Cert.ReferenceConvWIdeal.main_arg2) = m ((c.tc : Thread Cert.ReferenceConvWIdeal.nD Cert.ReferenceConvWIdeal.τ).loc Cert.ReferenceConvWIdeal.main_arg2)
      ∧ r.2.mem ((c.tc : Thread Cert.ReferenceConvWIdeal.nD Cert.ReferenceConvWIdeal.τ).loc Cert.ReferenceConvWIdeal.main_arg3) = m ((c.tc : Thread Cert.ReferenceConvWIdeal.nD Cert.ReferenceConvWIdeal.τ).loc Cert.ReferenceConvWIdeal.main_arg3))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1)
      ∧ r.2.mem ((c.tc : Thread Cert.KernelWOut.nD Cert.KernelWOut.τ).loc Cert.KernelWOut.main_arg2) = m ((c.tc : Thread Cert.KernelWOut.nD Cert.KernelWOut.τ).loc Cert.KernelWOut.main_arg2)
      ∧ r.2.mem ((c.tc : Thread Cert.KernelWOut.nD Cert.KernelWOut.τ).loc Cert.KernelWOut.main_arg3) = m ((c.tc : Thread Cert.KernelWOut.nD Cert.KernelWOut.τ).loc Cert.KernelWOut.main_arg3))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
      ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2)
      ∧ r.2.mem ((c.tc : Thread Cert.KernelWOutIdeal.nD Cert.KernelWOutIdeal.τ).loc Cert.KernelWOutIdeal.main_arg3) = m ((c.tc : Thread Cert.KernelWOutIdeal.nD Cert.KernelWOutIdeal.τ).loc Cert.KernelWOutIdeal.main_arg3))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1)
      ∧ r.2.mem ((c.tc : Thread Cert.ReferenceWOutIdeal.nD Cert.ReferenceWOutIdeal.τ).loc Cert.ReferenceWOutIdeal.main_arg2) = m ((c.tc : Thread Cert.ReferenceWOutIdeal.nD Cert.ReferenceWOutIdeal.τ).loc Cert.ReferenceWOutIdeal.main_arg2)
      ∧ r.2.mem ((c.tc : Thread Cert.ReferenceWOutIdeal.nD Cert.ReferenceWOutIdeal.τ).loc Cert.ReferenceWOutIdeal.main_arg3) = m ((c.tc : Thread Cert.ReferenceWOutIdeal.nD Cert.ReferenceWOutIdeal.τ).loc Cert.ReferenceWOutIdeal.main_arg3))
      ∧ r.2.sem = fun _ => 0)

def quiescent_KernelWDown [hKernelWDown : Cert.KernelWDown.Facts] : Prop :=
  ∀ (m : (ℓ : Loc Cert.KernelWDown.nD Cert.KernelWDown.τ Cert.KernelWDown.sig) → Buf (Elt Bits) ℓ) (g : Dev Cert.KernelWDown.nD → PrngReg), Pre_KernelWDown m →
    θ_run (Cert.KernelWDown.defs (F := Bits)) (onTc (τ := Cert.KernelWDown.τ) (Cert.KernelWDown.main (F := Bits))) ⟨m, fun _ => 0, g⟩ (fun r => (∀ c : Dev Cert.KernelWDown.nD,
      r.2.mem ((c.tc : Thread Cert.KernelWDown.nD Cert.KernelWDown.τ).loc Cert.KernelWDown.main_arg0) = m ((c.tc : Thread Cert.KernelWDown.nD Cert.KernelWDown.τ).loc Cert.KernelWDown.main_arg0)
      ∧ r.2.mem ((c.tc : Thread Cert.KernelWDown.nD Cert.KernelWDown.τ).loc Cert.KernelWDown.main_arg1) = m ((c.tc : Thread Cert.KernelWDown.nD Cert.KernelWDown.τ).loc Cert.KernelWDown.main_arg1)
      ∧ r.2.mem ((c.tc : Thread Cert.KernelWDown.nD Cert.KernelWDown.τ).loc Cert.KernelWDown.main_arg2) = m ((c.tc : Thread Cert.KernelWDown.nD Cert.KernelWDown.τ).loc Cert.KernelWDown.main_arg2)
      ∧ r.2.mem ((c.tc : Thread Cert.KernelWDown.nD Cert.KernelWDown.τ).loc Cert.KernelWDown.main_arg3) = m ((c.tc : Thread Cert.KernelWDown.nD Cert.KernelWDown.τ).loc Cert.KernelWDown.main_arg3))
      ∧ r.2.sem = fun _ => 0)

def quiescent_KernelWDownIdeal [hKernelWDownIdeal : Cert.KernelWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg), Pre_KernelWDownIdeal m →
    θ_run (Cert.KernelWDownIdeal.defs (F := Ideal)) (onTc (τ := Cert.KernelWDownIdeal.τ) (Cert.KernelWDownIdeal.main (F := Ideal))) ⟨m, fun _ => 0, g⟩ (fun r => (∀ c : Dev Cert.KernelWDownIdeal.nD,
      r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
      ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1)
      ∧ r.2.mem ((c.tc : Thread Cert.KernelWDownIdeal.nD Cert.KernelWDownIdeal.τ).loc Cert.KernelWDownIdeal.main_arg2) = m ((c.tc : Thread Cert.KernelWDownIdeal.nD Cert.KernelWDownIdeal.τ).loc Cert.KernelWDownIdeal.main_arg2)
      ∧ r.2.mem ((c.tc : Thread Cert.KernelWDownIdeal.nD Cert.KernelWDownIdeal.τ).loc Cert.KernelWDownIdeal.main_arg3) = m ((c.tc : Thread Cert.KernelWDownIdeal.nD Cert.KernelWDownIdeal.τ).loc Cert.KernelWDownIdeal.main_arg3))
      ∧ r.2.sem = fun _ => 0)

def quiescent_ReferenceWDownIdeal [hReferenceWDownIdeal : Cert.ReferenceWDownIdeal.Facts] : Prop :=
  ∀ (m : (ℓ : Loc Cert.ReferenceWDownIdeal.nD Cert.ReferenceWDownIdeal.τ Cert.ReferenceWDownIdeal.sig) → Buf (Elt Ideal) ℓ) (g : Dev Cert.ReferenceWDownIdeal.nD → PrngReg), Pre_ReferenceWDownIdeal m →
    θ_run (Cert.ReferenceWDownIdeal.defs (F := Ideal)) (onTc (τ := Cert.ReferenceWDownIdeal.τ) (Cert.ReferenceWDownIdeal.main (F := Ideal))) ⟨m, fun _ => 0, g⟩ (fun r => (∀ c : Dev Cert.ReferenceWDownIdeal.nD,
      r.2.mem ((c.tc : Thread Cert.ReferenceWDownIdeal.nD Cert.ReferenceWDownIdeal.τ).loc Cert.ReferenceWDownIdeal.main_arg0) = m ((c.tc : Thread Cert.ReferenceWDownIdeal.nD Cert.ReferenceWDownIdeal.τ).loc Cert.ReferenceWDownIdeal.main_arg0)
      ∧ r.2.mem ((c.tc : Thread Cert.ReferenceWDownIdeal.nD Cert.ReferenceWDownIdeal.τ).loc Cert.ReferenceWDownIdeal.main_arg1) = m ((c.tc : Thread Cert.ReferenceWDownIdeal.nD Cert.ReferenceWDownIdeal.τ).loc Cert.ReferenceWDownIdeal.main_arg1)
      ∧ r.2.mem ((c.tc : Thread Cert.ReferenceWDownIdeal.nD Cert.ReferenceWDownIdeal.τ).loc Cert.ReferenceWDownIdeal.main_arg2) = m ((c.tc : Thread Cert.ReferenceWDownIdeal.nD Cert.ReferenceWDownIdeal.τ).loc Cert.ReferenceWDownIdeal.main_arg2)
      ∧ r.2.mem ((c.tc : Thread Cert.ReferenceWDownIdeal.nD Cert.ReferenceWDownIdeal.τ).loc Cert.ReferenceWDownIdeal.main_arg3) = m ((c.tc : Thread Cert.ReferenceWDownIdeal.nD Cert.ReferenceWDownIdeal.τ).loc Cert.ReferenceWDownIdeal.main_arg3))
      ∧ r.2.sem = fun _ => 0)

def quiescent_KernelWGlu [hKernelWGlu : Cert.KernelWGlu.Facts] : Prop :=
  ∀ (m : (ℓ : Loc Cert.KernelWGlu.nD Cert.KernelWGlu.τ Cert.KernelWGlu.sig) → Buf (Elt Bits) ℓ) (g : Dev Cert.KernelWGlu.nD → PrngReg), Pre_KernelWGlu m →
    θ_run (Cert.KernelWGlu.defs (F := Bits)) (onTc (τ := Cert.KernelWGlu.τ) (Cert.KernelWGlu.main (F := Bits))) ⟨m, fun _ => 0, g⟩ (fun r => (∀ c : Dev Cert.KernelWGlu.nD,
      r.2.mem ((c.tc : Thread Cert.KernelWGlu.nD Cert.KernelWGlu.τ).loc Cert.KernelWGlu.main_arg0) = m ((c.tc : Thread Cert.KernelWGlu.nD Cert.KernelWGlu.τ).loc Cert.KernelWGlu.main_arg0)
      ∧ r.2.mem ((c.tc : Thread Cert.KernelWGlu.nD Cert.KernelWGlu.τ).loc Cert.KernelWGlu.main_arg1) = m ((c.tc : Thread Cert.KernelWGlu.nD Cert.KernelWGlu.τ).loc Cert.KernelWGlu.main_arg1)
      ∧ r.2.mem ((c.tc : Thread Cert.KernelWGlu.nD Cert.KernelWGlu.τ).loc Cert.KernelWGlu.main_arg2) = m ((c.tc : Thread Cert.KernelWGlu.nD Cert.KernelWGlu.τ).loc Cert.KernelWGlu.main_arg2)
      ∧ r.2.mem ((c.tc : Thread Cert.KernelWGlu.nD Cert.KernelWGlu.τ).loc Cert.KernelWGlu.main_arg3) = m ((c.tc : Thread Cert.KernelWGlu.nD Cert.KernelWGlu.τ).loc Cert.KernelWGlu.main_arg3))
      ∧ r.2.sem = fun _ => 0)

def quiescent_KernelWGluIdeal [hKernelWGluIdeal : Cert.KernelWGluIdeal.Facts] : Prop :=
  ∀ (m : (ℓ : Loc Cert.KernelWGluIdeal.nD Cert.KernelWGluIdeal.τ Cert.KernelWGluIdeal.sig) → Buf (Elt Ideal) ℓ) (g : Dev Cert.KernelWGluIdeal.nD → PrngReg), Pre_KernelWGluIdeal m →
    θ_run (Cert.KernelWGluIdeal.defs (F := Ideal)) (onTc (τ := Cert.KernelWGluIdeal.τ) (Cert.KernelWGluIdeal.main (F := Ideal))) ⟨m, fun _ => 0, g⟩ (fun r => (∀ c : Dev Cert.KernelWGluIdeal.nD,
      r.2.mem ((c.tc : Thread Cert.KernelWGluIdeal.nD Cert.KernelWGluIdeal.τ).loc Cert.KernelWGluIdeal.main_arg0) = m ((c.tc : Thread Cert.KernelWGluIdeal.nD Cert.KernelWGluIdeal.τ).loc Cert.KernelWGluIdeal.main_arg0)
      ∧ r.2.mem ((c.tc : Thread Cert.KernelWGluIdeal.nD Cert.KernelWGluIdeal.τ).loc Cert.KernelWGluIdeal.main_arg1) = m ((c.tc : Thread Cert.KernelWGluIdeal.nD Cert.KernelWGluIdeal.τ).loc Cert.KernelWGluIdeal.main_arg1)
      ∧ r.2.mem ((c.tc : Thread Cert.KernelWGluIdeal.nD Cert.KernelWGluIdeal.τ).loc Cert.KernelWGluIdeal.main_arg2) = m ((c.tc : Thread Cert.KernelWGluIdeal.nD Cert.KernelWGluIdeal.τ).loc Cert.KernelWGluIdeal.main_arg2)
      ∧ r.2.mem ((c.tc : Thread Cert.KernelWGluIdeal.nD Cert.KernelWGluIdeal.τ).loc Cert.KernelWGluIdeal.main_arg3) = m ((c.tc : Thread Cert.KernelWGluIdeal.nD Cert.KernelWGluIdeal.τ).loc Cert.KernelWGluIdeal.main_arg3))
      ∧ r.2.sem = fun _ => 0)

def quiescent_ReferenceWGluIdeal [hReferenceWGluIdeal : Cert.ReferenceWGluIdeal.Facts] : Prop :=
  ∀ (m : (ℓ : Loc Cert.ReferenceWGluIdeal.nD Cert.ReferenceWGluIdeal.τ Cert.ReferenceWGluIdeal.sig) → Buf (Elt Ideal) ℓ) (g : Dev Cert.ReferenceWGluIdeal.nD → PrngReg), Pre_ReferenceWGluIdeal m →
    θ_run (Cert.ReferenceWGluIdeal.defs (F := Ideal)) (onTc (τ := Cert.ReferenceWGluIdeal.τ) (Cert.ReferenceWGluIdeal.main (F := Ideal))) ⟨m, fun _ => 0, g⟩ (fun r => (∀ c : Dev Cert.ReferenceWGluIdeal.nD,
      r.2.mem ((c.tc : Thread Cert.ReferenceWGluIdeal.nD Cert.ReferenceWGluIdeal.τ).loc Cert.ReferenceWGluIdeal.main_arg0) = m ((c.tc : Thread Cert.ReferenceWGluIdeal.nD Cert.ReferenceWGluIdeal.τ).loc Cert.ReferenceWGluIdeal.main_arg0)
      ∧ r.2.mem ((c.tc : Thread Cert.ReferenceWGluIdeal.nD Cert.ReferenceWGluIdeal.τ).loc Cert.ReferenceWGluIdeal.main_arg1) = m ((c.tc : Thread Cert.ReferenceWGluIdeal.nD Cert.ReferenceWGluIdeal.τ).loc Cert.ReferenceWGluIdeal.main_arg1)
      ∧ r.2.mem ((c.tc : Thread Cert.ReferenceWGluIdeal.nD Cert.ReferenceWGluIdeal.τ).loc Cert.ReferenceWGluIdeal.main_arg2) = m ((c.tc : Thread Cert.ReferenceWGluIdeal.nD Cert.ReferenceWGluIdeal.τ).loc Cert.ReferenceWGluIdeal.main_arg2)
      ∧ r.2.mem ((c.tc : Thread Cert.ReferenceWGluIdeal.nD Cert.ReferenceWGluIdeal.τ).loc Cert.ReferenceWGluIdeal.main_arg3) = m ((c.tc : Thread Cert.ReferenceWGluIdeal.nD Cert.ReferenceWGluIdeal.τ).loc Cert.ReferenceWGluIdeal.main_arg3))
      ∧ r.2.sem = fun _ => 0)

def quiescent_KernelAdaFwd [hKernelAdaFwd : Cert.KernelAdaFwd.Facts] : Prop :=
  ∀ (m : (ℓ : Loc Cert.KernelAdaFwd.nD Cert.KernelAdaFwd.τ Cert.KernelAdaFwd.sig) → Buf (Elt Bits) ℓ) (g : Dev Cert.KernelAdaFwd.nD → PrngReg), Pre_KernelAdaFwd m →
    θ_run (Cert.KernelAdaFwd.defs (F := Bits)) (onTc (τ := Cert.KernelAdaFwd.τ) (Cert.KernelAdaFwd.main (F := Bits))) ⟨m, fun _ => 0, g⟩ (fun r => (∀ c : Dev Cert.KernelAdaFwd.nD,
      r.2.mem ((c.tc : Thread Cert.KernelAdaFwd.nD Cert.KernelAdaFwd.τ).loc Cert.KernelAdaFwd.main_arg0) = m ((c.tc : Thread Cert.KernelAdaFwd.nD Cert.KernelAdaFwd.τ).loc Cert.KernelAdaFwd.main_arg0)
      ∧ r.2.mem ((c.tc : Thread Cert.KernelAdaFwd.nD Cert.KernelAdaFwd.τ).loc Cert.KernelAdaFwd.main_arg1) = m ((c.tc : Thread Cert.KernelAdaFwd.nD Cert.KernelAdaFwd.τ).loc Cert.KernelAdaFwd.main_arg1))
      ∧ r.2.sem = fun _ => 0)

def quiescent_KernelAdaFwdIdeal [hKernelAdaFwdIdeal : Cert.KernelAdaFwdIdeal.Facts] : Prop :=
  ∀ (m : (ℓ : Loc Cert.KernelAdaFwdIdeal.nD Cert.KernelAdaFwdIdeal.τ Cert.KernelAdaFwdIdeal.sig) → Buf (Elt Ideal) ℓ) (g : Dev Cert.KernelAdaFwdIdeal.nD → PrngReg), Pre_KernelAdaFwdIdeal m →
    θ_run (Cert.KernelAdaFwdIdeal.defs (F := Ideal)) (onTc (τ := Cert.KernelAdaFwdIdeal.τ) (Cert.KernelAdaFwdIdeal.main (F := Ideal))) ⟨m, fun _ => 0, g⟩ (fun r => (∀ c : Dev Cert.KernelAdaFwdIdeal.nD,
      r.2.mem ((c.tc : Thread Cert.KernelAdaFwdIdeal.nD Cert.KernelAdaFwdIdeal.τ).loc Cert.KernelAdaFwdIdeal.main_arg0) = m ((c.tc : Thread Cert.KernelAdaFwdIdeal.nD Cert.KernelAdaFwdIdeal.τ).loc Cert.KernelAdaFwdIdeal.main_arg0)
      ∧ r.2.mem ((c.tc : Thread Cert.KernelAdaFwdIdeal.nD Cert.KernelAdaFwdIdeal.τ).loc Cert.KernelAdaFwdIdeal.main_arg1) = m ((c.tc : Thread Cert.KernelAdaFwdIdeal.nD Cert.KernelAdaFwdIdeal.τ).loc Cert.KernelAdaFwdIdeal.main_arg1))
      ∧ r.2.sem = fun _ => 0)

def quiescent_ReferenceAdaFwdIdeal [hReferenceAdaFwdIdeal : Cert.ReferenceAdaFwdIdeal.Facts] : Prop :=
  ∀ (m : (ℓ : Loc Cert.ReferenceAdaFwdIdeal.nD Cert.ReferenceAdaFwdIdeal.τ Cert.ReferenceAdaFwdIdeal.sig) → Buf (Elt Ideal) ℓ) (g : Dev Cert.ReferenceAdaFwdIdeal.nD → PrngReg), Pre_ReferenceAdaFwdIdeal m →
    θ_run (Cert.ReferenceAdaFwdIdeal.defs (F := Ideal)) (onTc (τ := Cert.ReferenceAdaFwdIdeal.τ) (Cert.ReferenceAdaFwdIdeal.main (F := Ideal))) ⟨m, fun _ => 0, g⟩ (fun r => (∀ c : Dev Cert.ReferenceAdaFwdIdeal.nD,
      r.2.mem ((c.tc : Thread Cert.ReferenceAdaFwdIdeal.nD Cert.ReferenceAdaFwdIdeal.τ).loc Cert.ReferenceAdaFwdIdeal.main_arg0) = m ((c.tc : Thread Cert.ReferenceAdaFwdIdeal.nD Cert.ReferenceAdaFwdIdeal.τ).loc Cert.ReferenceAdaFwdIdeal.main_arg0)
      ∧ r.2.mem ((c.tc : Thread Cert.ReferenceAdaFwdIdeal.nD Cert.ReferenceAdaFwdIdeal.τ).loc Cert.ReferenceAdaFwdIdeal.main_arg1) = m ((c.tc : Thread Cert.ReferenceAdaFwdIdeal.nD Cert.ReferenceAdaFwdIdeal.τ).loc Cert.ReferenceAdaFwdIdeal.main_arg1))
      ∧ r.2.sem = fun _ => 0)

def quiescent_KernelAdaBwd [hKernelAdaBwd : Cert.KernelAdaBwd.Facts] : Prop :=
  ∀ (m : (ℓ : Loc Cert.KernelAdaBwd.nD Cert.KernelAdaBwd.τ Cert.KernelAdaBwd.sig) → Buf (Elt Bits) ℓ) (g : Dev Cert.KernelAdaBwd.nD → PrngReg), Pre_KernelAdaBwd m →
    θ_run (Cert.KernelAdaBwd.defs (F := Bits)) (onTc (τ := Cert.KernelAdaBwd.τ) (Cert.KernelAdaBwd.main (F := Bits))) ⟨m, fun _ => 0, g⟩ (fun r => (∀ c : Dev Cert.KernelAdaBwd.nD,
      r.2.mem ((c.tc : Thread Cert.KernelAdaBwd.nD Cert.KernelAdaBwd.τ).loc Cert.KernelAdaBwd.main_arg0) = m ((c.tc : Thread Cert.KernelAdaBwd.nD Cert.KernelAdaBwd.τ).loc Cert.KernelAdaBwd.main_arg0)
      ∧ r.2.mem ((c.tc : Thread Cert.KernelAdaBwd.nD Cert.KernelAdaBwd.τ).loc Cert.KernelAdaBwd.main_arg1) = m ((c.tc : Thread Cert.KernelAdaBwd.nD Cert.KernelAdaBwd.τ).loc Cert.KernelAdaBwd.main_arg1)
      ∧ r.2.mem ((c.tc : Thread Cert.KernelAdaBwd.nD Cert.KernelAdaBwd.τ).loc Cert.KernelAdaBwd.main_arg2) = m ((c.tc : Thread Cert.KernelAdaBwd.nD Cert.KernelAdaBwd.τ).loc Cert.KernelAdaBwd.main_arg2)
      ∧ r.2.mem ((c.tc : Thread Cert.KernelAdaBwd.nD Cert.KernelAdaBwd.τ).loc Cert.KernelAdaBwd.main_arg3) = m ((c.tc : Thread Cert.KernelAdaBwd.nD Cert.KernelAdaBwd.τ).loc Cert.KernelAdaBwd.main_arg3)
      ∧ r.2.mem ((c.tc : Thread Cert.KernelAdaBwd.nD Cert.KernelAdaBwd.τ).loc Cert.KernelAdaBwd.main_arg4) = m ((c.tc : Thread Cert.KernelAdaBwd.nD Cert.KernelAdaBwd.τ).loc Cert.KernelAdaBwd.main_arg4)
      ∧ r.2.mem ((c.tc : Thread Cert.KernelAdaBwd.nD Cert.KernelAdaBwd.τ).loc Cert.KernelAdaBwd.main_arg5) = m ((c.tc : Thread Cert.KernelAdaBwd.nD Cert.KernelAdaBwd.τ).loc Cert.KernelAdaBwd.main_arg5))
      ∧ r.2.sem = fun _ => 0)

def quiescent_KernelAdaBwdIdeal [hKernelAdaBwdIdeal : Cert.KernelAdaBwdIdeal.Facts] : Prop :=
  ∀ (m : (ℓ : Loc Cert.KernelAdaBwdIdeal.nD Cert.KernelAdaBwdIdeal.τ Cert.KernelAdaBwdIdeal.sig) → Buf (Elt Ideal) ℓ) (g : Dev Cert.KernelAdaBwdIdeal.nD → PrngReg), Pre_KernelAdaBwdIdeal m →
    θ_run (Cert.KernelAdaBwdIdeal.defs (F := Ideal)) (onTc (τ := Cert.KernelAdaBwdIdeal.τ) (Cert.KernelAdaBwdIdeal.main (F := Ideal))) ⟨m, fun _ => 0, g⟩ (fun r => (∀ c : Dev Cert.KernelAdaBwdIdeal.nD,
      r.2.mem ((c.tc : Thread Cert.KernelAdaBwdIdeal.nD Cert.KernelAdaBwdIdeal.τ).loc Cert.KernelAdaBwdIdeal.main_arg0) = m ((c.tc : Thread Cert.KernelAdaBwdIdeal.nD Cert.KernelAdaBwdIdeal.τ).loc Cert.KernelAdaBwdIdeal.main_arg0)
      ∧ r.2.mem ((c.tc : Thread Cert.KernelAdaBwdIdeal.nD Cert.KernelAdaBwdIdeal.τ).loc Cert.KernelAdaBwdIdeal.main_arg1) = m ((c.tc : Thread Cert.KernelAdaBwdIdeal.nD Cert.KernelAdaBwdIdeal.τ).loc Cert.KernelAdaBwdIdeal.main_arg1)
      ∧ r.2.mem ((c.tc : Thread Cert.KernelAdaBwdIdeal.nD Cert.KernelAdaBwdIdeal.τ).loc Cert.KernelAdaBwdIdeal.main_arg2) = m ((c.tc : Thread Cert.KernelAdaBwdIdeal.nD Cert.KernelAdaBwdIdeal.τ).loc Cert.KernelAdaBwdIdeal.main_arg2)
      ∧ r.2.mem ((c.tc : Thread Cert.KernelAdaBwdIdeal.nD Cert.KernelAdaBwdIdeal.τ).loc Cert.KernelAdaBwdIdeal.main_arg3) = m ((c.tc : Thread Cert.KernelAdaBwdIdeal.nD Cert.KernelAdaBwdIdeal.τ).loc Cert.KernelAdaBwdIdeal.main_arg3)
      ∧ r.2.mem ((c.tc : Thread Cert.KernelAdaBwdIdeal.nD Cert.KernelAdaBwdIdeal.τ).loc Cert.KernelAdaBwdIdeal.main_arg4) = m ((c.tc : Thread Cert.KernelAdaBwdIdeal.nD Cert.KernelAdaBwdIdeal.τ).loc Cert.KernelAdaBwdIdeal.main_arg4)
      ∧ r.2.mem ((c.tc : Thread Cert.KernelAdaBwdIdeal.nD Cert.KernelAdaBwdIdeal.τ).loc Cert.KernelAdaBwdIdeal.main_arg5) = m ((c.tc : Thread Cert.KernelAdaBwdIdeal.nD Cert.KernelAdaBwdIdeal.τ).loc Cert.KernelAdaBwdIdeal.main_arg5))
      ∧ r.2.sem = fun _ => 0)

def quiescent_ReferenceAdaBwdIdeal [hReferenceAdaBwdIdeal : Cert.ReferenceAdaBwdIdeal.Facts] : Prop :=
  ∀ (m : (ℓ : Loc Cert.ReferenceAdaBwdIdeal.nD Cert.ReferenceAdaBwdIdeal.τ Cert.ReferenceAdaBwdIdeal.sig) → Buf (Elt Ideal) ℓ) (g : Dev Cert.ReferenceAdaBwdIdeal.nD → PrngReg), Pre_ReferenceAdaBwdIdeal m →
    θ_run (Cert.ReferenceAdaBwdIdeal.defs (F := Ideal)) (onTc (τ := Cert.ReferenceAdaBwdIdeal.τ) (Cert.ReferenceAdaBwdIdeal.main (F := Ideal))) ⟨m, fun _ => 0, g⟩ (fun r => (∀ c : Dev Cert.ReferenceAdaBwdIdeal.nD,
      r.2.mem ((c.tc : Thread Cert.ReferenceAdaBwdIdeal.nD Cert.ReferenceAdaBwdIdeal.τ).loc Cert.ReferenceAdaBwdIdeal.main_arg0) = m ((c.tc : Thread Cert.ReferenceAdaBwdIdeal.nD Cert.ReferenceAdaBwdIdeal.τ).loc Cert.ReferenceAdaBwdIdeal.main_arg0)
      ∧ r.2.mem ((c.tc : Thread Cert.ReferenceAdaBwdIdeal.nD Cert.ReferenceAdaBwdIdeal.τ).loc Cert.ReferenceAdaBwdIdeal.main_arg1) = m ((c.tc : Thread Cert.ReferenceAdaBwdIdeal.nD Cert.ReferenceAdaBwdIdeal.τ).loc Cert.ReferenceAdaBwdIdeal.main_arg1)
      ∧ r.2.mem ((c.tc : Thread Cert.ReferenceAdaBwdIdeal.nD Cert.ReferenceAdaBwdIdeal.τ).loc Cert.ReferenceAdaBwdIdeal.main_arg2) = m ((c.tc : Thread Cert.ReferenceAdaBwdIdeal.nD Cert.ReferenceAdaBwdIdeal.τ).loc Cert.ReferenceAdaBwdIdeal.main_arg2)
      ∧ r.2.mem ((c.tc : Thread Cert.ReferenceAdaBwdIdeal.nD Cert.ReferenceAdaBwdIdeal.τ).loc Cert.ReferenceAdaBwdIdeal.main_arg3) = m ((c.tc : Thread Cert.ReferenceAdaBwdIdeal.nD Cert.ReferenceAdaBwdIdeal.τ).loc Cert.ReferenceAdaBwdIdeal.main_arg3)
      ∧ r.2.mem ((c.tc : Thread Cert.ReferenceAdaBwdIdeal.nD Cert.ReferenceAdaBwdIdeal.τ).loc Cert.ReferenceAdaBwdIdeal.main_arg4) = m ((c.tc : Thread Cert.ReferenceAdaBwdIdeal.nD Cert.ReferenceAdaBwdIdeal.τ).loc Cert.ReferenceAdaBwdIdeal.main_arg4)
      ∧ r.2.mem ((c.tc : Thread Cert.ReferenceAdaBwdIdeal.nD Cert.ReferenceAdaBwdIdeal.τ).loc Cert.ReferenceAdaBwdIdeal.main_arg5) = m ((c.tc : Thread Cert.ReferenceAdaBwdIdeal.nD Cert.ReferenceAdaBwdIdeal.τ).loc Cert.ReferenceAdaBwdIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelFwd_KernelFwdIdeal : Prop :=
  IdealRules.named_const.Statement Cert.KernelFwdIdeal.κ "gelu_c1" .f32 0x3D372713#32 ((8943 / 200000 : ℝ) : EReal)
  ∧ IdealRules.named_const.Statement Cert.KernelFwdIdeal.κ "gelu_c3" .f32 0x3E095D4F#32 ((26829 / 200000 : ℝ) : EReal)

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)
      ∧ m' ((c.tc : Thread Cert.ReferenceFwdIdeal.nD Cert.ReferenceFwdIdeal.τ).loc Cert.ReferenceFwdIdeal.main_arg7) = m ((c.tc : Thread Cert.KernelFwdIdeal.nD Cert.KernelFwdIdeal.τ).loc Cert.KernelFwdIdeal.main_arg7)
      ∧ m' ((c.tc : Thread Cert.ReferenceFwdIdeal.nD Cert.ReferenceFwdIdeal.τ).loc Cert.ReferenceFwdIdeal.main_arg8) = m ((c.tc : Thread Cert.KernelFwdIdeal.nD Cert.KernelFwdIdeal.τ).loc Cert.KernelFwdIdeal.main_arg8)) →
    ∃ (v0 : (c : Dev Cert.KernelFwdIdeal.nD) → Buf (Elt Ideal) ((c.tc : Thread Cert.KernelFwdIdeal.nD Cert.KernelFwdIdeal.τ).loc Cert.KernelFwdIdeal.main_v8_0)) (v1 : (c : Dev Cert.KernelFwdIdeal.nD) → Buf (Elt Ideal) ((c.tc : Thread Cert.KernelFwdIdeal.nD Cert.KernelFwdIdeal.τ).loc Cert.KernelFwdIdeal.main_v8_1)) (v2 : (c : Dev Cert.KernelFwdIdeal.nD) → Buf (Elt Ideal) ((c.tc : Thread Cert.KernelFwdIdeal.nD Cert.KernelFwdIdeal.τ).loc Cert.KernelFwdIdeal.main_v8_2)) (v3 : (c : Dev Cert.KernelFwdIdeal.nD) → Buf (Elt Ideal) ((c.tc : Thread Cert.KernelFwdIdeal.nD Cert.KernelFwdIdeal.τ).loc Cert.KernelFwdIdeal.main_v8_3)) (v4 : (c : Dev Cert.KernelFwdIdeal.nD) → Buf (Elt Ideal) ((c.tc : Thread Cert.KernelFwdIdeal.nD Cert.KernelFwdIdeal.τ).loc Cert.KernelFwdIdeal.main_v8_4)) (v5 : (c : Dev Cert.KernelFwdIdeal.nD) → Buf (Elt Ideal) ((c.tc : Thread Cert.KernelFwdIdeal.nD Cert.KernelFwdIdeal.τ).loc Cert.KernelFwdIdeal.main_v8_5)) (v6 : (c : Dev Cert.KernelFwdIdeal.nD) → Buf (Elt Ideal) ((c.tc : Thread Cert.KernelFwdIdeal.nD Cert.KernelFwdIdeal.τ).loc Cert.KernelFwdIdeal.main_v8_6)) (v7 : (c : Dev Cert.KernelFwdIdeal.nD) → Buf (Elt Ideal) ((c.tc : Thread Cert.KernelFwdIdeal.nD Cert.KernelFwdIdeal.τ).loc Cert.KernelFwdIdeal.main_v8_7)) (v8 : (c : Dev Cert.KernelFwdIdeal.nD) → Buf (Elt Ideal) ((c.tc : Thread Cert.KernelFwdIdeal.nD Cert.KernelFwdIdeal.τ).loc Cert.KernelFwdIdeal.main_v8_8)) (v9 : (c : Dev Cert.KernelFwdIdeal.nD) → Buf (Elt Ideal) ((c.tc : Thread Cert.KernelFwdIdeal.nD Cert.KernelFwdIdeal.τ).loc Cert.KernelFwdIdeal.main_v8_9)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v8_0) = v0 c
          ∧ r.2.mem ((c.tc : Thread Cert.KernelFwdIdeal.nD Cert.KernelFwdIdeal.τ).loc Cert.KernelFwdIdeal.main_v8_1) = v1 c
          ∧ r.2.mem ((c.tc : Thread Cert.KernelFwdIdeal.nD Cert.KernelFwdIdeal.τ).loc Cert.KernelFwdIdeal.main_v8_2) = v2 c
          ∧ r.2.mem ((c.tc : Thread Cert.KernelFwdIdeal.nD Cert.KernelFwdIdeal.τ).loc Cert.KernelFwdIdeal.main_v8_3) = v3 c
          ∧ r.2.mem ((c.tc : Thread Cert.KernelFwdIdeal.nD Cert.KernelFwdIdeal.τ).loc Cert.KernelFwdIdeal.main_v8_4) = v4 c
          ∧ r.2.mem ((c.tc : Thread Cert.KernelFwdIdeal.nD Cert.KernelFwdIdeal.τ).loc Cert.KernelFwdIdeal.main_v8_5) = v5 c
          ∧ r.2.mem ((c.tc : Thread Cert.KernelFwdIdeal.nD Cert.KernelFwdIdeal.τ).loc Cert.KernelFwdIdeal.main_v8_6) = v6 c
          ∧ r.2.mem ((c.tc : Thread Cert.KernelFwdIdeal.nD Cert.KernelFwdIdeal.τ).loc Cert.KernelFwdIdeal.main_v8_7) = v7 c
          ∧ r.2.mem ((c.tc : Thread Cert.KernelFwdIdeal.nD Cert.KernelFwdIdeal.τ).loc Cert.KernelFwdIdeal.main_v8_8) = v8 c
          ∧ r.2.mem ((c.tc : Thread Cert.KernelFwdIdeal.nD Cert.KernelFwdIdeal.τ).loc Cert.KernelFwdIdeal.main_v8_9) = v9 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
          ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
          ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v134) = v0 c
          ∧ r.2.mem ((c.tc : Thread Cert.ReferenceFwdIdeal.nD Cert.ReferenceFwdIdeal.τ).loc Cert.ReferenceFwdIdeal.main_v181) = v1 c
          ∧ r.2.mem ((c.tc : Thread Cert.ReferenceFwdIdeal.nD Cert.ReferenceFwdIdeal.τ).loc Cert.ReferenceFwdIdeal.main_v155) = v2 c
          ∧ r.2.mem ((c.tc : Thread Cert.ReferenceFwdIdeal.nD Cert.ReferenceFwdIdeal.τ).loc Cert.ReferenceFwdIdeal.main_v182) = v3 c
          ∧ r.2.mem ((c.tc : Thread Cert.ReferenceFwdIdeal.nD Cert.ReferenceFwdIdeal.τ).loc Cert.ReferenceFwdIdeal.main_v183) = v4 c
          ∧ r.2.mem ((c.tc : Thread Cert.ReferenceFwdIdeal.nD Cert.ReferenceFwdIdeal.τ).loc Cert.ReferenceFwdIdeal.main_v184) = v5 c
          ∧ r.2.mem ((c.tc : Thread Cert.ReferenceFwdIdeal.nD Cert.ReferenceFwdIdeal.τ).loc Cert.ReferenceFwdIdeal.main_v135) = v6 c
          ∧ r.2.mem ((c.tc : Thread Cert.ReferenceFwdIdeal.nD Cert.ReferenceFwdIdeal.τ).loc Cert.ReferenceFwdIdeal.main_v140) = v7 c
          ∧ r.2.mem ((c.tc : Thread Cert.ReferenceFwdIdeal.nD Cert.ReferenceFwdIdeal.τ).loc Cert.ReferenceFwdIdeal.main_v160) = v8 c
          ∧ r.2.mem ((c.tc : Thread Cert.ReferenceFwdIdeal.nD Cert.ReferenceFwdIdeal.τ).loc Cert.ReferenceFwdIdeal.main_v180) = v9 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
          ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7)
          ∧ r.2.mem ((c.tc : Thread Cert.ReferenceFwdIdeal.nD Cert.ReferenceFwdIdeal.τ).loc Cert.ReferenceFwdIdeal.main_arg8) = m' ((c.tc : Thread Cert.ReferenceFwdIdeal.nD Cert.ReferenceFwdIdeal.τ).loc Cert.ReferenceFwdIdeal.main_arg8))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v0)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v6) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelSumUp_KernelSumUpIdeal : Prop :=
  True

def algebraic_KernelSumUpIdeal_ReferenceSumUpIdeal [hKernelSumUpIdeal : Cert.KernelSumUpIdeal.Facts] [hReferenceSumUpIdeal : Cert.ReferenceSumUpIdeal.Facts] : Prop :=
  ∀ (m : (ℓ : Loc Cert.KernelSumUpIdeal.nD Cert.KernelSumUpIdeal.τ Cert.KernelSumUpIdeal.sig) → Buf (Elt Ideal) ℓ) (g : Dev Cert.KernelSumUpIdeal.nD → PrngReg)
    (m' : (ℓ : Loc Cert.ReferenceSumUpIdeal.nD Cert.ReferenceSumUpIdeal.τ Cert.ReferenceSumUpIdeal.sig) → Buf (Elt Ideal) ℓ) (g' : Dev Cert.ReferenceSumUpIdeal.nD → PrngReg), Pre_KernelSumUpIdeal m →
    (∀ c : Dev Cert.KernelSumUpIdeal.nD,
      m' ((c.tc : Thread Cert.ReferenceSumUpIdeal.nD Cert.ReferenceSumUpIdeal.τ).loc Cert.ReferenceSumUpIdeal.main_arg0) = m ((c.tc : Thread Cert.KernelSumUpIdeal.nD Cert.KernelSumUpIdeal.τ).loc Cert.KernelSumUpIdeal.main_arg0)) →
    ∃ (v0 : (c : Dev Cert.KernelSumUpIdeal.nD) → Buf (Elt Ideal) ((c.tc : Thread Cert.KernelSumUpIdeal.nD Cert.KernelSumUpIdeal.τ).loc Cert.KernelSumUpIdeal.main_v0)),
      θ_run (Cert.KernelSumUpIdeal.defs (F := Ideal)) (onTc (τ := Cert.KernelSumUpIdeal.τ) (Cert.KernelSumUpIdeal.main (F := Ideal))) ⟨m, fun _ => 0, g⟩ (fun r => ∀ c : Dev Cert.KernelSumUpIdeal.nD,
          r.2.mem ((c.tc : Thread Cert.KernelSumUpIdeal.nD Cert.KernelSumUpIdeal.τ).loc Cert.KernelSumUpIdeal.main_v0) = v0 c
          ∧ r.2.mem ((c.tc : Thread Cert.KernelSumUpIdeal.nD Cert.KernelSumUpIdeal.τ).loc Cert.KernelSumUpIdeal.main_arg0) = m ((c.tc : Thread Cert.KernelSumUpIdeal.nD Cert.KernelSumUpIdeal.τ).loc Cert.KernelSumUpIdeal.main_arg0))
      ∧ θ_run (Cert.ReferenceSumUpIdeal.defs (F := Ideal)) (onTc (τ := Cert.ReferenceSumUpIdeal.τ) (Cert.ReferenceSumUpIdeal.main (F := Ideal))) ⟨m', fun _ => 0, g'⟩ (fun r => ∀ c : Dev Cert.ReferenceSumUpIdeal.nD,
          r.2.mem ((c.tc : Thread Cert.ReferenceSumUpIdeal.nD Cert.ReferenceSumUpIdeal.τ).loc Cert.ReferenceSumUpIdeal.main_v1) = v0 c
          ∧ r.2.mem ((c.tc : Thread Cert.ReferenceSumUpIdeal.nD Cert.ReferenceSumUpIdeal.τ).loc Cert.ReferenceSumUpIdeal.main_arg0) = m' ((c.tc : Thread Cert.ReferenceSumUpIdeal.nD Cert.ReferenceSumUpIdeal.τ).loc Cert.ReferenceSumUpIdeal.main_arg0))

def preserves_KernelWMod_KernelWModIdeal : Prop :=
  True

def algebraic_KernelWModIdeal_ReferenceWModIdeal [hKernelWModIdeal : Cert.KernelWModIdeal.Facts] [hReferenceWModIdeal : Cert.ReferenceWModIdeal.Facts] : Prop :=
  ∀ (m : (ℓ : Loc Cert.KernelWModIdeal.nD Cert.KernelWModIdeal.τ Cert.KernelWModIdeal.sig) → Buf (Elt Ideal) ℓ) (g : Dev Cert.KernelWModIdeal.nD → PrngReg)
    (m' : (ℓ : Loc Cert.ReferenceWModIdeal.nD Cert.ReferenceWModIdeal.τ Cert.ReferenceWModIdeal.sig) → Buf (Elt Ideal) ℓ) (g' : Dev Cert.ReferenceWModIdeal.nD → PrngReg), Pre_KernelWModIdeal m →
    (∀ c : Dev Cert.KernelWModIdeal.nD,
      m' ((c.tc : Thread Cert.ReferenceWModIdeal.nD Cert.ReferenceWModIdeal.τ).loc Cert.ReferenceWModIdeal.main_arg0) = m ((c.tc : Thread Cert.KernelWModIdeal.nD Cert.KernelWModIdeal.τ).loc Cert.KernelWModIdeal.main_arg0)
      ∧ m' ((c.tc : Thread Cert.ReferenceWModIdeal.nD Cert.ReferenceWModIdeal.τ).loc Cert.ReferenceWModIdeal.main_arg1) = m ((c.tc : Thread Cert.KernelWModIdeal.nD Cert.KernelWModIdeal.τ).loc Cert.KernelWModIdeal.main_arg1)
      ∧ m' ((c.tc : Thread Cert.ReferenceWModIdeal.nD Cert.ReferenceWModIdeal.τ).loc Cert.ReferenceWModIdeal.main_arg2) = m ((c.tc : Thread Cert.KernelWModIdeal.nD Cert.KernelWModIdeal.τ).loc Cert.KernelWModIdeal.main_arg2)
      ∧ m' ((c.tc : Thread Cert.ReferenceWModIdeal.nD Cert.ReferenceWModIdeal.τ).loc Cert.ReferenceWModIdeal.main_arg3) = m ((c.tc : Thread Cert.KernelWModIdeal.nD Cert.KernelWModIdeal.τ).loc Cert.KernelWModIdeal.main_arg3)) →
    ∃ (v0 : (c : Dev Cert.KernelWModIdeal.nD) → Buf (Elt Ideal) ((c.tc : Thread Cert.KernelWModIdeal.nD Cert.KernelWModIdeal.τ).loc Cert.KernelWModIdeal.main_v0_0)) (v1 : (c : Dev Cert.KernelWModIdeal.nD) → Buf (Elt Ideal) ((c.tc : Thread Cert.KernelWModIdeal.nD Cert.KernelWModIdeal.τ).loc Cert.KernelWModIdeal.main_v0_1)) (v2 : (c : Dev Cert.KernelWModIdeal.nD) → Buf (Elt Ideal) ((c.tc : Thread Cert.KernelWModIdeal.nD Cert.KernelWModIdeal.τ).loc Cert.KernelWModIdeal.main_v0_2)),
      θ_run (Cert.KernelWModIdeal.defs (F := Ideal)) (onTc (τ := Cert.KernelWModIdeal.τ) (Cert.KernelWModIdeal.main (F := Ideal))) ⟨m, fun _ => 0, g⟩ (fun r => ∀ c : Dev Cert.KernelWModIdeal.nD,
          r.2.mem ((c.tc : Thread Cert.KernelWModIdeal.nD Cert.KernelWModIdeal.τ).loc Cert.KernelWModIdeal.main_v0_0) = v0 c
          ∧ r.2.mem ((c.tc : Thread Cert.KernelWModIdeal.nD Cert.KernelWModIdeal.τ).loc Cert.KernelWModIdeal.main_v0_1) = v1 c
          ∧ r.2.mem ((c.tc : Thread Cert.KernelWModIdeal.nD Cert.KernelWModIdeal.τ).loc Cert.KernelWModIdeal.main_v0_2) = v2 c
          ∧ r.2.mem ((c.tc : Thread Cert.KernelWModIdeal.nD Cert.KernelWModIdeal.τ).loc Cert.KernelWModIdeal.main_arg0) = m ((c.tc : Thread Cert.KernelWModIdeal.nD Cert.KernelWModIdeal.τ).loc Cert.KernelWModIdeal.main_arg0)
          ∧ r.2.mem ((c.tc : Thread Cert.KernelWModIdeal.nD Cert.KernelWModIdeal.τ).loc Cert.KernelWModIdeal.main_arg1) = m ((c.tc : Thread Cert.KernelWModIdeal.nD Cert.KernelWModIdeal.τ).loc Cert.KernelWModIdeal.main_arg1)
          ∧ r.2.mem ((c.tc : Thread Cert.KernelWModIdeal.nD Cert.KernelWModIdeal.τ).loc Cert.KernelWModIdeal.main_arg2) = m ((c.tc : Thread Cert.KernelWModIdeal.nD Cert.KernelWModIdeal.τ).loc Cert.KernelWModIdeal.main_arg2)
          ∧ r.2.mem ((c.tc : Thread Cert.KernelWModIdeal.nD Cert.KernelWModIdeal.τ).loc Cert.KernelWModIdeal.main_arg3) = m ((c.tc : Thread Cert.KernelWModIdeal.nD Cert.KernelWModIdeal.τ).loc Cert.KernelWModIdeal.main_arg3))
      ∧ θ_run (Cert.ReferenceWModIdeal.defs (F := Ideal)) (onTc (τ := Cert.ReferenceWModIdeal.τ) (Cert.ReferenceWModIdeal.main (F := Ideal))) ⟨m', fun _ => 0, g'⟩ (fun r => ∀ c : Dev Cert.ReferenceWModIdeal.nD,
          r.2.mem ((c.tc : Thread Cert.ReferenceWModIdeal.nD Cert.ReferenceWModIdeal.τ).loc Cert.ReferenceWModIdeal.main_v23) = v0 c
          ∧ r.2.mem ((c.tc : Thread Cert.ReferenceWModIdeal.nD Cert.ReferenceWModIdeal.τ).loc Cert.ReferenceWModIdeal.main_v4) = v1 c
          ∧ r.2.mem ((c.tc : Thread Cert.ReferenceWModIdeal.nD Cert.ReferenceWModIdeal.τ).loc Cert.ReferenceWModIdeal.main_v10) = v2 c
          ∧ r.2.mem ((c.tc : Thread Cert.ReferenceWModIdeal.nD Cert.ReferenceWModIdeal.τ).loc Cert.ReferenceWModIdeal.main_arg0) = m' ((c.tc : Thread Cert.ReferenceWModIdeal.nD Cert.ReferenceWModIdeal.τ).loc Cert.ReferenceWModIdeal.main_arg0)
          ∧ r.2.mem ((c.tc : Thread Cert.ReferenceWModIdeal.nD Cert.ReferenceWModIdeal.τ).loc Cert.ReferenceWModIdeal.main_arg1) = m' ((c.tc : Thread Cert.ReferenceWModIdeal.nD Cert.ReferenceWModIdeal.τ).loc Cert.ReferenceWModIdeal.main_arg1)
          ∧ r.2.mem ((c.tc : Thread Cert.ReferenceWModIdeal.nD Cert.ReferenceWModIdeal.τ).loc Cert.ReferenceWModIdeal.main_arg2) = m' ((c.tc : Thread Cert.ReferenceWModIdeal.nD Cert.ReferenceWModIdeal.τ).loc Cert.ReferenceWModIdeal.main_arg2)
          ∧ r.2.mem ((c.tc : Thread Cert.ReferenceWModIdeal.nD Cert.ReferenceWModIdeal.τ).loc Cert.ReferenceWModIdeal.main_arg3) = m' ((c.tc : Thread Cert.ReferenceWModIdeal.nD Cert.ReferenceWModIdeal.τ).loc Cert.ReferenceWModIdeal.main_arg3))

def preserves_KernelWIn_KernelWInIdeal : Prop :=
  True

def algebraic_KernelWInIdeal_ReferenceWInIdeal [hKernelWInIdeal : Cert.KernelWInIdeal.Facts] [hReferenceWInIdeal : Cert.ReferenceWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg)
    (m' : (ℓ : Loc Cert.ReferenceWInIdeal.nD Cert.ReferenceWInIdeal.τ Cert.ReferenceWInIdeal.sig) → Buf (Elt Ideal) ℓ) (g' : Dev Cert.ReferenceWInIdeal.nD → PrngReg), Pre_KernelWInIdeal m →
    (∀ c : Dev Cert.KernelWInIdeal.nD,
      m' ((c.tc : Thread Cert.ReferenceWInIdeal.nD Cert.ReferenceWInIdeal.τ).loc Cert.ReferenceWInIdeal.main_arg0) = m ((c.tc : Thread Cert.KernelWInIdeal.nD Cert.KernelWInIdeal.τ).loc Cert.KernelWInIdeal.main_arg0)
      ∧ m' ((c.tc : Thread Cert.ReferenceWInIdeal.nD Cert.ReferenceWInIdeal.τ).loc Cert.ReferenceWInIdeal.main_arg1) = m ((c.tc : Thread Cert.KernelWInIdeal.nD Cert.KernelWInIdeal.τ).loc Cert.KernelWInIdeal.main_arg1)
      ∧ m' ((c.tc : Thread Cert.ReferenceWInIdeal.nD Cert.ReferenceWInIdeal.τ).loc Cert.ReferenceWInIdeal.main_arg2) = m ((c.tc : Thread Cert.KernelWInIdeal.nD Cert.KernelWInIdeal.τ).loc Cert.KernelWInIdeal.main_arg2)
      ∧ m' ((c.tc : Thread Cert.ReferenceWInIdeal.nD Cert.ReferenceWInIdeal.τ).loc Cert.ReferenceWInIdeal.main_arg3) = m ((c.tc : Thread Cert.KernelWInIdeal.nD Cert.KernelWInIdeal.τ).loc Cert.KernelWInIdeal.main_arg3)) →
    ∃ (v0 : (c : Dev Cert.KernelWInIdeal.nD) → Buf (Elt Ideal) ((c.tc : Thread Cert.KernelWInIdeal.nD Cert.KernelWInIdeal.τ).loc Cert.KernelWInIdeal.main_v0_0)) (v1 : (c : Dev Cert.KernelWInIdeal.nD) → Buf (Elt Ideal) ((c.tc : Thread Cert.KernelWInIdeal.nD Cert.KernelWInIdeal.τ).loc Cert.KernelWInIdeal.main_v0_1)) (v2 : (c : Dev Cert.KernelWInIdeal.nD) → Buf (Elt Ideal) ((c.tc : Thread Cert.KernelWInIdeal.nD Cert.KernelWInIdeal.τ).loc Cert.KernelWInIdeal.main_v0_2)),
      θ_run (Cert.KernelWInIdeal.defs (F := Ideal)) (onTc (τ := Cert.KernelWInIdeal.τ) (Cert.KernelWInIdeal.main (F := Ideal))) ⟨m, fun _ => 0, g⟩ (fun r => ∀ c : Dev Cert.KernelWInIdeal.nD,
          r.2.mem ((c.tc : Thread Cert.KernelWInIdeal.nD Cert.KernelWInIdeal.τ).loc Cert.KernelWInIdeal.main_v0_0) = v0 c
          ∧ r.2.mem ((c.tc : Thread Cert.KernelWInIdeal.nD Cert.KernelWInIdeal.τ).loc Cert.KernelWInIdeal.main_v0_1) = v1 c
          ∧ r.2.mem ((c.tc : Thread Cert.KernelWInIdeal.nD Cert.KernelWInIdeal.τ).loc Cert.KernelWInIdeal.main_v0_2) = v2 c
          ∧ r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
          ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1)
          ∧ r.2.mem ((c.tc : Thread Cert.KernelWInIdeal.nD Cert.KernelWInIdeal.τ).loc Cert.KernelWInIdeal.main_arg2) = m ((c.tc : Thread Cert.KernelWInIdeal.nD Cert.KernelWInIdeal.τ).loc Cert.KernelWInIdeal.main_arg2)
          ∧ r.2.mem ((c.tc : Thread Cert.KernelWInIdeal.nD Cert.KernelWInIdeal.τ).loc Cert.KernelWInIdeal.main_arg3) = m ((c.tc : Thread Cert.KernelWInIdeal.nD Cert.KernelWInIdeal.τ).loc Cert.KernelWInIdeal.main_arg3))
      ∧ θ_run (Cert.ReferenceWInIdeal.defs (F := Ideal)) (onTc (τ := Cert.ReferenceWInIdeal.τ) (Cert.ReferenceWInIdeal.main (F := Ideal))) ⟨m', fun _ => 0, g'⟩ (fun r => ∀ c : Dev Cert.ReferenceWInIdeal.nD,
          r.2.mem ((c.tc : Thread Cert.ReferenceWInIdeal.nD Cert.ReferenceWInIdeal.τ).loc Cert.ReferenceWInIdeal.main_v23) = v0 c
          ∧ r.2.mem ((c.tc : Thread Cert.ReferenceWInIdeal.nD Cert.ReferenceWInIdeal.τ).loc Cert.ReferenceWInIdeal.main_v4) = v1 c
          ∧ r.2.mem ((c.tc : Thread Cert.ReferenceWInIdeal.nD Cert.ReferenceWInIdeal.τ).loc Cert.ReferenceWInIdeal.main_v10) = v2 c
          ∧ r.2.mem ((c.tc : Thread Cert.ReferenceWInIdeal.nD Cert.ReferenceWInIdeal.τ).loc Cert.ReferenceWInIdeal.main_arg0) = m' ((c.tc : Thread Cert.ReferenceWInIdeal.nD Cert.ReferenceWInIdeal.τ).loc Cert.ReferenceWInIdeal.main_arg0)
          ∧ r.2.mem ((c.tc : Thread Cert.ReferenceWInIdeal.nD Cert.ReferenceWInIdeal.τ).loc Cert.ReferenceWInIdeal.main_arg1) = m' ((c.tc : Thread Cert.ReferenceWInIdeal.nD Cert.ReferenceWInIdeal.τ).loc Cert.ReferenceWInIdeal.main_arg1)
          ∧ r.2.mem ((c.tc : Thread Cert.ReferenceWInIdeal.nD Cert.ReferenceWInIdeal.τ).loc Cert.ReferenceWInIdeal.main_arg2) = m' ((c.tc : Thread Cert.ReferenceWInIdeal.nD Cert.ReferenceWInIdeal.τ).loc Cert.ReferenceWInIdeal.main_arg2)
          ∧ r.2.mem ((c.tc : Thread Cert.ReferenceWInIdeal.nD Cert.ReferenceWInIdeal.τ).loc Cert.ReferenceWInIdeal.main_arg3) = m' ((c.tc : Thread Cert.ReferenceWInIdeal.nD Cert.ReferenceWInIdeal.τ).loc Cert.ReferenceWInIdeal.main_arg3))

def preserves_KernelWUp_KernelWUpIdeal : Prop :=
  True

def algebraic_KernelWUpIdeal_ReferenceWUpIdeal [hKernelWUpIdeal : Cert.KernelWUpIdeal.Facts] [hReferenceWUpIdeal : Cert.ReferenceWUpIdeal.Facts] : Prop :=
  ∀ (m : (ℓ : Loc Cert.KernelWUpIdeal.nD Cert.KernelWUpIdeal.τ Cert.KernelWUpIdeal.sig) → Buf (Elt Ideal) ℓ) (g : Dev Cert.KernelWUpIdeal.nD → PrngReg)
    (m' : (ℓ : Loc Cert.ReferenceWUpIdeal.nD Cert.ReferenceWUpIdeal.τ Cert.ReferenceWUpIdeal.sig) → Buf (Elt Ideal) ℓ) (g' : Dev Cert.ReferenceWUpIdeal.nD → PrngReg), Pre_KernelWUpIdeal m →
    (∀ c : Dev Cert.KernelWUpIdeal.nD,
      m' ((c.tc : Thread Cert.ReferenceWUpIdeal.nD Cert.ReferenceWUpIdeal.τ).loc Cert.ReferenceWUpIdeal.main_arg0) = m ((c.tc : Thread Cert.KernelWUpIdeal.nD Cert.KernelWUpIdeal.τ).loc Cert.KernelWUpIdeal.main_arg0)
      ∧ m' ((c.tc : Thread Cert.ReferenceWUpIdeal.nD Cert.ReferenceWUpIdeal.τ).loc Cert.ReferenceWUpIdeal.main_arg1) = m ((c.tc : Thread Cert.KernelWUpIdeal.nD Cert.KernelWUpIdeal.τ).loc Cert.KernelWUpIdeal.main_arg1)
      ∧ m' ((c.tc : Thread Cert.ReferenceWUpIdeal.nD Cert.ReferenceWUpIdeal.τ).loc Cert.ReferenceWUpIdeal.main_arg2) = m ((c.tc : Thread Cert.KernelWUpIdeal.nD Cert.KernelWUpIdeal.τ).loc Cert.KernelWUpIdeal.main_arg2)
      ∧ m' ((c.tc : Thread Cert.ReferenceWUpIdeal.nD Cert.ReferenceWUpIdeal.τ).loc Cert.ReferenceWUpIdeal.main_arg3) = m ((c.tc : Thread Cert.KernelWUpIdeal.nD Cert.KernelWUpIdeal.τ).loc Cert.KernelWUpIdeal.main_arg3)) →
    ∃ (v0 : (c : Dev Cert.KernelWUpIdeal.nD) → Buf (Elt Ideal) ((c.tc : Thread Cert.KernelWUpIdeal.nD Cert.KernelWUpIdeal.τ).loc Cert.KernelWUpIdeal.main_v0_0)) (v1 : (c : Dev Cert.KernelWUpIdeal.nD) → Buf (Elt Ideal) ((c.tc : Thread Cert.KernelWUpIdeal.nD Cert.KernelWUpIdeal.τ).loc Cert.KernelWUpIdeal.main_v0_1)) (v2 : (c : Dev Cert.KernelWUpIdeal.nD) → Buf (Elt Ideal) ((c.tc : Thread Cert.KernelWUpIdeal.nD Cert.KernelWUpIdeal.τ).loc Cert.KernelWUpIdeal.main_v0_2)),
      θ_run (Cert.KernelWUpIdeal.defs (F := Ideal)) (onTc (τ := Cert.KernelWUpIdeal.τ) (Cert.KernelWUpIdeal.main (F := Ideal))) ⟨m, fun _ => 0, g⟩ (fun r => ∀ c : Dev Cert.KernelWUpIdeal.nD,
          r.2.mem ((c.tc : Thread Cert.KernelWUpIdeal.nD Cert.KernelWUpIdeal.τ).loc Cert.KernelWUpIdeal.main_v0_0) = v0 c
          ∧ r.2.mem ((c.tc : Thread Cert.KernelWUpIdeal.nD Cert.KernelWUpIdeal.τ).loc Cert.KernelWUpIdeal.main_v0_1) = v1 c
          ∧ r.2.mem ((c.tc : Thread Cert.KernelWUpIdeal.nD Cert.KernelWUpIdeal.τ).loc Cert.KernelWUpIdeal.main_v0_2) = v2 c
          ∧ r.2.mem ((c.tc : Thread Cert.KernelWUpIdeal.nD Cert.KernelWUpIdeal.τ).loc Cert.KernelWUpIdeal.main_arg0) = m ((c.tc : Thread Cert.KernelWUpIdeal.nD Cert.KernelWUpIdeal.τ).loc Cert.KernelWUpIdeal.main_arg0)
          ∧ r.2.mem ((c.tc : Thread Cert.KernelWUpIdeal.nD Cert.KernelWUpIdeal.τ).loc Cert.KernelWUpIdeal.main_arg1) = m ((c.tc : Thread Cert.KernelWUpIdeal.nD Cert.KernelWUpIdeal.τ).loc Cert.KernelWUpIdeal.main_arg1)
          ∧ r.2.mem ((c.tc : Thread Cert.KernelWUpIdeal.nD Cert.KernelWUpIdeal.τ).loc Cert.KernelWUpIdeal.main_arg2) = m ((c.tc : Thread Cert.KernelWUpIdeal.nD Cert.KernelWUpIdeal.τ).loc Cert.KernelWUpIdeal.main_arg2)
          ∧ r.2.mem ((c.tc : Thread Cert.KernelWUpIdeal.nD Cert.KernelWUpIdeal.τ).loc Cert.KernelWUpIdeal.main_arg3) = m ((c.tc : Thread Cert.KernelWUpIdeal.nD Cert.KernelWUpIdeal.τ).loc Cert.KernelWUpIdeal.main_arg3))
      ∧ θ_run (Cert.ReferenceWUpIdeal.defs (F := Ideal)) (onTc (τ := Cert.ReferenceWUpIdeal.τ) (Cert.ReferenceWUpIdeal.main (F := Ideal))) ⟨m', fun _ => 0, g'⟩ (fun r => ∀ c : Dev Cert.ReferenceWUpIdeal.nD,
          r.2.mem ((c.tc : Thread Cert.ReferenceWUpIdeal.nD Cert.ReferenceWUpIdeal.τ).loc Cert.ReferenceWUpIdeal.main_v23) = v0 c
          ∧ r.2.mem ((c.tc : Thread Cert.ReferenceWUpIdeal.nD Cert.ReferenceWUpIdeal.τ).loc Cert.ReferenceWUpIdeal.main_v4) = v1 c
          ∧ r.2.mem ((c.tc : Thread Cert.ReferenceWUpIdeal.nD Cert.ReferenceWUpIdeal.τ).loc Cert.ReferenceWUpIdeal.main_v10) = v2 c
          ∧ r.2.mem ((c.tc : Thread Cert.ReferenceWUpIdeal.nD Cert.ReferenceWUpIdeal.τ).loc Cert.ReferenceWUpIdeal.main_arg0) = m' ((c.tc : Thread Cert.ReferenceWUpIdeal.nD Cert.ReferenceWUpIdeal.τ).loc Cert.ReferenceWUpIdeal.main_arg0)
          ∧ r.2.mem ((c.tc : Thread Cert.ReferenceWUpIdeal.nD Cert.ReferenceWUpIdeal.τ).loc Cert.ReferenceWUpIdeal.main_arg1) = m' ((c.tc : Thread Cert.ReferenceWUpIdeal.nD Cert.ReferenceWUpIdeal.τ).loc Cert.ReferenceWUpIdeal.main_arg1)
          ∧ r.2.mem ((c.tc : Thread Cert.ReferenceWUpIdeal.nD Cert.ReferenceWUpIdeal.τ).loc Cert.ReferenceWUpIdeal.main_arg2) = m' ((c.tc : Thread Cert.ReferenceWUpIdeal.nD Cert.ReferenceWUpIdeal.τ).loc Cert.ReferenceWUpIdeal.main_arg2)
          ∧ r.2.mem ((c.tc : Thread Cert.ReferenceWUpIdeal.nD Cert.ReferenceWUpIdeal.τ).loc Cert.ReferenceWUpIdeal.main_arg3) = m' ((c.tc : Thread Cert.ReferenceWUpIdeal.nD Cert.ReferenceWUpIdeal.τ).loc Cert.ReferenceWUpIdeal.main_arg3))

def preserves_KernelConvW_KernelConvWIdeal : Prop :=
  True

def algebraic_KernelConvWIdeal_ReferenceConvWIdeal [hKernelConvWIdeal : Cert.KernelConvWIdeal.Facts] [hReferenceConvWIdeal : Cert.ReferenceConvWIdeal.Facts] : Prop :=
  ∀ (m : (ℓ : Loc Cert.KernelConvWIdeal.nD Cert.KernelConvWIdeal.τ Cert.KernelConvWIdeal.sig) → Buf (Elt Ideal) ℓ) (g : Dev Cert.KernelConvWIdeal.nD → PrngReg)
    (m' : (ℓ : Loc Cert.ReferenceConvWIdeal.nD Cert.ReferenceConvWIdeal.τ Cert.ReferenceConvWIdeal.sig) → Buf (Elt Ideal) ℓ) (g' : Dev Cert.ReferenceConvWIdeal.nD → PrngReg), Pre_KernelConvWIdeal m →
    (∀ c : Dev Cert.KernelConvWIdeal.nD,
      m' ((c.tc : Thread Cert.ReferenceConvWIdeal.nD Cert.ReferenceConvWIdeal.τ).loc Cert.ReferenceConvWIdeal.main_arg0) = m ((c.tc : Thread Cert.KernelConvWIdeal.nD Cert.KernelConvWIdeal.τ).loc Cert.KernelConvWIdeal.main_arg0)
      ∧ m' ((c.tc : Thread Cert.ReferenceConvWIdeal.nD Cert.ReferenceConvWIdeal.τ).loc Cert.ReferenceConvWIdeal.main_arg1) = m ((c.tc : Thread Cert.KernelConvWIdeal.nD Cert.KernelConvWIdeal.τ).loc Cert.KernelConvWIdeal.main_arg1)
      ∧ m' ((c.tc : Thread Cert.ReferenceConvWIdeal.nD Cert.ReferenceConvWIdeal.τ).loc Cert.ReferenceConvWIdeal.main_arg2) = m ((c.tc : Thread Cert.KernelConvWIdeal.nD Cert.KernelConvWIdeal.τ).loc Cert.KernelConvWIdeal.main_arg2)
      ∧ m' ((c.tc : Thread Cert.ReferenceConvWIdeal.nD Cert.ReferenceConvWIdeal.τ).loc Cert.ReferenceConvWIdeal.main_arg3) = m ((c.tc : Thread Cert.KernelConvWIdeal.nD Cert.KernelConvWIdeal.τ).loc Cert.KernelConvWIdeal.main_arg3)) →
    ∃ (v0 : (c : Dev Cert.KernelConvWIdeal.nD) → Buf (Elt Ideal) ((c.tc : Thread Cert.KernelConvWIdeal.nD Cert.KernelConvWIdeal.τ).loc Cert.KernelConvWIdeal.main_v0_0)) (v1 : (c : Dev Cert.KernelConvWIdeal.nD) → Buf (Elt Ideal) ((c.tc : Thread Cert.KernelConvWIdeal.nD Cert.KernelConvWIdeal.τ).loc Cert.KernelConvWIdeal.main_v0_1)) (v2 : (c : Dev Cert.KernelConvWIdeal.nD) → Buf (Elt Ideal) ((c.tc : Thread Cert.KernelConvWIdeal.nD Cert.KernelConvWIdeal.τ).loc Cert.KernelConvWIdeal.main_v0_2)),
      θ_run (Cert.KernelConvWIdeal.defs (F := Ideal)) (onTc (τ := Cert.KernelConvWIdeal.τ) (Cert.KernelConvWIdeal.main (F := Ideal))) ⟨m, fun _ => 0, g⟩ (fun r => ∀ c : Dev Cert.KernelConvWIdeal.nD,
          r.2.mem ((c.tc : Thread Cert.KernelConvWIdeal.nD Cert.KernelConvWIdeal.τ).loc Cert.KernelConvWIdeal.main_v0_0) = v0 c
          ∧ r.2.mem ((c.tc : Thread Cert.KernelConvWIdeal.nD Cert.KernelConvWIdeal.τ).loc Cert.KernelConvWIdeal.main_v0_1) = v1 c
          ∧ r.2.mem ((c.tc : Thread Cert.KernelConvWIdeal.nD Cert.KernelConvWIdeal.τ).loc Cert.KernelConvWIdeal.main_v0_2) = v2 c
          ∧ r.2.mem ((c.tc : Thread Cert.KernelConvWIdeal.nD Cert.KernelConvWIdeal.τ).loc Cert.KernelConvWIdeal.main_arg0) = m ((c.tc : Thread Cert.KernelConvWIdeal.nD Cert.KernelConvWIdeal.τ).loc Cert.KernelConvWIdeal.main_arg0)
          ∧ r.2.mem ((c.tc : Thread Cert.KernelConvWIdeal.nD Cert.KernelConvWIdeal.τ).loc Cert.KernelConvWIdeal.main_arg1) = m ((c.tc : Thread Cert.KernelConvWIdeal.nD Cert.KernelConvWIdeal.τ).loc Cert.KernelConvWIdeal.main_arg1)
          ∧ r.2.mem ((c.tc : Thread Cert.KernelConvWIdeal.nD Cert.KernelConvWIdeal.τ).loc Cert.KernelConvWIdeal.main_arg2) = m ((c.tc : Thread Cert.KernelConvWIdeal.nD Cert.KernelConvWIdeal.τ).loc Cert.KernelConvWIdeal.main_arg2)
          ∧ r.2.mem ((c.tc : Thread Cert.KernelConvWIdeal.nD Cert.KernelConvWIdeal.τ).loc Cert.KernelConvWIdeal.main_arg3) = m ((c.tc : Thread Cert.KernelConvWIdeal.nD Cert.KernelConvWIdeal.τ).loc Cert.KernelConvWIdeal.main_arg3))
      ∧ θ_run (Cert.ReferenceConvWIdeal.defs (F := Ideal)) (onTc (τ := Cert.ReferenceConvWIdeal.τ) (Cert.ReferenceConvWIdeal.main (F := Ideal))) ⟨m', fun _ => 0, g'⟩ (fun r => ∀ c : Dev Cert.ReferenceConvWIdeal.nD,
          r.2.mem ((c.tc : Thread Cert.ReferenceConvWIdeal.nD Cert.ReferenceConvWIdeal.τ).loc Cert.ReferenceConvWIdeal.main_v23) = v0 c
          ∧ r.2.mem ((c.tc : Thread Cert.ReferenceConvWIdeal.nD Cert.ReferenceConvWIdeal.τ).loc Cert.ReferenceConvWIdeal.main_v4) = v1 c
          ∧ r.2.mem ((c.tc : Thread Cert.ReferenceConvWIdeal.nD Cert.ReferenceConvWIdeal.τ).loc Cert.ReferenceConvWIdeal.main_v10) = v2 c
          ∧ r.2.mem ((c.tc : Thread Cert.ReferenceConvWIdeal.nD Cert.ReferenceConvWIdeal.τ).loc Cert.ReferenceConvWIdeal.main_arg0) = m' ((c.tc : Thread Cert.ReferenceConvWIdeal.nD Cert.ReferenceConvWIdeal.τ).loc Cert.ReferenceConvWIdeal.main_arg0)
          ∧ r.2.mem ((c.tc : Thread Cert.ReferenceConvWIdeal.nD Cert.ReferenceConvWIdeal.τ).loc Cert.ReferenceConvWIdeal.main_arg1) = m' ((c.tc : Thread Cert.ReferenceConvWIdeal.nD Cert.ReferenceConvWIdeal.τ).loc Cert.ReferenceConvWIdeal.main_arg1)
          ∧ r.2.mem ((c.tc : Thread Cert.ReferenceConvWIdeal.nD Cert.ReferenceConvWIdeal.τ).loc Cert.ReferenceConvWIdeal.main_arg2) = m' ((c.tc : Thread Cert.ReferenceConvWIdeal.nD Cert.ReferenceConvWIdeal.τ).loc Cert.ReferenceConvWIdeal.main_arg2)
          ∧ r.2.mem ((c.tc : Thread Cert.ReferenceConvWIdeal.nD Cert.ReferenceConvWIdeal.τ).loc Cert.ReferenceConvWIdeal.main_arg3) = m' ((c.tc : Thread Cert.ReferenceConvWIdeal.nD Cert.ReferenceConvWIdeal.τ).loc Cert.ReferenceConvWIdeal.main_arg3))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)
      ∧ m' ((c.tc : Thread Cert.ReferenceWOutIdeal.nD Cert.ReferenceWOutIdeal.τ).loc Cert.ReferenceWOutIdeal.main_arg2) = m ((c.tc : Thread Cert.KernelWOutIdeal.nD Cert.KernelWOutIdeal.τ).loc Cert.KernelWOutIdeal.main_arg2)
      ∧ m' ((c.tc : Thread Cert.ReferenceWOutIdeal.nD Cert.ReferenceWOutIdeal.τ).loc Cert.ReferenceWOutIdeal.main_arg3) = m ((c.tc : Thread Cert.KernelWOutIdeal.nD Cert.KernelWOutIdeal.τ).loc Cert.KernelWOutIdeal.main_arg3)) →
    ∃ (v0 : (c : Dev Cert.KernelWOutIdeal.nD) → Buf (Elt Ideal) ((c.tc : Thread Cert.KernelWOutIdeal.nD Cert.KernelWOutIdeal.τ).loc Cert.KernelWOutIdeal.main_v0_0)) (v1 : (c : Dev Cert.KernelWOutIdeal.nD) → Buf (Elt Ideal) ((c.tc : Thread Cert.KernelWOutIdeal.nD Cert.KernelWOutIdeal.τ).loc Cert.KernelWOutIdeal.main_v0_1)) (v2 : (c : Dev Cert.KernelWOutIdeal.nD) → Buf (Elt Ideal) ((c.tc : Thread Cert.KernelWOutIdeal.nD Cert.KernelWOutIdeal.τ).loc Cert.KernelWOutIdeal.main_v0_2)) (v3 : (c : Dev Cert.KernelWOutIdeal.nD) → Buf (Elt Ideal) ((c.tc : Thread Cert.KernelWOutIdeal.nD Cert.KernelWOutIdeal.τ).loc Cert.KernelWOutIdeal.main_v0_3)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v0_0) = v0 c
          ∧ r.2.mem ((c.tc : Thread Cert.KernelWOutIdeal.nD Cert.KernelWOutIdeal.τ).loc Cert.KernelWOutIdeal.main_v0_1) = v1 c
          ∧ r.2.mem ((c.tc : Thread Cert.KernelWOutIdeal.nD Cert.KernelWOutIdeal.τ).loc Cert.KernelWOutIdeal.main_v0_2) = v2 c
          ∧ r.2.mem ((c.tc : Thread Cert.KernelWOutIdeal.nD Cert.KernelWOutIdeal.τ).loc Cert.KernelWOutIdeal.main_v0_3) = v3 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
          ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2)
          ∧ r.2.mem ((c.tc : Thread Cert.KernelWOutIdeal.nD Cert.KernelWOutIdeal.τ).loc Cert.KernelWOutIdeal.main_arg3) = m ((c.tc : Thread Cert.KernelWOutIdeal.nD Cert.KernelWOutIdeal.τ).loc Cert.KernelWOutIdeal.main_arg3))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v1) = v0 c
          ∧ r.2.mem ((c.tc : Thread Cert.ReferenceWOutIdeal.nD Cert.ReferenceWOutIdeal.τ).loc Cert.ReferenceWOutIdeal.main_v25) = v1 c
          ∧ r.2.mem ((c.tc : Thread Cert.ReferenceWOutIdeal.nD Cert.ReferenceWOutIdeal.τ).loc Cert.ReferenceWOutIdeal.main_v6) = v2 c
          ∧ r.2.mem ((c.tc : Thread Cert.ReferenceWOutIdeal.nD Cert.ReferenceWOutIdeal.τ).loc Cert.ReferenceWOutIdeal.main_v12) = v3 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1)
          ∧ r.2.mem ((c.tc : Thread Cert.ReferenceWOutIdeal.nD Cert.ReferenceWOutIdeal.τ).loc Cert.ReferenceWOutIdeal.main_arg2) = m' ((c.tc : Thread Cert.ReferenceWOutIdeal.nD Cert.ReferenceWOutIdeal.τ).loc Cert.ReferenceWOutIdeal.main_arg2)
          ∧ r.2.mem ((c.tc : Thread Cert.ReferenceWOutIdeal.nD Cert.ReferenceWOutIdeal.τ).loc Cert.ReferenceWOutIdeal.main_arg3) = m' ((c.tc : Thread Cert.ReferenceWOutIdeal.nD Cert.ReferenceWOutIdeal.τ).loc Cert.ReferenceWOutIdeal.main_arg3))

def preserves_KernelWDown_KernelWDownIdeal : Prop :=
  True

def algebraic_KernelWDownIdeal_ReferenceWDownIdeal [hKernelWDownIdeal : Cert.KernelWDownIdeal.Facts] [hReferenceWDownIdeal : Cert.ReferenceWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg)
    (m' : (ℓ : Loc Cert.ReferenceWDownIdeal.nD Cert.ReferenceWDownIdeal.τ Cert.ReferenceWDownIdeal.sig) → Buf (Elt Ideal) ℓ) (g' : Dev Cert.ReferenceWDownIdeal.nD → PrngReg), Pre_KernelWDownIdeal m →
    (∀ c : Dev Cert.KernelWDownIdeal.nD,
      m' ((c.tc : Thread Cert.ReferenceWDownIdeal.nD Cert.ReferenceWDownIdeal.τ).loc Cert.ReferenceWDownIdeal.main_arg0) = m ((c.tc : Thread Cert.KernelWDownIdeal.nD Cert.KernelWDownIdeal.τ).loc Cert.KernelWDownIdeal.main_arg0)
      ∧ m' ((c.tc : Thread Cert.ReferenceWDownIdeal.nD Cert.ReferenceWDownIdeal.τ).loc Cert.ReferenceWDownIdeal.main_arg1) = m ((c.tc : Thread Cert.KernelWDownIdeal.nD Cert.KernelWDownIdeal.τ).loc Cert.KernelWDownIdeal.main_arg1)
      ∧ m' ((c.tc : Thread Cert.ReferenceWDownIdeal.nD Cert.ReferenceWDownIdeal.τ).loc Cert.ReferenceWDownIdeal.main_arg2) = m ((c.tc : Thread Cert.KernelWDownIdeal.nD Cert.KernelWDownIdeal.τ).loc Cert.KernelWDownIdeal.main_arg2)
      ∧ m' ((c.tc : Thread Cert.ReferenceWDownIdeal.nD Cert.ReferenceWDownIdeal.τ).loc Cert.ReferenceWDownIdeal.main_arg3) = m ((c.tc : Thread Cert.KernelWDownIdeal.nD Cert.KernelWDownIdeal.τ).loc Cert.KernelWDownIdeal.main_arg3)) →
    ∃ (v0 : (c : Dev Cert.KernelWDownIdeal.nD) → Buf (Elt Ideal) ((c.tc : Thread Cert.KernelWDownIdeal.nD Cert.KernelWDownIdeal.τ).loc Cert.KernelWDownIdeal.main_v0_0)) (v1 : (c : Dev Cert.KernelWDownIdeal.nD) → Buf (Elt Ideal) ((c.tc : Thread Cert.KernelWDownIdeal.nD Cert.KernelWDownIdeal.τ).loc Cert.KernelWDownIdeal.main_v0_1)) (v2 : (c : Dev Cert.KernelWDownIdeal.nD) → Buf (Elt Ideal) ((c.tc : Thread Cert.KernelWDownIdeal.nD Cert.KernelWDownIdeal.τ).loc Cert.KernelWDownIdeal.main_v0_2)) (v3 : (c : Dev Cert.KernelWDownIdeal.nD) → Buf (Elt Ideal) ((c.tc : Thread Cert.KernelWDownIdeal.nD Cert.KernelWDownIdeal.τ).loc Cert.KernelWDownIdeal.main_v0_3)),
      θ_run (Cert.KernelWDownIdeal.defs (F := Ideal)) (onTc (τ := Cert.KernelWDownIdeal.τ) (Cert.KernelWDownIdeal.main (F := Ideal))) ⟨m, fun _ => 0, g⟩ (fun r => ∀ c : Dev Cert.KernelWDownIdeal.nD,
          r.2.mem ((c.tc : Thread Cert.KernelWDownIdeal.nD Cert.KernelWDownIdeal.τ).loc Cert.KernelWDownIdeal.main_v0_0) = v0 c
          ∧ r.2.mem ((c.tc : Thread Cert.KernelWDownIdeal.nD Cert.KernelWDownIdeal.τ).loc Cert.KernelWDownIdeal.main_v0_1) = v1 c
          ∧ r.2.mem ((c.tc : Thread Cert.KernelWDownIdeal.nD Cert.KernelWDownIdeal.τ).loc Cert.KernelWDownIdeal.main_v0_2) = v2 c
          ∧ r.2.mem ((c.tc : Thread Cert.KernelWDownIdeal.nD Cert.KernelWDownIdeal.τ).loc Cert.KernelWDownIdeal.main_v0_3) = v3 c
          ∧ r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
          ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1)
          ∧ r.2.mem ((c.tc : Thread Cert.KernelWDownIdeal.nD Cert.KernelWDownIdeal.τ).loc Cert.KernelWDownIdeal.main_arg2) = m ((c.tc : Thread Cert.KernelWDownIdeal.nD Cert.KernelWDownIdeal.τ).loc Cert.KernelWDownIdeal.main_arg2)
          ∧ r.2.mem ((c.tc : Thread Cert.KernelWDownIdeal.nD Cert.KernelWDownIdeal.τ).loc Cert.KernelWDownIdeal.main_arg3) = m ((c.tc : Thread Cert.KernelWDownIdeal.nD Cert.KernelWDownIdeal.τ).loc Cert.KernelWDownIdeal.main_arg3))
      ∧ θ_run (Cert.ReferenceWDownIdeal.defs (F := Ideal)) (onTc (τ := Cert.ReferenceWDownIdeal.τ) (Cert.ReferenceWDownIdeal.main (F := Ideal))) ⟨m', fun _ => 0, g'⟩ (fun r => ∀ c : Dev Cert.ReferenceWDownIdeal.nD,
          r.2.mem ((c.tc : Thread Cert.ReferenceWDownIdeal.nD Cert.ReferenceWDownIdeal.τ).loc Cert.ReferenceWDownIdeal.main_v1) = v0 c
          ∧ r.2.mem ((c.tc : Thread Cert.ReferenceWDownIdeal.nD Cert.ReferenceWDownIdeal.τ).loc Cert.ReferenceWDownIdeal.main_v25) = v1 c
          ∧ r.2.mem ((c.tc : Thread Cert.ReferenceWDownIdeal.nD Cert.ReferenceWDownIdeal.τ).loc Cert.ReferenceWDownIdeal.main_v6) = v2 c
          ∧ r.2.mem ((c.tc : Thread Cert.ReferenceWDownIdeal.nD Cert.ReferenceWDownIdeal.τ).loc Cert.ReferenceWDownIdeal.main_v12) = v3 c
          ∧ r.2.mem ((c.tc : Thread Cert.ReferenceWDownIdeal.nD Cert.ReferenceWDownIdeal.τ).loc Cert.ReferenceWDownIdeal.main_arg0) = m' ((c.tc : Thread Cert.ReferenceWDownIdeal.nD Cert.ReferenceWDownIdeal.τ).loc Cert.ReferenceWDownIdeal.main_arg0)
          ∧ r.2.mem ((c.tc : Thread Cert.ReferenceWDownIdeal.nD Cert.ReferenceWDownIdeal.τ).loc Cert.ReferenceWDownIdeal.main_arg1) = m' ((c.tc : Thread Cert.ReferenceWDownIdeal.nD Cert.ReferenceWDownIdeal.τ).loc Cert.ReferenceWDownIdeal.main_arg1)
          ∧ r.2.mem ((c.tc : Thread Cert.ReferenceWDownIdeal.nD Cert.ReferenceWDownIdeal.τ).loc Cert.ReferenceWDownIdeal.main_arg2) = m' ((c.tc : Thread Cert.ReferenceWDownIdeal.nD Cert.ReferenceWDownIdeal.τ).loc Cert.ReferenceWDownIdeal.main_arg2)
          ∧ r.2.mem ((c.tc : Thread Cert.ReferenceWDownIdeal.nD Cert.ReferenceWDownIdeal.τ).loc Cert.ReferenceWDownIdeal.main_arg3) = m' ((c.tc : Thread Cert.ReferenceWDownIdeal.nD Cert.ReferenceWDownIdeal.τ).loc Cert.ReferenceWDownIdeal.main_arg3))

def preserves_KernelWGlu_KernelWGluIdeal : Prop :=
  True

def algebraic_KernelWGluIdeal_ReferenceWGluIdeal [hKernelWGluIdeal : Cert.KernelWGluIdeal.Facts] [hReferenceWGluIdeal : Cert.ReferenceWGluIdeal.Facts] : Prop :=
  ∀ (m : (ℓ : Loc Cert.KernelWGluIdeal.nD Cert.KernelWGluIdeal.τ Cert.KernelWGluIdeal.sig) → Buf (Elt Ideal) ℓ) (g : Dev Cert.KernelWGluIdeal.nD → PrngReg)
    (m' : (ℓ : Loc Cert.ReferenceWGluIdeal.nD Cert.ReferenceWGluIdeal.τ Cert.ReferenceWGluIdeal.sig) → Buf (Elt Ideal) ℓ) (g' : Dev Cert.ReferenceWGluIdeal.nD → PrngReg), Pre_KernelWGluIdeal m →
    (∀ c : Dev Cert.KernelWGluIdeal.nD,
      m' ((c.tc : Thread Cert.ReferenceWGluIdeal.nD Cert.ReferenceWGluIdeal.τ).loc Cert.ReferenceWGluIdeal.main_arg0) = m ((c.tc : Thread Cert.KernelWGluIdeal.nD Cert.KernelWGluIdeal.τ).loc Cert.KernelWGluIdeal.main_arg0)
      ∧ m' ((c.tc : Thread Cert.ReferenceWGluIdeal.nD Cert.ReferenceWGluIdeal.τ).loc Cert.ReferenceWGluIdeal.main_arg1) = m ((c.tc : Thread Cert.KernelWGluIdeal.nD Cert.KernelWGluIdeal.τ).loc Cert.KernelWGluIdeal.main_arg1)
      ∧ m' ((c.tc : Thread Cert.ReferenceWGluIdeal.nD Cert.ReferenceWGluIdeal.τ).loc Cert.ReferenceWGluIdeal.main_arg2) = m ((c.tc : Thread Cert.KernelWGluIdeal.nD Cert.KernelWGluIdeal.τ).loc Cert.KernelWGluIdeal.main_arg2)
      ∧ m' ((c.tc : Thread Cert.ReferenceWGluIdeal.nD Cert.ReferenceWGluIdeal.τ).loc Cert.ReferenceWGluIdeal.main_arg3) = m ((c.tc : Thread Cert.KernelWGluIdeal.nD Cert.KernelWGluIdeal.τ).loc Cert.KernelWGluIdeal.main_arg3)) →
    ∃ (v0 : (c : Dev Cert.KernelWGluIdeal.nD) → Buf (Elt Ideal) ((c.tc : Thread Cert.KernelWGluIdeal.nD Cert.KernelWGluIdeal.τ).loc Cert.KernelWGluIdeal.main_v0_0)) (v1 : (c : Dev Cert.KernelWGluIdeal.nD) → Buf (Elt Ideal) ((c.tc : Thread Cert.KernelWGluIdeal.nD Cert.KernelWGluIdeal.τ).loc Cert.KernelWGluIdeal.main_v0_1)) (v2 : (c : Dev Cert.KernelWGluIdeal.nD) → Buf (Elt Ideal) ((c.tc : Thread Cert.KernelWGluIdeal.nD Cert.KernelWGluIdeal.τ).loc Cert.KernelWGluIdeal.main_v0_2)) (v3 : (c : Dev Cert.KernelWGluIdeal.nD) → Buf (Elt Ideal) ((c.tc : Thread Cert.KernelWGluIdeal.nD Cert.KernelWGluIdeal.τ).loc Cert.KernelWGluIdeal.main_v0_3)),
      θ_run (Cert.KernelWGluIdeal.defs (F := Ideal)) (onTc (τ := Cert.KernelWGluIdeal.τ) (Cert.KernelWGluIdeal.main (F := Ideal))) ⟨m, fun _ => 0, g⟩ (fun r => ∀ c : Dev Cert.KernelWGluIdeal.nD,
          r.2.mem ((c.tc : Thread Cert.KernelWGluIdeal.nD Cert.KernelWGluIdeal.τ).loc Cert.KernelWGluIdeal.main_v0_0) = v0 c
          ∧ r.2.mem ((c.tc : Thread Cert.KernelWGluIdeal.nD Cert.KernelWGluIdeal.τ).loc Cert.KernelWGluIdeal.main_v0_1) = v1 c
          ∧ r.2.mem ((c.tc : Thread Cert.KernelWGluIdeal.nD Cert.KernelWGluIdeal.τ).loc Cert.KernelWGluIdeal.main_v0_2) = v2 c
          ∧ r.2.mem ((c.tc : Thread Cert.KernelWGluIdeal.nD Cert.KernelWGluIdeal.τ).loc Cert.KernelWGluIdeal.main_v0_3) = v3 c
          ∧ r.2.mem ((c.tc : Thread Cert.KernelWGluIdeal.nD Cert.KernelWGluIdeal.τ).loc Cert.KernelWGluIdeal.main_arg0) = m ((c.tc : Thread Cert.KernelWGluIdeal.nD Cert.KernelWGluIdeal.τ).loc Cert.KernelWGluIdeal.main_arg0)
          ∧ r.2.mem ((c.tc : Thread Cert.KernelWGluIdeal.nD Cert.KernelWGluIdeal.τ).loc Cert.KernelWGluIdeal.main_arg1) = m ((c.tc : Thread Cert.KernelWGluIdeal.nD Cert.KernelWGluIdeal.τ).loc Cert.KernelWGluIdeal.main_arg1)
          ∧ r.2.mem ((c.tc : Thread Cert.KernelWGluIdeal.nD Cert.KernelWGluIdeal.τ).loc Cert.KernelWGluIdeal.main_arg2) = m ((c.tc : Thread Cert.KernelWGluIdeal.nD Cert.KernelWGluIdeal.τ).loc Cert.KernelWGluIdeal.main_arg2)
          ∧ r.2.mem ((c.tc : Thread Cert.KernelWGluIdeal.nD Cert.KernelWGluIdeal.τ).loc Cert.KernelWGluIdeal.main_arg3) = m ((c.tc : Thread Cert.KernelWGluIdeal.nD Cert.KernelWGluIdeal.τ).loc Cert.KernelWGluIdeal.main_arg3))
      ∧ θ_run (Cert.ReferenceWGluIdeal.defs (F := Ideal)) (onTc (τ := Cert.ReferenceWGluIdeal.τ) (Cert.ReferenceWGluIdeal.main (F := Ideal))) ⟨m', fun _ => 0, g'⟩ (fun r => ∀ c : Dev Cert.ReferenceWGluIdeal.nD,
          r.2.mem ((c.tc : Thread Cert.ReferenceWGluIdeal.nD Cert.ReferenceWGluIdeal.τ).loc Cert.ReferenceWGluIdeal.main_v1) = v0 c
          ∧ r.2.mem ((c.tc : Thread Cert.ReferenceWGluIdeal.nD Cert.ReferenceWGluIdeal.τ).loc Cert.ReferenceWGluIdeal.main_v25) = v1 c
          ∧ r.2.mem ((c.tc : Thread Cert.ReferenceWGluIdeal.nD Cert.ReferenceWGluIdeal.τ).loc Cert.ReferenceWGluIdeal.main_v6) = v2 c
          ∧ r.2.mem ((c.tc : Thread Cert.ReferenceWGluIdeal.nD Cert.ReferenceWGluIdeal.τ).loc Cert.ReferenceWGluIdeal.main_v12) = v3 c
          ∧ r.2.mem ((c.tc : Thread Cert.ReferenceWGluIdeal.nD Cert.ReferenceWGluIdeal.τ).loc Cert.ReferenceWGluIdeal.main_arg0) = m' ((c.tc : Thread Cert.ReferenceWGluIdeal.nD Cert.ReferenceWGluIdeal.τ).loc Cert.ReferenceWGluIdeal.main_arg0)
          ∧ r.2.mem ((c.tc : Thread Cert.ReferenceWGluIdeal.nD Cert.ReferenceWGluIdeal.τ).loc Cert.ReferenceWGluIdeal.main_arg1) = m' ((c.tc : Thread Cert.ReferenceWGluIdeal.nD Cert.ReferenceWGluIdeal.τ).loc Cert.ReferenceWGluIdeal.main_arg1)
          ∧ r.2.mem ((c.tc : Thread Cert.ReferenceWGluIdeal.nD Cert.ReferenceWGluIdeal.τ).loc Cert.ReferenceWGluIdeal.main_arg2) = m' ((c.tc : Thread Cert.ReferenceWGluIdeal.nD Cert.ReferenceWGluIdeal.τ).loc Cert.ReferenceWGluIdeal.main_arg2)
          ∧ r.2.mem ((c.tc : Thread Cert.ReferenceWGluIdeal.nD Cert.ReferenceWGluIdeal.τ).loc Cert.ReferenceWGluIdeal.main_arg3) = m' ((c.tc : Thread Cert.ReferenceWGluIdeal.nD Cert.ReferenceWGluIdeal.τ).loc Cert.ReferenceWGluIdeal.main_arg3))

def preserves_KernelAdaFwd_KernelAdaFwdIdeal : Prop :=
  True

def algebraic_KernelAdaFwdIdeal_ReferenceAdaFwdIdeal [hKernelAdaFwdIdeal : Cert.KernelAdaFwdIdeal.Facts] [hReferenceAdaFwdIdeal : Cert.ReferenceAdaFwdIdeal.Facts] : Prop :=
  ∀ (m : (ℓ : Loc Cert.KernelAdaFwdIdeal.nD Cert.KernelAdaFwdIdeal.τ Cert.KernelAdaFwdIdeal.sig) → Buf (Elt Ideal) ℓ) (g : Dev Cert.KernelAdaFwdIdeal.nD → PrngReg)
    (m' : (ℓ : Loc Cert.ReferenceAdaFwdIdeal.nD Cert.ReferenceAdaFwdIdeal.τ Cert.ReferenceAdaFwdIdeal.sig) → Buf (Elt Ideal) ℓ) (g' : Dev Cert.ReferenceAdaFwdIdeal.nD → PrngReg), Pre_KernelAdaFwdIdeal m →
    (∀ c : Dev Cert.KernelAdaFwdIdeal.nD,
      m' ((c.tc : Thread Cert.ReferenceAdaFwdIdeal.nD Cert.ReferenceAdaFwdIdeal.τ).loc Cert.ReferenceAdaFwdIdeal.main_arg0) = m ((c.tc : Thread Cert.KernelAdaFwdIdeal.nD Cert.KernelAdaFwdIdeal.τ).loc Cert.KernelAdaFwdIdeal.main_arg0)
      ∧ m' ((c.tc : Thread Cert.ReferenceAdaFwdIdeal.nD Cert.ReferenceAdaFwdIdeal.τ).loc Cert.ReferenceAdaFwdIdeal.main_arg1) = m ((c.tc : Thread Cert.KernelAdaFwdIdeal.nD Cert.KernelAdaFwdIdeal.τ).loc Cert.KernelAdaFwdIdeal.main_arg1)) →
    ∃ (v0 : (c : Dev Cert.KernelAdaFwdIdeal.nD) → Buf (Elt Ideal) ((c.tc : Thread Cert.KernelAdaFwdIdeal.nD Cert.KernelAdaFwdIdeal.τ).loc Cert.KernelAdaFwdIdeal.main_v0)),
      θ_run (Cert.KernelAdaFwdIdeal.defs (F := Ideal)) (onTc (τ := Cert.KernelAdaFwdIdeal.τ) (Cert.KernelAdaFwdIdeal.main (F := Ideal))) ⟨m, fun _ => 0, g⟩ (fun r => ∀ c : Dev Cert.KernelAdaFwdIdeal.nD,
          r.2.mem ((c.tc : Thread Cert.KernelAdaFwdIdeal.nD Cert.KernelAdaFwdIdeal.τ).loc Cert.KernelAdaFwdIdeal.main_v0) = v0 c
          ∧ r.2.mem ((c.tc : Thread Cert.KernelAdaFwdIdeal.nD Cert.KernelAdaFwdIdeal.τ).loc Cert.KernelAdaFwdIdeal.main_arg0) = m ((c.tc : Thread Cert.KernelAdaFwdIdeal.nD Cert.KernelAdaFwdIdeal.τ).loc Cert.KernelAdaFwdIdeal.main_arg0)
          ∧ r.2.mem ((c.tc : Thread Cert.KernelAdaFwdIdeal.nD Cert.KernelAdaFwdIdeal.τ).loc Cert.KernelAdaFwdIdeal.main_arg1) = m ((c.tc : Thread Cert.KernelAdaFwdIdeal.nD Cert.KernelAdaFwdIdeal.τ).loc Cert.KernelAdaFwdIdeal.main_arg1))
      ∧ θ_run (Cert.ReferenceAdaFwdIdeal.defs (F := Ideal)) (onTc (τ := Cert.ReferenceAdaFwdIdeal.τ) (Cert.ReferenceAdaFwdIdeal.main (F := Ideal))) ⟨m', fun _ => 0, g'⟩ (fun r => ∀ c : Dev Cert.ReferenceAdaFwdIdeal.nD,
          r.2.mem ((c.tc : Thread Cert.ReferenceAdaFwdIdeal.nD Cert.ReferenceAdaFwdIdeal.τ).loc Cert.ReferenceAdaFwdIdeal.main_v1) = v0 c
          ∧ r.2.mem ((c.tc : Thread Cert.ReferenceAdaFwdIdeal.nD Cert.ReferenceAdaFwdIdeal.τ).loc Cert.ReferenceAdaFwdIdeal.main_arg0) = m' ((c.tc : Thread Cert.ReferenceAdaFwdIdeal.nD Cert.ReferenceAdaFwdIdeal.τ).loc Cert.ReferenceAdaFwdIdeal.main_arg0)
          ∧ r.2.mem ((c.tc : Thread Cert.ReferenceAdaFwdIdeal.nD Cert.ReferenceAdaFwdIdeal.τ).loc Cert.ReferenceAdaFwdIdeal.main_arg1) = m' ((c.tc : Thread Cert.ReferenceAdaFwdIdeal.nD Cert.ReferenceAdaFwdIdeal.τ).loc Cert.ReferenceAdaFwdIdeal.main_arg1))

def preserves_KernelAdaBwd_KernelAdaBwdIdeal : Prop :=
  True

def algebraic_KernelAdaBwdIdeal_ReferenceAdaBwdIdeal [hKernelAdaBwdIdeal : Cert.KernelAdaBwdIdeal.Facts] [hReferenceAdaBwdIdeal : Cert.ReferenceAdaBwdIdeal.Facts] : Prop :=
  ∀ (m : (ℓ : Loc Cert.KernelAdaBwdIdeal.nD Cert.KernelAdaBwdIdeal.τ Cert.KernelAdaBwdIdeal.sig) → Buf (Elt Ideal) ℓ) (g : Dev Cert.KernelAdaBwdIdeal.nD → PrngReg)
    (m' : (ℓ : Loc Cert.ReferenceAdaBwdIdeal.nD Cert.ReferenceAdaBwdIdeal.τ Cert.ReferenceAdaBwdIdeal.sig) → Buf (Elt Ideal) ℓ) (g' : Dev Cert.ReferenceAdaBwdIdeal.nD → PrngReg), Pre_KernelAdaBwdIdeal m →
    (∀ c : Dev Cert.KernelAdaBwdIdeal.nD,
      m' ((c.tc : Thread Cert.ReferenceAdaBwdIdeal.nD Cert.ReferenceAdaBwdIdeal.τ).loc Cert.ReferenceAdaBwdIdeal.main_arg0) = m ((c.tc : Thread Cert.KernelAdaBwdIdeal.nD Cert.KernelAdaBwdIdeal.τ).loc Cert.KernelAdaBwdIdeal.main_arg0)
      ∧ m' ((c.tc : Thread Cert.ReferenceAdaBwdIdeal.nD Cert.ReferenceAdaBwdIdeal.τ).loc Cert.ReferenceAdaBwdIdeal.main_arg1) = m ((c.tc : Thread Cert.KernelAdaBwdIdeal.nD Cert.KernelAdaBwdIdeal.τ).loc Cert.KernelAdaBwdIdeal.main_arg1)
      ∧ m' ((c.tc : Thread Cert.ReferenceAdaBwdIdeal.nD Cert.ReferenceAdaBwdIdeal.τ).loc Cert.ReferenceAdaBwdIdeal.main_arg2) = m ((c.tc : Thread Cert.KernelAdaBwdIdeal.nD Cert.KernelAdaBwdIdeal.τ).loc Cert.KernelAdaBwdIdeal.main_arg2)
      ∧ m' ((c.tc : Thread Cert.ReferenceAdaBwdIdeal.nD Cert.ReferenceAdaBwdIdeal.τ).loc Cert.ReferenceAdaBwdIdeal.main_arg3) = m ((c.tc : Thread Cert.KernelAdaBwdIdeal.nD Cert.KernelAdaBwdIdeal.τ).loc Cert.KernelAdaBwdIdeal.main_arg3)
      ∧ m' ((c.tc : Thread Cert.ReferenceAdaBwdIdeal.nD Cert.ReferenceAdaBwdIdeal.τ).loc Cert.ReferenceAdaBwdIdeal.main_arg4) = m ((c.tc : Thread Cert.KernelAdaBwdIdeal.nD Cert.KernelAdaBwdIdeal.τ).loc Cert.KernelAdaBwdIdeal.main_arg4)
      ∧ m' ((c.tc : Thread Cert.ReferenceAdaBwdIdeal.nD Cert.ReferenceAdaBwdIdeal.τ).loc Cert.ReferenceAdaBwdIdeal.main_arg5) = m ((c.tc : Thread Cert.KernelAdaBwdIdeal.nD Cert.KernelAdaBwdIdeal.τ).loc Cert.KernelAdaBwdIdeal.main_arg5)) →
    ∃ (v0 : (c : Dev Cert.KernelAdaBwdIdeal.nD) → Buf (Elt Ideal) ((c.tc : Thread Cert.KernelAdaBwdIdeal.nD Cert.KernelAdaBwdIdeal.τ).loc Cert.KernelAdaBwdIdeal.main_v0_0)) (v1 : (c : Dev Cert.KernelAdaBwdIdeal.nD) → Buf (Elt Ideal) ((c.tc : Thread Cert.KernelAdaBwdIdeal.nD Cert.KernelAdaBwdIdeal.τ).loc Cert.KernelAdaBwdIdeal.main_v0_1)) (v2 : (c : Dev Cert.KernelAdaBwdIdeal.nD) → Buf (Elt Ideal) ((c.tc : Thread Cert.KernelAdaBwdIdeal.nD Cert.KernelAdaBwdIdeal.τ).loc Cert.KernelAdaBwdIdeal.main_v0_2)),
      θ_run (Cert.KernelAdaBwdIdeal.defs (F := Ideal)) (onTc (τ := Cert.KernelAdaBwdIdeal.τ) (Cert.KernelAdaBwdIdeal.main (F := Ideal))) ⟨m, fun _ => 0, g⟩ (fun r => ∀ c : Dev Cert.KernelAdaBwdIdeal.nD,
          r.2.mem ((c.tc : Thread Cert.KernelAdaBwdIdeal.nD Cert.KernelAdaBwdIdeal.τ).loc Cert.KernelAdaBwdIdeal.main_v0_0) = v0 c
          ∧ r.2.mem ((c.tc : Thread Cert.KernelAdaBwdIdeal.nD Cert.KernelAdaBwdIdeal.τ).loc Cert.KernelAdaBwdIdeal.main_v0_1) = v1 c
          ∧ r.2.mem ((c.tc : Thread Cert.KernelAdaBwdIdeal.nD Cert.KernelAdaBwdIdeal.τ).loc Cert.KernelAdaBwdIdeal.main_v0_2) = v2 c
          ∧ r.2.mem ((c.tc : Thread Cert.KernelAdaBwdIdeal.nD Cert.KernelAdaBwdIdeal.τ).loc Cert.KernelAdaBwdIdeal.main_arg0) = m ((c.tc : Thread Cert.KernelAdaBwdIdeal.nD Cert.KernelAdaBwdIdeal.τ).loc Cert.KernelAdaBwdIdeal.main_arg0)
          ∧ r.2.mem ((c.tc : Thread Cert.KernelAdaBwdIdeal.nD Cert.KernelAdaBwdIdeal.τ).loc Cert.KernelAdaBwdIdeal.main_arg1) = m ((c.tc : Thread Cert.KernelAdaBwdIdeal.nD Cert.KernelAdaBwdIdeal.τ).loc Cert.KernelAdaBwdIdeal.main_arg1)
          ∧ r.2.mem ((c.tc : Thread Cert.KernelAdaBwdIdeal.nD Cert.KernelAdaBwdIdeal.τ).loc Cert.KernelAdaBwdIdeal.main_arg2) = m ((c.tc : Thread Cert.KernelAdaBwdIdeal.nD Cert.KernelAdaBwdIdeal.τ).loc Cert.KernelAdaBwdIdeal.main_arg2)
          ∧ r.2.mem ((c.tc : Thread Cert.KernelAdaBwdIdeal.nD Cert.KernelAdaBwdIdeal.τ).loc Cert.KernelAdaBwdIdeal.main_arg3) = m ((c.tc : Thread Cert.KernelAdaBwdIdeal.nD Cert.KernelAdaBwdIdeal.τ).loc Cert.KernelAdaBwdIdeal.main_arg3)
          ∧ r.2.mem ((c.tc : Thread Cert.KernelAdaBwdIdeal.nD Cert.KernelAdaBwdIdeal.τ).loc Cert.KernelAdaBwdIdeal.main_arg4) = m ((c.tc : Thread Cert.KernelAdaBwdIdeal.nD Cert.KernelAdaBwdIdeal.τ).loc Cert.KernelAdaBwdIdeal.main_arg4)
          ∧ r.2.mem ((c.tc : Thread Cert.KernelAdaBwdIdeal.nD Cert.KernelAdaBwdIdeal.τ).loc Cert.KernelAdaBwdIdeal.main_arg5) = m ((c.tc : Thread Cert.KernelAdaBwdIdeal.nD Cert.KernelAdaBwdIdeal.τ).loc Cert.KernelAdaBwdIdeal.main_arg5))
      ∧ θ_run (Cert.ReferenceAdaBwdIdeal.defs (F := Ideal)) (onTc (τ := Cert.ReferenceAdaBwdIdeal.τ) (Cert.ReferenceAdaBwdIdeal.main (F := Ideal))) ⟨m', fun _ => 0, g'⟩ (fun r => ∀ c : Dev Cert.ReferenceAdaBwdIdeal.nD,
          r.2.mem ((c.tc : Thread Cert.ReferenceAdaBwdIdeal.nD Cert.ReferenceAdaBwdIdeal.τ).loc Cert.ReferenceAdaBwdIdeal.main_v15) = v0 c
          ∧ r.2.mem ((c.tc : Thread Cert.ReferenceAdaBwdIdeal.nD Cert.ReferenceAdaBwdIdeal.τ).loc Cert.ReferenceAdaBwdIdeal.main_v25) = v1 c
          ∧ r.2.mem ((c.tc : Thread Cert.ReferenceAdaBwdIdeal.nD Cert.ReferenceAdaBwdIdeal.τ).loc Cert.ReferenceAdaBwdIdeal.main_v27) = v2 c
          ∧ r.2.mem ((c.tc : Thread Cert.ReferenceAdaBwdIdeal.nD Cert.ReferenceAdaBwdIdeal.τ).loc Cert.ReferenceAdaBwdIdeal.main_arg0) = m' ((c.tc : Thread Cert.ReferenceAdaBwdIdeal.nD Cert.ReferenceAdaBwdIdeal.τ).loc Cert.ReferenceAdaBwdIdeal.main_arg0)
          ∧ r.2.mem ((c.tc : Thread Cert.ReferenceAdaBwdIdeal.nD Cert.ReferenceAdaBwdIdeal.τ).loc Cert.ReferenceAdaBwdIdeal.main_arg1) = m' ((c.tc : Thread Cert.ReferenceAdaBwdIdeal.nD Cert.ReferenceAdaBwdIdeal.τ).loc Cert.ReferenceAdaBwdIdeal.main_arg1)
          ∧ r.2.mem ((c.tc : Thread Cert.ReferenceAdaBwdIdeal.nD Cert.ReferenceAdaBwdIdeal.τ).loc Cert.ReferenceAdaBwdIdeal.main_arg2) = m' ((c.tc : Thread Cert.ReferenceAdaBwdIdeal.nD Cert.ReferenceAdaBwdIdeal.τ).loc Cert.ReferenceAdaBwdIdeal.main_arg2)
          ∧ r.2.mem ((c.tc : Thread Cert.ReferenceAdaBwdIdeal.nD Cert.ReferenceAdaBwdIdeal.τ).loc Cert.ReferenceAdaBwdIdeal.main_arg3) = m' ((c.tc : Thread Cert.ReferenceAdaBwdIdeal.nD Cert.ReferenceAdaBwdIdeal.τ).loc Cert.ReferenceAdaBwdIdeal.main_arg3)
          ∧ r.2.mem ((c.tc : Thread Cert.ReferenceAdaBwdIdeal.nD Cert.ReferenceAdaBwdIdeal.τ).loc Cert.ReferenceAdaBwdIdeal.main_arg4) = m' ((c.tc : Thread Cert.ReferenceAdaBwdIdeal.nD Cert.ReferenceAdaBwdIdeal.τ).loc Cert.ReferenceAdaBwdIdeal.main_arg4)
          ∧ r.2.mem ((c.tc : Thread Cert.ReferenceAdaBwdIdeal.nD Cert.ReferenceAdaBwdIdeal.τ).loc Cert.ReferenceAdaBwdIdeal.main_arg5) = m' ((c.tc : Thread Cert.ReferenceAdaBwdIdeal.nD Cert.ReferenceAdaBwdIdeal.τ).loc Cert.ReferenceAdaBwdIdeal.main_arg5))

def Claim : Prop :=
  ∃ (hKernel : Cert.Kernel.Facts) (hKernelIdeal : Cert.KernelIdeal.Facts) (hReferenceIdeal : Cert.ReferenceIdeal.Facts) (hKernelFwd : Cert.KernelFwd.Facts) (hKernelFwdIdeal : Cert.KernelFwdIdeal.Facts) (hReferenceFwdIdeal : Cert.ReferenceFwdIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelGlu : Cert.KernelGlu.Facts) (hKernelGluIdeal : Cert.KernelGluIdeal.Facts) (hReferenceGluIdeal : Cert.ReferenceGluIdeal.Facts) (hKernelSumUp : Cert.KernelSumUp.Facts) (hKernelSumUpIdeal : Cert.KernelSumUpIdeal.Facts) (hReferenceSumUpIdeal : Cert.ReferenceSumUpIdeal.Facts) (hKernelWMod : Cert.KernelWMod.Facts) (hKernelWModIdeal : Cert.KernelWModIdeal.Facts) (hReferenceWModIdeal : Cert.ReferenceWModIdeal.Facts) (hKernelWIn : Cert.KernelWIn.Facts) (hKernelWInIdeal : Cert.KernelWInIdeal.Facts) (hReferenceWInIdeal : Cert.ReferenceWInIdeal.Facts) (hKernelWUp : Cert.KernelWUp.Facts) (hKernelWUpIdeal : Cert.KernelWUpIdeal.Facts) (hReferenceWUpIdeal : Cert.ReferenceWUpIdeal.Facts) (hKernelConvW : Cert.KernelConvW.Facts) (hKernelConvWIdeal : Cert.KernelConvWIdeal.Facts) (hReferenceConvWIdeal : Cert.ReferenceConvWIdeal.Facts) (hKernelWOut : Cert.KernelWOut.Facts) (hKernelWOutIdeal : Cert.KernelWOutIdeal.Facts) (hReferenceWOutIdeal : Cert.ReferenceWOutIdeal.Facts) (hKernelWDown : Cert.KernelWDown.Facts) (hKernelWDownIdeal : Cert.KernelWDownIdeal.Facts) (hReferenceWDownIdeal : Cert.ReferenceWDownIdeal.Facts) (hKernelWGlu : Cert.KernelWGlu.Facts) (hKernelWGluIdeal : Cert.KernelWGluIdeal.Facts) (hReferenceWGluIdeal : Cert.ReferenceWGluIdeal.Facts) (hKernelAdaFwd : Cert.KernelAdaFwd.Facts) (hKernelAdaFwdIdeal : Cert.KernelAdaFwdIdeal.Facts) (hReferenceAdaFwdIdeal : Cert.ReferenceAdaFwdIdeal.Facts) (hKernelAdaBwd : Cert.KernelAdaBwd.Facts) (hKernelAdaBwdIdeal : Cert.KernelAdaBwdIdeal.Facts) (hReferenceAdaBwdIdeal : Cert.ReferenceAdaBwdIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelSumUp (hKernelSumUp := hKernelSumUp)
    ∧ quiescent_KernelSumUpIdeal (hKernelSumUpIdeal := hKernelSumUpIdeal)
    ∧ quiescent_ReferenceSumUpIdeal (hReferenceSumUpIdeal := hReferenceSumUpIdeal)
    ∧ quiescent_KernelWMod (hKernelWMod := hKernelWMod)
    ∧ quiescent_KernelWModIdeal (hKernelWModIdeal := hKernelWModIdeal)
    ∧ quiescent_ReferenceWModIdeal (hReferenceWModIdeal := hReferenceWModIdeal)
    ∧ quiescent_KernelWIn (hKernelWIn := hKernelWIn)
    ∧ quiescent_KernelWInIdeal (hKernelWInIdeal := hKernelWInIdeal)
    ∧ quiescent_ReferenceWInIdeal (hReferenceWInIdeal := hReferenceWInIdeal)
    ∧ quiescent_KernelWUp (hKernelWUp := hKernelWUp)
    ∧ quiescent_KernelWUpIdeal (hKernelWUpIdeal := hKernelWUpIdeal)
    ∧ quiescent_ReferenceWUpIdeal (hReferenceWUpIdeal := hReferenceWUpIdeal)
    ∧ quiescent_KernelConvW (hKernelConvW := hKernelConvW)
    ∧ quiescent_KernelConvWIdeal (hKernelConvWIdeal := hKernelConvWIdeal)
    ∧ quiescent_ReferenceConvWIdeal (hReferenceConvWIdeal := hReferenceConvWIdeal)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelWDown (hKernelWDown := hKernelWDown)
    ∧ quiescent_KernelWDownIdeal (hKernelWDownIdeal := hKernelWDownIdeal)
    ∧ quiescent_ReferenceWDownIdeal (hReferenceWDownIdeal := hReferenceWDownIdeal)
    ∧ quiescent_KernelWGlu (hKernelWGlu := hKernelWGlu)
    ∧ quiescent_KernelWGluIdeal (hKernelWGluIdeal := hKernelWGluIdeal)
    ∧ quiescent_ReferenceWGluIdeal (hReferenceWGluIdeal := hReferenceWGluIdeal)
    ∧ quiescent_KernelAdaFwd (hKernelAdaFwd := hKernelAdaFwd)
    ∧ quiescent_KernelAdaFwdIdeal (hKernelAdaFwdIdeal := hKernelAdaFwdIdeal)
    ∧ quiescent_ReferenceAdaFwdIdeal (hReferenceAdaFwdIdeal := hReferenceAdaFwdIdeal)
    ∧ quiescent_KernelAdaBwd (hKernelAdaBwd := hKernelAdaBwd)
    ∧ quiescent_KernelAdaBwdIdeal (hKernelAdaBwdIdeal := hKernelAdaBwdIdeal)
    ∧ quiescent_ReferenceAdaBwdIdeal (hReferenceAdaBwdIdeal := hReferenceAdaBwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelGlu_KernelGluIdeal
    ∧ algebraic_KernelGluIdeal_ReferenceGluIdeal (hKernelGluIdeal := hKernelGluIdeal) (hReferenceGluIdeal := hReferenceGluIdeal)
    ∧ preserves_KernelSumUp_KernelSumUpIdeal
    ∧ algebraic_KernelSumUpIdeal_ReferenceSumUpIdeal (hKernelSumUpIdeal := hKernelSumUpIdeal) (hReferenceSumUpIdeal := hReferenceSumUpIdeal)
    ∧ preserves_KernelWMod_KernelWModIdeal
    ∧ algebraic_KernelWModIdeal_ReferenceWModIdeal (hKernelWModIdeal := hKernelWModIdeal) (hReferenceWModIdeal := hReferenceWModIdeal)
    ∧ preserves_KernelWIn_KernelWInIdeal
    ∧ algebraic_KernelWInIdeal_ReferenceWInIdeal (hKernelWInIdeal := hKernelWInIdeal) (hReferenceWInIdeal := hReferenceWInIdeal)
    ∧ preserves_KernelWUp_KernelWUpIdeal
    ∧ algebraic_KernelWUpIdeal_ReferenceWUpIdeal (hKernelWUpIdeal := hKernelWUpIdeal) (hReferenceWUpIdeal := hReferenceWUpIdeal)
    ∧ preserves_KernelConvW_KernelConvWIdeal
    ∧ algebraic_KernelConvWIdeal_ReferenceConvWIdeal (hKernelConvWIdeal := hKernelConvWIdeal) (hReferenceConvWIdeal := hReferenceConvWIdeal)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelWDown_KernelWDownIdeal
    ∧ algebraic_KernelWDownIdeal_ReferenceWDownIdeal (hKernelWDownIdeal := hKernelWDownIdeal) (hReferenceWDownIdeal := hReferenceWDownIdeal)
    ∧ preserves_KernelWGlu_KernelWGluIdeal
    ∧ algebraic_KernelWGluIdeal_ReferenceWGluIdeal (hKernelWGluIdeal := hKernelWGluIdeal) (hReferenceWGluIdeal := hReferenceWGluIdeal)
    ∧ preserves_KernelAdaFwd_KernelAdaFwdIdeal
    ∧ algebraic_KernelAdaFwdIdeal_ReferenceAdaFwdIdeal (hKernelAdaFwdIdeal := hKernelAdaFwdIdeal) (hReferenceAdaFwdIdeal := hReferenceAdaFwdIdeal)
    ∧ preserves_KernelAdaBwd_KernelAdaBwdIdeal
    ∧ algebraic_KernelAdaBwdIdeal_ReferenceAdaBwdIdeal (hKernelAdaBwdIdeal := hKernelAdaBwdIdeal) (hReferenceAdaBwdIdeal := hReferenceAdaBwdIdeal)
-- ==== Pre_finite.lean ====
abbrev S8192x1024 : Shape := ⟨2, ![8192, 1024]⟩
abbrev S8192x2816 : Shape := ⟨2, ![8192, 2816]⟩
abbrev S1x1024 : Shape := ⟨2, ![1, 1024]⟩
abbrev S6x1024 : Shape := ⟨2, ![6, 1024]⟩
abbrev S1024x5632 : Shape := ⟨2, ![1024, 5632]⟩
abbrev S3x2816 : Shape := ⟨2, ![3, 2816]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S1x1024 : S_.BroadcastsInDim S1x1024 (![] : Fin 0 → Fin S1x1024.rank)
  slices_S6x1024_S1x1024_4_0 : S6x1024.Slices ![4, 0] S1x1024
  bcast_S_S1024x5632 : S_.BroadcastsInDim S1024x5632 (![] : Fin 0 → Fin S1024x5632.rank)
  bcast_S_S3x2816 : S_.BroadcastsInDim S3x2816 (![] : Fin 0 → Fin S3x2816.rank)

variable [Facts]

def fn_part1 {F : FTy → Type} [FloatOps F] (main_v3 : IVec S8192x2816 1) (main_v6 : IVec S8192x2816 1) (main_v9 : IVec S1x1024 1) (main_v13 : IVec S1x1024 1) (main_v16 : IVec S1024x5632 1) (main_v17 : FVec F S3x2816 .f32) (main_cst_4 : FVec F S_ .f32) : IVec S8192x2816 1 × IVec S8192x2816 1 × IVec S1x1024 1 × IVec S1x1024 1 × IVec S1024x5632 1 × IVec S3x2816 1 :=
  let main_v18 : FVec F S3x2816 .f32 := broadcastInDim S3x2816 ![] bcast_S_S3x2816 main_cst_4
  let main_v19 : IVec S3x2816 1 := cmpf .olt main_v17 main_v18
  (main_v3, main_v6, main_v9, main_v13, main_v16, main_v19)

def fn {F : FTy → Type} [FloatOps F] (main_arg0 : FVec F S8192x1024 .f32) (main_arg1 : FVec F S8192x1024 .f32) (main_arg2 : FVec F S8192x2816 .bf16) (main_arg3 : FVec F S8192x2816 .f32) (main_arg4 : FVec F S1x1024 .f32) (main_arg5 : FVec F S6x1024 .f32) (main_arg6 : FVec F S1024x5632 .f32) (main_arg7 : FVec F S3x2816 .f32) : IVec S8192x2816 1 × IVec S8192x2816 1 × IVec S1x1024 1 × IVec S1x1024 1 × IVec S1024x5632 1 × IVec S3x2816 1 :=
  let main_v0 : FVec F S8192x2816 .f32 := (extf .f32 · bitsLt_bf16_f32) main_arg2
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := Host.absf main_arg3
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_v7 : FVec F S1x1024 .f32 := Host.absf main_arg4
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x1024 .f32 := (extractStridedSlice S1x1024 ![4, 0] · slices_S6x1024_S1x1024_4_0) main_arg5
  let main_v11 : FVec F S1x1024 .f32 := Host.absf main_v10
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1024x5632 .f32 := Host.absf main_arg6
  let main_cst_3 : FVec F S_ .f32 := constant S_ .f32 0x7F800000#32
  let main_v15 : FVec F S1024x5632 .f32 := broadcastInDim S1024x5632 ![] bcast_S_S1024x5632 main_cst_3
  let main_v16 : IVec S1024x5632 1 := cmpf .olt main_v14 main_v15
  let main_v17 : FVec F S3x2816 .f32 := Host.absf main_arg7
  let main_cst_4 : FVec F S_ .f32 := constant S_ .f32 0x7F800000#32
  fn_part1 (F := F) main_v3 main_v6 main_v9 main_v13 main_v16 main_v17 main_cst_4
-- ==== Pre_finite_fwd.lean ====
abbrev S8192x1024 : Shape := ⟨2, ![8192, 1024]⟩
abbrev S1x1024 : Shape := ⟨2, ![1, 1024]⟩
abbrev S6x1024 : Shape := ⟨2, ![6, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  slices_S6x1024_S1x1024_5_0 : S6x1024.Slices ![5, 0] S1x1024
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) (main_arg3 : FVec F S6x1024 .f32) (main_arg4 : FVec F S1024x5632 .f32) (main_arg5 : FVec F S3x2816 .f32) (main_arg6 : FVec F S1x2816 .f32) (main_arg7 : FVec F S2816x1024 .f32) (main_arg8 : FVec F S1x1024 .f32) : IVec S8192x1024 1 × IVec S1x1024 1 × IVec S1x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := (extractStridedSlice S1x1024 ![5, 0] · slices_S6x1024_S1x1024_5_0) main_arg3
  let main_v4 : FVec F S1x1024 .f32 := Host.absf main_v3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg8
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  (main_v2, main_v6, main_v9)
-- ==== Kernel.lean ====
abbrev S8192x1024 : Shape := ⟨2, ![8192, 1024]⟩
abbrev S8192x2816 : Shape := ⟨2, ![8192, 2816]⟩
abbrev S1x1024 : Shape := ⟨2, ![1, 1024]⟩
abbrev S6x1024 : Shape := ⟨2, ![6, 1024]⟩
abbrev S1024x5632 : Shape := ⟨2, ![1024, 5632]⟩
abbrev S3x2816 : Shape := ⟨2, ![3, 2816]⟩
abbrev S5632x1024 : Shape := ⟨2, ![5632, 1024]⟩
abbrev S8192x5632 : Shape := ⟨2, ![8192, 5632]⟩
abbrev S256x1024 : Shape := ⟨2, ![256, 1024]⟩
abbrev S256x2816 : Shape := ⟨2, ![256, 2816]⟩
abbrev S8x2816 : Shape := ⟨2, ![8, 2816]⟩
abbrev S256x5632 : Shape := ⟨2, ![256, 5632]⟩
abbrev S1x2816 : Shape := ⟨2, ![1, 2816]⟩
abbrev S256x1 : Shape := ⟨2, ![256, 1]⟩
abbrev S256 : Shape := ⟨1, ![256]⟩
abbrev S1024 : Shape := ⟨1, ![1024]⟩

abbrev nBuf : Space → Nat
  | .hbm => 15
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .bf16⟩
  | .hbm, ⟨3, _⟩ => ⟨S8192x2816, .f32⟩
  | .hbm, ⟨4, _⟩ => ⟨S1x1024, .f32⟩
  | .hbm, ⟨5, _⟩ => ⟨S6x1024, .f32⟩
  | .hbm, ⟨6, _⟩ => ⟨S1024x5632, .f32⟩
  | .hbm, ⟨7, _⟩ => ⟨S3x2816, .f32⟩
  | .hbm, ⟨8, _⟩ => ⟨S5632x1024, .f32⟩
  | .hbm, ⟨9, _⟩ => ⟨S5632x1024, .bf16⟩
  | .hbm, ⟨10, _⟩ => ⟨S8192x1024, .f32⟩
  | .hbm, ⟨11, _⟩ => ⟨S8192x5632, .bf16⟩
  | .hbm, ⟨12, _⟩ => ⟨S8192x1024, .bf16⟩
  | .hbm, ⟨13, _⟩ => ⟨S1x1024, .f32⟩
  | .hbm, ⟨14, _⟩ => ⟨S6x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .f32⟩
  | .local _ .vmem, ⟨7, _⟩ => ⟨S256x2816, .f32⟩
  | .local _ .vmem, ⟨8, _⟩ => ⟨S8x2816, .f32⟩
  | .local _ .vmem, ⟨9, _⟩ => ⟨S8x2816, .f32⟩
  | .local _ .vmem, ⟨10, _⟩ => ⟨S8x2816, .f32⟩
  | .local _ .vmem, ⟨11, _⟩ => ⟨S8x2816, .f32⟩
  | .local _ .vmem, ⟨12, _⟩ => ⟨S1x1024, .f32⟩
  | .local _ .vmem, ⟨13, _⟩ => ⟨S6x1024, .f32⟩
  | .local _ .vmem, ⟨14, _⟩ => ⟨S5632x1024, .bf16⟩
  | .local _ .vmem, ⟨15, _⟩ => ⟨S3x2816, .f32⟩
  | .local _ .vmem, ⟨16, _⟩ => ⟨S256x1024, .f32⟩
  | .local _ .vmem, ⟨17, _⟩ => ⟨S256x1024, .f32⟩
  | .local _ .vmem, ⟨18, _⟩ => ⟨S256x5632, .bf16⟩
  | .local _ .vmem, ⟨19, _⟩ => ⟨S256x5632, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S6x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5632x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S8192x2816 : Shape := ⟨2, ![8192, 2816]⟩
abbrev S1x1024 : Shape := ⟨2, ![1, 1024]⟩
abbrev S6x1024 : Shape := ⟨2, ![6, 1024]⟩
abbrev S1024x5632 : Shape := ⟨2, ![1024, 5632]⟩
abbrev S3x2816 : Shape := ⟨2, ![3, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1x2816 : Shape := ⟨2, ![1, 2816]⟩
abbrev S8194x2816 : Shape := ⟨2, ![8194, 2816]⟩
abbrev S2816 : Shape := ⟨1, ![2816]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x1024, .f32⟩
  | 2 => ⟨S8192x2816, .bf16⟩
  | 3 => ⟨S8192x2816, .f32⟩
  | 4 => ⟨S1x1024, .f32⟩
  | 5 => ⟨S6x1024, .f32⟩
  | 6 => ⟨S1024x5632, .f32⟩
  | 7 => ⟨S3x2816, .f32⟩
  | 8 => ⟨S1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S1024, .f32⟩
  | 33 => ⟨S_, .f32⟩
  | 34 => ⟨S1024, .f32⟩
  | 35 => ⟨S1024, .f32⟩
  | 36 => ⟨S1x1024, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x5632, .f32⟩
  | 43 => ⟨S8192x2816, .f32⟩
  | 44 => ⟨S8192x2816, .f32⟩
  | 45 => ⟨S_, .f32⟩
  | 46 => ⟨S1x2816, .f32⟩
  | 47 => ⟨S8194x2816, .f32⟩
  | 48 => ⟨S_, .f32⟩
  | 49 => ⟨S1x2816, .f32⟩
  | 50 => ⟨S_, .f32⟩
  | 51 => ⟨S1x2816, .f32⟩
  | 52 => ⟨S8192x2816, .f32⟩
  | 53 => ⟨S1x2816, .f32⟩
  | 54 => ⟨S2816, .f32⟩
  | 55 => ⟨S1x2816, .f32⟩
  | 56 => ⟨S8192x2816, .f32⟩
  | 57 => ⟨S8192x2816, .f32⟩
  | 58 => ⟨S8192x2816, .f32⟩
  | 59 => ⟨S1x2816, .f32⟩
  | 60 => ⟨S2816, .f32⟩
  | 61 => ⟨S1x2816, .f32⟩
  | 62 => ⟨S8192x2816, .f32⟩
  | 63 => ⟨S8192x2816, .f32⟩
  | 64 => ⟨S8192x2816, .f32⟩
  | 65 => ⟨S8192x2816, .f32⟩
  | 66 => ⟨S1x2816, .f32⟩
  | 67 => ⟨S2816, .f32⟩
  | 68 => ⟨S1x2816, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S8192x2816, .f32⟩
  | 75 => ⟨S8192x2816, .f32⟩
  | 76 => ⟨S8192x2816, .f32⟩
  | 77 => ⟨S_, .f32⟩
  | 78 => ⟨S8194x2816, .f32⟩
  | 79 => ⟨S8192x2816, .f32⟩
  | 80 => ⟨S8192x2816, .f32⟩
  | 81 => ⟨S_, .f32⟩
  | 82 => ⟨S8194x2816, .f32⟩
  | 83 => ⟨S8194x2816, .f32⟩
  | 84 => ⟨S8192x2816, .f32⟩
  | 85 => ⟨S8192x2816, .f32⟩
  | 86 => ⟨S_, .f32⟩
  | 87 => ⟨S8194x2816, .f32⟩
  | 88 => ⟨S8194x2816, .f32⟩
  | 89 => ⟨S1x2816, .f32⟩
  | 90 => ⟨S8192x2816, .f32⟩
  | 91 => ⟨S1x2816, .f32⟩
  | 92 => ⟨S8192x5632, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S_, .f32⟩
  | 106 => ⟨S1024, .f32⟩
  | 107 => ⟨S1x1024, .f32⟩
  | 108 => ⟨S_, .f32⟩
  | 109 => ⟨S6x1024, .f32⟩
  | 110 => ⟨S1x1024, .f32⟩
  | 111 => ⟨S_, .f32⟩
  | 112 => ⟨S6x1024, .f32⟩
  | 113 => ⟨S6x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S1x1024, .f32⟩
  | 12 => ⟨S8192x1024, .f32⟩
  | 13 => ⟨S8192x5632, .bf16⟩
  | 14 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_16 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_17 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_19 : Ref sig .tc := ⟨.hbm, 129, rfl⟩
abbrev main_v101 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩

abbrev nD : Nat := 1
abbrev τ : Topo := Topo.v7x

variable {F : FTy → Type} [FloatOps F]
-- ==== KernelFwd.lean ====
abbrev S8192x1024 : Shape := ⟨2, ![8192, 1024]⟩
abbrev S1x1024 : Shape := ⟨2, ![1, 1024]⟩
abbrev S6x1024 : Shape := ⟨2, ![6, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S5632x1024 : Shape := ⟨2, ![5632, 1024]⟩
abbrev S1024x2816 : Shape := ⟨2, ![1024, 2816]⟩
abbrev S8192x2816 : Shape := ⟨2, ![8192, 2816]⟩
abbrev S1x128 : Shape := ⟨2, ![1, 128]⟩
abbrev S128x1024 : Shape := ⟨2, ![128, 1024]⟩
abbrev S8x1024 : Shape := ⟨2, ![8, 1024]⟩
abbrev S128x2816 : Shape := ⟨2, ![128, 2816]⟩
abbrev S128 : Shape := ⟨1, ![128]⟩
abbrev S128x1 : Shape := ⟨2, ![128, 1]⟩
abbrev S8 : Shape := ⟨1, ![8]⟩
abbrev S8x1 : Shape := ⟨2, ![8, 1]⟩
abbrev S144x1024 : Shape := ⟨2, ![144, 1024]⟩
abbrev S144x2816 : Shape := ⟨2, ![144, 2816]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩
abbrev S2816 : Shape := ⟨1, ![2816]⟩

abbrev nBuf : Space → Nat
  | .hbm => 27
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S6x1024, .f32⟩
  | .hbm, ⟨4, _⟩ => ⟨S1024x5632, .f32⟩
  | .hbm, ⟨5, _⟩ => ⟨S3x2816, .f32⟩
  | .hbm, ⟨6, _⟩ => ⟨S1x2816, .f32⟩
  | .hbm, ⟨7, _⟩ => ⟨S2816x1024, .f32⟩
  | .hbm, ⟨8, _⟩ => ⟨S1x1024, .f32⟩
  | .hbm, ⟨9, _⟩ => ⟨S5632x1024, .f32⟩
  | .hbm, ⟨10, _⟩ => ⟨S5632x1024, .bf16⟩
  | .hbm, ⟨11, _⟩ => ⟨S2816x1024, .bf16⟩
  | .hbm, ⟨12, _⟩ => ⟨S2816x1024, .bf16⟩
  | .hbm, ⟨13, _⟩ => ⟨S1024x2816, .bf16⟩
  | .hbm, ⟨14, _⟩ => ⟨S2816x1024, .bf16⟩
  | .hbm, ⟨15, _⟩ => ⟨S1024x2816, .bf16⟩
  | .hbm, ⟨16, _⟩ => ⟨S1024x2816, .bf16⟩
  | .hbm, ⟨17, _⟩ => ⟨S8192x1024, .f32⟩
  | .hbm, ⟨18, _⟩ => ⟨S8192x2816, .bf16⟩
  | .hbm, ⟨19, _⟩ => ⟨S8192x2816, .f32⟩
  | .hbm, ⟨20, _⟩ => ⟨S8192x2816, .bf16⟩
  | .hbm, ⟨21, _⟩ => ⟨S8192x1024, .bf16⟩
  | .hbm, ⟨22, _⟩ => ⟨S1x128, .f32⟩
  | .hbm, ⟨23, _⟩ => ⟨S1x1024, .f32⟩
  | .hbm, ⟨24, _⟩ => ⟨S1x1024, .f32⟩
  | .hbm, ⟨25, _⟩ => ⟨S1x2816, .f32⟩
  | .hbm, ⟨26, _⟩ => ⟨S3x2816, .f32⟩
  | .local _ .vmem, ⟨0, _⟩ => ⟨S128x1024, .f32⟩
  | .local _ .vmem, ⟨1, _⟩ => ⟨S128x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S6x1024, .f32⟩
  | .local _ .vmem, ⟨10, _⟩ => ⟨S1024x2816, .bf16⟩
  | .local _ .vmem, ⟨11, _⟩ => ⟨S1024x2816, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1024x2816, .bf16⟩
  | .local _ .vmem, ⟨16, _⟩ => ⟨S1x1024, .f32⟩
  | .local _ .vmem, ⟨17, _⟩ => ⟨S128x1024, .f32⟩
  | .local _ .vmem, ⟨18, _⟩ => ⟨S128x1024, .f32⟩
  | .local _ .vmem, ⟨19, _⟩ => ⟨S128x2816, .bf16⟩
  | .local _ .vmem, ⟨20, _⟩ => ⟨S128x2816, .bf16⟩
  | .local _ .vmem, ⟨21, _⟩ => ⟨S128x2816, .f32⟩
  | .local _ .vmem, ⟨22, _⟩ => ⟨S128x2816, .f32⟩
  | .local _ .vmem, ⟨23, _⟩ => ⟨S128x2816, .bf16⟩
  | .local _ .vmem, ⟨24, _⟩ => ⟨S128x2816, .bf16⟩
  | .local _ .vmem, ⟨25, _⟩ => ⟨S128x1024, .bf16⟩
  | .local _ .vmem, ⟨26, _⟩ => ⟨S128x1024, .bf16⟩
  | .local _ .vmem, ⟨27, _⟩ => ⟨S1x128, .f32⟩
  | .local _ .vmem, ⟨28, _⟩ => ⟨S1x1024, .f32⟩
  | .local _ .vmem, ⟨29, _⟩ => ⟨S1x1024, .f32⟩
  | .local _ .vmem, ⟨30, _⟩ => ⟨S1x2816, .f32⟩
  | .local _ .vmem, ⟨31, _⟩ => ⟨S3x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev main_v8_8 : Ref sig .tc := ⟨.hbm, 25, rfl⟩
abbrev main_v8_9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x2816 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== KernelFwdIdeal.lean ====
variable {F : FTy → Type} [FloatOps F] [Named F]
def κ : String → Option EReal := fun
  | "gelu_c1" => some ((8943 / 200000 : ℝ) : EReal)
  | "gelu_c3" => some ((26829 / 200000 : ℝ) : EReal)
  | _ => none
-- ==== ReferenceFwdIdeal.lean ====
abbrev S8192x1024 : Shape := ⟨2, ![8192, 1024]⟩
abbrev S1x1024 : Shape := ⟨2, ![1, 1024]⟩
abbrev S6x1024 : Shape := ⟨2, ![6, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8194x2816 : Shape := ⟨2, ![8194, 2816]⟩
abbrev S2816 : Shape := ⟨1, ![2816]⟩
abbrev S1x128 : Shape := ⟨2, ![1, 128]⟩

abbrev nBuf : Space → Nat
  | .hbm => 239
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S6x1024, .f32⟩
  | 4 => ⟨S1024x5632, .f32⟩
  | 5 => ⟨S3x2816, .f32⟩
  | 6 => ⟨S1x2816, .f32⟩
  | 7 => ⟨S2816x1024, .f32⟩
  | 8 => ⟨S1x1024, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S1x1024, .f32⟩
  | 27 => ⟨S1024, .f32⟩
  | 28 => ⟨S1x1024, .f32⟩
  | 29 => ⟨S1024, .f32⟩
  | 30 => ⟨S_, .f32⟩
  | 31 => ⟨S1024, .f32⟩
  | 32 => ⟨S1024, .f32⟩
  | 33 => ⟨S1x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S8192x5632, .f32⟩
  | 40 => ⟨S8192x2816, .f32⟩
  | 41 => ⟨S8192x2816, .f32⟩
  | 42 => ⟨S_, .f32⟩
  | 43 => ⟨S1x2816, .f32⟩
  | 44 => ⟨S8194x2816, .f32⟩
  | 45 => ⟨S8192x2816, .f32⟩
  | 46 => ⟨S1x2816, .f32⟩
  | 47 => ⟨S2816, .f32⟩
  | 48 => ⟨S1x2816, .f32⟩
  | 49 => ⟨S8192x2816, .f32⟩
  | 50 => ⟨S8192x2816, .f32⟩
  | 51 => ⟨S8192x2816, .f32⟩
  | 52 => ⟨S1x2816, .f32⟩
  | 53 => ⟨S2816, .f32⟩
  | 54 => ⟨S1x2816, .f32⟩
  | 55 => ⟨S8192x2816, .f32⟩
  | 56 => ⟨S8192x2816, .f32⟩
  | 57 => ⟨S8192x2816, .f32⟩
  | 58 => ⟨S8192x2816, .f32⟩
  | 59 => ⟨S1x2816, .f32⟩
  | 60 => ⟨S2816, .f32⟩
  | 61 => ⟨S1x2816, .f32⟩
  | 62 => ⟨S8192x2816, .f32⟩
  | 63 => ⟨S8192x2816, .f32⟩
  | 64 => ⟨S8192x2816, .f32⟩
  | 65 => ⟨S2816, .f32⟩
  | 66 => ⟨S1x2816, .f32⟩
  | 67 => ⟨S8192x2816, .f32⟩
  | 68 => ⟨S8192x2816, .f32⟩
  | 69 => ⟨S_, .f32⟩
  | 70 => ⟨S_, .f32⟩
  | 71 => ⟨S_, .f32⟩
  | 72 => ⟨S8192x2816, .f32⟩
  | 73 => ⟨S8192x2816, .f32⟩
  | 74 => ⟨S8192x2816, .f32⟩
  | 75 => ⟨S_, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S_, .f32⟩
  | 82 => ⟨S8192x2816, .f32⟩
  | 83 => ⟨S8192x2816, .f32⟩
  | 84 => ⟨S8192x2816, .f32⟩
  | 85 => ⟨S_, .f32⟩
  | 86 => ⟨S8192x2816, .f32⟩
  | 87 => ⟨S8192x2816, .f32⟩
  | 88 => ⟨S_, .f32⟩
  | 89 => ⟨S8192x2816, .f32⟩
  | 90 => ⟨S8192x2816, .f32⟩
  | 91 => ⟨S8192x2816, .f32⟩
  | 92 => ⟨S_, .f32⟩
  | 93 => ⟨S8192x2816, .f32⟩
  | 94 => ⟨S8192x2816, .f32⟩
  | 95 => ⟨S_, .f32⟩
  | 96 => ⟨S8192x2816, .f32⟩
  | 97 => ⟨S8192x2816, .f32⟩
  | 98 => ⟨S8192x2816, .f32⟩
  | 99 => ⟨S8192x2816, .f32⟩
  | 100 => ⟨S8192x1024, .f32⟩
  | 101 => ⟨S1x1024, .f32⟩
  | 102 => ⟨S8192x1024, .f32⟩
  | 103 => ⟨S8192x1024, .f32⟩
  | 104 => ⟨S8192x1024, .f32⟩
  | 105 => ⟨S1024, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192x1024, .f32⟩
  | 2 => ⟨S8192x1024, .f32⟩
  | 3 => ⟨S_, .f32⟩
  | 4 => ⟨S8192, .f32⟩
  | 5 => ⟨S_, .f32⟩
  | 6 => ⟨S8192, .f32⟩
  | 7 => ⟨S8192, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S8192, .f32⟩
  | 16 => ⟨S_, .f32⟩
  | 17 => ⟨S8192, .f32⟩
  | 18 => ⟨S8192, .f32⟩
  | 19 => ⟨S8192x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S_, .f32⟩
  | 28 => ⟨S1024, .f32⟩
  | 29 => ⟨S8192x1024, .f32⟩
  | 30 => ⟨S_, .f32⟩
  | 31 => ⟨S8192, .f32⟩
  | 32 => ⟨S8192x1, .f32⟩
  | 33 => ⟨S8192x1024, .f32⟩
  | 34 => ⟨S8192x1024, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S_, .f32⟩
  | 51 => ⟨S1024, .f32⟩
  | 52 => ⟨S1x1024, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S8192x2816, .f32⟩
  | 66 => ⟨S8192x2816, .f32⟩
  | 67 => ⟨S8192x2816, .f32⟩
  | 68 => ⟨S8192x2816, .f32⟩
  | 69 => ⟨S8192x2816, .f32⟩
  | 70 => ⟨S_, .f32⟩
  | 71 => ⟨S8192x2816, .f32⟩
  | 72 => ⟨S_, .f32⟩
  | 73 => ⟨S2816, .f32⟩
  | 74 => ⟨S1x2816, .f32⟩
  | 75 => ⟨S_, .f32⟩
  | 76 => ⟨S2816, .f32⟩
  | 77 => ⟨S1x2816, .f32⟩
  | 78 => ⟨S8192x2816, .f32⟩
  | 79 => ⟨S_, .f32⟩
  | 80 => ⟨S2816, .f32⟩
  | 81 => ⟨S1x2816, .f32⟩
  | 82 => ⟨S_, .f32⟩
  | 83 => ⟨S2816, .f32⟩
  | 84 => ⟨S1x2816, .f32⟩
  | 85 => ⟨S_, .f32⟩
  | 86 => ⟨S3x2816, .f32⟩
  | 87 => ⟨S8192x2816, .f32⟩
  | 88 => ⟨S_, .f32⟩
  | 89 => ⟨S2816, .f32⟩
  | 90 => ⟨S1x2816, .f32⟩
  | 91 => ⟨S_, .f32⟩
  | 92 => ⟨S2816, .f32⟩
  | 93 => ⟨S1x2816, .f32⟩
  | 94 => ⟨S_, .f32⟩
  | 95 => ⟨S3x2816, .f32⟩
  | 96 => ⟨S3x2816, .f32⟩
  | 97 => ⟨S8192x2816, .f32⟩
  | 98 => ⟨S_, .f32⟩
  | 99 => ⟨S2816, .f32⟩
  | 100 => ⟨S1x2816, .f32⟩
  | 101 => ⟨S_, .f32⟩
  | 102 => ⟨S2816, .f32⟩
  | 103 => ⟨S1x2816, .f32⟩
  | 104 => ⟨S_, .f32⟩
  | 105 => ⟨S3x2816, .f32⟩
  | 106 => ⟨S3x2816, .f32⟩
  | 107 => ⟨S8192x2816, .bf16⟩
  | 108 => ⟨S8192x2816, .bf16⟩
  | 109 => ⟨S8192x1024, .bf16⟩
  | 110 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_12 : Ref sig .tc := ⟨.hbm, 107, rfl⟩
abbrev main_v85 : Ref sig .tc := ⟨.hbm, 108, rfl⟩
abbrev main_v86 : Ref sig .tc := ⟨.hbm, 109, rfl⟩
abbrev main_cst_13 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_15 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_16 : Ref sig .tc := ⟨.hbm, 128, rfl⟩
abbrev main_v102 : Ref sig .tc := ⟨.hbm, 129, rfl⟩
abbrev main_v103 : Ref sig .tc := ⟨.hbm, 130, rfl⟩
abbrev main_cst_17 : Ref sig .tc := ⟨.hbm, 131, rfl⟩
abbrev main_v104 : Ref sig .tc := ⟨.hbm, 132, rfl⟩
abbrev main_cst_18 : Ref sig .tc := ⟨.hbm, 133, rfl⟩
abbrev main_v105 : Ref sig .tc := ⟨.hbm, 134, rfl⟩
abbrev main_v106 : Ref sig .tc := ⟨.hbm, 135, rfl⟩
abbrev main_cst_19 : Ref sig .tc := ⟨.hbm, 136, rfl⟩
abbrev main_v107 : Ref sig .tc := ⟨.hbm, 137, rfl⟩
abbrev main_cst_20 : Ref sig .tc := ⟨.hbm, 138, rfl⟩
abbrev main_v108 : Ref sig .tc := ⟨.hbm, 139, rfl⟩
abbrev main_cst_21 : Ref sig .tc := ⟨.hbm, 140, rfl⟩
abbrev main_cst_22 : Ref sig .tc := ⟨.hbm, 141, rfl⟩
abbrev main_v109 : Ref sig .tc := ⟨.hbm, 142, rfl⟩
abbrev main_v110 : Ref sig .tc := ⟨.hbm, 143, rfl⟩
abbrev main_cst_23 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_24 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_25 : Ref sig .tc := ⟨.hbm, 155, rfl⟩
abbrev main_v120 : Ref sig .tc := ⟨.hbm, 156, rfl⟩
abbrev main_v121 : Ref sig .tc := ⟨.hbm, 157, rfl⟩
abbrev main_cst_26 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_27 : Ref sig .tc := ⟨.hbm, 164, rfl⟩
abbrev main_v127 : Ref sig .tc := ⟨.hbm, 165, rfl⟩
abbrev main_v128 : Ref sig .tc := ⟨.hbm, 166, rfl⟩
abbrev main_cst_28 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_29 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_30 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_31 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_32 : Ref sig .tc := ⟨.hbm, 198, rfl⟩
abbrev main_v156 : Ref sig .tc := ⟨.hbm, 199, rfl⟩
abbrev main_cst_33 : Ref sig .tc := ⟨.hbm, 200, rfl⟩
abbrev main_v157 : Ref sig .tc := ⟨.hbm, 201, rfl⟩
abbrev main_v158 : Ref sig .tc := ⟨.hbm, 202, rfl⟩
abbrev main_cst_34 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_35 : Ref sig .tc := ⟨.hbm, 207, rfl⟩
abbrev main_v162 : Ref sig .tc := ⟨.hbm, 208, rfl⟩
abbrev main_v163 : Ref sig .tc := ⟨.hbm, 209, rfl⟩
abbrev main_cst_36 : Ref sig .tc := ⟨.hbm, 210, rfl⟩
abbrev main_v164 : Ref sig .tc := ⟨.hbm, 211, rfl⟩
abbrev main_v165 : Ref sig .tc := ⟨.hbm, 212, rfl⟩
abbrev main_cst_37 : Ref sig .tc := ⟨.hbm, 213, rfl⟩
abbrev main_v166 : Ref sig .tc := ⟨.hbm, 214, rfl⟩
abbrev main_v167 : Ref sig .tc := ⟨.hbm, 215, rfl⟩
abbrev main_cst_38 : Ref sig .tc := ⟨.hbm, 216, rfl⟩
abbrev main_v168 : Ref sig .tc := ⟨.hbm, 217, rfl⟩
abbrev main_v169 : Ref sig .tc := ⟨.hbm, 218, rfl⟩
abbrev main_cst_39 : Ref sig .tc := ⟨.hbm, 219, rfl⟩
abbrev main_v170 : Ref sig .tc := ⟨.hbm, 220, rfl⟩
abbrev main_v171 : Ref sig .tc := ⟨.hbm, 221, rfl⟩
abbrev main_cst_40 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_41 : Ref sig .tc := ⟨.hbm, 226, rfl⟩
abbrev main_v175 : Ref sig .tc := ⟨.hbm, 227, rfl⟩
abbrev main_v176 : Ref sig .tc := ⟨.hbm, 228, rfl⟩
abbrev main_cst_42 : Ref sig .tc := ⟨.hbm, 229, rfl⟩
abbrev main_v177 : Ref sig .tc := ⟨.hbm, 230, rfl⟩
abbrev main_v178 : Ref sig .tc := ⟨.hbm, 231, rfl⟩
abbrev main_cst_43 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩

abbrev nD : Nat := 1
abbrev τ : Topo := Topo.v7x

variable {F : FTy → Type} [FloatOps F]
-- ==== KernelUp.lean ====
abbrev S8192x5632 : Shape := ⟨2, ![8192, 5632]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGlu.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGluIdeal.lean ====
abbrev S8192x512 : Shape := ⟨2, ![8192, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelSumUp.lean ====
abbrev S8x704x1024 : Shape := ⟨3, ![8, 704, 1024]⟩
abbrev S704x1024 : Shape := ⟨2, ![704, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumUpIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelWMod.lean ====
abbrev S1024x768 : Shape := ⟨2, ![1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceWModIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelWIn.lean ====
abbrev S1024x320 : Shape := ⟨2, ![1024, 320]⟩

abbrev nBuf : Space → Nat
  | .hbm => 7
  | .vmem => 7
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S1024x320, .f32⟩
  | .local _ .vmem, ⟨1, _⟩ => ⟨S1024x320, .f32⟩
  | .local _ .vmem, ⟨2, _⟩ => ⟨S1024x320, .f32⟩
  | .local _ .vmem, ⟨3, _⟩ => ⟨S1024x320, .f32⟩
  | .local _ .vmem, ⟨4, _⟩ => ⟨S1024x320, .f32⟩
  | .local _ .vmem, ⟨5, _⟩ => ⟨S1024x320, .f32⟩
  | .local _ .vmem, ⟨6, _⟩ => ⟨S1024x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceWInIdeal.lean ====
abbrev S1024x320 : Shape := ⟨2, ![1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S_, .f32⟩
  | .hbm, ⟨5, _⟩ => ⟨S1024x320, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S1024x320, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S1024x320, .f32⟩
  | .hbm, ⟨34, _⟩ => ⟨S_, .f32⟩
  | .hbm, ⟨35, _⟩ => ⟨S1024x320, .f32⟩
  | .hbm, ⟨36, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelWUp.lean ====
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S1024x704, .f32⟩
  | .local _ .vmem, ⟨1, _⟩ => ⟨S1024x704, .f32⟩
  | .local _ .vmem, ⟨2, _⟩ => ⟨S1024x704, .f32⟩
  | .local _ .vmem, ⟨3, _⟩ => ⟨S1024x704, .f32⟩
  | .local _ .vmem, ⟨4, _⟩ => ⟨S1024x704, .f32⟩
  | .local _ .vmem, ⟨5, _⟩ => ⟨S1024x704, .f32⟩
  | .local _ .vmem, ⟨6, _⟩ => ⟨S1024x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceWUpIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelConvW.lean ====
abbrev S3x352 : Shape := ⟨2, ![3, 352]⟩

abbrev nBuf : Space → Nat
  | .hbm => 7
  | .vmem => 7
  | .smem => 0
  | _ => 0

abbrev bufTy : (tb : Table) → Fin (tcTables nBuf tb) → BufTy
  | .hbm, ⟨0, _⟩ => ⟨S3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S3x352, .f32⟩
  | .hbm, ⟨5, _⟩ => ⟨S3x352, .f32⟩
  | .hbm, ⟨6, _⟩ => ⟨S3x352, .f32⟩
  | .local _ .vmem, ⟨0, _⟩ => ⟨S3x352, .f32⟩
  | .local _ .vmem, ⟨1, _⟩ => ⟨S3x352, .f32⟩
  | .local _ .vmem, ⟨2, _⟩ => ⟨S3x352, .f32⟩
  | .local _ .vmem, ⟨3, _⟩ => ⟨S3x352, .f32⟩
  | .local _ .vmem, ⟨4, _⟩ => ⟨S3x352, .f32⟩
  | .local _ .vmem, ⟨5, _⟩ => ⟨S3x352, .f32⟩
  | .local _ .vmem, ⟨6, _⟩ => ⟨S3x352, .f32⟩
  | _, _ => ⟨S3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceConvWIdeal.lean ====
abbrev S3x352 : Shape := ⟨2, ![3, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S_, .f32⟩
  | .hbm, ⟨5, _⟩ => ⟨S3x352, .f32⟩
  | .hbm, ⟨6, _⟩ => ⟨S3x352, .f32⟩
  | .hbm, ⟨7, _⟩ => ⟨S_, .f32⟩
  | .hbm, ⟨8, _⟩ => ⟨S3x352, .f32⟩
  | .hbm, ⟨9, _⟩ => ⟨S3x352, .f32⟩
  | .hbm, ⟨10, _⟩ => ⟨S3x352, .f32⟩
  | .hbm, ⟨11, _⟩ => ⟨S_, .f32⟩
  | .hbm, ⟨12, _⟩ => ⟨S3x352, .f32⟩
  | .hbm, ⟨13, _⟩ => ⟨S3x352, .f32⟩
  | .hbm, ⟨14, _⟩ => ⟨S3x352, .f32⟩
  | .hbm, ⟨15, _⟩ => ⟨S_, .f32⟩
  | .hbm, ⟨16, _⟩ => ⟨S3x352, .f32⟩
  | .hbm, ⟨17, _⟩ => ⟨S3x352, .f32⟩
  | .hbm, ⟨18, _⟩ => ⟨S3x352, .f32⟩
  | .hbm, ⟨19, _⟩ => ⟨S_, .f32⟩
  | .hbm, ⟨20, _⟩ => ⟨S3x352, .f32⟩
  | .hbm, ⟨21, _⟩ => ⟨S3x352, .f32⟩
  | .hbm, ⟨22, _⟩ => ⟨S_, .f32⟩
  | .hbm, ⟨23, _⟩ => ⟨S3x352, .f32⟩
  | .hbm, ⟨24, _⟩ => ⟨S3x352, .f32⟩
  | .hbm, ⟨25, _⟩ => ⟨S3x352, .f32⟩
  | .hbm, ⟨26, _⟩ => ⟨S_, .f32⟩
  | .hbm, ⟨27, _⟩ => ⟨S3x352, .f32⟩
  | .hbm, ⟨28, _⟩ => ⟨S3x352, .f32⟩
  | .hbm, ⟨29, _⟩ => ⟨S3x352, .f32⟩
  | .hbm, ⟨30, _⟩ => ⟨S_, .f32⟩
  | .hbm, ⟨31, _⟩ => ⟨S3x352, .f32⟩
  | .hbm, ⟨32, _⟩ => ⟨S3x352, .f32⟩
  | .hbm, ⟨33, _⟩ => ⟨S3x352, .f32⟩
  | .hbm, ⟨34, _⟩ => ⟨S_, .f32⟩
  | .hbm, ⟨35, _⟩ => ⟨S3x352, .f32⟩
  | .hbm, ⟨36, _⟩ => ⟨S3x352, .f32⟩
  | _, _ => ⟨S3x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelWOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceWOutIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelWDown.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceWDownIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelWGlu.lean ====
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S8x64x512, .bf16⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceWGluIdeal.lean ====
abbrev S8x64x512 : Shape := ⟨3, ![8, 64, 512]⟩
abbrev S64x512 : Shape := ⟨2, ![64, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S8x64x512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | _, _ => ⟨S8x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdaFwd.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceAdaFwdIdeal.lean ====
abbrev S16x1024 : Shape := ⟨2, ![16, 1024]⟩
abbrev S1024x768 : Shape := ⟨2, ![1024, 768]⟩
abbrev S_ : Shape := ⟨0, ![]⟩
abbrev S16x768 : Shape := ⟨2, ![16, 768]⟩

abbrev nBuf : Space → Nat
  | .hbm => 12
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== KernelAdaBwd.lean ====
abbrev S16x1024 : Shape := ⟨2, ![16, 1024]⟩
abbrev S8x6144 : Shape := ⟨2, ![8, 6144]⟩
abbrev S8x768 : Shape := ⟨2, ![8, 768]⟩
abbrev S1024x768 : Shape := ⟨2, ![1024, 768]⟩
abbrev S1x6144 : Shape := ⟨2, ![1, 6144]⟩
abbrev S1x768 : Shape := ⟨2, ![1, 768]⟩
abbrev S7x768 : Shape := ⟨2, ![7, 768]⟩
abbrev S16x768 : Shape := ⟨2, ![16, 768]⟩

abbrev nBuf : Space → Nat
  | .hbm => 9
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S8x6144, .f32⟩
  | .hbm, ⟨2, _⟩ => ⟨S8x6144, .f32⟩
  | .hbm, ⟨3, _⟩ => ⟨S8x768, .f32⟩
  | .hbm, ⟨4, _⟩ => ⟨S8x768, .f32⟩
  | .hbm, ⟨5, _⟩ => ⟨S1024x768, .f32⟩
  | .hbm, ⟨6, _⟩ => ⟨S1024x768, .f32⟩
  | .hbm, ⟨7, _⟩ => ⟨S1x6144, .f32⟩
  | .hbm, ⟨8, _⟩ => ⟨S16x1024, .f32⟩
  | .local _ .vmem, ⟨0, _⟩ => ⟨S16x1024, .f32⟩
  | .local _ .vmem, ⟨1, _⟩ => ⟨S8x6144, .f32⟩
  | .local _ .vmem, ⟨2, _⟩ => ⟨S8x6144, .f32⟩
  | .local _ .vmem, ⟨3, _⟩ => ⟨S8x768, .f32⟩
  | .local _ .vmem, ⟨4, _⟩ => ⟨S8x768, .f32⟩
  | .local _ .vmem, ⟨5, _⟩ => ⟨S1024x768, .f32⟩
  | .local _ .vmem, ⟨6, _⟩ => ⟨S1024x768, .f32⟩
  | .local _ .vmem, ⟨7, _⟩ => ⟨S1x6144, .f32⟩
  | .local _ .vmem, ⟨8, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceAdaBwdIdeal.lean ====
abbrev S16x1024 : Shape := ⟨2, ![16, 1024]⟩
abbrev S8x6144 : Shape := ⟨2, ![8, 6144]⟩
abbrev S8x768 : Shape := ⟨2, ![8, 768]⟩
abbrev S1024x768 : Shape := ⟨2, ![1024, 768]⟩
abbrev S8x1024 : Shape := ⟨2, ![8, 1024]⟩
abbrev S1x1024 : Shape := ⟨2, ![1, 1024]⟩
abbrev S_ : Shape := ⟨0, ![]⟩
abbrev S1x768 : Shape := ⟨2, ![1, 768]⟩
abbrev S768 : Shape := ⟨1, ![768]⟩
abbrev S768x1024 : Shape := ⟨2, ![768, 1024]⟩
abbrev S1x6144 : Shape := ⟨2, ![1, 6144]⟩
abbrev S6144 : Shape := ⟨1, ![6144]⟩
abbrev S7x1024 : Shape := ⟨2, ![7, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x6144, .f32⟩
  | .hbm, ⟨2, _⟩ => ⟨S8x6144, .f32⟩
  | .hbm, ⟨3, _⟩ => ⟨S8x768, .f32⟩
  | .hbm, ⟨4, _⟩ => ⟨S8x768, .f32⟩
  | .hbm, ⟨5, _⟩ => ⟨S1024x768, .f32⟩
  | .hbm, ⟨6, _⟩ => ⟨S8x1024, .f32⟩
  | .hbm, ⟨7, _⟩ => ⟨S1x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x768, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x768, .f32⟩
  | .hbm, ⟨36, _⟩ => ⟨S8x768, .f32⟩
  | .hbm, ⟨37, _⟩ => ⟨S_, .f32⟩
  | .hbm, ⟨38, _⟩ => ⟨S768, .f32⟩
  | .hbm, ⟨39, _⟩ => ⟨S1x768, .f32⟩
  | .hbm, ⟨40, _⟩ => ⟨S768x1024, .f32⟩
  | .hbm, ⟨41, _⟩ => ⟨S1024x768, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S768x1024, .f32⟩
  | .hbm, ⟨48, _⟩ => ⟨S1024x768, .f32⟩
  | .hbm, ⟨49, _⟩ => ⟨S1024x768, .f32⟩
  | .hbm, ⟨50, _⟩ => ⟨S8x1024, .f32⟩
  | .hbm, ⟨51, _⟩ => ⟨S8x1024, .f32⟩
  | .hbm, ⟨52, _⟩ => ⟨S8x1024, .f32⟩
  | .hbm, ⟨53, _⟩ => ⟨S8x1024, .f32⟩
  | .hbm, ⟨54, _⟩ => ⟨S8x1024, .f32⟩
  | .hbm, ⟨55, _⟩ => ⟨S_, .f32⟩
  | .hbm, ⟨56, _⟩ => ⟨S1x6144, .f32⟩
  | .hbm, ⟨57, _⟩ => ⟨S8x6144, .f32⟩
  | .hbm, ⟨58, _⟩ => ⟨S8x6144, .f32⟩
  | .hbm, ⟨59, _⟩ => ⟨S_, .f32⟩
  | .hbm, ⟨60, _⟩ => ⟨S6144, .f32⟩
  | .hbm, ⟨61, _⟩ => ⟨S1x6144, .f32⟩
  | .hbm, ⟨62, _⟩ => ⟨S_, .f32⟩
  | .hbm, ⟨63, _⟩ => ⟨S6144, .f32⟩
  | .hbm, ⟨64, _⟩ => ⟨S1x6144, .f32⟩
  | .hbm, ⟨65, _⟩ => ⟨S1x6144, .f32⟩
  | .hbm, ⟨66, _⟩ => ⟨S_, .f32⟩
  | .hbm, ⟨67, _⟩ => ⟨S7x1024, .f32⟩
  | .hbm, ⟨68, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_v4_2 : Ref sig .tc := ⟨.hbm, 29, rfl⟩
abbrev main_call1_cst_1 : Ref sig .tc := ⟨.hbm, 30, rfl⟩
abbrev main_call1_v6 : Ref sig .tc := ⟨.hbm, 31, rfl⟩
abbrev main_call1_v7 : Ref sig .tc := ⟨.hbm, 32, rfl⟩
abbrev main_v4_1 : Ref sig .tc := ⟨.hbm, 33, rfl⟩
abbrev main_v4_0 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v17 : Ref sig .tc := ⟨.hbm, 54, rfl⟩
abbrev main_cst_0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_1 : Ref sig .tc := ⟨.hbm, 59, rfl⟩
abbrev main_v21 : Ref sig .tc := ⟨.hbm, 60, rfl⟩
abbrev main_v22 : Ref sig .tc := ⟨.hbm, 61, rfl⟩
abbrev main_cst_2 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_3 : Ref sig .tc := ⟨.hbm, 66, rfl⟩
abbrev main_v26 : Ref sig .tc := ⟨.hbm, 67, rfl⟩
abbrev main_v27 : Ref sig .tc := ⟨.hbm, 68, rfl⟩

abbrev nD : Nat := 1
abbrev τ : Topo := Topo.v7x

variable {F : FTy → Type} [FloatOps F]
-- ==== Proof.FfnBwdIn.lean ====
/- What the feed-forward backward kernel's input windows hold at a grid point, as entries of the argument arrays. -/
module

public import proofs.«01_k».proof.Proof.Gen.KernelIdeal.Value
public import Idealize.ShloMosaic.Lib.Pointwise

@[expose] public section

noncomputable section

namespace Cert.FfnBwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ### Where each window's block lies -/

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 0 := by decide +kernel
theorem at4 : ∀ t : Fin grid0.N, win0_4.index t 0 = 32 * t.val - 1 ∧ win0_4.index t 1 = 0 := by decide +kernel
theorem at5 : ∀ t : Fin grid0.N, win0_5.index t 0 = min (32 * t.val + 32) 1023 ∧ win0_5.index t 1 = 0 := by
  decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel

theorem points : grid0.N = 32 := by decide +kernel

theorem point_lt (t : Fin cfg0.N) : t.val < 32 := lt_of_lt_of_eq t.isLt points

theorem coord_eq : ∀ t : Fin grid0.N, (grid0.coords t 0).val = t.val := by decide +kernel

/-- Row `r` of tile `t` of the 8192 rows. -/
abbrev row (t : Fin cfg0.N) (r : Fin 256) : Fin 8192 :=
  ⟨256 * t.val + r.val, by have := point_lt t; have := r.isLt; omega⟩

/-! ### The blocks' entries -/

theorem blk0 (c : Dev nD) (t : Fin cfg0.N) (r : Fin 256) (j : Fin 1024) :
    (iblk m c 0 t : Vec Ideal S256x1024 .f32) (ix2 r j) = m ((c : Thread nD τ).loc main_arg0) (ix2 (row t r) j) := by
  unfold iblk
  rw [View.read_apply]
  refine Eq.trans (congrArg (V m c main_arg0) ?_) (congrFun (V_main_arg0 m c) _)
  funext a; apply Fin.ext
  match a with
  | ⟨0, _⟩ => show win0_0.index t 0 * 256 + 1 * r.val = 256 * t.val + r.val; rw [(at0 t).1]; omega
  | ⟨1, _⟩ => show win0_0.index t 1 * 1024 + 1 * j.val = j.val; rw [(at0 t).2]; omega

theorem blk1 (c : Dev nD) (t : Fin cfg0.N) (r : Fin 256) (j : Fin 1024) :
    (iblk m c 1 t : Vec Ideal S256x1024 .f32) (ix2 r j) = m ((c : Thread nD τ).loc main_arg1) (ix2 (row t r) j) := by
  unfold iblk
  rw [View.read_apply]
  refine Eq.trans (congrArg (V m c main_arg1) ?_) (congrFun (V_main_arg1 m c) _)
  funext a; apply Fin.ext
  match a with
  | ⟨0, _⟩ => show win0_1.index t 0 * 256 + 1 * r.val = 256 * t.val + r.val; rw [(at1 t).1]; omega
  | ⟨1, _⟩ => show win0_1.index t 1 * 1024 + 1 * j.val = j.val; rw [(at1 t).2]; omega

theorem blk2 (c : Dev nD) (t : Fin cfg0.N) (r : Fin 256) (j : Fin 2816) :
    (iblk m c 2 t : Vec Ideal S256x2816 .bf16) (ix2 r j) = m ((c : Thread nD τ).loc main_arg2) (ix2 (row t r) j) := by
  unfold iblk
  rw [View.read_apply]
  refine Eq.trans (congrArg (V m c main_arg2) ?_) (congrFun (V_main_arg2 m c) _)
  funext a; apply Fin.ext
  match a with
  | ⟨0, _⟩ => show win0_2.index t 0 * 256 + 1 * r.val = 256 * t.val + r.val; rw [(at2 t).1]; omega
  | ⟨1, _⟩ => show win0_2.index t 1 * 2816 + 1 * j.val = j.val; rw [(at2 t).2]; omega

theorem blk3 (c : Dev nD) (t : Fin cfg0.N) (r : Fin 256) (j : Fin 2816) :
    (iblk m c 3 t : Vec Ideal S256x2816 .f32) (ix2 r j) = m ((c : Thread nD τ).loc main_arg3) (ix2 (row t r) j) := by
  unfold iblk
  rw [View.read_apply]
  refine Eq.trans (congrArg (V m c main_arg3) ?_) (congrFun (V_main_arg3 m c) _)
  funext a; apply Fin.ext
  match a with
  | ⟨0, _⟩ => show win0_3.index t 0 * 256 + 1 * r.val = 256 * t.val + r.val; rw [(at3 t).1]; omega
  | ⟨1, _⟩ => show win0_3.index t 1 * 2816 + 1 * j.val = j.val; rw [(at3 t).2]; omega

/-- The last row of the halo above a tile that is not the first is the row before the tile. -/
theorem blk4 (c : Dev nD) (t : Fin cfg0.N) (ht : 0 < t.val) (j : Fin 2816) (h : 256 * t.val - 1 < 8192) :
    (iblk m c 4 t : Vec Ideal S8x2816 .f32) (ix2 7 j)
      = m ((c : Thread nD τ).loc main_arg3) (ix2 ⟨256 * t.val - 1, h⟩ j) := by
  unfold iblk
  rw [View.read_apply]
  refine Eq.trans (congrArg (V m c main_arg3) ?_) (congrFun (V_main_arg3 m c) _)
  funext a; apply Fin.ext
  match a with
  | ⟨0, _⟩ => show win0_4.index t 0 * 8 + 1 * 7 = 256 * t.val - 1; rw [(at4 t).1]; omega
  | ⟨1, _⟩ => show win0_4.index t 1 * 2816 + 1 * j.val = j.val; rw [(at4 t).2]; omega

/-- The first row of the halo below a tile that is not the last is the row after the tile. -/
theorem blk5 (c : Dev nD) (t : Fin cfg0.N) (ht : t.val < 31) (j : Fin 2816) (h : 256 * t.val + 256 < 8192) :
    (iblk m c 5 t : Vec Ideal S8x2816 .f32) (ix2 0 j)
      = m ((c : Thread nD τ).loc main_arg3) (ix2 ⟨256 * t.val + 256, h⟩ j) := by
  unfold iblk
  rw [View.read_apply]
  refine Eq.trans (congrArg (V m c main_arg3) ?_) (congrFun (V_main_arg3 m c) _)
  funext a; apply Fin.ext
  match a with
  | ⟨0, _⟩ => show win0_5.index t 0 * 8 + 1 * 0 = 256 * t.val + 256; rw [(at5 t).1]; omega
  | ⟨1, _⟩ => show win0_5.index t 1 * 2816 + 1 * j.val = j.val; rw [(at5 t).2]; omega

theorem blk6 (c : Dev nD) (t : Fin cfg0.N) (r : Fin 1) (j : Fin 1024) :
    (iblk m c 6 t : Vec Ideal S1x1024 .f32) (ix2 r j) = m ((c : Thread nD τ).loc main_arg4) (ix2 r j) := by
  unfold iblk
  rw [View.read_apply]
  refine Eq.trans (congrArg (V m c main_arg4) ?_) (congrFun (V_main_arg4 m c) _)
  funext a; apply Fin.ext
  match a with
  | ⟨0, _⟩ => show win0_6.index t 0 * 1 + 1 * r.val = r.val; rw [(at6 t).1]; omega
  | ⟨1, _⟩ => show win0_6.index t 1 * 1024 + 1 * j.val = j.val; rw [(at6 t).2]; omega

theorem blk7 (c : Dev nD) (t : Fin cfg0.N) (r : Fin 6) (j : Fin 1024) :
    (iblk m c 7 t : Vec Ideal S6x1024 .f32) (ix2 r j) = m ((c : Thread nD τ).loc main_arg5) (ix2 r j) := by
  unfold iblk
  rw [View.read_apply]
  refine Eq.trans (congrArg (V m c main_arg5) ?_) (congrFun (V_main_arg5 m c) _)
  funext a; apply Fin.ext
  match a with
  | ⟨0, _⟩ => show win0_7.index t 0 * 6 + 1 * r.val = r.val; rw [(at7 t).1]; omega
  | ⟨1, _⟩ => show win0_7.index t 1 * 1024 + 1 * j.val = j.val; rw [(at7 t).2]; omega

theorem blk9 (c : Dev nD) (t : Fin cfg0.N) (r : Fin 3) (j : Fin 2816) :
    (iblk m c 9 t : Vec Ideal S3x2816 .f32) (ix2 r j) = m ((c : Thread nD τ).loc main_arg7) (ix2 r j) := by
  unfold iblk
  rw [View.read_apply]
  refine Eq.trans (congrArg (V m c main_arg7) ?_) (congrFun (V_main_arg7 m c) _)
  funext a; apply Fin.ext
  match a with
  | ⟨0, _⟩ => show win0_9.index t 0 * 3 + 1 * r.val = r.val; rw [(at9 t).1]; omega
  | ⟨1, _⟩ => show win0_9.index t 1 * 2816 + 1 * j.val = j.val; rw [(at9 t).2]; omega

/-- The weight reaches the kernel transposed and cast by the host. -/
theorem V_weight (c : Dev nD) (k : Fin 5632) (j : Fin 1024) :
    (V m c main_v1 : Vec Ideal S5632x1024 .bf16) (ix2 k j) = m ((c : Thread nD τ).loc main_arg6) (ix2 j k) := by
  have h : V m c main_v1 = truncf (F := Ideal) (φ := .f32) .bf16 (transpose S5632x1024 [1, 0] (m ((c : Thread nD τ).loc main_arg6))
      transposes_S1024x5632_S5632x1024_1_0) bitsLt_bf16_f32 := by
    show StableHlo.after hostOps0 (fun b => m (c, b)) (Proc.devRef .tc main_v1) = _
    unfold hostOps0
    rw [StableHlo.after_cons, StableHlo.after_cons, StableHlo.after_nil, StableHlo.unary_result', StableHlo.unary_result']
  rw [h]
  pointwise

theorem blk8 (c : Dev nD) (t : Fin cfg0.N) (r : Fin 5632) (j : Fin 1024) :
    (iblk m c 8 t : Vec Ideal S5632x1024 .bf16) (ix2 r j) = m ((c : Thread nD τ).loc main_arg6) (ix2 j r) := by
  unfold iblk
  rw [View.read_apply]
  refine Eq.trans (congrArg (V m c main_v1) ?_) (V_weight m c r j)
  funext a; apply Fin.ext
  match a with
  | ⟨0, _⟩ => show win0_8.index t 0 * 5632 + 1 * r.val = r.val; rw [(at8 t).1]; omega
  | ⟨1, _⟩ => show win0_8.index t 1 * 1024 + 1 * j.val = j.val; rw [(at8 t).2]; omega

end Cert.FfnBwd
-- ==== Proof.RowMath.lean ====
/- The mathematics of one row of the feed-forward backward pass over the extended reals: which values are
   finite, and why the two ways of writing the gradient of the root mean square norm agree. Names no program. -/
module

public import Idealize.ShloMosaic.PureOps.Ideal
public import Idealize.ShloMosaic.PureOps.Ideal.Laws
public import Idealize.ShloMosaic.Lib.Pointwise

@[expose] public section

noncomputable section

namespace Cert.RowMath
open Idealize.ShloMosaic

/-- The value is a finite real. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of reals, as a coerced real sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type*} {s : Finset ι} {f : ι → EReal} (h : ∀ k ∈ s, IsReal (f k)) :
    IsReal (∑ k ∈ s, f k) := by
  classical
  induction s using Finset.induction_on with
  | empty => simpa using IsReal.zero
  | insert a s ha ih =>
    rw [Finset.sum_insert ha]
    exact (h a (Finset.mem_insert_self a s)).add (ih fun k hk => h k (Finset.mem_insert_of_mem hk))

theorem isReal_iff {x : EReal} : IsReal x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

/-- A value whose absolute value lies strictly below infinity is a finite real. -/
theorem isReal_of_abs_lt {x : EReal} (h : max x (-x) < ⊤) : IsReal x := by
  rw [isReal_iff]
  constructor
  · rintro rfl; simp at h
  · rintro rfl; simp at h

/-- A finite factor is pulled out of a sum of finite terms. -/
theorem sum_mul_real {ι : Type*} {s : Finset ι} {f : ι → EReal} {a : EReal} (ha : IsReal a)
    (h : ∀ k ∈ s, IsReal (f k)) : ∑ k ∈ s, f k * a = (∑ k ∈ s, f k) * a := by
  classical
  obtain ⟨a, rfl⟩ := ha
  induction s using Finset.induction_on with
  | empty => simp
  | insert b s hb ih =>
    rw [Finset.sum_insert hb, Finset.sum_insert hb, ih fun k hk => h k (Finset.mem_insert_of_mem hk)]
    obtain ⟨r, hr⟩ := h b (Finset.mem_insert_self b s)
    obtain ⟨q, hq⟩ := IsReal.sum (s := s) (f := f) fun k hk => h k (Finset.mem_insert_of_mem hk)
    rw [hr, hq, ← EReal.coe_mul, ← EReal.coe_mul, ← EReal.coe_add, ← EReal.coe_add, ← EReal.coe_mul, add_mul]

/-! ### The literals -/

/-- The row length 1024 as the programs write it. -/
def len : EReal := Ideal.ofBits .f32 0x44800000#32
/-- The small constant added to the mean square. -/
def eps : EReal := Ideal.ofBits .f32 0x358637BD#32
/-- Minus one half. -/
def mhalf : EReal := Ideal.ofBits .f32 0xBF000000#32

theorem len_eq : len = ((1024 : ℝ) : EReal) := by
  simp [len, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  norm_num

theorem one_eq : Ideal.ofBits .f32 0x3F800000#32 = 1 := by
  simp [Ideal.ofBits, Ideal.ieee, -EReal.coe_mul]; norm_num

theorem top_eq : Ideal.ofBits .f32 0x7F800000#32 = ⊤ := by
  simp [Ideal.ofBits, Ideal.ieee]

/-! ### The norm of a row -/

variable {n : ℕ}

/-- The mean square of a row plus the small constant. -/
def meanSq (x : Fin n → EReal) : EReal := Ideal.div (∑ k, x k * x k) len + eps

/-- The factor that scales a row to unit mean square. -/
def scale (x : Fin n → EReal) : EReal := Ideal.rsqrt (meanSq x)

theorem div_len (x : EReal) : Ideal.div x len = x * ((1 / 1024 : ℝ) : EReal) := by
  rw [len_eq]; exact Ideal.div_coe (by norm_num) x

/-- Either every entry of the row is finite and its scale is the inverse root of a positive real, or the mean
square is infinite and the scale is zero. -/
theorem scale_cases (x : Fin n → EReal) :
    (∃ y : Fin n → ℝ, (∀ k, x k = (y k : EReal)) ∧ ∃ m s : ℝ, 0 < m ∧ s * s * m = 1 ∧ 0 < s ∧
      meanSq x = (m : EReal) ∧ scale x = (s : EReal)) ∨ (meanSq x = ⊤ ∧ scale x = 0) := by
  obtain ⟨e, he, hee⟩ := eps_pos
  by_cases hx : ∀ k, IsReal (x k)
  · left
    choose y hy using hx
    have hm : meanSq x = (((∑ k, y k * y k) * (1 / 1024) + e : ℝ) : EReal) := by
      unfold meanSq
      rw [div_len, hee, EReal.coe_add, EReal.coe_mul, coe_sum]
      simp only [hy, EReal.coe_mul]
    have hpos : 0 < (∑ k, y k * y k) * (1 / 1024) + e := by
      have : 0 ≤ ∑ k, y k * y k := Finset.sum_nonneg fun k _ => mul_self_nonneg (y k)
      positivity
    refine ⟨y, hy, _, (Real.sqrt ((∑ k, y k * y k) * (1 / 1024) + e))⁻¹, hpos, ?_, ?_, hm, ?_⟩
    · have h := Real.mul_self_sqrt hpos.le
      have h0 : Real.sqrt ((∑ k, y k * y k) * (1 / 1024) + e) ≠ 0 := (Real.sqrt_pos.mpr hpos).ne'
      generalize Real.sqrt ((∑ k, y k * y k) * (1 / 1024) + e) = q at h h0
      rw [← h]; field_simp
    · exact inv_pos.mpr (Real.sqrt_pos.mpr hpos)
    · unfold scale; rw [hm, Ideal.rsqrt_coe, if_neg hpos.le.not_gt, if_neg hpos.ne']
  · right
    push Not at hx
    obtain ⟨k, hk⟩ := hx
    have hkk : x k * x k = ⊤ := by
      rcases eq_or_ne (x k) ⊤ with h | h
      · rw [h]; exact EReal.top_mul_top
      · rcases eq_or_ne (x k) ⊥ with h' | h'
        · rw [h']; exact EReal.bot_mul_bot
        · exact absurd (isReal_iff.mpr ⟨h, h'⟩) hk
    have hnn : ∀ j, 0 ≤ x j * x j := fun j => by
      rcases le_total 0 (x j) with h | h
      · exact mul_nonneg h h
      · have h' : 0 ≤ -x j := by simpa using (EReal.neg_le_neg_iff.mpr h)
        have := mul_nonneg h' h'
        rwa [EReal.neg_mul, mul_comm, EReal.neg_mul, neg_neg] at this
    have hs : ∑ j, x j * x j = ⊤ := by
      rw [eq_top_iff, ← hkk]
      exact Finset.single_le_sum (f := fun j => x j * x j) (fun j _ => hnn j) (Finset.mem_univ k)
    have hm : meanSq x = ⊤ := by
      unfold meanSq
      rw [hs, div_len, hee, EReal.top_mul_coe_of_pos (by norm_num), EReal.top_add_coe]
    exact ⟨hm, by unfold scale; rw [hm]; rfl⟩

/-- The scale of a row is a finite real, whatever the row holds. -/
theorem scale_real (x : Fin n → EReal) : IsReal (scale x) := by
  rcases scale_cases x with ⟨_, _, _, s, _, _, _, _, h⟩ | ⟨_, h⟩
  · exact ⟨s, h⟩
  · exact ⟨0, h⟩

/-- Every entry of a normalised row is a finite real, whatever the row holds. -/
theorem normed_real (x : Fin n → EReal) (k : Fin n) : IsReal (x k * scale x) := by
  rcases scale_cases x with ⟨y, hy, _, s, _, _, _, _, h⟩ | ⟨_, h⟩
  · exact ⟨y k * s, by rw [hy, h, EReal.coe_mul]⟩
  · exact ⟨0, by rw [h, mul_zero]; rfl⟩

/-- The gradient of the normalisation of a row, in the closed form: the gradient `d` less its part along the
normalised row, times the scale. -/
def normGrad (x d : Fin n → EReal) (c : Fin n) : EReal :=
  scale x * (d c - (x c * scale x) * Ideal.div (∑ k, d k * (x k * scale x)) len)

/-- The same gradient as the chain rule gives it: through the row itself and twice through the square of each
entry. -/
theorem normGrad_eq (x d : Fin n → EReal) (hd : ∀ k, IsReal (d k)) (c : Fin n) :
    normGrad x d c = (d c * scale x
      + x c * Ideal.div ((∑ k, x k * d k) * (mhalf * Ideal.div (scale x) (meanSq x))) len)
      + Ideal.div ((∑ k, x k * d k) * (mhalf * Ideal.div (scale x) (meanSq x))) len * x c := by
  unfold normGrad
  rcases scale_cases x with ⟨y, hy, m, s, hm, hsm, hs, hms, hsc⟩ | ⟨hms, hsc⟩
  · choose e he using hd
    have h1 : ∑ k, d k * (x k * scale x) = ((∑ k, e k * (y k * s) : ℝ) : EReal) := by
      rw [coe_sum]; simp only [he, hy, hsc, EReal.coe_mul]
    have h2 : ∑ k, x k * d k = ((∑ k, y k * e k : ℝ) : EReal) := by
      rw [coe_sum]; simp only [he, hy, EReal.coe_mul]
    rw [h1, h2, hsc, hms, div_len, div_len, mhalf_eq, Ideal.div_coe hm.ne', hy, he]
    have h3 : ∑ k, e k * (y k * s) = (∑ k, y k * e k) * s := by
      rw [Finset.sum_mul]; exact Finset.sum_congr rfl fun k _ => by ring
    rw [h3]
    generalize ∑ k, y k * e k = t
    simp only [← EReal.coe_mul, ← EReal.coe_sub, ← EReal.coe_add]
    rw [EReal.coe_eq_coe_iff]
    have hm' : 1 / m = s * s := by field_simp; linarith
    rw [hm']; ring
  · rw [hsc, hms]
    have : Ideal.div 0 ⊤ = 0 := by simp [Ideal.div]
    simp only [this, mul_zero, zero_mul, div_len, add_zero]

end Cert.RowMath
-- ==== Proof.FfnBwdSpec.lean ====
/- The backward pass of the gated feed-forward block as formulas over the extended reals: the gradient of the
   depthwise convolution's input beside the gate's, the product with the up projection, and the gradients of the
   norm's input, weight, shift and scale. Names no program. -/
module

public import proofs.«01_k».proof.Proof.RowMath

@[expose] public section

noncomputable section

namespace Cert.FfnBwdSpec
open Idealize.ShloMosaic Cert.RowMath

/-- The operands, entry by entry: the row the norm reads, the gradient that passes by, the gradients of the gate and of
the convolution's output, the norm's weight, shift and scale, the up projection and the three taps. -/
structure In where
  x : Fin 8192 → Fin 1024 → EReal
  dx : Fin 8192 → Fin 1024 → EReal
  da : Fin 8192 → Fin 2816 → EReal
  dg : Fin 8192 → Fin 2816 → EReal
  nw : Fin 1024 → EReal
  sh : Fin 1024 → EReal
  sc : Fin 1024 → EReal
  w : Fin 1024 → Fin 5632 → EReal
  tap : Fin 3 → Fin 2816 → EReal

variable (I : In)

/-- The convolution output's gradient one row up, zero above the first row. -/
def above (r : Fin 8192) (j : Fin 2816) : EReal := if h : 0 < r.val then I.dg ⟨r.val - 1, by omega⟩ j else 0
/-- The convolution output's gradient one row down, zero below the last row. -/
def below (r : Fin 8192) (j : Fin 2816) : EReal := if h : r.val + 1 < 8192 then I.dg ⟨r.val + 1, h⟩ j else 0

/-- The gradient of the convolution's input: each row gathers its neighbours through the mirrored taps. -/
def conv (r : Fin 8192) (j : Fin 2816) : EReal :=
  I.tap 0 j * below I r j + I.tap 1 j * I.dg r j + I.tap 2 j * above I r j

/-- The gradient of the up projection's output: the gate's half beside the convolution's. -/
def dag (r : Fin 8192) (k : Fin 5632) : EReal :=
  if h : k.val < 2816 then I.da r ⟨k.val, h⟩ else conv I r ⟨k.val - 2816, by omega⟩

/-- The gradient of the modulated norm. -/
def dh (r : Fin 8192) (j : Fin 1024) : EReal := ∑ k, dag I r k * I.w j k

/-- The normalised row. -/
def nrm (r : Fin 8192) (j : Fin 1024) : EReal := I.x r j * scale (I.x r)

/-- The modulated norm itself. -/
def h2 (r : Fin 8192) (j : Fin 1024) : EReal := nrm I r j * I.nw j * (1 + I.sc j) + I.sh j

/-- The gradient of the normalised row. -/
def dn (r : Fin 8192) (j : Fin 1024) : EReal := dh I r j * (I.nw j * (1 + I.sc j))

/-- The gradient of the block's input. -/
def dx1 (r : Fin 8192) (j : Fin 1024) : EReal := I.dx r j + normGrad (I.x r) (dn I r) j

/-- The column sums the weight's and the scale's gradients share. -/
def col (j : Fin 1024) : EReal := ∑ r, dh I r j * nrm I r j

/-- The gradient of the norm's weight. -/
def dnw (j : Fin 1024) : EReal := col I j * (1 + I.sc j)

/-- The gradient of the modulation: its shift row, its scale row, and zero elsewhere. -/
def dmod (i : Fin 6) (j : Fin 1024) : EReal :=
  if i = 3 then ∑ r, dh I r j else if i = 4 then col I j * I.nw j else 0

/-! ### Tiles of 256 rows -/

/-- Row `r` of tile `t`. -/
abbrev row (t : Fin 32) (r : Fin 256) : Fin 8192 := ⟨256 * t.val + r.val, by omega⟩

/-- One tile's part of the column sums. -/
def tcol (t : Fin 32) (j : Fin 1024) : EReal := ∑ r, dh I (row t r) j * nrm I (row t r) j

/-- One tile's part of the shift's gradient. -/
def tsum (t : Fin 32) (j : Fin 1024) : EReal := ∑ r, dh I (row t r) j

/-- A per-tile value summed over the tiles before the `n`-th. -/
def upto (f : Fin 32 → EReal) (n : ℕ) : EReal := ∑ s ∈ Finset.range n, if h : s < 32 then f ⟨s, h⟩ else 0

theorem upto_one (f : Fin 32 → EReal) : upto f 1 = f 0 := by
  simp [upto]

theorem upto_succ (f : Fin 32 → EReal) (t : Fin 32) : upto f (t.val + 1) = upto f t.val + f t := by
  unfold upto
  rw [Finset.sum_range_succ, dif_pos t.isLt]

theorem upto_all (f : Fin 32 → EReal) : upto f 32 = ∑ t, f t := by
  unfold upto
  rw [Finset.sum_range]
  exact Finset.sum_congr rfl fun t _ => dif_pos t.isLt

/-- A sum over the rows is the sum over the tiles of the tiles' sums. -/
theorem sum_rows (f : Fin 8192 → EReal) : ∑ t, ∑ r, f (row t r) = ∑ r, f r := by
  rw [Fin.sum_univ_tiles 32 256 (by norm_num) f]
  refine Finset.sum_congr rfl fun t _ => Finset.sum_congr rfl fun r _ => congrArg f (Fin.ext ?_)
  show 256 * t.val + r.val = _
  simp only [mul_comm]

/-! ### Finite operands -/

/-- The operands the agreement needs finite. -/
structure Fin' : Prop where
  da : ∀ r j, IsReal (I.da r j)
  dg : ∀ r j, IsReal (I.dg r j)
  nw : ∀ j, IsReal (I.nw j)
  sc : ∀ j, IsReal (I.sc j)
  w : ∀ j k, IsReal (I.w j k)
  tap : ∀ i j, IsReal (I.tap i j)

variable {I}

theorem one_real : IsReal (1 : EReal) := ⟨1, rfl⟩

theorem dag_real (hI : Fin' I) (r : Fin 8192) (k : Fin 5632) : IsReal (dag I r k) := by
  unfold dag
  split
  · exact hI.da _ _
  · unfold conv
    refine ((hI.tap _ _).mul ?_).add ((hI.tap _ _).mul (hI.dg _ _)) |>.add ((hI.tap _ _).mul ?_)
    · unfold below; split
      · exact hI.dg _ _
      · exact IsReal.zero
    · unfold above; split
      · exact hI.dg _ _
      · exact IsReal.zero

theorem dh_real (hI : Fin' I) (r : Fin 8192) (j : Fin 1024) : IsReal (dh I r j) :=
  IsReal.sum fun k _ => (dag_real hI r k).mul (hI.w j k)

theorem nrm_real (r : Fin 8192) (j : Fin 1024) : IsReal (nrm I r j) := normed_real (I.x r) j

theorem dn_real (hI : Fin' I) (r : Fin 8192) (j : Fin 1024) : IsReal (dn I r j) :=
  (dh_real hI r j).mul ((hI.nw j).mul (one_real.add (hI.sc j)))

theorem tcol_real (hI : Fin' I) (t : Fin 32) (j : Fin 1024) : IsReal (tcol I t j) :=
  IsReal.sum fun r _ => (dh_real hI (row t r) j).mul (nrm_real _ j)

theorem col_tiles (j : Fin 1024) : ∑ t, tcol I t j = col I j := sum_rows fun r => dh I r j * nrm I r j

/-- The weight's gradient accumulated tile by tile. -/
theorem dnw_tiles (hI : Fin' I) (j : Fin 1024) : upto (fun t => tcol I t j * (1 + I.sc j)) 32 = dnw I j := by
  rw [upto_all, sum_mul_real (one_real.add (hI.sc j)) fun t _ => tcol_real hI t j, col_tiles]; rfl

/-- The scale's gradient accumulated tile by tile. -/
theorem dsc_tiles (hI : Fin' I) (j : Fin 1024) : upto (fun t => tcol I t j * I.nw j) 32 = col I j * I.nw j := by
  rw [upto_all, sum_mul_real (hI.nw j) fun t _ => tcol_real hI t j, col_tiles]

/-- The shift's gradient accumulated tile by tile. -/
theorem dsh_tiles (j : Fin 1024) : upto (fun t => tsum I t j) 32 = ∑ r, dh I r j := by
  rw [upto_all]; exact sum_rows fun r => dh I r j

end Cert.FfnBwdSpec
-- ==== Proof.FfnBwdPoint.lean ====
/- The feed-forward backward kernel at one grid point: the rows it writes are the specification's, and the two
   accumulated outputs grow by one tile's sums. -/
module

public import proofs.«01_k».proof.Proof.FfnBwdIn
public import proofs.«01_k».proof.Proof.FfnBwdSpec

@[expose] public section

noncomputable section

namespace Cert.FfnBwd

open Cert.KernelIdeal Cert.KernelIdeal.Gen Idealize.ShloMosaic Idealize.ShloMosaic.TcCoe Idealize.SL.Sem
open Cert.RowMath

variable (m : (ℓ : Loc nD τ sig) → Buf (Elt Ideal) ℓ)

/-- The argument arrays as the specification's operands. -/
def ops (c : Dev nD) : FfnBwdSpec.In where
  x r j := m ((c : Thread nD τ).loc main_arg0) (ix2 r j)
  dx r j := m ((c : Thread nD τ).loc main_arg1) (ix2 r j)
  da r j := m ((c : Thread nD τ).loc main_arg2) (ix2 r j)
  dg r j := m ((c : Thread nD τ).loc main_arg3) (ix2 r j)
  nw j := m ((c : Thread nD τ).loc main_arg4) (ix2 (0 : Fin 1) j)
  sh j := m ((c : Thread nD τ).loc main_arg5) (ix2 (3 : Fin 6) j)
  sc j := m ((c : Thread nD τ).loc main_arg5) (ix2 (4 : Fin 6) j)
  w j k := m ((c : Thread nD τ).loc main_arg6) (ix2 j k)
  tap i j := m ((c : Thread nD τ).loc main_arg7) (ix2 i j)

/-- A grid point as a tile number. -/
abbrev tile (t : Fin cfg0.N) : Fin 32 := ⟨t.val, point_lt t⟩

/-! ### The values the body names, over the point's blocks -/

/-- The rows above, the one above the tile taken from the halo. -/
def prevB (c : Dev nD) (t : Fin cfg0.N) : FVec Ideal S256x2816 .f32 :=
  k0_pay4 (grid0.coords t) (iblk m c 3 t) (View.ld (iblk m c 4 t) (Rect.unit ![7, 0] ![1, 2816] inb_S8x2816_S1x2816_7_0))

/-- The rows below times their tap, the one below the tile taken from the halo. -/
def nextB (c : Dev nD) (t : Fin cfg0.N) : FVec Ideal S256x2816 .f32 :=
  k0_pay5 (grid0.coords t) (iblk m c 3 t) (View.ld (iblk m c 5 t) (Rect.unit ![0, 0] ![1, 2816] inb_S8x2816_S1x2816_0_0))
    (View.ld (iblk m c 9 t) (Rect.unit ![0, 0] ![1, 2816] inb_S3x2816_S1x2816_0_0))

/-- The middle tap on every row. -/
def midB (c : Dev nD) (t : Fin cfg0.N) : FVec Ideal S256x2816 .f32 :=
  k0_pay6 (View.ld (iblk m c 9 t) (Rect.unit ![1, 0] ![1, 2816] inb_S3x2816_S1x2816_1_0))

def dagB (c : Dev nD) (t : Fin cfg0.N) : FVec Ideal S256x5632 .bf16 :=
  k0_pay7 (iblk m c 3 t) (prevB m c t) (nextB m c t) (midB m c t)
    (View.ld (iblk m c 9 t) (Rect.unit ![2, 0] ![1, 2816] inb_S3x2816_S1x2816_2_0)) (iblk m c 2 t)

def dhB (c : Dev nD) (t : Fin cfg0.N) : FVec Ideal S256x1024 .f32 :=
  k0_pay8 (iblk m c 3 t) (prevB m c t) (nextB m c t) (midB m c t)
    (View.ld (iblk m c 9 t) (Rect.unit ![2, 0] ![1, 2816] inb_S3x2816_S1x2816_2_0)) (iblk m c 2 t) (iblk m c 8 t)

def colB (c : Dev nD) (t : Fin cfg0.N) : FVec Ideal S1024 .f32 :=
  k0_pay12 (iblk m c 3 t) (prevB m c t) (nextB m c t) (midB m c t)
    (View.ld (iblk m c 9 t) (Rect.unit ![2, 0] ![1, 2816] inb_S3x2816_S1x2816_2_0)) (iblk m c 2 t) (iblk m c 8 t)
    (iblk m c 0 t)

/-- The shift row and the scale row of the modulation block. -/
def shB (c : Dev nD) (t : Fin cfg0.N) : Vec Ideal S1x1024 .f32 :=
  View.ld (iblk m c 7 t) (Rect.unit ![3, 0] ![1, 1024] inb_S6x1024_S1x1024_3_0)
def scB (c : Dev nD) (t : Fin cfg0.N) : Vec Ideal S1x1024 .f32 :=
  View.ld (iblk m c 7 t) (Rect.unit ![4, 0] ![1, 1024] inb_S6x1024_S1x1024_4_0)

theorem zero2 : (![0, 0] : Fin 2 → ℕ) = fun _ => 0 := by funext a; fin_cases a <;> rfl

/-! ### Their entries -/

theorem first_row : ∀ r : Fin 256, IntOp.cmpi CmpIPredicate.eq (BitVec.ofNat 32 r.val) 0#32 = if r.val = 0 then 1#1 else 0#1 := by
  decide +kernel
theorem last_row : ∀ r : Fin 256, IntOp.cmpi CmpIPredicate.eq (BitVec.ofNat 32 r.val) 255#32 = if r.val = 255 then 1#1 else 0#1 := by
  decide +kernel
theorem not_first : ∀ t : Fin grid0.N, Scalar.cmpi CmpIPredicate.sgt (BitVec.ofNat 32 (grid0.coords t 0).val) 0#32
    = if 0 < t.val then 1#1 else 0#1 := by
  decide +kernel
theorem not_last : ∀ t : Fin grid0.N, Scalar.cmpi CmpIPredicate.slt (BitVec.ofNat 32 (grid0.coords t 0).val) 31#32
    = if t.val < 31 then 1#1 else 0#1 := by
  decide +kernel

theorem select_if {α : Type} (p : Prop) [Decidable p] (a b : α) :
    Scalar.select (if p then 1#1 else 0#1) a b = if p then a else b := by
  split <;> rfl

theorem prevB_apply (c : Dev nD) (t : Fin cfg0.N) (r : Fin 256) (g : Fin 2816) :
    prevB m c t (ix2 r g) = FfnBwdSpec.above (ops m c) (row t r) g := by
  unfold prevB
  unfold_payloads
  pointwise
  rw [first_row, not_first, select_if, select_if]
  unfold FfnBwdSpec.above
  have ht := point_lt t
  have hr := r.isLt
  by_cases h0 : r.val = 0
  · rw [if_pos h0]
    by_cases h1 : 0 < t.val
    · rw [if_pos h1, dif_pos (show 0 < (row t r).val by show 0 < 256 * t.val + r.val; omega)]
      refine (blk4 m c t h1 g (by omega)).trans ?_
      exact congrArg (fun q => m ((c : Thread nD τ).loc main_arg3) (ix2 q g)) (Fin.ext (by
        show 256 * t.val - 1 = 256 * t.val + r.val - 1; omega))
    · rw [if_neg h1, dif_neg (show ¬ 0 < (row t r).val by show ¬ 0 < 256 * t.val + r.val; omega)]
  · rw [if_neg h0, blk3, dif_pos (show 0 < (row t r).val by show 0 < 256 * t.val + r.val; omega)]
    exact congrArg (fun q => m ((c : Thread nD τ).loc main_arg3) (ix2 q g)) (Fin.ext (by
      show 256 * t.val + (r.val + 256 - 1) % 256 = 256 * t.val + r.val - 1; omega))

theorem nextB_apply (c : Dev nD) (t : Fin cfg0.N) (r : Fin 256) (g : Fin 2816) :
    nextB m c t (ix2 r g) = (ops m c).tap 0 g * FfnBwdSpec.below (ops m c) (row t r) g := by
  unfold nextB
  unfold_payloads
  pointwise
  rw [last_row, not_last, select_if, select_if]
  refine congrArg₂ (· * ·) (blk9 m c t 0 g) ?_
  unfold FfnBwdSpec.below
  have ht := point_lt t
  have hr := r.isLt
  by_cases h0 : r.val = 255
  · rw [if_pos h0]
    by_cases h1 : t.val < 31
    · rw [if_pos h1, dif_pos (show (row t r).val + 1 < 8192 by show 256 * t.val + r.val + 1 < 8192; omega)]
      refine (blk5 m c t h1 g (by omega)).trans ?_
      exact congrArg (fun q => m ((c : Thread nD τ).loc main_arg3) (ix2 q g)) (Fin.ext (by
        show 256 * t.val + 256 = 256 * t.val + r.val + 1; omega))
    · rw [if_neg h1, dif_neg (show ¬ (row t r).val + 1 < 8192 by show ¬ 256 * t.val + r.val + 1 < 8192; omega)]
  · rw [if_neg h0, blk3, dif_pos (show (row t r).val + 1 < 8192 by show 256 * t.val + r.val + 1 < 8192; omega)]
    exact congrArg (fun q => m ((c : Thread nD τ).loc main_arg3) (ix2 q g)) (Fin.ext (by
      show 256 * t.val + (r.val + 256 - 255) % 256 = 256 * t.val + r.val + 1; omega))

theorem dagB_apply (c : Dev nD) (t : Fin cfg0.N) (r : Fin 256) (k : Fin 5632) :
    dagB m c t (ix2 r k) = FfnBwdSpec.dag (ops m c) (row t r) k := by
  unfold dagB midB k0_pay7 k0_pay6
  pointwise
  simp only [prevB_apply, nextB_apply, blk2, blk3]
  unfold FfnBwdSpec.dag
  split
  · rfl
  · exact congrArg₂ (· + ·) (congrArg₂ (· + ·) rfl (congrArg (· * _) (blk9 m c t 1 _))) (congrArg (· * _) (blk9 m c t 2 _))

theorem dhB_apply (c : Dev nD) (t : Fin cfg0.N) (r : Fin 256) (j : Fin 1024) :
    dhB m c t (ix2 r j) = FfnBwdSpec.dh (ops m c) (row t r) j := by
  unfold dhB k0_pay8
  pointwise
  refine Finset.sum_congr rfl fun k _ => ?_
  rw [blk8]
  exact congrArg (· * _) (dagB_apply m c t r k)

theorem scale_apply (c : Dev nD) (t : Fin cfg0.N) (r : Fin 256) :
    k0_pay9 (iblk m c 0 t : Vec Ideal S256x1024 .f32) (ix2 r 0) = scale ((ops m c).x (row t r)) := by
  unfold k0_pay9
  pointwise
  simp only [blk0]
  rfl

theorem nrm_apply (c : Dev nD) (t : Fin cfg0.N) (r : Fin 256) (j : Fin 1024) :
    k0_pay10 (iblk m c 0 t : Vec Ideal S256x1024 .f32) (ix2 r j) = FfnBwdSpec.nrm (ops m c) (row t r) j := by
  unfold k0_pay10
  pointwise
  rw [scale_apply, blk0]
  rfl

theorem colB_eq (c : Dev nD) (t : Fin cfg0.N) (j : Fin 1024) :
    colB m c t (ix1 j) = ∑ r : Fin 256, dhB m c t (ix2 r j) * k0_pay10 (iblk m c 0 t : Vec Ideal S256x1024 .f32) (ix2 r j) := by
  unfold colB dhB k0_pay12
  generalize k0_pay8 (F := Ideal) _ _ _ _ _ _ _ = d
  generalize k0_pay10 (F := Ideal) _ = e
  pointwise

theorem colB_apply (c : Dev nD) (t : Fin cfg0.N) (j : Fin 1024) :
    colB m c t (ix1 j) = FfnBwdSpec.tcol (ops m c) (tile t) j := by
  rw [colB_eq]
  refine Finset.sum_congr rfl fun r _ => ?_
  rw [nrm_apply, dhB_apply]

theorem h2_apply (c : Dev nD) (t : Fin cfg0.N) (r : Fin 256) (j : Fin 1024) :
    k0_pay15 (k0_pay11 (iblk m c 0 t : Vec Ideal S256x1024 .f32) (iblk m c 6 t) (shB m c t) (scB m c t)) (ix2 r j)
      = FfnBwdSpec.h2 (ops m c) (row t r) j := by
  unfold k0_pay15 k0_pay11 shB scB
  pointwise
  rw [nrm_apply]
  exact congrArg₂ (· + ·) (congrArg₂ (· * ·) (congrArg (_ * ·) (blk6 m c t 0 j)) (congrArg (1 + ·) (blk7 m c t 4 j)))
    (blk7 m c t 3 j)

theorem dx1_apply (c : Dev nD) (t : Fin cfg0.N) (r : Fin 256) (j : Fin 1024) :
    k0_pay16 (dhB m c t) (iblk m c 6 t) (scB m c t) (k0_pay9 (iblk m c 0 t)) (k0_pay10 (iblk m c 0 t)) (iblk m c 1 t)
      (ix2 r j) = FfnBwdSpec.dx1 (ops m c) (row t r) j := by
  unfold k0_pay16 scB
  pointwise
  simp only [nrm_apply, dhB_apply, scale_apply, blk1, blk6]
  have h4 : ∀ k : Fin 1024, (iblk m c 7 t : Vec Ideal S6x1024 .f32) (ix2 4 k) = (ops m c).sc k := fun k => blk7 m c t 4 k
  simp only [h4]
  rfl

end Cert.FfnBwd
-- ==== Proof.FfnBwdOut.lean ====
/- What the feed-forward backward kernel leaves in its output windows after a grid point. -/
module

public import proofs.«01_k».proof.Proof.FfnBwdPoint

@[expose] public section

noncomputable section

namespace Cert.FfnBwd

open Cert.KernelIdeal Cert.KernelIdeal.Gen Idealize.ShloMosaic Idealize.ShloMosaic.TcCoe Idealize.SL.Sem
open Cert.RowMath

variable (m : (ℓ : Loc nD τ sig) → Buf (Elt Ideal) ℓ)

/-! ### Loads of whole blocks -/

theorem ld_a {e : EltTy} (X : Vec Ideal S256x2816 e) (inb) :
    View.ld X (Rect.unit (s := S256x2816) ![0, 0] ![256, 2816] inb) = X := View.ld_unit_zero (S := S256x2816) zero2 inb X
theorem ld_b {e : EltTy} (X : Vec Ideal S256x1024 e) (inb) :
    View.ld X (Rect.unit (s := S256x1024) ![0, 0] ![256, 1024] inb) = X := View.ld_unit_zero (S := S256x1024) zero2 inb X
theorem ld_c {e : EltTy} (X : Vec Ideal S1x1024 e) (inb) :
    View.ld X (Rect.unit (s := S1x1024) ![0, 0] ![1, 1024] inb) = X := View.ld_unit_zero (S := S1x1024) zero2 inb X
theorem ld_d {e : EltTy} (X : Vec Ideal S5632x1024 e) (inb) :
    View.ld X (Rect.unit (s := S5632x1024) ![0, 0] ![5632, 1024] inb) = X := View.ld_unit_zero (S := S5632x1024) zero2 inb X

/-! ### The tiled outputs -/

theorem out10 (c : Dev nD) (t : Fin cfg0.N) :
    (outsAt0 m c t.val t.isLt).1 = k0_pay16 (dhB m c t) (iblk m c 6 t) (scB m c t) (k0_pay9 (iblk m c 0 t)) (k0_pay10 (iblk m c 0 t)) (iblk m c 1 t) := by
  by_cases h0 : t.val % 32 = 0
  · rw [outsAt0_A m c t h0]
    dsimp only
    unfold out0_A_10
    rw [View.read_writes_eq_canon _ _ _ (fun y => cover0_A_10 c _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S256x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
    simp only [ld_a, ld_b, ld_c, ld_d]
    rfl
  · rw [outsAt0_B m c t h0]
    dsimp only
    unfold out0_B_10
    rw [View.read_writes_eq_canon _ _ _ (fun y => cover0_B_10 c _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S256x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
    simp only [ld_a, ld_b, ld_c, ld_d]
    rfl

theorem out11 (c : Dev nD) (t : Fin cfg0.N) :
    (outsAt0 m c t.val t.isLt).2.1 = dagB m c t := by
  by_cases h0 : t.val % 32 = 0
  · rw [outsAt0_A m c t h0]
    dsimp only
    unfold out0_A_11
    rw [View.read_writes_eq_canon _ _ _ (fun y => cover0_A_11 c _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S256x5632) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
    simp only [ld_a, ld_b, ld_c, ld_d]
    rfl
  · rw [outsAt0_B m c t h0]
    dsimp only
    unfold out0_B_11
    rw [View.read_writes_eq_canon _ _ _ (fun y => cover0_B_11 c _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S256x5632) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
    simp only [ld_a, ld_b, ld_c, ld_d]
    rfl

theorem out12 (c : Dev nD) (t : Fin cfg0.N) :
    (outsAt0 m c t.val t.isLt).2.2.1 = k0_pay15 (k0_pay11 (iblk m c 0 t) (iblk m c 6 t) (shB m c t) (scB m c t)) := by
  by_cases h0 : t.val % 32 = 0
  · rw [outsAt0_A m c t h0]
    dsimp only
    unfold out0_A_12
    rw [View.read_writes_eq_canon _ _ _ (fun y => cover0_A_12 c _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S256x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
    simp only [ld_a, ld_b, ld_c, ld_d]
    rfl
  · rw [outsAt0_B m c t h0]
    dsimp only
    unfold out0_B_12
    rw [View.read_writes_eq_canon _ _ _ (fun y => cover0_B_12 c _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S256x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
    simp only [ld_a, ld_b, ld_c, ld_d]
    rfl

/-! ### The accumulated outputs -/

/-- The weight's gradient after the first point. -/
theorem out13_A (c : Dev nD) (t : Fin cfg0.N) (h0 : t.val % 32 = 0) :
    (outsAt0 m c t.val t.isLt).2.2.2.1 = k0_pay17 (scB m c t) (colB m c t) (k0_pay2 (F := Ideal)) := by
  rw [outsAt0_A m c t h0]
  dsimp only
  unfold out0_A_13
  rw [View.read_writes_eq_canon _ _ _ (fun y => cover0_A_13 c _ _ _ _ _ _ _ _ _ _ _ _ _ _ _ _ _ _ _ _ _ _ _ _ _ _ _ _ _ _ _ _ _ _ _ _ _ _ _ _ _ _ y)]
  unfold kernelRun0_A
  dsimp only
  sl_unfold_words
  refine (View.canon_cons_unit_zero (S := S1x1024) zero2 _ _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
  simp only [ld_a, ld_b, ld_c, ld_d]
  refine congrArg (k0_pay17 (scB m c t) (colB m c t)) ?_
  exact View.readCov_unit_zero (S := S1x1024) _ zero2 _ _

/-- The weight's gradient after a later point. -/
theorem out13_B (c : Dev nD) (t : Fin cfg0.N) (h0 : ¬t.val % 32 = 0) :
    (outsAt0 m c t.val t.isLt).2.2.2.1 = k0_pay17 (scB m c t) (colB m c t)
      (outsAt0 m c (t.val - 1) (Nat.lt_of_le_of_lt (Nat.sub_le _ _) t.isLt)).2.2.2.1 := by
  rw [outsAt0_B m c t h0]
  dsimp only
  unfold out0_B_13
  rw [View.read_writes_eq_canon _ _ _ (fun y => cover0_B_13 c _ _ _ _ _ _ _ _ _ _ _ _ _ _ _ _ _ _ _ _ _ _ _ _ _ _ _ _ _ _ _ _ _ _ _ _ _ _ _ _ _ _ _ _ y)]
  unfold kernelRun0_B
  dsimp only
  sl_unfold_words
  refine (View.canon_unit_zero (S := S1x1024) zero2 _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
  simp only [ld_a, ld_b, ld_c, ld_d]
  rfl

theorem emb4 (j : Fin 1024) (inb) :
    (Rect.unit (s := S6x1024) ![4, 0] ![1, 1024] inb).emb (ix2 (0 : Fin 1) j) = ix2 (4 : Fin 6) j := by
  funext a; apply Fin.ext
  match a with
  | ⟨0, _⟩ => rfl
  | ⟨1, _⟩ => show 0 + 1 * j.val = j.val; omega

theorem emb3 (j : Fin 1024) (inb) :
    (Rect.unit (s := S6x1024) ![3, 0] ![1, 1024] inb).emb (ix2 (0 : Fin 1) j) = ix2 (3 : Fin 6) j := by
  funext a; apply Fin.ext
  match a with
  | ⟨0, _⟩ => rfl
  | ⟨1, _⟩ => show 0 + 1 * j.val = j.val; omega

theorem off4 (i : Fin 6) (j : Fin 1024) (h : i ≠ 4) (inb) :
    (ix2 i j : S6x1024.Idx) ∉ (Rect.unit (s := S6x1024) ![4, 0] ![1, 1024] inb).set := by
  rw [Rect.mem_set_unit]
  intro h'
  have h1 : 4 ≤ i.val ∧ i.val < 4 + 1 := h' 0
  exact h (Fin.ext (by show i.val = 4; omega))

theorem off3 (i : Fin 6) (j : Fin 1024) (h : i ≠ 3) (inb) :
    (ix2 i j : S6x1024.Idx) ∉ (Rect.unit (s := S6x1024) ![3, 0] ![1, 1024] inb).set := by
  rw [Rect.mem_set_unit]
  intro h'
  have h1 : 3 ≤ i.val ∧ i.val < 3 + 1 := h' 0
  exact h (Fin.ext (by show i.val = 3; omega))

/-- A store of row 4 over anything, read back. -/
theorem canon4 (a : Vec Ideal S1x1024 .f32) (L : List (View.Piece (Elt Ideal) S6x1024 .f32)) (i : Fin 6) (j : Fin 1024) (inb) :
    View.canon (⟨Rect.unit (s := S6x1024) ![4, 0] ![1, 1024] inb, a⟩ :: L) (ix2 i j)
      = if i = 4 then a (ix2 0 j) else View.canon L (ix2 i j) := by
  split
  · next h =>
    subst h
    have e := View.canon_cons_emb (Val := Elt Ideal) (s := S6x1024) (e := .f32) (Rect.unit (s := S6x1024) ![4, 0] ![1, 1024] inb) a L (ix2 (0 : Fin 1) j)
    rw [emb4] at e
    exact e
  · next h => exact View.canon_cons_of_not_mem _ L (off4 i j h inb)

/-- A store of row 3 over anything, read back. -/
theorem canon3 (a : Vec Ideal S1x1024 .f32) (L : List (View.Piece (Elt Ideal) S6x1024 .f32)) (i : Fin 6) (j : Fin 1024) (inb) :
    View.canon (⟨Rect.unit (s := S6x1024) ![3, 0] ![1, 1024] inb, a⟩ :: L) (ix2 i j)
      = if i = 3 then a (ix2 0 j) else View.canon L (ix2 i j) := by
  split
  · next h =>
    subst h
    have e := View.canon_cons_emb (Val := Elt Ideal) (s := S6x1024) (e := .f32) (Rect.unit (s := S6x1024) ![3, 0] ![1, 1024] inb) a L (ix2 (0 : Fin 1) j)
    rw [emb3] at e
    exact e
  · next h => exact View.canon_cons_of_not_mem _ L (off3 i j h inb)

/-- A store of row 4 through any view, read back. -/
theorem write4 {sig : RefSig} {κ : Kind} {sp : Space} (v : View sig κ sp S6x1024 .f32) (f : v.ty.Contents (Elt Ideal))
    (a : Vec Ideal S1x1024 .f32) (L : List (View.Piece (Elt Ideal) S6x1024 .f32)) (i : Fin 6) (j : Fin 1024) (inb) :
    v.read (Elt Ideal) (v.writes (Elt Ideal) f (⟨Rect.unit (s := S6x1024) ![4, 0] ![1, 1024] inb, a⟩ :: L)) (ix2 i j)
      = if i = 4 then a (ix2 0 j) else v.read (Elt Ideal) (v.writes (Elt Ideal) f L) (ix2 i j) := by
  split
  · next h =>
    subst h
    have e := View.read_writes_cons_emb (Val := Elt Ideal) v f (Rect.unit (s := S6x1024) ![4, 0] ![1, 1024] inb) a L (ix2 (0 : Fin 1) j)
    rw [emb4] at e
    exact e
  · next h =>
    rw [View.writes_cons, View.read_slice_write_of_not_mem _ _ _ _ (by rw [Rect.map_emb_univ]; exact off4 i j h inb)]

/-- A store of row 3 through any view, read back. -/
theorem write3 {sig : RefSig} {κ : Kind} {sp : Space} (v : View sig κ sp S6x1024 .f32) (f : v.ty.Contents (Elt Ideal))
    (a : Vec Ideal S1x1024 .f32) (L : List (View.Piece (Elt Ideal) S6x1024 .f32)) (i : Fin 6) (j : Fin 1024) (inb) :
    v.read (Elt Ideal) (v.writes (Elt Ideal) f (⟨Rect.unit (s := S6x1024) ![3, 0] ![1, 1024] inb, a⟩ :: L)) (ix2 i j)
      = if i = 3 then a (ix2 0 j) else v.read (Elt Ideal) (v.writes (Elt Ideal) f L) (ix2 i j) := by
  split
  · next h =>
    subst h
    have e := View.read_writes_cons_emb (Val := Elt Ideal) v f (Rect.unit (s := S6x1024) ![3, 0] ![1, 1024] inb) a L (ix2 (0 : Fin 1) j)
    rw [emb3] at e
    exact e
  · next h =>
    rw [View.writes_cons, View.read_slice_write_of_not_mem _ _ _ _ (by rw [Rect.map_emb_univ]; exact off3 i j h inb)]

/-- Row `i` of the zeroed block. -/
theorem canonz (i : Fin 6) (j : Fin 1024) :
    View.canon [(⟨Rect.unit ![0, 0] ![6, 1024] inb_S6x1024_S6x1024_0_0, k0_pay3 (F := Ideal)⟩ : View.Piece (Elt Ideal) S6x1024 .f32)] (ix2 i j) = 0 := by
  refine (congrFun (View.canon_unit_zero (S := S6x1024) zero2 _ _) (ix2 i j)).trans ?_
  unfold k0_pay3
  pointwise

theorem coverz (y : S6x1024.Idx) : y ∈ (Rect.unit (s := S6x1024) ![0, 0] ![6, 1024] inb_S6x1024_S6x1024_0_0).set :=
  View.mem_set_unit_zero (S := S6x1024) zero2 _ y

/-- The scale's row after a point adds the tile's column sums times the norm's weight. -/
theorem row4_apply (c : Dev nD) (t : Fin cfg0.N) (p : Vec Ideal S1x1024 .f32) (j : Fin 1024) :
    k0_pay1 (k0_pay14 (iblk m c 6 t) (colB m c t)) p (ix2 0 j)
      = p (ix2 0 j) + FfnBwdSpec.tcol (ops m c) (tile t) j * (ops m c).nw j := by
  unfold k0_pay1 k0_pay14 k0_pay13
  pointwise
  rw [colB_apply]
  exact congrArg (_ + ·) (congrArg (_ * ·) (blk6 m c t 0 j))

/-- The shift's row after a point adds the tile's sums. -/
theorem row3_apply (c : Dev nD) (t : Fin cfg0.N) (p : Vec Ideal S1x1024 .f32) (j : Fin 1024) :
    k0_pay18 (dhB m c t) p (ix2 0 j) = p (ix2 0 j) + FfnBwdSpec.tsum (ops m c) (tile t) j := by
  unfold k0_pay18
  pointwise
  exact congrArg (_ + ·) (Finset.sum_congr rfl fun r _ => dhB_apply m c t r j)

/-- The weight's gradient after a point adds the tile's column sums times the modulation's scale. -/
theorem rowW_apply (c : Dev nD) (t : Fin cfg0.N) (p : Vec Ideal S1x1024 .f32) (j : Fin 1024) :
    k0_pay17 (scB m c t) (colB m c t) p (ix2 0 j)
      = p (ix2 0 j) + FfnBwdSpec.tcol (ops m c) (tile t) j * (1 + (ops m c).sc j) := by
  unfold k0_pay17 k0_pay13 scB
  pointwise
  rw [colB_apply]
  exact congrArg (_ + ·) (congrArg (_ * ·) (congrArg (1 + ·) (blk7 m c t 4 j)))

theorem cover1 (z : Vec Ideal S6x1024 .f32) (y : S6x1024.Idx) :
    ∃ p ∈ [(⟨Rect.unit (s := S6x1024) ![0, 0] ![6, 1024] inb_S6x1024_S6x1024_0_0, z⟩ : View.Piece (Elt Ideal) S6x1024 .f32)],
      y ∈ p.1.set := ⟨_, List.mem_singleton.mpr rfl, coverz y⟩

theorem cover2 (q : View.Piece (Elt Ideal) S6x1024 .f32) (z : Vec Ideal S6x1024 .f32) (y : S6x1024.Idx) :
    ∃ p ∈ [q, (⟨Rect.unit (s := S6x1024) ![0, 0] ![6, 1024] inb_S6x1024_S6x1024_0_0, z⟩ : View.Piece (Elt Ideal) S6x1024 .f32)],
      y ∈ p.1.set := ⟨_, List.mem_cons_of_mem _ (List.mem_singleton.mpr rfl), coverz y⟩

/-- Rows 3 and 4 of a zeroed block rewritten through `b` and `a`. -/
theorem canonA {sig : RefSig} {κ : Kind} {sp : Space} (v : View sig κ sp S6x1024 .f32)
    (a b : Vec Ideal S1x1024 .f32 → Vec Ideal S1x1024 .f32) (x y : Fin 1024 → EReal)
    (ha : ∀ p j, a p (ix2 0 j) = p (ix2 0 j) + x j) (hb : ∀ p j, b p (ix2 0 j) = p (ix2 0 j) + y j) (i : Fin 6) (j : Fin 1024) :
    View.canon [(⟨Rect.unit (s := S6x1024) ![4, 0] ![1, 1024] inb_S6x1024_S1x1024_4_0, a (v.readCov [(⟨Rect.unit (s := S6x1024) ![3, 0] ![1, 1024] inb_S6x1024_S1x1024_3_0, b (v.readCov [(⟨Rect.unit (s := S6x1024) ![0, 0] ![6, 1024] inb_S6x1024_S6x1024_0_0, k0_pay3 (F := Ideal)⟩ : View.Piece (Elt Ideal) S6x1024 .f32)] (Rect.unit (s := S6x1024) ![3, 0] ![1, 1024] inb_S6x1024_S1x1024_3_0).toLoadRect)⟩ : View.Piece (Elt Ideal) S6x1024 .f32),
        (⟨Rect.unit (s := S6x1024) ![0, 0] ![6, 1024] inb_S6x1024_S6x1024_0_0, k0_pay3 (F := Ideal)⟩ : View.Piece (Elt Ideal) S6x1024 .f32)] (Rect.unit (s := S6x1024) ![4, 0] ![1, 1024] inb_S6x1024_S1x1024_4_0).toLoadRect)⟩ : View.Piece (Elt Ideal) S6x1024 .f32),
      (⟨Rect.unit (s := S6x1024) ![3, 0] ![1, 1024] inb_S6x1024_S1x1024_3_0, b (v.readCov [(⟨Rect.unit (s := S6x1024) ![0, 0] ![6, 1024] inb_S6x1024_S6x1024_0_0, k0_pay3 (F := Ideal)⟩ : View.Piece (Elt Ideal) S6x1024 .f32)] (Rect.unit (s := S6x1024) ![3, 0] ![1, 1024] inb_S6x1024_S1x1024_3_0).toLoadRect)⟩ : View.Piece (Elt Ideal) S6x1024 .f32),
      (⟨Rect.unit (s := S6x1024) ![0, 0] ![6, 1024] inb_S6x1024_S6x1024_0_0, k0_pay3 (F := Ideal)⟩ : View.Piece (Elt Ideal) S6x1024 .f32)] (ix2 i j) = if i = 4 then 0 + x j else if i = 3 then 0 + y j else 0 := by
  rw [canon4, canon3, canonz]
  split
  · refine (ha _ j).trans (congrArg (· + _) ?_)
    rw [View.readCov_eq_canon_ld _ _ _ (cover2 _ _)]
    refine (congrArg (View.canon _) (emb4 j _)).trans ?_
    rw [canon3, if_neg (by decide), canonz]
  · split
    · refine (hb _ j).trans (congrArg (· + _) ?_)
      rw [View.readCov_eq_canon_ld _ _ _ (cover1 _)]
      exact (congrArg (View.canon _) (emb3 j _)).trans (canonz 3 j)
    · rfl

/-- The modulation's gradient after the first point. -/
theorem out14_A (c : Dev nD) (t : Fin cfg0.N) (h0 : t.val % 32 = 0) (i : Fin 6) (j : Fin 1024) :
    (outsAt0 m c t.val t.isLt).2.2.2.2 (ix2 i j) = if i = 4 then 0 + FfnBwdSpec.tcol (ops m c) (tile t) j * (ops m c).nw j
      else if i = 3 then 0 + FfnBwdSpec.tsum (ops m c) (tile t) j else 0 := by
  rw [outsAt0_A m c t h0]
  dsimp only
  unfold out0_A_14
  rw [View.read_writes_eq_canon _ _ _ (fun y => cover0_A_14 c _ _ _ _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
  simp only [ld_a, ld_b, ld_c, ld_d]
  exact canonA (ms0_14 t).view (k0_pay1 (k0_pay14 (iblk m c 6 t) (colB m c t))) (k0_pay18 (dhB m c t)) _ _
    (row4_apply m c t) (row3_apply m c t) i j

/-- The modulation's gradient after a later point. -/
theorem out14_B (c : Dev nD) (t : Fin cfg0.N) (h0 : ¬t.val % 32 = 0) (i : Fin 6) (j : Fin 1024) :
    (outsAt0 m c t.val t.isLt).2.2.2.2 (ix2 i j) =
      (outsAt0 m c (t.val - 1) (Nat.lt_of_le_of_lt (Nat.sub_le _ _) t.isLt)).2.2.2.2 (ix2 i j)
      + if i = 4 then FfnBwdSpec.tcol (ops m c) (tile t) j * (ops m c).nw j
      else if i = 3 then FfnBwdSpec.tsum (ops m c) (tile t) j else 0 := by
  rw [outsAt0_B m c t h0]
  dsimp only
  unfold out0_B_14
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_13 t).read_unread, (hs0_14 t).read_unread]
  simp only [ld_a, ld_b, ld_c, ld_d]
  show View.read (Elt Ideal) (ms0_14 t).view ((ms0_14 t).view.writes (Elt Ideal) ((hs0_14 t).unread _)
    [⟨Rect.unit (s := S6x1024) ![4, 0] ![1, 1024] inb_S6x1024_S1x1024_4_0, k0_pay1 (k0_pay14 (iblk m c 6 t) (colB m c t)) _⟩,
    ⟨Rect.unit (s := S6x1024) ![3, 0] ![1, 1024] inb_S6x1024_S1x1024_3_0, k0_pay18 (dhB m c t) _⟩]) (ix2 i j) = _
  generalize (outsAt0 m c (t.val - 1) _).2.2.2.2 = q
  rw [write4]
  split
  · next h =>
    rw [h]
    refine (row4_apply m c t _ j).trans (congrArg (· + _) ?_)
    exact congrArg q (emb4 j _)
  · next h4 =>
    rw [write3]
    split
    · next h =>
      rw [h]
      refine (row3_apply m c t _ j).trans (congrArg (· + _) ?_)
      exact congrArg q (emb3 j _)
    · next h3 =>
      rw [add_zero]
      exact congrFun ((hs0_14 t).read_unread q) _

end Cert.FfnBwd
-- ==== Proof.FfnBwdArr.lean ====
/- The feed-forward backward kernel's output arrays after its last grid point, entry by entry. -/
module

public import proofs.«01_k».proof.Proof.FfnBwdOut

@[expose] public section

noncomputable section

namespace Cert.FfnBwd

open Cert.KernelIdeal Cert.KernelIdeal.Gen Idealize.ShloMosaic Idealize.ShloMosaic.TcCoe Idealize.SL.Sem
open Idealize.ShloMosaic.Pipeline (Dat)
open Cert.RowMath

variable (m : (ℓ : Loc nD τ sig) → Buf (Elt Ideal) ℓ)

/-! ### Where each output block lies -/

theorem at10 : ∀ t : Fin grid0.N, win0_10.index t 0 = t.val ∧ win0_10.index t 1 = 0 := by decide +kernel
theorem at11 : ∀ t : Fin grid0.N, win0_11.index t 0 = t.val ∧ win0_11.index t 1 = 0 := by decide +kernel
theorem at12 : ∀ t : Fin grid0.N, win0_12.index t 0 = t.val ∧ win0_12.index t 1 = 0 := by decide +kernel
theorem at13 : ∀ t : Fin grid0.N, win0_13.index t 0 = 0 ∧ win0_13.index t 1 = 0 := by decide +kernel
theorem at14 : ∀ t : Fin grid0.N, win0_14.index t 0 = 0 ∧ win0_14.index t 1 = 0 := by decide +kernel

/-! ### The tiled outputs -/

/-- The gradient of the block's input, as an array. -/
def arr10 (c : Dev nD) : Vec Ideal S8192x1024 .f32 := fun y => FfnBwdSpec.dx1 (ops m c) (y 0) (y 1)
/-- The gradient of the up projection's output, as an array. -/
def arr11 (c : Dev nD) : Vec Ideal S8192x5632 .bf16 := fun y => FfnBwdSpec.dag (ops m c) (y 0) (y 1)
/-- The modulated norm, as an array. -/
def arr12 (c : Dev nD) : Vec Ideal S8192x1024 .bf16 := fun y => FfnBwdSpec.h2 (ops m c) (y 0) (y 1)

theorem flushed_eq10 (c : Dev nD) (t : Fin cfg0.N) :
    (dats m 0 c).flushed 10 t = ((cfg0.win 10).blk t).view.read (Elt Ideal) (arr10 m c) := by
  have e : (outsAt0 m c t.val t.isLt).1 = fun y => FfnBwdSpec.dx1 (ops m c) (row t (y 0)) (y 1) := by
    rw [out10]; funext y
    obtain ⟨r, j, rfl⟩ : ∃ (r : Fin 256) (j : Fin 1024), y = ix2 r j := ⟨y 0, y 1, eq_ix2 y⟩
    exact dx1_apply m c t r j
  rw [Value.flushed10, e]
  funext y
  rw [View.read_apply]
  refine congrArg₂ (FfnBwdSpec.dx1 (ops m c)) (Fin.ext ?_) (Fin.ext ?_)
  · show 256 * t.val + (y 0).val = win0_10.index t 0 * 256 + 1 * (y 0).val; rw [(at10 t).1]; omega
  · show (y 1).val = win0_10.index t 1 * 1024 + 1 * (y 1).val; rw [(at10 t).2]; omega

theorem cover_10 (i : S8192x1024.Idx) :
    ∃ t : Fin cfg0.N, (cfg0.win 10).flush t = true ∧ i ∈ ((cfg0.win 10).blk t).view.set := by
  have h0 : (i 0 : Nat) < 8192 := (i 0).isLt
  have h1 : (i 1 : Nat) < 1024 := (i 1).isLt
  have hN : cfg0.N = 32 := points
  have ht : (i 0 : Nat) / 256 < cfg0.N := by omega
  refine ⟨⟨(i 0 : Nat) / 256, ht⟩, flush0_10 _, ?_⟩
  show i ∈ ((View.whole main_v2_0).slice (win0_10.rect ⟨(i 0 : Nat) / 256, ht⟩)).set
  rw [View.set_slice_whole, Rect.mem_set_unit]
  intro a
  match a with
  | ⟨0, _⟩ =>
    show win0_10.index ⟨(i 0 : Nat) / 256, ht⟩ 0 * 256 ≤ (i 0 : Nat) ∧ (i 0 : Nat) < win0_10.index ⟨(i 0 : Nat) / 256, ht⟩ 0 * 256 + 256
    rw [(at10 ⟨(i 0 : Nat) / 256, ht⟩).1]; dsimp only; omega
  | ⟨1, _⟩ =>
    show win0_10.index ⟨(i 0 : Nat) / 256, ht⟩ 1 * 1024 ≤ (i 1 : Nat) ∧ (i 1 : Nat) < win0_10.index ⟨(i 0 : Nat) / 256, ht⟩ 1 * 1024 + 1024
    rw [(at10 ⟨(i 0 : Nat) / 256, ht⟩).2]; omega

theorem final10 (c : Dev nD) : (dats m 0 c).arrAt 10 cfg0.N = arr10 m c :=
  (dats m 0 c).arrAt_eq_of_cover 10 (arr10 m c) (fun t _ => flushed_eq10 m c t) cover_10

theorem flushed_eq11 (c : Dev nD) (t : Fin cfg0.N) :
    (dats m 0 c).flushed 11 t = ((cfg0.win 11).blk t).view.read (Elt Ideal) (arr11 m c) := by
  have e : (outsAt0 m c t.val t.isLt).2.1 = fun y => FfnBwdSpec.dag (ops m c) (row t (y 0)) (y 1) := by
    rw [out11]; funext y
    obtain ⟨r, j, rfl⟩ : ∃ (r : Fin 256) (j : Fin 5632), y = ix2 r j := ⟨y 0, y 1, eq_ix2 y⟩
    exact dagB_apply m c t r j
  rw [Value.flushed11, e]
  funext y
  rw [View.read_apply]
  refine congrArg₂ (FfnBwdSpec.dag (ops m c)) (Fin.ext ?_) (Fin.ext ?_)
  · show 256 * t.val + (y 0).val = win0_11.index t 0 * 256 + 1 * (y 0).val; rw [(at11 t).1]; omega
  · show (y 1).val = win0_11.index t 1 * 5632 + 1 * (y 1).val; rw [(at11 t).2]; omega

theorem cover_11 (i : S8192x5632.Idx) :
    ∃ t : Fin cfg0.N, (cfg0.win 11).flush t = true ∧ i ∈ ((cfg0.win 11).blk t).view.set := by
  have h0 : (i 0 : Nat) < 8192 := (i 0).isLt
  have h1 : (i 1 : Nat) < 5632 := (i 1).isLt
  have hN : cfg0.N = 32 := points
  have ht : (i 0 : Nat) / 256 < cfg0.N := by omega
  refine ⟨⟨(i 0 : Nat) / 256, ht⟩, flush0_11 _, ?_⟩
  show i ∈ ((View.whole main_v2_1).slice (win0_11.rect ⟨(i 0 : Nat) / 256, ht⟩)).set
  rw [View.set_slice_whole, Rect.mem_set_unit]
  intro a
  match a with
  | ⟨0, _⟩ =>
    show win0_11.index ⟨(i 0 : Nat) / 256, ht⟩ 0 * 256 ≤ (i 0 : Nat) ∧ (i 0 : Nat) < win0_11.index ⟨(i 0 : Nat) / 256, ht⟩ 0 * 256 + 256
    rw [(at11 ⟨(i 0 : Nat) / 256, ht⟩).1]; dsimp only; omega
  | ⟨1, _⟩ =>
    show win0_11.index ⟨(i 0 : Nat) / 256, ht⟩ 1 * 5632 ≤ (i 1 : Nat) ∧ (i 1 : Nat) < win0_11.index ⟨(i 0 : Nat) / 256, ht⟩ 1 * 5632 + 5632
    rw [(at11 ⟨(i 0 : Nat) / 256, ht⟩).2]; omega

theorem final11 (c : Dev nD) : (dats m 0 c).arrAt 11 cfg0.N = arr11 m c :=
  (dats m 0 c).arrAt_eq_of_cover 11 (arr11 m c) (fun t _ => flushed_eq11 m c t) cover_11

theorem flushed_eq12 (c : Dev nD) (t : Fin cfg0.N) :
    (dats m 0 c).flushed 12 t = ((cfg0.win 12).blk t).view.read (Elt Ideal) (arr12 m c) := by
  have e : (outsAt0 m c t.val t.isLt).2.2.1 = fun y => FfnBwdSpec.h2 (ops m c) (row t (y 0)) (y 1) := by
    rw [out12]; funext y
    obtain ⟨r, j, rfl⟩ : ∃ (r : Fin 256) (j : Fin 1024), y = ix2 r j := ⟨y 0, y 1, eq_ix2 y⟩
    exact h2_apply m c t r j
  rw [Value.flushed12, e]
  funext y
  rw [View.read_apply]
  refine congrArg₂ (FfnBwdSpec.h2 (ops m c)) (Fin.ext ?_) (Fin.ext ?_)
  · show 256 * t.val + (y 0).val = win0_12.index t 0 * 256 + 1 * (y 0).val; rw [(at12 t).1]; omega
  · show (y 1).val = win0_12.index t 1 * 1024 + 1 * (y 1).val; rw [(at12 t).2]; omega

theorem cover_12 (i : S8192x1024.Idx) :
    ∃ t : Fin cfg0.N, (cfg0.win 12).flush t = true ∧ i ∈ ((cfg0.win 12).blk t).view.set := by
  have h0 : (i 0 : Nat) < 8192 := (i 0).isLt
  have h1 : (i 1 : Nat) < 1024 := (i 1).isLt
  have hN : cfg0.N = 32 := points
  have ht : (i 0 : Nat) / 256 < cfg0.N := by omega
  refine ⟨⟨(i 0 : Nat) / 256, ht⟩, flush0_12 _, ?_⟩
  show i ∈ ((View.whole main_v2_2).slice (win0_12.rect ⟨(i 0 : Nat) / 256, ht⟩)).set
  rw [View.set_slice_whole, Rect.mem_set_unit]
  intro a
  match a with
  | ⟨0, _⟩ =>
    show win0_12.index ⟨(i 0 : Nat) / 256, ht⟩ 0 * 256 ≤ (i 0 : Nat) ∧ (i 0 : Nat) < win0_12.index ⟨(i 0 : Nat) / 256, ht⟩ 0 * 256 + 256
    rw [(at12 ⟨(i 0 : Nat) / 256, ht⟩).1]; dsimp only; omega
  | ⟨1, _⟩ =>
    show win0_12.index ⟨(i 0 : Nat) / 256, ht⟩ 1 * 1024 ≤ (i 1 : Nat) ∧ (i 1 : Nat) < win0_12.index ⟨(i 0 : Nat) / 256, ht⟩ 1 * 1024 + 1024
    rw [(at12 ⟨(i 0 : Nat) / 256, ht⟩).2]; omega

theorem final12 (c : Dev nD) : (dats m 0 c).arrAt 12 cfg0.N = arr12 m c :=
  (dats m 0 c).arrAt_eq_of_cover 12 (arr12 m c) (fun t _ => flushed_eq12 m c t) cover_12

/-! ### The accumulated outputs -/

theorem zero13 (j : Fin 1024) : (k0_pay2 (F := Ideal)) (ix2 0 j) = 0 := by
  unfold k0_pay2
  pointwise

/-- The weight's gradient after point `n` is the sum of the tiles' parts up to it. -/
theorem acc13 (c : Dev nD) (j : Fin 1024) : ∀ (n : ℕ) (h : n < cfg0.N), (outsAt0 m c n h).2.2.2.1 (ix2 0 j)
    = FfnBwdSpec.upto (fun s => FfnBwdSpec.tcol (ops m c) s j * (1 + (ops m c).sc j)) (n + 1) := by
  intro n
  induction n with
  | zero =>
    intro h
    refine (congrFun (out13_A m c ⟨0, h⟩ rfl) _).trans ?_
    rw [rowW_apply, zero13, zero_add, FfnBwdSpec.upto_one]
    rfl
  | succ n ih =>
    intro h
    have hN : cfg0.N = 32 := points
    refine (congrFun (out13_B m c ⟨n + 1, h⟩ (by dsimp only; omega)) _).trans ?_
    rw [rowW_apply, FfnBwdSpec.upto_succ _ ⟨n + 1, by omega⟩]
    exact congrArg (· + _) (ih _)

/-- One tile's part of the modulation's gradient. -/
def tmod (c : Dev nD) (i : Fin 6) (j : Fin 1024) (s : Fin 32) : EReal :=
  if i = 4 then FfnBwdSpec.tcol (ops m c) s j * (ops m c).nw j else if i = 3 then FfnBwdSpec.tsum (ops m c) s j else 0

theorem acc14 (c : Dev nD) (i : Fin 6) (j : Fin 1024) : ∀ (n : ℕ) (h : n < cfg0.N),
    (outsAt0 m c n h).2.2.2.2 (ix2 i j) = FfnBwdSpec.upto (tmod m c i j) (n + 1) := by
  intro n
  induction n with
  | zero =>
    intro h
    refine (out14_A m c ⟨0, h⟩ rfl i j).trans ?_
    rw [FfnBwdSpec.upto_one, zero_add, zero_add]
    rfl
  | succ n ih =>
    intro h
    have hN : cfg0.N = 32 := points
    refine (out14_B m c ⟨n + 1, h⟩ (by dsimp only; omega) i j).trans ?_
    rw [FfnBwdSpec.upto_succ _ ⟨n + 1, by omega⟩]
    exact congrArg (· + _) (ih _)

/-- The gradient of the norm's weight, as an array. -/
def arr13 (c : Dev nD) : Vec Ideal S1x1024 .f32 := fun y => FfnBwdSpec.dnw (ops m c) (y 1)
/-- The gradient of the modulation, as an array. -/
def arr14 (c : Dev nD) : Vec Ideal S6x1024 .f32 := fun y => FfnBwdSpec.dmod (ops m c) (y 0) (y 1)

theorem flushed_eq13 (c : Dev nD) (hI : FfnBwdSpec.Fin' (ops m c)) (t : Fin cfg0.N) (hf : (cfg0.win 13).flush t = true) :
    (dats m 0 c).flushed 13 t = ((cfg0.win 13).blk t).view.read (Elt Ideal) (arr13 m c) := by
  have h31 : t.val = 31 := by have := (flush0_13 t).mp hf; have := point_lt t; omega
  have e : (outsAt0 m c t.val t.isLt).2.2.2.1 = fun y => FfnBwdSpec.dnw (ops m c) (y 1) := by
    funext y
    obtain ⟨r, j, rfl⟩ : ∃ (r : Fin 1) (j : Fin 1024), y = ix2 r j := ⟨y 0, y 1, eq_ix2 y⟩
    obtain rfl : r = 0 := Subsingleton.elim _ _
    rw [acc13, h31]
    exact FfnBwdSpec.dnw_tiles hI j
  rw [Value.flushed13, e]
  funext y
  rw [View.read_apply]
  refine congrArg (FfnBwdSpec.dnw (ops m c)) (Fin.ext ?_)
  show (y 1).val = win0_13.index t 1 * 1024 + 1 * (y 1).val; rw [(at13 t).2]; omega

theorem flushed_eq14 (c : Dev nD) (hI : FfnBwdSpec.Fin' (ops m c)) (t : Fin cfg0.N) (hf : (cfg0.win 14).flush t = true) :
    (dats m 0 c).flushed 14 t = ((cfg0.win 14).blk t).view.read (Elt Ideal) (arr14 m c) := by
  have h31 : t.val = 31 := by have := (flush0_14 t).mp hf; have := point_lt t; omega
  have e : (outsAt0 m c t.val t.isLt).2.2.2.2 = fun y => FfnBwdSpec.dmod (ops m c) (y 0) (y 1) := by
    funext y
    obtain ⟨i, j, rfl⟩ : ∃ (i : Fin 6) (j : Fin 1024), y = ix2 i j := ⟨y 0, y 1, eq_ix2 y⟩
    rw [acc14, h31]
    show FfnBwdSpec.upto (tmod m c i j) 32 = FfnBwdSpec.dmod (ops m c) i j
    unfold FfnBwdSpec.dmod
    by_cases h3 : i = 3
    · subst h3
      rw [if_pos rfl]
      exact FfnBwdSpec.dsh_tiles j
    · rw [if_neg h3]
      by_cases h4 : i = 4
      · subst h4
        rw [if_pos rfl]
        exact FfnBwdSpec.dsc_tiles hI j
      · rw [if_neg h4, FfnBwdSpec.upto_all]
        refine Finset.sum_eq_zero fun s _ => ?_
        unfold tmod
        rw [if_neg h4, if_neg h3]
  rw [Value.flushed14, e]
  funext y
  rw [View.read_apply]
  refine congrArg₂ (FfnBwdSpec.dmod (ops m c)) (Fin.ext ?_) (Fin.ext ?_)
  · show (y 0).val = win0_14.index t 0 * 6 + 1 * (y 0).val; rw [(at14 t).1]; omega
  · show (y 1).val = win0_14.index t 1 * 1024 + 1 * (y 1).val; rw [(at14 t).2]; omega

theorem cover_13 (i : S1x1024.Idx) :
    ∃ t : Fin cfg0.N, (cfg0.win 13).flush t = true ∧ i ∈ ((cfg0.win 13).blk t).view.set := by
  have h0 : (i 0 : Nat) < 1 := (i 0).isLt
  have h1 : (i 1 : Nat) < 1024 := (i 1).isLt
  have hN : cfg0.N = 32 := points
  have ht : 31 < cfg0.N := by omega
  refine ⟨⟨31, ht⟩, (flush0_13 _).mpr rfl, ?_⟩
  show i ∈ ((View.whole main_v2_3).slice (win0_13.rect ⟨31, ht⟩)).set
  rw [View.set_slice_whole, Rect.mem_set_unit]
  intro a
  match a with
  | ⟨0, _⟩ =>
    show win0_13.index ⟨31, ht⟩ 0 * 1 ≤ (i 0 : Nat) ∧ (i 0 : Nat) < win0_13.index ⟨31, ht⟩ 0 * 1 + 1
    rw [(at13 ⟨31, ht⟩).1]; omega
  | ⟨1, _⟩ =>
    show win0_13.index ⟨31, ht⟩ 1 * 1024 ≤ (i 1 : Nat) ∧ (i 1 : Nat) < win0_13.index ⟨31, ht⟩ 1 * 1024 + 1024
    rw [(at13 ⟨31, ht⟩).2]; omega

theorem final13 (c : Dev nD) (hI : FfnBwdSpec.Fin' (ops m c)) : (dats m 0 c).arrAt 13 cfg0.N = arr13 m c :=
  (dats m 0 c).arrAt_eq_of_cover 13 (arr13 m c) (flushed_eq13 m c hI) cover_13

theorem cover_14 (i : S6x1024.Idx) :
    ∃ t : Fin cfg0.N, (cfg0.win 14).flush t = true ∧ i ∈ ((cfg0.win 14).blk t).view.set := by
  have h0 : (i 0 : Nat) < 6 := (i 0).isLt
  have h1 : (i 1 : Nat) < 1024 := (i 1).isLt
  have hN : cfg0.N = 32 := points
  have ht : 31 < cfg0.N := by omega
  refine ⟨⟨31, ht⟩, (flush0_14 _).mpr rfl, ?_⟩
  show i ∈ ((View.whole main_v2_4).slice (win0_14.rect ⟨31, ht⟩)).set
  rw [View.set_slice_whole, Rect.mem_set_unit]
  intro a
  match a with
  | ⟨0, _⟩ =>
    show win0_14.index ⟨31, ht⟩ 0 * 6 ≤ (i 0 : Nat) ∧ (i 0 : Nat) < win0_14.index ⟨31, ht⟩ 0 * 6 + 6
    rw [(at14 ⟨31, ht⟩).1]; omega
  | ⟨1, _⟩ =>
    show win0_14.index ⟨31, ht⟩ 1 * 1024 ≤ (i 1 : Nat) ∧ (i 1 : Nat) < win0_14.index ⟨31, ht⟩ 1 * 1024 + 1024
    rw [(at14 ⟨31, ht⟩).2]; omega

theorem final14 (c : Dev nD) (hI : FfnBwdSpec.Fin' (ops m c)) : (dats m 0 c).arrAt 14 cfg0.N = arr14 m c :=
  (dats m 0 c).arrAt_eq_of_cover 14 (arr14 m c) (flushed_eq14 m c hI) cover_14

end Cert.FfnBwd
-- ==== Proof.FfnBwdRef.lean ====
/- The reference of the feed-forward backward pass, entry by entry: each result is the formula of `FfnBwdSpec`. -/
module

public import proofs.«01_k».proof.Proof.Gen.ReferenceIdeal.Read
public import proofs.«01_k».proof.Proof.FfnBwdSpec
public import Idealize.ShloMosaic.Lib.Pointwise

@[expose] public section

noncomputable section

namespace Cert.FfnBwdRef

open Cert.ReferenceIdeal Cert.ReferenceIdeal.Gen Cert.ReferenceIdeal.Read Idealize.ShloMosaic Idealize.ShloMosaic.TcCoe Idealize.SL.Sem
open Cert.RowMath

variable (x0 x1 : Vec Ideal S8192x1024 .f32) (x2 : Vec Ideal S8192x2816 .bf16) (x3 : Vec Ideal S8192x2816 .f32)
  (x4 : Vec Ideal S1x1024 .f32) (x5 : Vec Ideal S6x1024 .f32) (x6 : Vec Ideal S1024x5632 .f32) (x7 : Vec Ideal S3x2816 .f32)

/-- The argument arrays as the operands of the formulas. -/
def ops : FfnBwdSpec.In where
  x r j := x0 (ix2 r j)
  dx r j := x1 (ix2 r j)
  da r j := x2 (ix2 r j)
  dg r j := x3 (ix2 r j)
  nw j := x4 (ix2 0 j)
  sh j := x5 (ix2 3 j)
  sc j := x5 (ix2 4 j)
  w j k := x6 (ix2 j k)
  tap i j := x7 (ix2 i j)

/-! ### The norm -/

theorem v7_apply (r : Fin 8192) : val_main_v7 (F := Ideal) x0 (ix2 r 0) = meanSq fun j => x0 (ix2 r j) := by
  pointwise [val_main_v7, val_main_v6, val_main_v5, val_main_v4, val_main_v3, val_main_v2, val_main_v1, val_main_cst, val_main_cst_0, val_main_cst_1]
  rfl

theorem v8_apply (r : Fin 8192) : val_main_v8 (F := Ideal) x0 (ix2 r 0) = scale fun j => x0 (ix2 r j) :=
  congrArg Ideal.rsqrt (v7_apply x0 r)

theorem v13_apply (r : Fin 8192) (j : Fin 1024) :
    val_main_v13 (F := Ideal) x0 (ix2 r j) = FfnBwdSpec.nrm (ops x0 x1 x2 x3 x4 x5 x6 x7) r j := by
  pointwise [val_main_v13, val_main_v12]
  rw [v8_apply]; rfl

theorem v11_apply (r : Fin 8192) : val_main_v11 (F := Ideal) x0 (ix2 r 0)
    = mhalf * Ideal.div (scale fun j => x0 (ix2 r j)) (meanSq fun j => x0 (ix2 r j)) := by
  pointwise [val_main_v11, val_main_v10, val_main_v9, val_main_cst_2]
  rw [v8_apply, v7_apply]; rfl

theorem v16_apply (r : Fin 8192) (j : Fin 1024) :
    val_main_v16 (F := Ideal) x0 x4 (ix2 r j) = FfnBwdSpec.nrm (ops x0 x1 x2 x3 x4 x5 x6 x7) r j * x4 (ix2 0 j) := by
  rw [← v13_apply]
  pointwise [val_main_v16, val_main_v15, val_main_v14, val_main_v0]

theorem v81_apply (r : Fin 8192) (j : Fin 1024) :
    val_main_v81 (F := Ideal) x5 (ix2 r j) = 1 + x5 (ix2 4 j) := by
  pointwise [val_main_v81, val_main_v23, val_main_v22, val_main_v21, val_main_v20, val_main_v19, val_main_v18, val_main_v17, val_main_cst_3]

theorem v112_apply (r : Fin 8192) (j : Fin 1024) :
    val_main_v112 (F := Ideal) x0 x4 x5 (ix2 r j) = FfnBwdSpec.h2 (ops x0 x1 x2 x3 x4 x5 x6 x7) r j := by
  pointwise [val_main_v112, val_main_v28, val_main_v27, val_main_v26, val_main_v25, val_main_v24, val_main_v23, val_main_v22, val_main_v21, val_main_v20, val_main_v19, val_main_v18, val_main_v17, val_main_cst_3]
  rw [v16_apply x0 x1 x2 x3 x4 x5 x6 x7]
  rfl

/-! ### The branches' gradient -/

theorem v60_apply (r : Fin 8192) (j : Fin 2816) :
    val_main_v60 (F := Ideal) x3 x7 (ix2 r j) = x3 (ix2 r j) * x7 (ix2 2 j) := by
  pointwise [val_main_v60, val_main_v59, val_main_v58, val_main_v57, val_main_v56, val_main_v55, val_main_v54, val_main_v53, val_main_v52, val_main_v51, val_main_v50, val_main_v49, val_main_v48, val_main_v47]

theorem v63_apply (r : Fin 8192) (j : Fin 2816) :
    val_main_v63 (F := Ideal) x3 x7 (ix2 r j) = x3 (ix2 r j) * x7 (ix2 1 j) := by
  pointwise [val_main_v63, val_main_v62, val_main_v57, val_main_v45, val_main_v44, val_main_v43, val_main_v42]

theorem v67_apply (r : Fin 8192) (j : Fin 2816) :
    val_main_v67 (F := Ideal) x3 x7 (ix2 r j) = x3 (ix2 r j) * x7 (ix2 0 j) := by
  pointwise [val_main_v67, val_main_v66, val_main_v57, val_main_v39, val_main_v38, val_main_v37, val_main_v36]

theorem v71_apply (r : Fin 8192) (j : Fin 2816) :
    val_main_v71 (F := Ideal) x3 x7 (ix2 r j) = FfnBwdSpec.conv (ops x0 x1 x2 x3 x4 x5 x6 x7) r j := by
  pointwise [val_main_v71, val_main_v69, val_main_v65, val_main_v61, val_main_v64, val_main_v68, val_main_cst_7, val_main_cst_8, val_main_cst_9]
  simp only [v60_apply, v63_apply, v67_apply]
  unfold FfnBwdSpec.conv FfnBwdSpec.below FfnBwdSpec.above
  have e2 : (if h : 2 ≤ 1 + r.val ∧ 1 + r.val - 2 < 8192 then x3 (ix2 ⟨1 + r.val - 2, h.2⟩ j) * x7 (ix2 2 j) else 0)
      = x7 (ix2 2 j) * (if h : 0 < r.val then x3 (ix2 ⟨r.val - 1, by omega⟩ j) else 0) := by
    by_cases h : 0 < r.val
    · rw [dif_pos h, dif_pos ⟨by omega, by omega⟩, mul_comm]
      refine congrArg (x7 (ix2 2 j) * ·) (congrArg (fun q => x3 (ix2 q j)) (Fin.ext ?_))
      show 1 + r.val - 2 = r.val - 1; omega
    · rw [dif_neg h, dif_neg (by omega), mul_zero]
  have e0 : (if h : 1 + r.val < 8192 then x3 (ix2 ⟨1 + r.val, h⟩ j) * x7 (ix2 0 j) else 0)
      = x7 (ix2 0 j) * (if h : r.val + 1 < 8192 then x3 (ix2 ⟨r.val + 1, h⟩ j) else 0) := by
    by_cases h : r.val + 1 < 8192
    · rw [dif_pos h, dif_pos (by omega), mul_comm]
      refine congrArg (x7 (ix2 0 j) * ·) (congrArg (fun q => x3 (ix2 q j)) (Fin.ext ?_))
      show 1 + r.val = r.val + 1; omega
    · rw [dif_neg h, dif_neg (by omega), mul_zero]
  refine (congrArg₂ (· + ·) (congrArg₂ (· + ·) e2 (mul_comm _ _)) e0).trans ?_
  rw [add_comm, add_comm (x7 (ix2 2 j) * _), ← add_assoc]
  rfl

theorem v73_apply (r : Fin 8192) (k : Fin 5632) :
    val_main_v73 (F := Ideal) x2 x3 x7 (ix2 r k) = FfnBwdSpec.dag (ops x0 x1 x2 x3 x4 x5 x6 x7) r k := by
  pointwise [val_main_v73, val_main_v56]
  simp only [v71_apply x0 x1 x2 x3 x4 x5 x6 x7]
  rfl

theorem v111_apply (r : Fin 8192) (k : Fin 5632) :
    val_main_v111 (F := Ideal) x2 x3 x7 (ix2 r k) = FfnBwdSpec.dag (ops x0 x1 x2 x3 x4 x5 x6 x7) r k := by
  rw [← v73_apply]; rfl

theorem v74_apply (r : Fin 8192) (j : Fin 1024) :
    val_main_v74 (F := Ideal) x2 x3 x6 x7 (ix2 r j) = FfnBwdSpec.dh (ops x0 x1 x2 x3 x4 x5 x6 x7) r j := by
  pointwise [val_main_v74]
  simp only [v73_apply x0 x1 x2 x3 x4 x5 x6 x7]
  rfl

/-! ### The modulation's and the weight's gradients -/

theorem v77_apply (j : Fin 1024) :
    val_main_v77 (F := Ideal) x2 x3 x6 x7 (ix1 j) = ∑ r, FfnBwdSpec.dh (ops x0 x1 x2 x3 x4 x5 x6 x7) r j := by
  pointwise [val_main_v77, val_main_v76, val_main_v75, val_main_cst_10, val_main_cst_11]
  simp only [v74_apply x0 x1 x2 x3 x4 x5 x6 x7]
  rw [Fin.sum_univ_one]

theorem v83_apply (hI : FfnBwdSpec.Fin' (ops x0 x1 x2 x3 x4 x5 x6 x7)) (j : Fin 1024) :
    val_main_v83 (F := Ideal) x0 x2 x3 x4 x6 x7 (ix1 j) = FfnBwdSpec.col (ops x0 x1 x2 x3 x4 x5 x6 x7) j * x4 (ix2 0 j) := by
  pointwise [val_main_v83, val_main_v80, val_main_v79, val_main_v78, val_main_cst_12, val_main_cst_13]
  simp only [v74_apply x0 x1 x2 x3 x4 x5 x6 x7, v16_apply x0 x1 x2 x3 x4 x5 x6 x7]
  rw [Fin.sum_univ_one]
  refine (Finset.sum_congr rfl fun r _ => ?_).trans (sum_mul_real (hI.nw j) fun r _ =>
    (FfnBwdSpec.dh_real hI r j).mul (FfnBwdSpec.nrm_real r j))
  show FfnBwdSpec.nrm (ops x0 x1 x2 x3 x4 x5 x6 x7) r j * x4 (ix2 0 j) * FfnBwdSpec.dh (ops x0 x1 x2 x3 x4 x5 x6 x7) r j
    = FfnBwdSpec.dh (ops x0 x1 x2 x3 x4 x5 x6 x7) r j * FfnBwdSpec.nrm (ops x0 x1 x2 x3 x4 x5 x6 x7) r j * x4 (ix2 0 j)
  rw [mul_comm, mul_assoc]

theorem v82_apply (r : Fin 8192) (j : Fin 1024) :
    val_main_v82 (F := Ideal) x2 x3 x5 x6 x7 (ix2 r j) = FfnBwdSpec.dh (ops x0 x1 x2 x3 x4 x5 x6 x7) r j * (1 + x5 (ix2 4 j)) := by
  rw [← v74_apply, ← v81_apply x5 r j]; rfl

theorem v109_apply (hI : FfnBwdSpec.Fin' (ops x0 x1 x2 x3 x4 x5 x6 x7)) (j : Fin 1024) :
    val_main_v109 (F := Ideal) x0 x2 x3 x5 x6 x7 (ix2 0 j) = FfnBwdSpec.dnw (ops x0 x1 x2 x3 x4 x5 x6 x7) j := by
  pointwise [val_main_v109, val_main_v94, val_main_v91, val_main_v90, val_main_v89, val_main_cst_16, val_main_cst_17]
  simp only [v82_apply x0 x1 x2 x3 x4 x5 x6 x7, v13_apply x0 x1 x2 x3 x4 x5 x6 x7]
  rw [Fin.sum_univ_one]
  refine (Finset.sum_congr rfl fun r _ => ?_).trans (sum_mul_real (FfnBwdSpec.one_real.add (hI.sc j)) fun r _ =>
    (FfnBwdSpec.dh_real hI r j).mul (FfnBwdSpec.nrm_real r j))
  rw [← mul_assoc, mul_comm (FfnBwdSpec.nrm _ r j)]
  rfl

theorem v88_apply (hI : FfnBwdSpec.Fin' (ops x0 x1 x2 x3 x4 x5 x6 x7)) (i : Fin 6) (j : Fin 1024) :
    val_main_v88 (F := Ideal) x0 x2 x3 x4 x6 x7 (ix2 i j) = FfnBwdSpec.dmod (ops x0 x1 x2 x3 x4 x5 x6 x7) i j := by
  pointwise [val_main_v88, val_main_v85, val_main_v87, val_main_v84, val_main_v86, val_main_cst_14, val_main_cst_15]
  simp only [v83_apply x0 x1 x2 x3 x4 x5 x6 x7 hI, v77_apply x0 x1 x2 x3 x4 x5 x6 x7]
  unfold FfnBwdSpec.dmod
  fin_cases i <;> simp <;> rfl

/-! ### The input's gradient -/

theorem v93_apply (r : Fin 8192) (j : Fin 1024) :
    val_main_v93 (F := Ideal) x2 x3 x4 x5 x6 x7 (ix2 r j) = FfnBwdSpec.dn (ops x0 x1 x2 x3 x4 x5 x6 x7) r j := by
  pointwise [val_main_v93, val_main_v92, val_main_v14, val_main_v0]
  simp only [v82_apply x0 x1 x2 x3 x4 x5 x6 x7]
  rw [mul_assoc, mul_comm (1 + x5 (ix2 4 j))]
  rfl

theorem v104_apply (r : Fin 8192) (j : Fin 1024) :
    val_main_v104 (F := Ideal) x0 x2 x3 x4 x5 x6 x7 (ix2 r j)
      = Ideal.div ((∑ k, x0 (ix2 r k) * FfnBwdSpec.dn (ops x0 x1 x2 x3 x4 x5 x6 x7) r k)
        * (mhalf * Ideal.div (scale fun j => x0 (ix2 r j)) (meanSq fun j => x0 (ix2 r j)))) len := by
  pointwise [val_main_v104, val_main_v103, val_main_v102, val_main_v101, val_main_v100, val_main_v97, val_main_v96, val_main_v95, val_main_cst_18, val_main_cst_19, val_main_cst_20]
  rw [Fin.sum_univ_one]
  simp only [v93_apply x0 x1 x2 x3 x4 x5 x6 x7]
  exact congrArg (fun q => Ideal.div (_ * q) len) (v11_apply x0 r)

theorem v110_apply (hI : FfnBwdSpec.Fin' (ops x0 x1 x2 x3 x4 x5 x6 x7)) (r : Fin 8192) (j : Fin 1024) :
    val_main_v110 (F := Ideal) x0 x1 x2 x3 x4 x5 x6 x7 (ix2 r j) = FfnBwdSpec.dx1 (ops x0 x1 x2 x3 x4 x5 x6 x7) r j := by
  pointwise [val_main_v110, val_main_v108, val_main_v107, val_main_v106, val_main_v105, val_main_v99, val_main_v98]
  simp only [v93_apply x0 x1 x2 x3 x4 x5 x6 x7, v104_apply x0 x1 x2 x3 x4 x5 x6 x7, v8_apply]
  refine congrArg (x1 (ix2 r j) + ·) (normGrad_eq _ _ (fun k => FfnBwdSpec.dn_real hI r k) j).symm

end Cert.FfnBwdRef
-- ==== Proof.FfnBwdClaim.lean ====
/- The feed-forward backward kernel computes what the reference does, over the extended reals, on finite operands. -/
module

public import proofs.«01_k».proof.Defs
public import proofs.«01_k».proof.Proof.FfnBwdArr
public import proofs.«01_k».proof.Proof.FfnBwdRef

@[expose] public section

noncomputable section

namespace Cert.FfnBwdClaim

open Idealize.ShloMosaic Idealize.ShloMosaic.TcCoe Idealize.SL.Sem
open Cert.RowMath

/-- The precondition's shape facts. -/
theorem preFacts : Cert.Pre_finite.Facts where
  bitsLt_bf16_f32 := by decide
  bcast_S_S8192x2816 := by decide
  bcast_S_S1x1024 := by decide
  slices_S6x1024_S1x1024_4_0 := by decide
  bcast_S_S1024x5632 := by decide
  bcast_S_S3x2816 := by decide

/-- What the precondition's comparison says of one entry. -/
theorem real_of_lt {x : EReal} (h : Ideal.cmp .olt (max x (-x)) (Ideal.ofBits .f32 0x7F800000#32) = 1#1) : IsReal x := by
  rw [top_eq] at h
  apply isReal_of_abs_lt
  by_contra hn
  simp [Ideal.cmp, hn] at h

theorem fin_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) :
    FfnBwdSpec.Fin' (FfnBwd.ops m c) where
  da r j := real_of_lt (congrFun (h c).1 (ix2 r j))
  dg r j := real_of_lt (congrFun (h c).2.1 (ix2 r j))
  nw j := real_of_lt (congrFun (h c).2.2.1 (ix2 0 j))
  sc j := real_of_lt (by
    have e := congrFun (h c).2.2.2.1 (ix2 0 j)
    rw [← e]
    refine congrArg (fun q => Ideal.cmp .olt (max q (-q)) (Ideal.ofBits .f32 0x7F800000#32)) ?_
    exact congrArg (m (c.tc.loc Cert.KernelIdeal.main_arg5)) (by funext a; match a with | ⟨0, _⟩ => rfl | ⟨1, _⟩ => exact Fin.ext (by show j.val = 0 + j.val; omega)))
  w j k := real_of_lt (congrFun (h c).2.2.2.2.1 (ix2 j k))
  tap i j := real_of_lt (congrFun (h c).2.2.2.2.2 (ix2 i j))

theorem frame_ref : Cert.quiescent_ReferenceIdeal (hReferenceIdeal := Cert.ReferenceIdeal.Gen.facts) := fun m ρ _ =>
  (θ_run Cert.ReferenceIdeal.defs _ _).mono (fun r h => ⟨fun c => (h c).2.2.2.2.2,
    Idealize.ShloMosaic.sem_eq_zero_of_no_sems (by decide) r.2⟩) (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hm
  have hops : ∀ c : Dev Cert.KernelIdeal.nD, FfnBwd.ops m c = FfnBwdRef.ops
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) := by
    intro c
    obtain ⟨h0, h1, h2, h3, h4, h5, h6, h7⟩ := hm c
    rw [h0, h1, h2, h3, h4, h5, h6, h7]
    rfl
  have hI := fun c => fin_of_pre m hpre c
  refine ⟨FfnBwd.arr10 m, FfnBwd.arr11 m, FfnBwd.arr12 m, FfnBwd.arr13 m, FfnBwd.arr14 m, ?_, ?_⟩
  · refine (θ_run Cert.KernelIdeal.defs _ _).mono (fun r h c => ?_) (Cert.KernelIdeal.Value.run_blocks (F := Ideal) m ρ)
    obtain ⟨h0, h1, h2, h3, h4, hargs⟩ := h c
    exact ⟨h0.trans (FfnBwd.final10 m c), h1.trans (FfnBwd.final11 m c), h2.trans (FfnBwd.final12 m c),
      h3.trans (FfnBwd.final13 m c (hI c)), h4.trans (FfnBwd.final14 m c (hI c)), hargs⟩
  · refine (θ_run Cert.ReferenceIdeal.defs _ _).mono (fun r h c => ?_) (Cert.ReferenceIdeal.Value.run (F := Ideal) m' ρ')
    obtain ⟨h0, h1, h2, h3, h4, hargs⟩ := h c
    have hIc := hI c
    rw [hops c] at hIc
    refine ⟨h0.trans ((Cert.ReferenceIdeal.Read.val_main_v110_eq m' c).trans ?_), h1.trans ((Cert.ReferenceIdeal.Read.val_main_v111_eq _ _ _).trans ?_),
      h2.trans ((Cert.ReferenceIdeal.Read.val_main_v112_eq _ _ _).trans ?_), h3.trans ((Cert.ReferenceIdeal.Read.val_main_v109_eq _ _ _ _ _ _).trans ?_),
      h4.trans ((Cert.ReferenceIdeal.Read.val_main_v88_eq m' c).trans ?_), hargs⟩
    · funext y
      obtain ⟨r, j, rfl⟩ : ∃ (r : Fin 8192) (j : Fin 1024), y = ix2 r j := ⟨y 0, y 1, eq_ix2 y⟩
      refine (FfnBwdRef.v110_apply (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) hIc r j).trans ?_
      exact congrArg (fun q => FfnBwdSpec.dx1 q r j) (hops c).symm
    · funext y
      obtain ⟨r, j, rfl⟩ : ∃ (r : Fin 8192) (j : Fin 5632), y = ix2 r j := ⟨y 0, y 1, eq_ix2 y⟩
      refine (FfnBwdRef.v111_apply (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) r j).trans ?_
      exact congrArg (fun q => FfnBwdSpec.dag q r j) (hops c).symm
    · funext y
      obtain ⟨r, j, rfl⟩ : ∃ (r : Fin 8192) (j : Fin 1024), y = ix2 r j := ⟨y 0, y 1, eq_ix2 y⟩
      refine (FfnBwdRef.v112_apply (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) r j).trans ?_
      exact congrArg (fun q => FfnBwdSpec.h2 q r j) (hops c).symm
    · funext y
      obtain ⟨r, j, rfl⟩ : ∃ (r : Fin 1) (j : Fin 1024), y = ix2 r j := ⟨y 0, y 1, eq_ix2 y⟩
      obtain rfl : r = 0 := Subsingleton.elim _ _
      refine (FfnBwdRef.v109_apply (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) hIc j).trans ?_
      exact congrArg (fun q => FfnBwdSpec.dnw q j) (hops c).symm
    · funext y
      obtain ⟨i, j, rfl⟩ : ∃ (i : Fin 6) (j : Fin 1024), y = ix2 i j := ⟨y 0, y 1, eq_ix2 y⟩
      refine (FfnBwdRef.v88_apply (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) hIc i j).trans ?_
      exact congrArg (fun q => FfnBwdSpec.dmod q i j) (hops c).symm

end Cert.FfnBwdClaim
-- ==== Proof.FfnFwdIn.lean ====
/- What the feed-forward forward kernel's input windows hold at a grid point, as entries of the argument arrays. -/
module

public import proofs.«01_k».proof.Proof.Gen.KernelFwdIdeal.Value
public import Idealize.ShloMosaic.Lib.Pointwise

@[expose] public section

noncomputable section

namespace Cert.FfnFwd

open Cert.KernelFwdIdeal Cert.KernelFwdIdeal.Gen Idealize.ShloMosaic Idealize.ShloMosaic.TcCoe Idealize.SL.Sem
open Idealize.ShloMosaic.Pipeline (Dat)

variable (m : (ℓ : Loc nD τ sig) → Buf (Elt Ideal) ℓ)

/-! ### Where each window's block lies -/

theorem at0 : ∀ t : Fin grid0.N, win0_0.index t 0 = t.val ∧ win0_0.index t 1 = 0 := by decide +kernel
theorem at1 : ∀ t : Fin grid0.N, win0_1.index t 0 = 16 * t.val - 1 ∧ win0_1.index t 1 = 0 := by decide +kernel
theorem at2 : ∀ t : Fin grid0.N, win0_2.index t 0 = min (16 * t.val + 16) 1023 ∧ win0_2.index t 1 = 0 := by decide +kernel
theorem at3 : ∀ t : Fin grid0.N, win0_3.index t 0 = t.val ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel
theorem at10 : ∀ t : Fin grid0.N, win0_10.index t 0 = 0 ∧ win0_10.index t 1 = 0 := by decide +kernel
theorem at11 : ∀ t : Fin grid0.N, win0_11.index t 0 = 0 ∧ win0_11.index t 1 = 0 := by decide +kernel
theorem at12 : ∀ t : Fin grid0.N, win0_12.index t 0 = 0 ∧ win0_12.index t 1 = 0 := by decide +kernel

theorem points : grid0.N = 64 := by decide +kernel

theorem point_lt (t : Fin cfg0.N) : t.val < 64 := lt_of_lt_of_eq t.isLt points

theorem coord_eq : ∀ t : Fin grid0.N, (grid0.coords t 0).val = t.val := by decide +kernel

/-- Row `r` of tile `t` of the 8192 rows. -/
abbrev row (t : Fin cfg0.N) (r : Fin 128) : Fin 8192 :=
  ⟨128 * t.val + r.val, by have := point_lt t; have := r.isLt; omega⟩

/-! ### The host's preparation of the weights -/

/-- The linear half of the up projection reaches the kernel transposed twice and cast. -/
theorem V_wa (c : Dev nD) (k : Fin 1024) (j : Fin 2816) :
    (V m c main_v4 : Vec Ideal S1024x2816 .bf16) (ix2 k j) = m ((c : Thread nD τ).loc main_arg4) (ix2 k ⟨j.val, by omega⟩) := by
  have h : V m c main_v4 = transpose S1024x2816 [1, 0] (extractStridedSlice S2816x1024 ![0, 0] (truncf (F := Ideal) (φ := .f32) .bf16 (transpose S5632x1024 [1, 0] (m ((c : Thread nD τ).loc main_arg4)) transposes_S1024x5632_S5632x1024_1_0) bitsLt_bf16_f32) slices_S5632x1024_S2816x1024_0_0) transposes_S2816x1024_S1024x2816_1_0 := by
    show StableHlo.after hostOps0 (fun b => m (c, b)) (Proc.devRef .tc main_v4) = _
    unfold hostOps0
    simp only [StableHlo.after_cons, StableHlo.after_nil]
    rfl
  rw [h]
  pointwise

/-- The gate half of the up projection reaches the kernel transposed twice and cast. -/
theorem V_wg (c : Dev nD) (k : Fin 1024) (j : Fin 2816) :
    (V m c main_v6 : Vec Ideal S1024x2816 .bf16) (ix2 k j) = m ((c : Thread nD τ).loc main_arg4) (ix2 k ⟨2816 + j.val, by omega⟩) := by
  have h : V m c main_v6 = transpose S1024x2816 [1, 0] (extractStridedSlice S2816x1024 ![2816, 0] (truncf (F := Ideal) (φ := .f32) .bf16 (transpose S5632x1024 [1, 0] (m ((c : Thread nD τ).loc main_arg4)) transposes_S1024x5632_S5632x1024_1_0) bitsLt_bf16_f32) slices_S5632x1024_S2816x1024_2816_0) transposes_S2816x1024_S1024x2816_1_0 := by
    show StableHlo.after hostOps0 (fun b => m (c, b)) (Proc.devRef .tc main_v6) = _
    unfold hostOps0
    simp only [StableHlo.after_cons, StableHlo.after_nil]
    rfl
  rw [h]
  pointwise

/-- The down projection reaches the kernel cast. -/
theorem V_wd (c : Dev nD) (j : Fin 2816) (k : Fin 1024) :
    (V m c main_v2 : Vec Ideal S2816x1024 .bf16) (ix2 j k) = m ((c : Thread nD τ).loc main_arg7) (ix2 j k) := by
  have h : V m c main_v2 = truncf (F := Ideal) (φ := .f32) .bf16 (m ((c : Thread nD τ).loc main_arg7)) bitsLt_bf16_f32 := by
    show StableHlo.after hostOps0 (fun b => m (c, b)) (Proc.devRef .tc main_v2) = _
    unfold hostOps0
    simp only [StableHlo.after_cons, StableHlo.after_nil]
    rfl
  rw [h]
  pointwise

/-- The down projection reaches the kernel transposed and cast. -/
theorem V_wt (c : Dev nD) (k : Fin 1024) (j : Fin 2816) :
    (V m c main_v7 : Vec Ideal S1024x2816 .bf16) (ix2 k j) = m ((c : Thread nD τ).loc main_arg7) (ix2 j k) := by
  have h : V m c main_v7 = transpose S1024x2816 [1, 0] (truncf (F := Ideal) (φ := .f32) .bf16 (m ((c : Thread nD τ).loc main_arg7)) bitsLt_bf16_f32) transposes_S2816x1024_S1024x2816_1_0 := by
    show StableHlo.after hostOps0 (fun b => m (c, b)) (Proc.devRef .tc main_v7) = _
    unfold hostOps0
    simp only [StableHlo.after_cons, StableHlo.after_nil]
    rfl
  rw [h]
  pointwise

/-! ### The blocks' entries -/

theorem blk0 (c : Dev nD) (t : Fin cfg0.N) (r : Fin 128) (j : Fin 1024) :
    (iblk m c 0 t : Vec Ideal S128x1024 .f32) (ix2 r j) = m ((c : Thread nD τ).loc main_arg0) (ix2 (row t r) j) := by
  unfold iblk
  rw [View.read_apply]
  refine Eq.trans (congrArg (V m c main_arg0) ?_) (congrFun (V_main_arg0 m c) _)
  funext a; apply Fin.ext
  match a with
  | ⟨0, _⟩ => show win0_0.index t 0 * 128 + 1 * r.val = 128 * t.val + r.val; rw [(at0 t).1]; omega
  | ⟨1, _⟩ => show win0_0.index t 1 * 1024 + 1 * j.val = j.val; rw [(at0 t).2]; omega

theorem blk3 (c : Dev nD) (t : Fin cfg0.N) (r : Fin 128) (j : Fin 1024) :
    (iblk m c 3 t : Vec Ideal S128x1024 .f32) (ix2 r j) = m ((c : Thread nD τ).loc main_arg1) (ix2 (row t r) j) := by
  unfold iblk
  rw [View.read_apply]
  refine Eq.trans (congrArg (V m c main_arg1) ?_) (congrFun (V_main_arg1 m c) _)
  funext a; apply Fin.ext
  match a with
  | ⟨0, _⟩ => show win0_3.index t 0 * 128 + 1 * r.val = 128 * t.val + r.val; rw [(at3 t).1]; omega
  | ⟨1, _⟩ => show win0_3.index t 1 * 1024 + 1 * j.val = j.val; rw [(at3 t).2]; omega

/-- The last row of the halo above a tile that is not the first is the row before the tile. -/
theorem blk1 (c : Dev nD) (t : Fin cfg0.N) (ht : 0 < t.val) (j : Fin 1024) (h : 128 * t.val - 1 < 8192) :
    (iblk m c 1 t : Vec Ideal S8x1024 .f32) (ix2 7 j) = m ((c : Thread nD τ).loc main_arg0) (ix2 ⟨128 * t.val - 1, h⟩ j) := by
  unfold iblk
  rw [View.read_apply]
  refine Eq.trans (congrArg (V m c main_arg0) ?_) (congrFun (V_main_arg0 m c) _)
  funext a; apply Fin.ext
  match a with
  | ⟨0, _⟩ => show win0_1.index t 0 * 8 + 1 * 7 = 128 * t.val - 1; rw [(at1 t).1]; omega
  | ⟨1, _⟩ => show win0_1.index t 1 * 1024 + 1 * j.val = j.val; rw [(at1 t).2]; omega

/-- The first row of the halo below a tile that is not the last is the row after the tile. -/
theorem blk2 (c : Dev nD) (t : Fin cfg0.N) (ht : t.val < 63) (j : Fin 1024) (h : 128 * t.val + 128 < 8192) :
    (iblk m c 2 t : Vec Ideal S8x1024 .f32) (ix2 0 j) = m ((c : Thread nD τ).loc main_arg0) (ix2 ⟨128 * t.val + 128, h⟩ j) := by
  unfold iblk
  rw [View.read_apply]
  refine Eq.trans (congrArg (V m c main_arg0) ?_) (congrFun (V_main_arg0 m c) _)
  funext a; apply Fin.ext
  match a with
  | ⟨0, _⟩ => show win0_2.index t 0 * 8 + 1 * 0 = 128 * t.val + 128; rw [(at2 t).1]; omega
  | ⟨1, _⟩ => show win0_2.index t 1 * 1024 + 1 * j.val = j.val; rw [(at2 t).2]; omega

theorem blk4 (c : Dev nD) (t : Fin cfg0.N) (r : Fin 1) (j : Fin 1024) :
    (iblk m c 4 t : Vec Ideal S1x1024 .f32) (ix2 r j) = m ((c : Thread nD τ).loc main_arg2) (ix2 r j) := by
  unfold iblk
  rw [View.read_apply]
  refine Eq.trans (congrArg (V m c main_arg2) ?_) (congrFun (V_main_arg2 m c) _)
  funext a; apply Fin.ext
  match a with
  | ⟨0, _⟩ => show win0_4.index t 0 * 1 + 1 * r.val = r.val; rw [(at4 t).1]; omega
  | ⟨1, _⟩ => show win0_4.index t 1 * 1024 + 1 * j.val = j.val; rw [(at4 t).2]; omega

theorem blk5 (c : Dev nD) (t : Fin cfg0.N) (r : Fin 6) (j : Fin 1024) :
    (iblk m c 5 t : Vec Ideal S6x1024 .f32) (ix2 r j) = m ((c : Thread nD τ).loc main_arg3) (ix2 r j) := by
  unfold iblk
  rw [View.read_apply]
  refine Eq.trans (congrArg (V m c main_arg3) ?_) (congrFun (V_main_arg3 m c) _)
  funext a; apply Fin.ext
  match a with
  | ⟨0, _⟩ => show win0_5.index t 0 * 6 + 1 * r.val = r.val; rw [(at5 t).1]; omega
  | ⟨1, _⟩ => show win0_5.index t 1 * 1024 + 1 * j.val = j.val; rw [(at5 t).2]; omega

theorem blk8 (c : Dev nD) (t : Fin cfg0.N) (r : Fin 3) (j : Fin 2816) :
    (iblk m c 8 t : Vec Ideal S3x2816 .f32) (ix2 r j) = m ((c : Thread nD τ).loc main_arg5) (ix2 r j) := by
  unfold iblk
  rw [View.read_apply]
  refine Eq.trans (congrArg (V m c main_arg5) ?_) (congrFun (V_main_arg5 m c) _)
  funext a; apply Fin.ext
  match a with
  | ⟨0, _⟩ => show win0_8.index t 0 * 3 + 1 * r.val = r.val; rw [(at8 t).1]; omega
  | ⟨1, _⟩ => show win0_8.index t 1 * 2816 + 1 * j.val = j.val; rw [(at8 t).2]; omega

theorem blk9 (c : Dev nD) (t : Fin cfg0.N) (r : Fin 1) (j : Fin 2816) :
    (iblk m c 9 t : Vec Ideal S1x2816 .f32) (ix2 r j) = m ((c : Thread nD τ).loc main_arg6) (ix2 r j) := by
  unfold iblk
  rw [View.read_apply]
  refine Eq.trans (congrArg (V m c main_arg6) ?_) (congrFun (V_main_arg6 m c) _)
  funext a; apply Fin.ext
  match a with
  | ⟨0, _⟩ => show win0_9.index t 0 * 1 + 1 * r.val = r.val; rw [(at9 t).1]; omega
  | ⟨1, _⟩ => show win0_9.index t 1 * 2816 + 1 * j.val = j.val; rw [(at9 t).2]; omega

theorem blk12 (c : Dev nD) (t : Fin cfg0.N) (r : Fin 1) (j : Fin 1024) :
    (iblk m c 12 t : Vec Ideal S1x1024 .f32) (ix2 r j) = m ((c : Thread nD τ).loc main_arg8) (ix2 r j) := by
  unfold iblk
  rw [View.read_apply]
  refine Eq.trans (congrArg (V m c main_arg8) ?_) (congrFun (V_main_arg8 m c) _)
  funext a; apply Fin.ext
  match a with
  | ⟨0, _⟩ => show win0_12.index t 0 * 1 + 1 * r.val = r.val; rw [(at12 t).1]; omega
  | ⟨1, _⟩ => show win0_12.index t 1 * 1024 + 1 * j.val = j.val; rw [(at12 t).2]; omega

theorem blk6 (c : Dev nD) (t : Fin cfg0.N) (r : Fin 1024) (j : Fin 2816) :
    (iblk m c 6 t : Vec Ideal S1024x2816 .bf16) (ix2 r j) = m ((c : Thread nD τ).loc main_arg4) (ix2 r ⟨j.val, by omega⟩) := by
  unfold iblk
  rw [View.read_apply]
  refine Eq.trans (congrArg (V m c main_v4) ?_) (V_wa m c r j)
  funext a; apply Fin.ext
  match a with
  | ⟨0, _⟩ => show win0_6.index t 0 * 1024 + 1 * r.val = r.val; rw [(at6 t).1]; omega
  | ⟨1, _⟩ => show win0_6.index t 1 * 2816 + 1 * j.val = j.val; rw [(at6 t).2]; omega

theorem blk7 (c : Dev nD) (t : Fin cfg0.N) (r : Fin 1024) (j : Fin 2816) :
    (iblk m c 7 t : Vec Ideal S1024x2816 .bf16) (ix2 r j) = m ((c : Thread nD τ).loc main_arg4) (ix2 r ⟨2816 + j.val, by omega⟩) := by
  unfold iblk
  rw [View.read_apply]
  refine Eq.trans (congrArg (V m c main_v6) ?_) (V_wg m c r j)
  funext a; apply Fin.ext
  match a with
  | ⟨0, _⟩ => show win0_7.index t 0 * 1024 + 1 * r.val = r.val; rw [(at7 t).1]; omega
  | ⟨1, _⟩ => show win0_7.index t 1 * 2816 + 1 * j.val = j.val; rw [(at7 t).2]; omega

theorem blk10 (c : Dev nD) (t : Fin cfg0.N) (r : Fin 2816) (j : Fin 1024) :
    (iblk m c 10 t : Vec Ideal S2816x1024 .bf16) (ix2 r j) = m ((c : Thread nD τ).loc main_arg7) (ix2 r j) := by
  unfold iblk
  rw [View.read_apply]
  refine Eq.trans (congrArg (V m c main_v2) ?_) (V_wd m c r j)
  funext a; apply Fin.ext
  match a with
  | ⟨0, _⟩ => show win0_10.index t 0 * 2816 + 1 * r.val = r.val; rw [(at10 t).1]; omega
  | ⟨1, _⟩ => show win0_10.index t 1 * 1024 + 1 * j.val = j.val; rw [(at10 t).2]; omega

theorem blk11 (c : Dev nD) (t : Fin cfg0.N) (r : Fin 1024) (j : Fin 2816) :
    (iblk m c 11 t : Vec Ideal S1024x2816 .bf16) (ix2 r j) = m ((c : Thread nD τ).loc main_arg7) (ix2 j r) := by
  unfold iblk
  rw [View.read_apply]
  refine Eq.trans (congrArg (V m c main_v7) ?_) (V_wt m c r j)
  funext a; apply Fin.ext
  match a with
  | ⟨0, _⟩ => show win0_11.index t 0 * 1024 + 1 * r.val = r.val; rw [(at11 t).1]; omega
  | ⟨1, _⟩ => show win0_11.index t 1 * 2816 + 1 * j.val = j.val; rw [(at11 t).2]; omega

end Cert.FfnFwd

end
-- ==== Proof.FfnFwdSpec.lean ====
/- The forward pass of the gated feed-forward block with the loss and the backward pass down to the block's two branches, as
   formulas over the extended reals. Names no program. -/
module

public import proofs.«01_k».proof.Proof.RowMath

@[expose] public section

noncomputable section

namespace Cert.FfnFwdSpec
open Idealize.ShloMosaic Cert.RowMath

/-! ### The literals -/

/-- One half. -/
def half : EReal := Ideal.ofBits .f32 0x3F000000#32
/-- The tanh's outer factor as the programs write it. -/
def c0 : EReal := Ideal.ofBits .f32 0x3F4C422A#32
/-- Half of it. -/
def hc0 : EReal := Ideal.ofBits .f32 0x3ECC422A#32
/-- The cubic term's factor, 0.044715. -/
def c1 : EReal := ((8943 / 200000 : ℝ) : EReal)
/-- Three times it. -/
def c3 : EReal := ((26829 / 200000 : ℝ) : EReal)
/-- The loss's weight of one squared error, before the square's two. -/
def lc : EReal := Ideal.div half len

theorem half_eq : half = ((1 / 2 : ℝ) : EReal) := by
  simp [half, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem three_eq : Ideal.ofBits .f32 0x40400000#32 = ((3 : ℝ) : EReal) := by
  simp [Ideal.ofBits, Ideal.ieee, -EReal.coe_mul]; norm_num

theorem c0_eq : ∃ q : ℝ, 0 < q ∧ hc0 = (q : EReal) ∧ c0 = ((2 * q : ℝ) : EReal) := by
  refine ⟨_, ?_, by simp [hc0, Ideal.ofBits, Ideal.ieee, -EReal.coe_mul]; rfl, ?_⟩
  · norm_num
  · simp [c0, Ideal.ofBits, Ideal.ieee, -EReal.coe_mul]; norm_num

theorem c1_eq : Ideal.div (Ideal.ofBits .f32 0x472EAB00#32) (Ideal.ofBits .f32 0x49742400#32) = c1 := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, Ideal.div_coe (by norm_num), ← EReal.coe_mul]
  exact congrArg _ (by norm_num)

/-! ### The pass -/

/-- The operands, entry by entry: the block's input, the target, the norm's weight, shift and scale, the residual's gate, the
up projection, the three taps and their bias, the down projection and the final norm's weight. -/
structure In where
  x : Fin 8192 → Fin 1024 → EReal
  tgt : Fin 8192 → Fin 1024 → EReal
  nw : Fin 1024 → EReal
  sh : Fin 1024 → EReal
  sc : Fin 1024 → EReal
  g2 : Fin 1024 → EReal
  w : Fin 1024 → Fin 5632 → EReal
  cw : Fin 3 → Fin 2816 → EReal
  cb : Fin 2816 → EReal
  wd : Fin 2816 → Fin 1024 → EReal
  fn : Fin 1024 → EReal

variable (I : In)

/-- The modulated norm of a row. -/
def hrow (x : Fin 1024 → EReal) (k : Fin 1024) : EReal := x k * scale x * I.nw k * (1 + I.sc k) + I.sh k
/-- The linear branch of a row. -/
def arow (x : Fin 1024 → EReal) (j : Fin 2816) : EReal := ∑ k, hrow I x k * I.w k ⟨j.val, by omega⟩
/-- The gate branch of a row. -/
def grow (x : Fin 1024 → EReal) (j : Fin 2816) : EReal := ∑ k, hrow I x k * I.w k ⟨2816 + j.val, by omega⟩

def a (r : Fin 8192) (j : Fin 2816) : EReal := arow I (I.x r) j
def g (r : Fin 8192) (j : Fin 2816) : EReal := grow I (I.x r) j
/-- The gate branch one row up, zero above the first row. -/
def gp (r : Fin 8192) (j : Fin 2816) : EReal := if h : 0 < r.val then g I ⟨r.val - 1, by omega⟩ j else 0
/-- The gate branch one row down, zero below the last row. -/
def gn (r : Fin 8192) (j : Fin 2816) : EReal := if h : r.val + 1 < 8192 then g I ⟨r.val + 1, h⟩ j else 0
/-- The gate branch's convolution. -/
def gc (r : Fin 8192) (j : Fin 2816) : EReal := I.cb j + gp I r j * I.cw 0 j + g I r j * I.cw 1 j + gn I r j * I.cw 2 j
/-- The tanh of the gate. -/
def th (r : Fin 8192) (j : Fin 2816) : EReal := Ideal.tanh (c0 * (gc I r j + c1 * (gc I r j * gc I r j * gc I r j)))
/-- The gate. -/
def ge (r : Fin 8192) (j : Fin 2816) : EReal := gc I r j * (half * (1 + th I r j))
/-- The gated branch. -/
def f (r : Fin 8192) (j : Fin 2816) : EReal := ge I r j * a I r j
/-- The block's output. -/
def ffn (r : Fin 8192) (k : Fin 1024) : EReal := ∑ j, f I r j * I.wd j k
/-- The residual sum. -/
def z (r : Fin 8192) (k : Fin 1024) : EReal := I.x r k + I.g2 k * ffn I r k
/-- The final norm. -/
def nz (r : Fin 8192) (k : Fin 1024) : EReal := z I r k * scale (z I r)
/-- The error. -/
def err (r : Fin 8192) (k : Fin 1024) : EReal := nz I r k * I.fn k - I.tgt r k
/-- The mean squared error of a row. -/
def rowLoss (r : Fin 8192) : EReal := Ideal.div (∑ k, err I r k * err I r k) len
/-- The loss. -/
def loss : EReal := half * ∑ r, rowLoss I r
/-- The gradient of the final norm's output. -/
def dy (r : Fin 8192) (k : Fin 1024) : EReal := err I r k * lc + lc * err I r k
/-- The gradient of the normalised row. -/
def d (r : Fin 8192) (k : Fin 1024) : EReal := dy I r k * I.fn k
/-- The part of the residual sum's gradient along the row. -/
def gz (r : Fin 8192) : EReal :=
  Ideal.div ((∑ k, z I r k * d I r k) * (mhalf * Ideal.div (scale (z I r)) (meanSq (z I r)))) len
/-- The gradient of the residual sum. -/
def dz (r : Fin 8192) (k : Fin 1024) : EReal := d I r k * scale (z I r) + z I r k * gz I r + gz I r * z I r k
/-- The gradient of the block's output. -/
def dffn (r : Fin 8192) (k : Fin 1024) : EReal := I.g2 k * dz I r k
/-- The gradient of the gated branch. -/
def df (r : Fin 8192) (j : Fin 2816) : EReal := ∑ k, dffn I r k * I.wd j k
/-- The gradient of the linear branch. -/
def da (r : Fin 8192) (j : Fin 2816) : EReal := ge I r j * df I r j
/-- The gradient of the gate, by the product rule, gathered. -/
def dgelu (u s t : EReal) : EReal := u * (half * (1 + t) + hc0 * s * (1 - t * t) * (1 + c3 * (s * s)))
/-- The gradient of the convolution's output. -/
def dgc (r : Fin 8192) (j : Fin 2816) : EReal := dgelu (df I r j * a I r j) (gc I r j) (th I r j)

/-- The gradient of the final norm's weight. -/
def dfn (k : Fin 1024) : EReal := ∑ r, nz I r k * dy I r k
/-- The gradient of the residual's gate. -/
def dg2 (k : Fin 1024) : EReal := ∑ r, dz I r k * ffn I r k
/-- The gradient of the taps' bias. -/
def dcb (j : Fin 2816) : EReal := ∑ r, dgc I r j
/-- The row a tap reads. -/
def tapped (i : Fin 3) (r : Fin 8192) (j : Fin 2816) : EReal := if i = 0 then gp I r j else if i = 1 then g I r j else gn I r j
/-- The gradient of the taps. -/
def dcw (i : Fin 3) (j : Fin 2816) : EReal := ∑ r, dgc I r j * tapped I i r j

/-! ### Tiles of 128 rows -/

/-- Row `r` of tile `t`. -/
abbrev row (t : Fin 64) (r : Fin 128) : Fin 8192 := ⟨128 * t.val + r.val, by omega⟩

/-- One tile's part of a sum over the rows; nothing past the last tile. -/
def tile (q : Fin 8192 → EReal) (s : ℕ) : EReal := if h : s < 64 then ∑ r, q (row ⟨s, h⟩ r) else 0

theorem tile_eq (q : Fin 8192 → EReal) (t : Fin 64) : tile q t.val = ∑ r, q (row t r) := dif_pos t.isLt

/-- A per-tile value summed over the tiles before the `n`-th. -/
def upto (p : ℕ → EReal) (n : ℕ) : EReal := ∑ s ∈ Finset.range n, p s

theorem upto_one (p : ℕ → EReal) : upto p 1 = p 0 := Finset.sum_range_one _

theorem upto_succ (p : ℕ → EReal) (n : ℕ) : upto p (n + 1) = upto p n + p n := Finset.sum_range_succ _ _

/-- A sum over the rows is the sum over the tiles of the tiles' sums. -/
theorem upto_tile (q : Fin 8192 → EReal) : upto (tile q) 64 = ∑ r, q r := by
  rw [Fin.sum_univ_tiles 64 128 (by norm_num) q]
  unfold upto
  rw [Finset.sum_range]
  refine Finset.sum_congr rfl fun t _ => ?_
  rw [tile_eq]
  refine Finset.sum_congr rfl fun r _ => congrArg q (Fin.ext ?_)
  show 128 * t.val + r.val = _
  simp only [mul_comm]

/-! ### Finite operands -/

theorem IsReal.sub {x y : EReal} (hx : IsReal x) (hy : IsReal y) : IsReal (x - y) := by
  obtain ⟨p, rfl⟩ := hx; obtain ⟨q, rfl⟩ := hy; exact ⟨p - q, (EReal.coe_sub p q).symm⟩

theorem div_len_real {x : EReal} (hx : IsReal x) : IsReal (Ideal.div x len) := by
  rw [div_len]; exact hx.mul (IsReal.coe _)

theorem tanh_real {x : EReal} (hx : IsReal x) : IsReal (Ideal.tanh x) := by
  obtain ⟨p, rfl⟩ := hx; exact ⟨Real.tanh p, rfl⟩

/-- The operands the agreement needs finite. -/
structure Fin' : Prop where
  tgt : ∀ r k, IsReal (I.tgt r k)
  g2 : ∀ k, IsReal (I.g2 k)
  fn : ∀ k, IsReal (I.fn k)

variable {I}

theorem one_real : IsReal (1 : EReal) := ⟨1, rfl⟩
theorem half_real : IsReal half := ⟨_, half_eq⟩
theorem lc_real : IsReal lc := div_len_real half_real
theorem c0_real : IsReal c0 := by obtain ⟨q, _, _, h⟩ := c0_eq; exact ⟨_, h⟩

theorem err_real (hI : Fin' I) (r : Fin 8192) (k : Fin 1024) : IsReal (err I r k) :=
  IsReal.sub ((normed_real (z I r) k).mul (hI.fn k)) (hI.tgt r k)

theorem rowLoss_real (hI : Fin' I) (r : Fin 8192) : IsReal (rowLoss I r) :=
  div_len_real (IsReal.sum fun k _ => (err_real hI r k).mul (err_real hI r k))

theorem dy_real (hI : Fin' I) (r : Fin 8192) (k : Fin 1024) : IsReal (dy I r k) :=
  ((err_real hI r k).mul lc_real).add (lc_real.mul (err_real hI r k))

theorem d_real (hI : Fin' I) (r : Fin 8192) (k : Fin 1024) : IsReal (d I r k) := (dy_real hI r k).mul (hI.fn k)

theorem dz_real (hI : Fin' I) (r : Fin 8192) (k : Fin 1024) : IsReal (dz I r k) := by
  have h : dz I r k = normGrad (z I r) (d I r) k := (normGrad_eq (z I r) (d I r) (fun k => d_real hI r k) k).symm
  rw [h]
  exact (scale_real _).mul (IsReal.sub (d_real hI r k) ((normed_real _ k).mul
    (div_len_real (IsReal.sum fun k _ => (d_real hI r k).mul (normed_real _ k)))))

/-- Where the residual sum's row is infinite, no gradient comes back. -/
theorem dz_zero (hI : Fin' I) (r : Fin 8192) (h0 : scale (z I r) = 0) (k : Fin 1024) : dz I r k = 0 := by
  have h : dz I r k = normGrad (z I r) (d I r) k := (normGrad_eq (z I r) (d I r) (fun k => d_real hI r k) k).symm
  rw [h]; unfold normGrad; rw [h0, zero_mul]

/-! ### Where a finite result has finite parts -/

theorem real_of_add {x y : EReal} (h : IsReal (x + y)) : IsReal x ∧ IsReal y := by
  rw [isReal_iff] at h
  rw [isReal_iff, isReal_iff]
  induction x with
  | bot => simp at h
  | top => induction y with
    | bot => simp at h
    | top => simp at h
    | coe y => simp at h
  | coe x => induction y with
    | bot => simp at h
    | top => simp at h
    | coe y => simp

theorem real_of_mul {x y : EReal} (h : IsReal (x * y)) (hx : x ≠ 0) : IsReal y := by
  rw [isReal_iff] at h ⊢
  refine ⟨?_, ?_⟩
  · rintro rfl
    rcases lt_or_gt_of_ne hx with h0 | h0
    · exact h.2 (EReal.mul_top_of_neg h0)
    · exact h.1 (EReal.mul_top_of_pos h0)
  · rintro rfl
    rcases lt_or_gt_of_ne hx with h0 | h0
    · exact h.1 (EReal.mul_bot_of_neg h0)
    · exact h.2 (EReal.mul_bot_of_pos h0)

theorem real_of_sum {ι : Type*} {s : Finset ι} {q : ι → EReal} (h : IsReal (∑ k ∈ s, q k)) (k : ι) (hk : k ∈ s) :
    IsReal (q k) := by
  classical
  rw [← Finset.add_sum_erase s q hk] at h
  exact (real_of_add h).1

/-- Where the gated branch is not zero and the residual sum's row is finite, a column of the down projection that the
gradient reads is finite, and so is its product with the gated branch. -/
theorem wd_real {r : Fin 8192} {j : Fin 2816} {k : Fin 1024} (hz : IsReal (z I r k)) (hg : I.g2 k ≠ 0) :
    IsReal (f I r j * I.wd j k) := by
  have h1 : IsReal (ffn I r k) := real_of_mul (real_of_add hz).2 hg
  unfold ffn at h1
  exact real_of_sum h1 j (Finset.mem_univ j)

/-- The gradient that reaches a branch's product with the other branch is finite wherever the gate is finite and not zero. -/
theorem u_real (hI : Fin' I) (r : Fin 8192) (j : Fin 2816) (hge : IsReal (ge I r j)) (h0 : ge I r j ≠ 0) :
    IsReal (df I r j * a I r j) := by
  by_cases ha : a I r j = 0
  · rw [ha, mul_zero]; exact IsReal.zero
  have hf : f I r j ≠ 0 := mul_ne_zero h0 ha
  rcases scale_cases (z I r) with ⟨y, hy, -⟩ | ⟨-, hs⟩
  · have hw : ∀ k, I.g2 k ≠ 0 → IsReal (f I r j * I.wd j k) := fun k hk => wd_real ⟨y k, hy k⟩ hk
    by_cases hr : IsReal (a I r j)
    · refine IsReal.mul (IsReal.sum fun k _ => ?_) hr
      unfold dffn
      by_cases hk : I.g2 k = 0
      · rw [hk, zero_mul, zero_mul]; exact IsReal.zero
      · exact ((hI.g2 k).mul (dz_real hI r k)).mul (real_of_mul (hw k hk) hf)
    · have : df I r j = 0 := Finset.sum_eq_zero fun k _ => by
        unfold dffn
        by_cases hk : I.g2 k = 0
        · rw [hk, zero_mul, zero_mul]
        · have h1 : I.wd j k = 0 := by
            by_contra hn
            have h2 := hw k hk
            rw [mul_comm] at h2
            exact hr (real_of_mul (real_of_mul h2 hn) h0)
          rw [h1, mul_zero]
      rw [this, zero_mul]; exact IsReal.zero
  · have : df I r j = 0 := Finset.sum_eq_zero fun k _ => by
      unfold dffn
      rw [dz_zero hI r hs, mul_zero, zero_mul]
    rw [this, zero_mul]; exact IsReal.zero

/-! ### Where the two programs write different formulas -/

/-- The loss accumulated tile by tile. -/
theorem loss_tiles (hI : Fin' I) : upto (fun s => half * tile (rowLoss I) s) 64 = loss I := by
  have h : ∀ s, IsReal (tile (rowLoss I) s) := fun s => by
    unfold tile; split
    · exact IsReal.sum fun r _ => rowLoss_real hI _
    · exact IsReal.zero
  unfold upto loss
  rw [← upto_tile]
  unfold upto
  simp only [mul_comm half]
  exact sum_mul_real half_real fun s _ => h s

/-- The error's gradient through its square. -/
theorem dy_eq (hI : Fin' I) (r : Fin 8192) (k : Fin 1024) :
    lc * (Ideal.ofBits .f32 0x40000000#32 * err I r k) = dy I r k := by
  unfold dy
  obtain ⟨e, he⟩ := err_real hI r k
  obtain ⟨l, hl⟩ := lc_real
  rw [he, hl, two_eq, ← EReal.coe_mul, ← EReal.coe_mul, ← EReal.coe_mul, ← EReal.coe_mul, ← EReal.coe_add]
  exact congrArg _ (by ring)

/-- The gate's gradient as the chain rule gives it, term by term. -/
theorem dgelu_eq {u s t : EReal} (hu : IsReal u) (hs : IsReal s) (ht : IsReal t) :
    u * (half * (1 + t)) + c0 * (half * (s * u) * ((1 + t) * (1 - t)))
      + c1 * (c0 * (half * (s * u) * ((1 + t) * (1 - t)))) * (Ideal.ofBits .f32 0x40400000#32 * (s * s)) = dgelu u s t := by
  obtain ⟨u, rfl⟩ := hu; obtain ⟨s, rfl⟩ := hs; obtain ⟨t, rfl⟩ := ht
  obtain ⟨q, -, h1, h2⟩ := c0_eq
  unfold dgelu c1 c3
  rw [h1, h2, half_eq, three_eq]
  have e : (1 : EReal) = ((1 : ℝ) : EReal) := rfl
  rw [e]
  simp only [← EReal.coe_mul, ← EReal.coe_sub, ← EReal.coe_add]
  exact congrArg _ (by ring)

/-- The tanh's argument. -/
def targ (s : EReal) : EReal := c0 * (s + c1 * (s * s * s))

theorem targ_top : targ ⊤ = ⊤ := by
  obtain ⟨q, hq, -, h⟩ := c0_eq
  have h1 : c1 * ⊤ = ⊤ := EReal.coe_mul_top_of_pos (by norm_num)
  unfold targ
  rw [EReal.top_mul_top, EReal.top_mul_top, h1, EReal.top_add_top, h]
  exact EReal.coe_mul_top_of_pos (by linarith)

theorem targ_bot : targ ⊥ = ⊥ := by
  obtain ⟨q, hq, -, h⟩ := c0_eq
  have h1 : c1 * ⊥ = ⊥ := EReal.coe_mul_bot_of_pos (by norm_num)
  unfold targ
  rw [EReal.bot_mul_bot, EReal.top_mul_bot, h1, EReal.bot_add, h]
  exact EReal.coe_mul_bot_of_pos (by linarith)

theorem targ_zero : targ 0 = 0 := by simp [targ]

theorem one_sub_one : (1 : EReal) - 1 = 0 := by
  have e : (1 : EReal) = ((1 : ℝ) : EReal) := rfl
  rw [e, ← EReal.coe_sub, sub_self]; rfl

theorem one_add_neg_one : (1 : EReal) + -1 = 0 := by
  rw [← sub_eq_add_neg]; exact one_sub_one

/-- The gate's gradient as the chain rule gives it is the gathered one, at every row and column: where the gate's argument
is finite and not zero the incoming gradient is finite, and elsewhere the two forms agree whatever comes in. -/
theorem dgelu_row (hI : Fin' I) (r : Fin 8192) (j : Fin 2816) :
    df I r j * a I r j * (half * (1 + th I r j))
      + c0 * (half * (gc I r j * (df I r j * a I r j)) * ((1 + th I r j) * (1 - th I r j)))
      + c1 * (c0 * (half * (gc I r j * (df I r j * a I r j)) * ((1 + th I r j) * (1 - th I r j))))
        * (Ideal.ofBits .f32 0x40400000#32 * (gc I r j * gc I r j)) = dgc I r j := by
  have ht : th I r j = Ideal.tanh (targ (gc I r j)) := rfl
  unfold dgc
  by_cases hs : IsReal (gc I r j)
  · by_cases h0 : gc I r j = 0
    · rw [ht, h0, targ_zero]
      have e : Ideal.tanh 0 = 0 := by
        show Ideal.tanh ((0 : ℝ) : EReal) = 0
        rw [Ideal.tanh_coe, Real.tanh_zero]; rfl
      rw [e]
      unfold dgelu
      simp only [zero_mul, mul_zero, add_zero]
    · obtain ⟨s, hse⟩ := hs
      obtain ⟨p, hp⟩ : IsReal (targ (gc I r j)) := by
        rw [hse]
        exact c0_real.mul ((IsReal.coe s).add ((IsReal.coe _).mul (((IsReal.coe s).mul (IsReal.coe s)).mul (IsReal.coe s))))
      have hte : th I r j = ((Real.tanh p : ℝ) : EReal) := by rw [ht, hp, Ideal.tanh_coe]
      have hge : ge I r j = ((s * (1 / 2 * (1 + Real.tanh p)) : ℝ) : EReal) := by
        unfold ge
        rw [hse, hte, half_eq, EReal.coe_mul, EReal.coe_mul, EReal.coe_add]; rfl
      have hs0 : s ≠ 0 := fun h => h0 (by rw [hse, h]; rfl)
      have hpos : 0 < 1 / 2 * (1 + Real.tanh p) := by have := Real.neg_one_lt_tanh p; linarith
      refine dgelu_eq (u_real hI r j ⟨_, hge⟩ ?_) ⟨s, hse⟩ ⟨_, hte⟩
      rw [hge]
      exact fun h => mul_ne_zero hs0 hpos.ne' (EReal.coe_eq_zero.mp h)
  · rw [ht]
    generalize df I r j * a I r j = u
    have h : gc I r j = ⊤ ∨ gc I r j = ⊥ := by
      by_contra hn
      exact hs (isReal_iff.mpr ⟨fun e => hn (Or.inl e), fun e => hn (Or.inr e)⟩)
    unfold dgelu
    rcases h with h | h
    · rw [h, targ_top, Ideal.tanh_top]
      simp only [mul_one, one_sub_one, mul_zero, zero_mul, add_zero]
    · rw [h, targ_bot, Ideal.tanh_bot]
      have e : (-1 : EReal) * -1 = 1 := by rw [EReal.neg_mul, one_mul, neg_neg]
      simp only [one_add_neg_one, e, one_sub_one, mul_zero, zero_mul, add_zero]

/-- The convolution summed in the other order. -/
theorem gc_eq (r : Fin 8192) (j : Fin 2816) :
    gp I r j * I.cw 0 j + g I r j * I.cw 1 j + gn I r j * I.cw 2 j + I.cb j = gc I r j := by
  unfold gc
  rw [add_comm, ← add_assoc, ← add_assoc]

end Cert.FfnFwdSpec

end
-- ==== Proof.FfnFwdPay.lean ====
/- The feed-forward forward kernel's arithmetic, entry by entry, over any blocks. -/
module

public import proofs.«01_k».proof.Proof.FfnFwdIn
public import proofs.«01_k».proof.Proof.FfnFwdSpec

@[expose] public section

noncomputable section

namespace Cert.FfnFwd

open Cert.KernelFwdIdeal Cert.KernelFwdIdeal.Gen Idealize.ShloMosaic Idealize.ShloMosaic.TcCoe Idealize.SL.Sem
open Cert.RowMath Cert.FfnFwdSpec

theorem first_row : ∀ r : Fin 128, IntOp.cmpi CmpIPredicate.eq (BitVec.ofNat 32 r.val) 0#32 = if r.val = 0 then 1#1 else 0#1 := by
  decide +kernel
theorem last_row : ∀ r : Fin 128, IntOp.cmpi CmpIPredicate.eq (BitVec.ofNat 32 r.val) 127#32 = if r.val = 127 then 1#1 else 0#1 := by
  decide +kernel
theorem not_first : ∀ t : Fin grid0.N, Scalar.cmpi CmpIPredicate.sgt (BitVec.ofNat 32 (grid0.coords t 0).val) 0#32
    = if 0 < t.val then 1#1 else 0#1 := by
  decide +kernel
theorem not_last : ∀ t : Fin grid0.N, Scalar.cmpi CmpIPredicate.slt (BitVec.ofNat 32 (grid0.coords t 0).val) 63#32
    = if t.val < 63 then 1#1 else 0#1 := by
  decide +kernel

theorem select_if {α : Type} (p : Prop) [Decidable p] (a b : α) :
    Scalar.select (if p then 1#1 else 0#1) a b = if p then a else b := by
  split <;> rfl

theorem pay7_apply (v3 v4 v5 : Vec Ideal S1x1024 .f32) (v7 : Vec Ideal S128x1024 .f32) (r : Fin 128) (k : Fin 1024) :
    k0_pay7 v3 v4 v5 v7 (ix2 r k)
      = v7 (ix2 r k) * scale (fun q => v7 (ix2 r q)) * v3 (ix2 0 k) * (1 + v5 (ix2 0 k)) + v4 (ix2 0 k) := by
  unfold k0_pay7
  pointwise
  rfl

theorem pay8_apply (v : Vec Ideal S8x1024 .f32) (r : Fin 8) (k : Fin 1024) :
    k0_pay8 v (ix2 r k) = v (ix2 r k) * scale (fun q => v (ix2 r q)) := by
  unfold k0_pay8
  pointwise
  rfl

theorem pay9_apply (h : FVec Ideal S128x1024 .f32) (w : Vec Ideal S1024x2816 .bf16) (r : Fin 128) (j : Fin 2816) :
    k0_pay9 h w (ix2 r j) = ∑ k : Fin 1024, h (ix2 r k) * w (ix2 k j) := by
  unfold k0_pay9
  pointwise

section Gate
variable (v3 v4 v5 : Vec Ideal S1x1024 .f32) (v25 : FVec Ideal S128x1024 .f32) (v36 : FVec Ideal S8x1024 .f32)
  (v45 : Vec Ideal S8x1024 .f32) (w : Vec Ideal S1024x2816 .bf16)

theorem pay11_apply (r : Fin 128) (j : Fin 2816) :
    k0_pay11 v3 v4 v5 v25 v36 v45 w (ix2 r j) = ∑ k : Fin 1024, v25 (ix2 r k) * w (ix2 k j) := by
  unfold k0_pay11 k0_pay10
  pointwise

theorem pay12_apply (arg0 : BitVec 32) (j : Fin 2816) :
    k0_pay12 arg0 v3 v4 v5 v25 v36 v45 w (ix2 0 j)
      = (∑ k : Fin 1024, (v36 (ix2 7 k) * v3 (ix2 0 k) * (1 + v5 (ix2 0 k)) + v4 (ix2 0 k)) * w (ix2 k j))
        * Scalar.select (Scalar.cmpi CmpIPredicate.sgt arg0 0#32) (1 : EReal) 0 := by
  unfold k0_pay12 k0_pay10
  pointwise

theorem pay13_apply (j : Fin 2816) :
    k0_pay13 v3 v4 v5 v25 v36 v45 w (ix2 0 j)
      = ∑ k : Fin 1024, (v45 (ix2 0 k) * scale (fun q => v45 (ix2 0 q)) * v3 (ix2 0 k) * (1 + v5 (ix2 0 k)) + v4 (ix2 0 k)) * w (ix2 k j) := by
  unfold k0_pay13 k0_pay10
  pointwise
  rfl
end Gate

theorem pay14_apply (g : FVec Ideal S128x2816 .f32) (u : FVec Ideal S1x2816 .f32) (r : Fin 128) (j : Fin 2816) :
    k0_pay14 g u (ix2 r j)
      = if r.val = 0 then u (ix2 0 j) else g (ix2 ⟨(r.val + 128 - 1) % 128, Nat.mod_lt _ (by norm_num)⟩ j) := by
  unfold k0_pay14
  pointwise
  rw [first_row, select_if]

theorem pay15_apply (arg0 : BitVec 32) (g : FVec Ideal S128x2816 .f32) (d : FVec Ideal S1x2816 .f32) (r : Fin 128) (j : Fin 2816) :
    k0_pay15 arg0 g d 63#32 (ix2 r j)
      = if r.val = 127 then d (ix2 0 j) * Scalar.select (Scalar.cmpi CmpIPredicate.slt arg0 63#32) (1 : EReal) 0
        else g (ix2 ⟨(r.val + 128 - 127) % 128, Nat.mod_lt _ (by norm_num)⟩ j) := by
  unfold k0_pay15
  pointwise
  rw [last_row, select_if]

theorem pay16_apply (arg0 c63 : BitVec 32) (g : FVec Ideal S128x2816 .f32) (u d : FVec Ideal S1x2816 .f32)
    (b w0 w1 w2 : Vec Ideal S1x2816 .f32) (r : Fin 128) (j : Fin 2816) :
    k0_pay16 arg0 g u d c63 b w0 w1 w2 (ix2 r j)
      = b (ix2 0 j) + k0_pay14 g u (ix2 r j) * w0 (ix2 0 j) + g (ix2 r j) * w1 (ix2 0 j)
        + k0_pay15 arg0 g d c63 (ix2 r j) * w2 (ix2 0 j) := by
  unfold k0_pay16
  pointwise

section Gelu
variable (a u : FVec Ideal S128x2816 .f32)

theorem pay20_apply (r : Fin 128) (j : Fin 2816) :
    k0_pay20 u (ix2 r j)
      = Ideal.tanh (c0 * (u (ix2 r j) + c1 * (u (ix2 r j) * u (ix2 r j) * u (ix2 r j)))) := by
  have hc : Named.named (F := Ideal) Cert.KernelFwdIdeal.κ "gelu_c1" (φ := .f32) 0x3D372713#32 = c1 :=
    IdealRules.named_const.ideal_named_scalar _ _ _ _ rfl
  unfold k0_pay20
  pointwise
  rw [hc]
  rfl

theorem pay21_apply (r : Fin 128) (j : Fin 2816) :
    k0_pay21 u (ix2 r j) = u (ix2 r j) * (half * (1 + k0_pay20 u (ix2 r j))) := by
  unfold k0_pay21
  pointwise
  rfl

theorem pay22_apply (r : Fin 128) (j : Fin 2816) :
    k0_pay22 a u (ix2 r j) = k0_pay21 u (ix2 r j) * a (ix2 r j) := by
  unfold k0_pay22
  pointwise

theorem pay39_apply (t e : FVec Ideal S128x2816 .f32) (r : Fin 128) (j : Fin 2816) :
    k0_pay39 a u t e (ix2 r j) = dgelu (e (ix2 r j) * a (ix2 r j)) (u (ix2 r j)) (t (ix2 r j)) := by
  have hc : Named.named (F := Ideal) Cert.KernelFwdIdeal.κ "gelu_c3" (φ := .f32) 0x3E095D4F#32 = c3 :=
    IdealRules.named_const.ideal_named_scalar _ _ _ _ rfl
  unfold k0_pay39
  pointwise
  rw [hc]
  rfl
end Gelu

section Down
variable (v6 : Vec Ideal S1x1024 .f32) (v7 : Vec Ideal S128x1024 .f32) (a u : FVec Ideal S128x2816 .f32)
  (fw : Vec Ideal S1x1024 .f32) (wd : Vec Ideal S2816x1024 .bf16) (tg : Vec Ideal S128x1024 .f32)

theorem pay23_apply (r : Fin 128) (k : Fin 1024) :
    k0_pay23 a u (k0_pay17 (F := Ideal)) (k0_pay18 wd) (ix2 r k) = ∑ j : Fin 2816, k0_pay22 a u (ix2 r j) * wd (ix2 j k) := by
  unfold k0_pay23 k0_pay17 k0_pay18
  pointwise

variable (o : FVec Ideal S128x1024 .f32) (w : FVec Ideal S2816x1024 .bf16)

theorem pay24_apply (r : Fin 128) (k : Fin 1024) :
    k0_pay24 v6 v7 a u o w (ix2 r k) = v7 (ix2 r k) + v6 (ix2 0 k) * k0_pay23 a u o w (ix2 r k) := by
  unfold k0_pay24
  pointwise

theorem pay25_apply (r : Fin 128) :
    k0_pay25 v6 v7 a u o w (ix2 r 0) = meanSq (fun k => k0_pay24 v6 v7 a u o w (ix2 r k)) := by
  unfold k0_pay25
  pointwise
  rfl

theorem pay26_apply (r : Fin 128) :
    k0_pay26 v6 v7 a u o w (ix2 r 0) = scale (fun k => k0_pay24 v6 v7 a u o w (ix2 r k)) := by
  unfold k0_pay26
  pointwise
  rw [pay25_apply]
  rfl

theorem pay27_apply (r : Fin 128) :
    k0_pay27 v6 v7 a u o w (ix2 r 0) = mhalf * Ideal.div (scale (fun k => k0_pay24 v6 v7 a u o w (ix2 r k)))
      (meanSq (fun k => k0_pay24 v6 v7 a u o w (ix2 r k))) := by
  unfold k0_pay27
  pointwise
  rw [pay25_apply, pay26_apply]
  rfl

theorem pay28_apply (r : Fin 128) (k : Fin 1024) :
    k0_pay28 v6 v7 a u o w (ix2 r k)
      = k0_pay24 v6 v7 a u o w (ix2 r k) * scale (fun q => k0_pay24 v6 v7 a u o w (ix2 r q)) := by
  unfold k0_pay28
  pointwise
  rw [pay26_apply]

theorem pay29_apply (r : Fin 128) (k : Fin 1024) :
    k0_pay29 v6 v7 a u fw o w tg (ix2 r k)
      = k0_pay28 v6 v7 a u o w (ix2 r k) * fw (ix2 0 k) - tg (ix2 r k) := by
  unfold k0_pay29
  pointwise

theorem pay31_apply :
    k0_pay31 (k0_pay30 v6 v7 a u fw o w tg) (ix2 0 0)
      = half * ∑ r : Fin 128, Ideal.div (∑ k : Fin 1024, k0_pay29 v6 v7 a u fw o w tg (ix2 r k) * k0_pay29 v6 v7 a u fw o w tg (ix2 r k)) len := by
  unfold k0_pay31 k0_pay30
  pointwise
  rfl
end Down

section Grad
variable (fw v6 : Vec Ideal S1x1024 .f32) (z e : FVec Ideal S128x1024 .f32) (s q : FVec Ideal S128x1 .f32)
  (h : FVec Ideal S128x1024 .f32) (w : Vec Ideal S1024x2816 .bf16) (g : FVec Ideal S128x2816 .f32)

theorem pay32_apply (r : Fin 128) (k : Fin 1024) : k0_pay32 e (ix2 r k) = e (ix2 r k) * lc + lc * e (ix2 r k) := by
  unfold k0_pay32
  pointwise
  simp only [Fin.sum_univ_one]
  rfl

theorem pay33_apply (k : Fin 1024) :
    k0_pay33 z e (ix2 0 k) = ∑ r : Fin 128, z (ix2 r k) * k0_pay32 e (ix2 r k) := by
  unfold k0_pay33
  pointwise

theorem pay34_apply (r : Fin 128) (k : Fin 1024) :
    k0_pay34 fw z s q e (ix2 r k)
      = k0_pay32 e (ix2 r k) * fw (ix2 0 k) * s (ix2 r 0)
        + z (ix2 r k) * Ideal.div ((∑ k, z (ix2 r k) * (k0_pay32 e (ix2 r k) * fw (ix2 0 k))) * q (ix2 r 0)) len
        + Ideal.div ((∑ k, z (ix2 r k) * (k0_pay32 e (ix2 r k) * fw (ix2 0 k))) * q (ix2 r 0)) len * z (ix2 r k) := by
  unfold k0_pay34
  pointwise
  simp only [Fin.sum_univ_one]
  rfl

theorem pay35_apply (r : Fin 128) (k : Fin 1024) :
    k0_pay35 v6 fw z s q e (ix2 r k) = v6 (ix2 0 k) * k0_pay34 fw z s q e (ix2 r k) := by
  unfold k0_pay35
  pointwise

theorem pay36_apply (k : Fin 1024) :
    k0_pay36 fw h z s q e (ix2 0 k) = ∑ r : Fin 128, k0_pay34 fw z s q e (ix2 r k) * h (ix2 r k) := by
  unfold k0_pay36
  pointwise

theorem pay37_apply (r : Fin 128) (j : Fin 2816) :
    k0_pay37 v6 fw (k0_pay19 w) z s q e (ix2 r j) = ∑ k : Fin 1024, k0_pay35 v6 fw z s q e (ix2 r k) * w (ix2 k j) := by
  unfold k0_pay37 k0_pay19
  pointwise

theorem pay38_apply (w : FVec Ideal S1024x2816 .bf16) (r : Fin 128) (j : Fin 2816) :
    k0_pay38 v6 fw w g z s q e (ix2 r j) = g (ix2 r j) * k0_pay37 v6 fw w z s q e (ix2 r j) := by
  unfold k0_pay38
  pointwise
end Grad

section Sums
variable (p : Vec Ideal S1x2816 .f32) (g d : FVec Ideal S128x2816 .f32)

theorem pay43_apply (l : FVec Ideal S1x1 .f32) (p : Vec Ideal S1x128 .f32) (k : Fin 128) :
    k0_pay43 l p (ix2 0 k) = p (ix2 0 k) + l (ix2 0 0) := by
  unfold k0_pay43
  pointwise

theorem pay44_apply (s : FVec Ideal S1x1024 .f32) (p : Vec Ideal S1x1024 .f32) (k : Fin 1024) :
    k0_pay44 s p (ix2 0 k) = p (ix2 0 k) + s (ix2 0 k) := by
  unfold k0_pay44
  pointwise

theorem pay45_apply (s : FVec Ideal S1x1024 .f32) (p : Vec Ideal S1x1024 .f32) (k : Fin 1024) :
    k0_pay45 s p (ix2 0 k) = p (ix2 0 k) + s (ix2 0 k) := by
  unfold k0_pay45
  pointwise

theorem pay46_apply (j : Fin 2816) : k0_pay46 d p (ix2 0 j) = p (ix2 0 j) + ∑ r : Fin 128, d (ix2 r j) := by
  unfold k0_pay46
  pointwise

theorem pay47_apply (j : Fin 2816) :
    k0_pay47 g d p (ix2 0 j) = p (ix2 0 j) + ∑ r : Fin 128, d (ix2 r j) * g (ix2 r j) := by
  unfold k0_pay47
  pointwise

theorem pay48_apply (j : Fin 2816) :
    k0_pay48 g d p (ix2 0 j) = p (ix2 0 j) + ∑ r : Fin 128, d (ix2 r j) * g (ix2 r j) := by
  unfold k0_pay48
  pointwise

theorem pay1_apply (j : Fin 2816) :
    k0_pay1 (k0_pay49 p) (k0_pay50 g d) (ix2 0 j) = p (ix2 0 j) + ∑ r : Fin 128, d (ix2 r j) * g (ix2 r j) := by
  unfold k0_pay1 k0_pay49 k0_pay50
  pointwise
end Sums

end Cert.FfnFwd

end
-- ==== Proof.FfnFwdPoint.lean ====
/- The feed-forward forward kernel at one grid point: the values its body names are the specification's rows. -/
module

public import proofs.«01_k».proof.Proof.FfnFwdPay

@[expose] public section

noncomputable section

namespace Cert.FfnFwd

open Cert.KernelFwdIdeal Cert.KernelFwdIdeal.Gen Idealize.ShloMosaic Idealize.ShloMosaic.TcCoe Idealize.SL.Sem
open Cert.RowMath

variable (m : (ℓ : Loc nD τ sig) → Buf (Elt Ideal) ℓ)

/-- The argument arrays as the specification's operands. -/
def ops (c : Dev nD) : FfnFwdSpec.In where
  x r k := m ((c : Thread nD τ).loc main_arg0) (ix2 r k)
  tgt r k := m ((c : Thread nD τ).loc main_arg1) (ix2 r k)
  nw k := m ((c : Thread nD τ).loc main_arg2) (ix2 (0 : Fin 1) k)
  sh k := m ((c : Thread nD τ).loc main_arg3) (ix2 (3 : Fin 6) k)
  sc k := m ((c : Thread nD τ).loc main_arg3) (ix2 (4 : Fin 6) k)
  g2 k := m ((c : Thread nD τ).loc main_arg3) (ix2 (5 : Fin 6) k)
  w k j := m ((c : Thread nD τ).loc main_arg4) (ix2 k j)
  cw i j := m ((c : Thread nD τ).loc main_arg5) (ix2 i j)
  cb j := m ((c : Thread nD τ).loc main_arg6) (ix2 (0 : Fin 1) j)
  wd j k := m ((c : Thread nD τ).loc main_arg7) (ix2 j k)
  fn k := m ((c : Thread nD τ).loc main_arg8) (ix2 (0 : Fin 1) k)

/-- A grid point as a tile number. -/
abbrev tl (t : Fin cfg0.N) : Fin 64 := ⟨t.val, point_lt t⟩

theorem zero2 : (![0, 0] : Fin 2 → ℕ) = fun _ => 0 := by
  funext a
  match a with
  | ⟨0, _⟩ => rfl
  | ⟨1, _⟩ => rfl

/-! ### The values the body names, over the point's blocks -/

/-- The grid coordinate as the body's word. -/
def argB (t : Fin cfg0.N) : BitVec 32 := BitVec.ofNat 32 (grid0.coords t 0).val

/-- The modulation's shift, scale and gate rows. -/
def shB (c : Dev nD) (t : Fin cfg0.N) : Vec Ideal S1x1024 .f32 :=
  View.ld (iblk m c 5 t) (Rect.unit ![3, 0] ![1, 1024] inb_S6x1024_S1x1024_3_0)
def scB (c : Dev nD) (t : Fin cfg0.N) : Vec Ideal S1x1024 .f32 :=
  View.ld (iblk m c 5 t) (Rect.unit ![4, 0] ![1, 1024] inb_S6x1024_S1x1024_4_0)
def g2B (c : Dev nD) (t : Fin cfg0.N) : Vec Ideal S1x1024 .f32 :=
  View.ld (iblk m c 5 t) (Rect.unit ![5, 0] ![1, 1024] inb_S6x1024_S1x1024_5_0)
/-- The three taps. -/
def w0B (c : Dev nD) (t : Fin cfg0.N) : Vec Ideal S1x2816 .f32 :=
  View.ld (iblk m c 8 t) (Rect.unit ![0, 0] ![1, 2816] inb_S3x2816_S1x2816_0_0)
def w1B (c : Dev nD) (t : Fin cfg0.N) : Vec Ideal S1x2816 .f32 :=
  View.ld (iblk m c 8 t) (Rect.unit ![1, 0] ![1, 2816] inb_S3x2816_S1x2816_1_0)
def w2B (c : Dev nD) (t : Fin cfg0.N) : Vec Ideal S1x2816 .f32 :=
  View.ld (iblk m c 8 t) (Rect.unit ![2, 0] ![1, 2816] inb_S3x2816_S1x2816_2_0)

/-- The modulated norm of the tile, and the norm of the rows above it. -/
def hB (c : Dev nD) (t : Fin cfg0.N) : FVec Ideal S128x1024 .f32 := k0_pay7 (iblk m c 4 t) (shB m c t) (scB m c t) (iblk m c 0 t)
def pB (c : Dev nD) (t : Fin cfg0.N) : FVec Ideal S8x1024 .f32 := k0_pay8 (iblk m c 1 t)
/-- The linear branch. -/
def aB (c : Dev nD) (t : Fin cfg0.N) : FVec Ideal S128x2816 .f32 := k0_pay9 (hB m c t) (iblk m c 6 t)
/-- The gate branch on the tile, on the row above it and on the row below it. -/
def gB (c : Dev nD) (t : Fin cfg0.N) : FVec Ideal S128x2816 .f32 :=
  k0_pay11 (iblk m c 4 t) (shB m c t) (scB m c t) (hB m c t) (pB m c t) (iblk m c 2 t) (iblk m c 7 t)
def upB (c : Dev nD) (t : Fin cfg0.N) : FVec Ideal S1x2816 .f32 :=
  k0_pay12 (argB t) (iblk m c 4 t) (shB m c t) (scB m c t) (hB m c t) (pB m c t) (iblk m c 2 t) (iblk m c 7 t)
def dnB (c : Dev nD) (t : Fin cfg0.N) : FVec Ideal S1x2816 .f32 :=
  k0_pay13 (iblk m c 4 t) (shB m c t) (scB m c t) (hB m c t) (pB m c t) (iblk m c 2 t) (iblk m c 7 t)
/-- The gate branch one row up and one row down. -/
def abB (c : Dev nD) (t : Fin cfg0.N) : FVec Ideal S128x2816 .f32 := k0_pay14 (gB m c t) (upB m c t)
def beB (c : Dev nD) (t : Fin cfg0.N) : FVec Ideal S128x2816 .f32 := k0_pay15 (argB t) (gB m c t) (dnB m c t) 63#32
/-- The convolution, its tanh, the gate and the gated branch. -/
def gcB (c : Dev nD) (t : Fin cfg0.N) : FVec Ideal S128x2816 .f32 :=
  k0_pay16 (argB t) (gB m c t) (upB m c t) (dnB m c t) 63#32 (iblk m c 9 t) (w0B m c t) (w1B m c t) (w2B m c t)
def thB (c : Dev nD) (t : Fin cfg0.N) : FVec Ideal S128x2816 .f32 := k0_pay20 (gcB m c t)
def geB (c : Dev nD) (t : Fin cfg0.N) : FVec Ideal S128x2816 .f32 := k0_pay21 (gcB m c t)
def fB (c : Dev nD) (t : Fin cfg0.N) : FVec Ideal S128x2816 .f32 := k0_pay22 (aB m c t) (gcB m c t)
/-- The block's output, the residual sum, its norm's scale, the scale's derivative and the norm. -/
def ffnB (c : Dev nD) (t : Fin cfg0.N) : FVec Ideal S128x1024 .f32 :=
  k0_pay23 (aB m c t) (gcB m c t) (k0_pay17 (F := Ideal)) (k0_pay18 (iblk m c 10 t))
def zB (c : Dev nD) (t : Fin cfg0.N) : FVec Ideal S128x1024 .f32 :=
  k0_pay24 (g2B m c t) (iblk m c 0 t) (aB m c t) (gcB m c t) (k0_pay17 (F := Ideal)) (k0_pay18 (iblk m c 10 t))
def sB (c : Dev nD) (t : Fin cfg0.N) : FVec Ideal S128x1 .f32 :=
  k0_pay26 (g2B m c t) (iblk m c 0 t) (aB m c t) (gcB m c t) (k0_pay17 (F := Ideal)) (k0_pay18 (iblk m c 10 t))
def qB (c : Dev nD) (t : Fin cfg0.N) : FVec Ideal S128x1 .f32 :=
  k0_pay27 (g2B m c t) (iblk m c 0 t) (aB m c t) (gcB m c t) (k0_pay17 (F := Ideal)) (k0_pay18 (iblk m c 10 t))
def nzB (c : Dev nD) (t : Fin cfg0.N) : FVec Ideal S128x1024 .f32 :=
  k0_pay28 (g2B m c t) (iblk m c 0 t) (aB m c t) (gcB m c t) (k0_pay17 (F := Ideal)) (k0_pay18 (iblk m c 10 t))
/-- The error and the tile's loss. -/
def errB (c : Dev nD) (t : Fin cfg0.N) : FVec Ideal S128x1024 .f32 :=
  k0_pay29 (g2B m c t) (iblk m c 0 t) (aB m c t) (gcB m c t) (iblk m c 12 t) (k0_pay17 (F := Ideal)) (k0_pay18 (iblk m c 10 t)) (iblk m c 3 t)
def lossB (c : Dev nD) (t : Fin cfg0.N) : FVec Ideal S1x1 .f32 :=
  k0_pay31 (k0_pay30 (g2B m c t) (iblk m c 0 t) (aB m c t) (gcB m c t) (iblk m c 12 t) (k0_pay17 (F := Ideal)) (k0_pay18 (iblk m c 10 t)) (iblk m c 3 t))
/-- The tile's gradients. -/
def dfnB (c : Dev nD) (t : Fin cfg0.N) : FVec Ideal S1x1024 .f32 := k0_pay33 (nzB m c t) (errB m c t)
def dzB (c : Dev nD) (t : Fin cfg0.N) : FVec Ideal S128x1024 .f32 :=
  k0_pay34 (iblk m c 12 t) (zB m c t) (sB m c t) (qB m c t) (errB m c t)
def dffnB (c : Dev nD) (t : Fin cfg0.N) : FVec Ideal S128x1024 .f32 :=
  k0_pay35 (g2B m c t) (iblk m c 12 t) (zB m c t) (sB m c t) (qB m c t) (errB m c t)
def dg2B (c : Dev nD) (t : Fin cfg0.N) : FVec Ideal S1x1024 .f32 :=
  k0_pay36 (iblk m c 12 t) (ffnB m c t) (zB m c t) (sB m c t) (qB m c t) (errB m c t)
def dfB (c : Dev nD) (t : Fin cfg0.N) : FVec Ideal S128x2816 .f32 :=
  k0_pay37 (g2B m c t) (iblk m c 12 t) (k0_pay19 (iblk m c 11 t)) (zB m c t) (sB m c t) (qB m c t) (errB m c t)
def daB (c : Dev nD) (t : Fin cfg0.N) : FVec Ideal S128x2816 .f32 :=
  k0_pay38 (g2B m c t) (iblk m c 12 t) (k0_pay19 (iblk m c 11 t)) (geB m c t) (zB m c t) (sB m c t) (qB m c t) (errB m c t)
def dgcB (c : Dev nD) (t : Fin cfg0.N) : FVec Ideal S128x2816 .f32 := k0_pay39 (aB m c t) (gcB m c t) (thB m c t) (dfB m c t)

/-! ### Their entries -/

theorem shB_apply (c : Dev nD) (t : Fin cfg0.N) (k : Fin 1024) : shB m c t (ix2 0 k) = (ops m c).sh k := by
  refine (congrArg (iblk m c 5 t : Vec Ideal S6x1024 .f32) ?_).trans (blk5 m c t 3 k)
  funext a; apply Fin.ext
  match a with
  | ⟨0, _⟩ => rfl
  | ⟨1, _⟩ => show 0 + 1 * k.val = k.val; omega

theorem scB_apply (c : Dev nD) (t : Fin cfg0.N) (k : Fin 1024) : scB m c t (ix2 0 k) = (ops m c).sc k := by
  refine (congrArg (iblk m c 5 t : Vec Ideal S6x1024 .f32) ?_).trans (blk5 m c t 4 k)
  funext a; apply Fin.ext
  match a with
  | ⟨0, _⟩ => rfl
  | ⟨1, _⟩ => show 0 + 1 * k.val = k.val; omega

theorem g2B_apply (c : Dev nD) (t : Fin cfg0.N) (k : Fin 1024) : g2B m c t (ix2 0 k) = (ops m c).g2 k := by
  refine (congrArg (iblk m c 5 t : Vec Ideal S6x1024 .f32) ?_).trans (blk5 m c t 5 k)
  funext a; apply Fin.ext
  match a with
  | ⟨0, _⟩ => rfl
  | ⟨1, _⟩ => show 0 + 1 * k.val = k.val; omega

theorem w0B_apply (c : Dev nD) (t : Fin cfg0.N) (j : Fin 2816) : w0B m c t (ix2 0 j) = (ops m c).cw 0 j := by
  refine (congrArg (iblk m c 8 t : Vec Ideal S3x2816 .f32) ?_).trans (blk8 m c t 0 j)
  funext a; apply Fin.ext
  match a with
  | ⟨0, _⟩ => rfl
  | ⟨1, _⟩ => show 0 + 1 * j.val = j.val; omega

theorem w1B_apply (c : Dev nD) (t : Fin cfg0.N) (j : Fin 2816) : w1B m c t (ix2 0 j) = (ops m c).cw 1 j := by
  refine (congrArg (iblk m c 8 t : Vec Ideal S3x2816 .f32) ?_).trans (blk8 m c t 1 j)
  funext a; apply Fin.ext
  match a with
  | ⟨0, _⟩ => rfl
  | ⟨1, _⟩ => show 0 + 1 * j.val = j.val; omega

theorem w2B_apply (c : Dev nD) (t : Fin cfg0.N) (j : Fin 2816) : w2B m c t (ix2 0 j) = (ops m c).cw 2 j := by
  refine (congrArg (iblk m c 8 t : Vec Ideal S3x2816 .f32) ?_).trans (blk8 m c t 2 j)
  funext a; apply Fin.ext
  match a with
  | ⟨0, _⟩ => rfl
  | ⟨1, _⟩ => show 0 + 1 * j.val = j.val; omega

theorem nw_apply (c : Dev nD) (t : Fin cfg0.N) (k : Fin 1024) :
    (iblk m c 4 t : Vec Ideal S1x1024 .f32) (ix2 0 k) = (ops m c).nw k := blk4 m c t 0 k

theorem fn_apply (c : Dev nD) (t : Fin cfg0.N) (k : Fin 1024) :
    (iblk m c 12 t : Vec Ideal S1x1024 .f32) (ix2 0 k) = (ops m c).fn k := blk12 m c t 0 k

theorem cb_apply (c : Dev nD) (t : Fin cfg0.N) (j : Fin 2816) :
    (iblk m c 9 t : Vec Ideal S1x2816 .f32) (ix2 0 j) = (ops m c).cb j := blk9 m c t 0 j

theorem x_apply (c : Dev nD) (t : Fin cfg0.N) (r : Fin 128) (k : Fin 1024) :
    (iblk m c 0 t : Vec Ideal S128x1024 .f32) (ix2 r k) = (ops m c).x (row t r) k := blk0 m c t r k

theorem tgt_apply (c : Dev nD) (t : Fin cfg0.N) (r : Fin 128) (k : Fin 1024) :
    (iblk m c 3 t : Vec Ideal S128x1024 .f32) (ix2 r k) = (ops m c).tgt (row t r) k := blk3 m c t r k

theorem wa_apply (c : Dev nD) (t : Fin cfg0.N) (k : Fin 1024) (j : Fin 2816) :
    (iblk m c 6 t : Vec Ideal S1024x2816 .bf16) (ix2 k j) = (ops m c).w k ⟨j.val, by omega⟩ := blk6 m c t k j

theorem wg_apply (c : Dev nD) (t : Fin cfg0.N) (k : Fin 1024) (j : Fin 2816) :
    (iblk m c 7 t : Vec Ideal S1024x2816 .bf16) (ix2 k j) = (ops m c).w k ⟨2816 + j.val, by omega⟩ := blk7 m c t k j

theorem wd_apply (c : Dev nD) (t : Fin cfg0.N) (j : Fin 2816) (k : Fin 1024) :
    (iblk m c 10 t : Vec Ideal S2816x1024 .bf16) (ix2 j k) = (ops m c).wd j k := blk10 m c t j k

theorem wt_apply (c : Dev nD) (t : Fin cfg0.N) (k : Fin 1024) (j : Fin 2816) :
    (iblk m c 11 t : Vec Ideal S1024x2816 .bf16) (ix2 k j) = (ops m c).wd j k := blk11 m c t k j

theorem hB_apply (c : Dev nD) (t : Fin cfg0.N) (r : Fin 128) (k : Fin 1024) :
    hB m c t (ix2 r k) = FfnFwdSpec.hrow (ops m c) ((ops m c).x (row t r)) k := by
  unfold hB
  rw [pay7_apply]
  simp only [shB_apply, scB_apply, nw_apply, x_apply]
  rfl

theorem aB_apply (c : Dev nD) (t : Fin cfg0.N) (r : Fin 128) (j : Fin 2816) :
    aB m c t (ix2 r j) = FfnFwdSpec.a (ops m c) (row t r) j := by
  unfold aB
  rw [pay9_apply]
  simp only [hB_apply, wa_apply]
  rfl

theorem gB_apply (c : Dev nD) (t : Fin cfg0.N) (r : Fin 128) (j : Fin 2816) :
    gB m c t (ix2 r j) = FfnFwdSpec.g (ops m c) (row t r) j := by
  unfold gB
  rw [pay11_apply]
  simp only [hB_apply, wg_apply]
  rfl

theorem upB_apply (c : Dev nD) (t : Fin cfg0.N) (j : Fin 2816) :
    upB m c t (ix2 0 j) = FfnFwdSpec.gp (ops m c) (row t 0) j := by
  have ht := point_lt t
  unfold upB argB
  rw [pay12_apply, not_first, select_if]
  unfold FfnFwdSpec.gp
  by_cases h : 0 < t.val
  · rw [if_pos h, mul_one, dif_pos (show 0 < (row t 0).val by show 0 < 128 * t.val + 0; omega)]
    have hx : ∀ k : Fin 1024, (iblk m c 1 t : Vec Ideal S8x1024 .f32) (ix2 7 k)
        = (ops m c).x ⟨128 * t.val - 1, by omega⟩ k := fun k => blk1 m c t h k (by omega)
    unfold pB
    simp only [pay8_apply, hx, shB_apply, scB_apply, nw_apply, wg_apply]
    rfl
  · rw [if_neg h, mul_zero, dif_neg (show ¬ 0 < (row t 0).val by show ¬ 0 < 128 * t.val + 0; omega)]

theorem dnB_apply (c : Dev nD) (t : Fin cfg0.N) (j : Fin 2816) :
    dnB m c t (ix2 0 j) * (if t.val < 63 then 1 else 0) = FfnFwdSpec.gn (ops m c) (row t 127) j := by
  have ht := point_lt t
  unfold dnB
  rw [pay13_apply]
  unfold FfnFwdSpec.gn
  by_cases h : t.val < 63
  · rw [if_pos h, mul_one, dif_pos (show (row t 127).val + 1 < 8192 by show 128 * t.val + 127 + 1 < 8192; omega)]
    have hx : ∀ k : Fin 1024, (iblk m c 2 t : Vec Ideal S8x1024 .f32) (ix2 0 k)
        = (ops m c).x ⟨128 * t.val + 128, by omega⟩ k := fun k => blk2 m c t h k (by omega)
    simp only [hx, shB_apply, scB_apply, nw_apply, wg_apply]
    rfl
  · rw [if_neg h, mul_zero, dif_neg (show ¬ (row t 127).val + 1 < 8192 by show ¬ 128 * t.val + 127 + 1 < 8192; omega)]

theorem abB_apply (c : Dev nD) (t : Fin cfg0.N) (r : Fin 128) (j : Fin 2816) :
    abB m c t (ix2 r j) = FfnFwdSpec.gp (ops m c) (row t r) j := by
  unfold abB
  rw [pay14_apply]
  have hr := r.isLt
  by_cases h : r.val = 0
  · rw [if_pos h, upB_apply]
    exact congrArg (fun q => FfnFwdSpec.gp (ops m c) q j) (Fin.ext (by show 128 * t.val + 0 = 128 * t.val + r.val; omega))
  · rw [if_neg h, gB_apply]
    unfold FfnFwdSpec.gp
    rw [dif_pos (show 0 < (row t r).val by show 0 < 128 * t.val + r.val; omega)]
    exact congrArg (fun q => FfnFwdSpec.g (ops m c) q j) (Fin.ext (by
      show 128 * t.val + (r.val + 128 - 1) % 128 = 128 * t.val + r.val - 1; omega))

theorem beB_apply (c : Dev nD) (t : Fin cfg0.N) (r : Fin 128) (j : Fin 2816) :
    beB m c t (ix2 r j) = FfnFwdSpec.gn (ops m c) (row t r) j := by
  unfold beB argB
  rw [pay15_apply, not_last, select_if, dnB_apply]
  have hr := r.isLt
  have ht := point_lt t
  by_cases h : r.val = 127
  · rw [if_pos h]
    exact congrArg (fun q => FfnFwdSpec.gn (ops m c) q j) (Fin.ext (by show 128 * t.val + 127 = 128 * t.val + r.val; omega))
  · rw [if_neg h, gB_apply]
    unfold FfnFwdSpec.gn
    rw [dif_pos (show (row t r).val + 1 < 8192 by show 128 * t.val + r.val + 1 < 8192; omega)]
    exact congrArg (fun q => FfnFwdSpec.g (ops m c) q j) (Fin.ext (by
      show 128 * t.val + (r.val + 128 - 127) % 128 = 128 * t.val + r.val + 1; omega))

theorem gcB_apply (c : Dev nD) (t : Fin cfg0.N) (r : Fin 128) (j : Fin 2816) :
    gcB m c t (ix2 r j) = FfnFwdSpec.gc (ops m c) (row t r) j := by
  unfold gcB
  rw [pay16_apply]
  simp only [cb_apply, w0B_apply, w1B_apply, w2B_apply, gB_apply]
  exact congrArg₂ (· + ·) (congrArg (· + _) (congrArg (_ + ·) (congrArg (· * _) (abB_apply m c t r j))))
    (congrArg (· * _) (beB_apply m c t r j))

theorem thB_apply (c : Dev nD) (t : Fin cfg0.N) (r : Fin 128) (j : Fin 2816) :
    thB m c t (ix2 r j) = FfnFwdSpec.th (ops m c) (row t r) j := by
  unfold thB
  rw [pay20_apply, gcB_apply]
  rfl

theorem geB_apply (c : Dev nD) (t : Fin cfg0.N) (r : Fin 128) (j : Fin 2816) :
    geB m c t (ix2 r j) = FfnFwdSpec.ge (ops m c) (row t r) j := by
  unfold geB
  rw [pay21_apply, gcB_apply]
  exact congrArg (_ * ·) (congrArg (_ * ·) (congrArg (1 + ·) (thB_apply m c t r j)))

theorem fB_apply (c : Dev nD) (t : Fin cfg0.N) (r : Fin 128) (j : Fin 2816) :
    fB m c t (ix2 r j) = FfnFwdSpec.f (ops m c) (row t r) j := by
  unfold fB
  rw [pay22_apply, aB_apply]
  exact congrArg (· * _) (geB_apply m c t r j)

theorem ffnB_apply (c : Dev nD) (t : Fin cfg0.N) (r : Fin 128) (k : Fin 1024) :
    ffnB m c t (ix2 r k) = FfnFwdSpec.ffn (ops m c) (row t r) k := by
  unfold ffnB
  rw [pay23_apply]
  exact Finset.sum_congr rfl fun j _ => congrArg₂ (· * ·) (fB_apply m c t r j) (wd_apply m c t j k)

theorem zB_apply (c : Dev nD) (t : Fin cfg0.N) (r : Fin 128) (k : Fin 1024) :
    zB m c t (ix2 r k) = FfnFwdSpec.z (ops m c) (row t r) k := by
  unfold zB
  rw [pay24_apply, g2B_apply, x_apply]
  exact congrArg (_ + ·) (congrArg (_ * ·) (ffnB_apply m c t r k))

/-- The residual sum of a row. -/
theorem zrow (c : Dev nD) (t : Fin cfg0.N) (r : Fin 128) :
    (fun k => zB m c t (ix2 r k)) = FfnFwdSpec.z (ops m c) (row t r) := funext fun k => zB_apply m c t r k

theorem sB_apply (c : Dev nD) (t : Fin cfg0.N) (r : Fin 128) :
    sB m c t (ix2 r 0) = scale (FfnFwdSpec.z (ops m c) (row t r)) := by
  unfold sB
  rw [pay26_apply]
  exact congrArg scale (zrow m c t r)

theorem qB_apply (c : Dev nD) (t : Fin cfg0.N) (r : Fin 128) :
    qB m c t (ix2 r 0) = mhalf * Ideal.div (scale (FfnFwdSpec.z (ops m c) (row t r))) (meanSq (FfnFwdSpec.z (ops m c) (row t r))) := by
  unfold qB
  rw [pay27_apply]
  exact congrArg (fun v => mhalf * Ideal.div (scale v) (meanSq v)) (zrow m c t r)

theorem nzB_apply (c : Dev nD) (t : Fin cfg0.N) (r : Fin 128) (k : Fin 1024) :
    nzB m c t (ix2 r k) = FfnFwdSpec.nz (ops m c) (row t r) k := by
  unfold nzB
  rw [pay28_apply]
  exact congrArg₂ (· * ·) (zB_apply m c t r k) (congrArg scale (zrow m c t r))

theorem errB_apply (c : Dev nD) (t : Fin cfg0.N) (r : Fin 128) (k : Fin 1024) :
    errB m c t (ix2 r k) = FfnFwdSpec.err (ops m c) (row t r) k := by
  unfold errB
  rw [pay29_apply, fn_apply, tgt_apply]
  exact congrArg (· - _) (congrArg (· * _) (nzB_apply m c t r k))

theorem lossB_apply (c : Dev nD) (t : Fin cfg0.N) :
    lossB m c t (ix2 0 0) = FfnFwdSpec.half * FfnFwdSpec.tile (FfnFwdSpec.rowLoss (ops m c)) t.val := by
  unfold lossB
  rw [pay31_apply, FfnFwdSpec.tile_eq _ (tl t)]
  refine congrArg (_ * ·) (Finset.sum_congr rfl fun r _ => ?_)
  exact congrArg (fun v => Ideal.div v len) (Finset.sum_congr rfl fun k _ =>
    congrArg₂ (· * ·) (errB_apply m c t r k) (errB_apply m c t r k))

theorem dyB_apply (c : Dev nD) (t : Fin cfg0.N) (r : Fin 128) (k : Fin 1024) :
    k0_pay32 (errB m c t) (ix2 r k) = FfnFwdSpec.dy (ops m c) (row t r) k := by
  rw [pay32_apply, errB_apply]
  rfl

theorem dfnB_apply (c : Dev nD) (t : Fin cfg0.N) (k : Fin 1024) :
    dfnB m c t (ix2 0 k)
      = FfnFwdSpec.tile (fun r => FfnFwdSpec.nz (ops m c) r k * FfnFwdSpec.dy (ops m c) r k) t.val := by
  unfold dfnB
  rw [pay33_apply, FfnFwdSpec.tile_eq _ (tl t)]
  exact Finset.sum_congr rfl fun r _ => congrArg₂ (· * ·) (nzB_apply m c t r k) (dyB_apply m c t r k)

theorem dzB_apply (c : Dev nD) (t : Fin cfg0.N) (r : Fin 128) (k : Fin 1024) :
    dzB m c t (ix2 r k) = FfnFwdSpec.dz (ops m c) (row t r) k := by
  unfold dzB
  rw [pay34_apply]
  simp only [dyB_apply, fn_apply, zB_apply, sB_apply, qB_apply]
  rfl

theorem dffnB_apply (c : Dev nD) (t : Fin cfg0.N) (r : Fin 128) (k : Fin 1024) :
    dffnB m c t (ix2 r k) = FfnFwdSpec.dffn (ops m c) (row t r) k := by
  unfold dffnB
  rw [pay35_apply, g2B_apply]
  exact congrArg (_ * ·) (dzB_apply m c t r k)

theorem dg2B_apply (c : Dev nD) (t : Fin cfg0.N) (k : Fin 1024) :
    dg2B m c t (ix2 0 k)
      = FfnFwdSpec.tile (fun r => FfnFwdSpec.dz (ops m c) r k * FfnFwdSpec.ffn (ops m c) r k) t.val := by
  unfold dg2B
  rw [pay36_apply, FfnFwdSpec.tile_eq _ (tl t)]
  exact Finset.sum_congr rfl fun r _ => congrArg₂ (· * ·) (dzB_apply m c t r k) (ffnB_apply m c t r k)

theorem dfB_apply (c : Dev nD) (t : Fin cfg0.N) (r : Fin 128) (j : Fin 2816) :
    dfB m c t (ix2 r j) = FfnFwdSpec.df (ops m c) (row t r) j := by
  unfold dfB
  rw [pay37_apply]
  exact Finset.sum_congr rfl fun k _ => congrArg₂ (· * ·) (dffnB_apply m c t r k) (wt_apply m c t k j)

theorem daB_apply (c : Dev nD) (t : Fin cfg0.N) (r : Fin 128) (j : Fin 2816) :
    daB m c t (ix2 r j) = FfnFwdSpec.da (ops m c) (row t r) j := by
  unfold daB
  rw [pay38_apply, geB_apply]
  exact congrArg (_ * ·) (dfB_apply m c t r j)

theorem dgcB_apply (c : Dev nD) (t : Fin cfg0.N) (r : Fin 128) (j : Fin 2816) :
    dgcB m c t (ix2 r j) = FfnFwdSpec.dgc (ops m c) (row t r) j := by
  unfold dgcB
  rw [pay39_apply, dfB_apply, aB_apply, gcB_apply, thB_apply]
  rfl

end Cert.FfnFwd

end
-- ==== Proof.FfnFwdOut.lean ====
/- What the feed-forward forward kernel leaves in its tiled output windows after a grid point. -/
module

public import proofs.«01_k».proof.Proof.FfnFwdPoint

@[expose] public section

noncomputable section

namespace Cert.FfnFwd

open Cert.KernelFwdIdeal Cert.KernelFwdIdeal.Gen Idealize.ShloMosaic Idealize.ShloMosaic.TcCoe Idealize.SL.Sem
open Cert.RowMath

variable (m : (ℓ : Loc nD τ sig) → Buf (Elt Ideal) ℓ)

/-! ### Loads of whole blocks -/

theorem ld_a {e : EltTy} (X : Vec Ideal S128x1024 e) (inb) :
    View.ld X (Rect.unit (s := S128x1024) ![0, 0] ![128, 1024] inb) = X := View.ld_unit_zero (S := S128x1024) zero2 inb X
theorem ld_b {e : EltTy} (X : Vec Ideal S1x1024 e) (inb) :
    View.ld X (Rect.unit (s := S1x1024) ![0, 0] ![1, 1024] inb) = X := View.ld_unit_zero (S := S1x1024) zero2 inb X
theorem ld_c {e : EltTy} (X : Vec Ideal S8x1024 e) (inb) :
    View.ld X (Rect.unit (s := S8x1024) ![0, 0] ![8, 1024] inb) = X := View.ld_unit_zero (S := S8x1024) zero2 inb X
theorem ld_d {e : EltTy} (X : Vec Ideal S1024x2816 e) (inb) :
    View.ld X (Rect.unit (s := S1024x2816) ![0, 0] ![1024, 2816] inb) = X := View.ld_unit_zero (S := S1024x2816) zero2 inb X
theorem ld_e {e : EltTy} (X : Vec Ideal S1x2816 e) (inb) :
    View.ld X (Rect.unit (s := S1x2816) ![0, 0] ![1, 2816] inb) = X := View.ld_unit_zero (S := S1x2816) zero2 inb X
theorem ld_f {e : EltTy} (X : Vec Ideal S2816x1024 e) (inb) :
    View.ld X (Rect.unit (s := S2816x1024) ![0, 0] ![2816, 1024] inb) = X := View.ld_unit_zero (S := S2816x1024) zero2 inb X
theorem ld_g {e : EltTy} (X : Vec Ideal S1x128 e) (inb) :
    View.ld X (Rect.unit (s := S1x128) ![0, 0] ![1, 128] inb) = X := View.ld_unit_zero (S := S1x128) zero2 inb X

/-! ### The tiled outputs -/

theorem out13 (c : Dev nD) (t : Fin cfg0.N) :
    (outsAt0 m c t.val t.isLt).1 = dzB m c t := by
  by_cases h0 : t.val % 64 = 0
  · rw [outsAt0_A m c t h0]
    dsimp only
    unfold out0_A_13
    rw [View.read_writes_eq_canon _ _ _ (fun y => cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S128x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl
  · rw [outsAt0_B m c t h0]
    dsimp only
    unfold out0_B_13
    rw [View.read_writes_eq_canon _ _ _ (fun y => cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S128x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl

theorem out14 (c : Dev nD) (t : Fin cfg0.N) :
    (outsAt0 m c t.val t.isLt).2.1 = k0_pay40 (daB m c t) := by
  by_cases h0 : t.val % 64 = 0
  · rw [outsAt0_A m c t h0]
    dsimp only
    unfold out0_A_14
    rw [View.read_writes_eq_canon _ _ _ (fun y => cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S128x2816) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl
  · rw [outsAt0_B m c t h0]
    dsimp only
    unfold out0_B_14
    rw [View.read_writes_eq_canon _ _ _ (fun y => cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S128x2816) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl

theorem out15 (c : Dev nD) (t : Fin cfg0.N) :
    (outsAt0 m c t.val t.isLt).2.2.1 = dgcB m c t := by
  by_cases h0 : t.val % 64 = 0
  · rw [outsAt0_A m c t h0]
    dsimp only
    unfold out0_A_15
    rw [View.read_writes_eq_canon _ _ _ (fun y => cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S128x2816) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl
  · rw [outsAt0_B m c t h0]
    dsimp only
    unfold out0_B_15
    rw [View.read_writes_eq_canon _ _ _ (fun y => cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S128x2816) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl

theorem out16 (c : Dev nD) (t : Fin cfg0.N) :
    (outsAt0 m c t.val t.isLt).2.2.2.1 = k0_pay41 (fB m c t) := by
  by_cases h0 : t.val % 64 = 0
  · rw [outsAt0_A m c t h0]
    dsimp only
    unfold out0_A_16
    rw [View.read_writes_eq_canon _ _ _ (fun y => cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S128x2816) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl
  · rw [outsAt0_B m c t h0]
    dsimp only
    unfold out0_B_16
    rw [View.read_writes_eq_canon _ _ _ (fun y => cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S128x2816) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl

theorem out17 (c : Dev nD) (t : Fin cfg0.N) :
    (outsAt0 m c t.val t.isLt).2.2.2.2.1 = k0_pay42 (dffnB m c t) := by
  by_cases h0 : t.val % 64 = 0
  · rw [outsAt0_A m c t h0]
    dsimp only
    unfold out0_A_17
    rw [View.read_writes_eq_canon _ _ _ (fun y => cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_A
    dsimp only
    sl_unfold_words
    refine (View.canon_unit_zero (S := S128x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl
  · rw [outsAt0_B m c t h0]
    dsimp only
    unfold out0_B_17
    rw [View.read_writes_eq_canon _ _ _ (fun y => cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
    unfold kernelRun0_B
    dsimp only
    sl_unfold_words
    refine (View.canon_unit_zero (S := S128x1024) zero2 _ _).trans ?_
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
    simp only [ld_a, ld_b, ld_c, ld_d, ld_e, ld_f, ld_g]
    rfl

end Cert.FfnFwd

end
-- ==== Proof.FfnFwdAcc.lean ====
/- What the feed-forward forward kernel leaves in its accumulated output windows after a grid point. -/
module

public import proofs.«01_k».proof.Proof.FfnFwdOut

@[expose] public section

noncomputable section

namespace Cert.FfnFwd

open Cert.KernelFwdIdeal Cert.KernelFwdIdeal.Gen Idealize.ShloMosaic Idealize.ShloMosaic.TcCoe Idealize.SL.Sem
open Cert.RowMath

variable (m : (ℓ : Loc nD τ sig) → Buf (Elt Ideal) ℓ)

/-- The loss after the first point. -/
theorem out18_A (c : Dev nD) (t : Fin cfg0.N) (h0 : t.val % 64 = 0) :
    (outsAt0 m c t.val t.isLt).2.2.2.2.2.1 = k0_pay43 (lossB m c t) (k0_pay2 (F := Ideal)) := by
  rw [outsAt0_A m c t h0]
  dsimp only
  unfold out0_A_18
  rw [View.read_writes_eq_canon _ _ _ (fun y => cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  refine (View.canon_cons_unit_zero (S := S1x128) zero2 _ _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  refine congrArg (k0_pay43 (lossB m c t)) ?_
  exact View.readCov_unit_zero (S := S1x128) _ zero2 _ _

/-- The loss after a later point. -/
theorem out18_B (c : Dev nD) (t : Fin cfg0.N) (h0 : ¬t.val % 64 = 0) :
    (outsAt0 m c t.val t.isLt).2.2.2.2.2.1 = k0_pay43 (lossB m c t)
      (outsAt0 m c (t.val - 1) (Nat.lt_of_le_of_lt (Nat.sub_le _ _) t.isLt)).2.2.2.2.2.1 := by
  rw [outsAt0_B m c t h0]
  dsimp only
  unfold out0_B_18
  rw [View.read_writes_eq_canon _ _ _ (fun y => cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  refine (View.canon_unit_zero (S := S1x128) zero2 _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  rfl

/-- The final norm's weight's gradient after the first point. -/
theorem out19_A (c : Dev nD) (t : Fin cfg0.N) (h0 : t.val % 64 = 0) :
    (outsAt0 m c t.val t.isLt).2.2.2.2.2.2.1 = k0_pay44 (dfnB m c t) (k0_pay3 (F := Ideal)) := by
  rw [outsAt0_A m c t h0]
  dsimp only
  unfold out0_A_19
  rw [View.read_writes_eq_canon _ _ _ (fun y => cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  refine (View.canon_cons_unit_zero (S := S1x1024) zero2 _ _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  refine congrArg (k0_pay44 (dfnB m c t)) ?_
  exact View.readCov_unit_zero (S := S1x1024) _ zero2 _ _

/-- The final norm's weight's gradient after a later point. -/
theorem out19_B (c : Dev nD) (t : Fin cfg0.N) (h0 : ¬t.val % 64 = 0) :
    (outsAt0 m c t.val t.isLt).2.2.2.2.2.2.1 = k0_pay44 (dfnB m c t)
      (outsAt0 m c (t.val - 1) (Nat.lt_of_le_of_lt (Nat.sub_le _ _) t.isLt)).2.2.2.2.2.2.1 := by
  rw [outsAt0_B m c t h0]
  dsimp only
  unfold out0_B_19
  rw [View.read_writes_eq_canon _ _ _ (fun y => cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  refine (View.canon_unit_zero (S := S1x1024) zero2 _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  rfl

/-- The residual gate's gradient after the first point. -/
theorem out20_A (c : Dev nD) (t : Fin cfg0.N) (h0 : t.val % 64 = 0) :
    (outsAt0 m c t.val t.isLt).2.2.2.2.2.2.2.1 = k0_pay45 (dg2B m c t) (k0_pay4 (F := Ideal)) := by
  rw [outsAt0_A m c t h0]
  dsimp only
  unfold out0_A_20
  rw [View.read_writes_eq_canon _ _ _ (fun y => cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  refine (View.canon_cons_unit_zero (S := S1x1024) zero2 _ _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  refine congrArg (k0_pay45 (dg2B m c t)) ?_
  exact View.readCov_unit_zero (S := S1x1024) _ zero2 _ _

/-- The residual gate's gradient after a later point. -/
theorem out20_B (c : Dev nD) (t : Fin cfg0.N) (h0 : ¬t.val % 64 = 0) :
    (outsAt0 m c t.val t.isLt).2.2.2.2.2.2.2.1 = k0_pay45 (dg2B m c t)
      (outsAt0 m c (t.val - 1) (Nat.lt_of_le_of_lt (Nat.sub_le _ _) t.isLt)).2.2.2.2.2.2.2.1 := by
  rw [outsAt0_B m c t h0]
  dsimp only
  unfold out0_B_20
  rw [View.read_writes_eq_canon _ _ _ (fun y => cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  refine (View.canon_unit_zero (S := S1x1024) zero2 _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  rfl

/-- The bias's gradient after the first point. -/
theorem out21_A (c : Dev nD) (t : Fin cfg0.N) (h0 : t.val % 64 = 0) :
    (outsAt0 m c t.val t.isLt).2.2.2.2.2.2.2.2.1 = k0_pay46 (dgcB m c t) (k0_pay5 (F := Ideal)) := by
  rw [outsAt0_A m c t h0]
  dsimp only
  unfold out0_A_21
  rw [View.read_writes_eq_canon _ _ _ (fun y => cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  refine (View.canon_cons_unit_zero (S := S1x2816) zero2 _ _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  refine congrArg (k0_pay46 (dgcB m c t)) ?_
  exact View.readCov_unit_zero (S := S1x2816) _ zero2 _ _

/-- The bias's gradient after a later point. -/
theorem out21_B (c : Dev nD) (t : Fin cfg0.N) (h0 : ¬t.val % 64 = 0) :
    (outsAt0 m c t.val t.isLt).2.2.2.2.2.2.2.2.1 = k0_pay46 (dgcB m c t)
      (outsAt0 m c (t.val - 1) (Nat.lt_of_le_of_lt (Nat.sub_le _ _) t.isLt)).2.2.2.2.2.2.2.2.1 := by
  rw [outsAt0_B m c t h0]
  dsimp only
  unfold out0_B_21
  rw [View.read_writes_eq_canon _ _ _ (fun y => cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  refine (View.canon_unit_zero (S := S1x2816) zero2 _ _).trans ?_
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  rfl

/-! ### The taps' gradient, row by row -/

theorem emb0 (j : Fin 2816) (inb) : (Rect.unit (s := S3x2816) ![0, 0] ![1, 2816] inb).emb (ix2 (0 : Fin 1) j) = ix2 (0 : Fin 3) j := by
  funext a; apply Fin.ext
  match a with
  | ⟨0, _⟩ => rfl
  | ⟨1, _⟩ => show 0 + 1 * j.val = j.val; omega

theorem off0 (i : Fin 3) (j : Fin 2816) (h : i ≠ 0) (inb) : (ix2 i j : S3x2816.Idx) ∉ (Rect.unit (s := S3x2816) ![0, 0] ![1, 2816] inb).set := by
  rw [Rect.mem_set_unit]
  intro h'
  have h1 : 0 ≤ i.val ∧ i.val < 0 + 1 := h' 0
  exact h (Fin.ext (by show i.val = 0; omega))

/-- A store of row 0 over anything, read back. -/
theorem canon0 (a : Vec Ideal S1x2816 .f32) (L : List (View.Piece (Elt Ideal) S3x2816 .f32)) (i : Fin 3) (j : Fin 2816) (inb) :
    View.canon (⟨(Rect.unit (s := S3x2816) ![0, 0] ![1, 2816] inb), a⟩ :: L) (ix2 i j) = if i = 0 then a (ix2 0 j) else View.canon L (ix2 i j) := by
  split
  · next h =>
    subst h
    have e := View.canon_cons_emb (Val := Elt Ideal) (s := S3x2816) (e := .f32) (Rect.unit (s := S3x2816) ![0, 0] ![1, 2816] inb) a L (ix2 (0 : Fin 1) j)
    rw [emb0] at e
    exact e
  · next h => exact View.canon_cons_of_not_mem _ L (off0 i j h inb)

theorem emb1 (j : Fin 2816) (inb) : (Rect.unit (s := S3x2816) ![1, 0] ![1, 2816] inb).emb (ix2 (0 : Fin 1) j) = ix2 (1 : Fin 3) j := by
  funext a; apply Fin.ext
  match a with
  | ⟨0, _⟩ => rfl
  | ⟨1, _⟩ => show 0 + 1 * j.val = j.val; omega

theorem off1 (i : Fin 3) (j : Fin 2816) (h : i ≠ 1) (inb) : (ix2 i j : S3x2816.Idx) ∉ (Rect.unit (s := S3x2816) ![1, 0] ![1, 2816] inb).set := by
  rw [Rect.mem_set_unit]
  intro h'
  have h1 : 1 ≤ i.val ∧ i.val < 1 + 1 := h' 0
  exact h (Fin.ext (by show i.val = 1; omega))

/-- A store of row 1 over anything, read back. -/
theorem canon1 (a : Vec Ideal S1x2816 .f32) (L : List (View.Piece (Elt Ideal) S3x2816 .f32)) (i : Fin 3) (j : Fin 2816) (inb) :
    View.canon (⟨(Rect.unit (s := S3x2816) ![1, 0] ![1, 2816] inb), a⟩ :: L) (ix2 i j) = if i = 1 then a (ix2 0 j) else View.canon L (ix2 i j) := by
  split
  · next h =>
    subst h
    have e := View.canon_cons_emb (Val := Elt Ideal) (s := S3x2816) (e := .f32) (Rect.unit (s := S3x2816) ![1, 0] ![1, 2816] inb) a L (ix2 (0 : Fin 1) j)
    rw [emb1] at e
    exact e
  · next h => exact View.canon_cons_of_not_mem _ L (off1 i j h inb)

theorem emb2 (j : Fin 2816) (inb) : (Rect.unit (s := S3x2816) ![2, 0] ![1, 2816] inb).emb (ix2 (0 : Fin 1) j) = ix2 (2 : Fin 3) j := by
  funext a; apply Fin.ext
  match a with
  | ⟨0, _⟩ => rfl
  | ⟨1, _⟩ => show 0 + 1 * j.val = j.val; omega

theorem off2 (i : Fin 3) (j : Fin 2816) (h : i ≠ 2) (inb) : (ix2 i j : S3x2816.Idx) ∉ (Rect.unit (s := S3x2816) ![2, 0] ![1, 2816] inb).set := by
  rw [Rect.mem_set_unit]
  intro h'
  have h1 : 2 ≤ i.val ∧ i.val < 2 + 1 := h' 0
  exact h (Fin.ext (by show i.val = 2; omega))

/-- A store of row 2 over anything, read back. -/
theorem canon2 (a : Vec Ideal S1x2816 .f32) (L : List (View.Piece (Elt Ideal) S3x2816 .f32)) (i : Fin 3) (j : Fin 2816) (inb) :
    View.canon (⟨(Rect.unit (s := S3x2816) ![2, 0] ![1, 2816] inb), a⟩ :: L) (ix2 i j) = if i = 2 then a (ix2 0 j) else View.canon L (ix2 i j) := by
  split
  · next h =>
    subst h
    have e := View.canon_cons_emb (Val := Elt Ideal) (s := S3x2816) (e := .f32) (Rect.unit (s := S3x2816) ![2, 0] ![1, 2816] inb) a L (ix2 (0 : Fin 1) j)
    rw [emb2] at e
    exact e
  · next h => exact View.canon_cons_of_not_mem _ L (off2 i j h inb)

/-- Row `i` of the zeroed block. -/
theorem canonz (i : Fin 3) (j : Fin 2816) : View.canon [(⟨Rect.unit (s := S3x2816) ![0, 0] ![3, 2816] inb_S3x2816_S3x2816_0_0, k0_pay6 (F := Ideal)⟩ : View.Piece (Elt Ideal) S3x2816 .f32)] (ix2 i j) = 0 := by
  refine (congrFun (View.canon_unit_zero (S := S3x2816) zero2 _ _) (ix2 i j)).trans ?_
  unfold k0_pay6
  pointwise

/-- A list of stores that ends in one of the whole block covers it. -/
theorem covered (L : List (View.Piece (Elt Ideal) S3x2816 .f32)) (z : Vec Ideal S3x2816 .f32) (y : S3x2816.Idx)
    (h : (⟨Rect.unit (s := S3x2816) ![0, 0] ![3, 2816] inb_S3x2816_S3x2816_0_0, z⟩ : View.Piece (Elt Ideal) S3x2816 .f32) ∈ L) :
    ∃ p ∈ L, y ∈ p.1.set := ⟨_, h, View.mem_set_unit_zero (S := S3x2816) zero2 inb_S3x2816_S3x2816_0_0 y⟩

/-- The three rows of a zeroed block rewritten through `a`, `b` and `d`. -/
theorem canonA {sig : RefSig} {κ : Kind} {sp : Space} (v : View sig κ sp S3x2816 .f32)
    (a b d : Vec Ideal S1x2816 .f32 → Vec Ideal S1x2816 .f32) (x : Fin 3 → Fin 2816 → EReal)
    (ha : ∀ p j, a p (ix2 0 j) = p (ix2 0 j) + x 0 j) (hb : ∀ p j, b p (ix2 0 j) = p (ix2 0 j) + x 1 j)
    (hd : ∀ p j, d p (ix2 0 j) = p (ix2 0 j) + x 2 j) (i : Fin 3) (j : Fin 2816) :
    View.canon [(⟨Rect.unit (s := S3x2816) ![2, 0] ![1, 2816] inb_S3x2816_S1x2816_2_0, d (v.readCov [(⟨Rect.unit (s := S3x2816) ![1, 0] ![1, 2816] inb_S3x2816_S1x2816_1_0, b (v.readCov [(⟨Rect.unit (s := S3x2816) ![0, 0] ![1, 2816] inb_S3x2816_S1x2816_0_0, a (v.readCov [(⟨Rect.unit (s := S3x2816) ![0, 0] ![3, 2816] inb_S3x2816_S3x2816_0_0, k0_pay6 (F := Ideal)⟩ : View.Piece (Elt Ideal) S3x2816 .f32)] (Rect.unit (s := S3x2816) ![0, 0] ![1, 2816] inb_S3x2816_S1x2816_0_0).toLoadRect)⟩ : View.Piece (Elt Ideal) S3x2816 .f32), (⟨Rect.unit (s := S3x2816) ![0, 0] ![3, 2816] inb_S3x2816_S3x2816_0_0, k0_pay6 (F := Ideal)⟩ : View.Piece (Elt Ideal) S3x2816 .f32)] (Rect.unit (s := S3x2816) ![1, 0] ![1, 2816] inb_S3x2816_S1x2816_1_0).toLoadRect)⟩ : View.Piece (Elt Ideal) S3x2816 .f32), (⟨Rect.unit (s := S3x2816) ![0, 0] ![1, 2816] inb_S3x2816_S1x2816_0_0, a (v.readCov [(⟨Rect.unit (s := S3x2816) ![0, 0] ![3, 2816] inb_S3x2816_S3x2816_0_0, k0_pay6 (F := Ideal)⟩ : View.Piece (Elt Ideal) S3x2816 .f32)] (Rect.unit (s := S3x2816) ![0, 0] ![1, 2816] inb_S3x2816_S1x2816_0_0).toLoadRect)⟩ : View.Piece (Elt Ideal) S3x2816 .f32), (⟨Rect.unit (s := S3x2816) ![0, 0] ![3, 2816] inb_S3x2816_S3x2816_0_0, k0_pay6 (F := Ideal)⟩ : View.Piece (Elt Ideal) S3x2816 .f32)] (Rect.unit (s := S3x2816) ![2, 0] ![1, 2816] inb_S3x2816_S1x2816_2_0).toLoadRect)⟩ : View.Piece (Elt Ideal) S3x2816 .f32), (⟨Rect.unit (s := S3x2816) ![1, 0] ![1, 2816] inb_S3x2816_S1x2816_1_0, b (v.readCov [(⟨Rect.unit (s := S3x2816) ![0, 0] ![1, 2816] inb_S3x2816_S1x2816_0_0, a (v.readCov [(⟨Rect.unit (s := S3x2816) ![0, 0] ![3, 2816] inb_S3x2816_S3x2816_0_0, k0_pay6 (F := Ideal)⟩ : View.Piece (Elt Ideal) S3x2816 .f32)] (Rect.unit (s := S3x2816) ![0, 0] ![1, 2816] inb_S3x2816_S1x2816_0_0).toLoadRect)⟩ : View.Piece (Elt Ideal) S3x2816 .f32), (⟨Rect.unit (s := S3x2816) ![0, 0] ![3, 2816] inb_S3x2816_S3x2816_0_0, k0_pay6 (F := Ideal)⟩ : View.Piece (Elt Ideal) S3x2816 .f32)] (Rect.unit (s := S3x2816) ![1, 0] ![1, 2816] inb_S3x2816_S1x2816_1_0).toLoadRect)⟩ : View.Piece (Elt Ideal) S3x2816 .f32), (⟨Rect.unit (s := S3x2816) ![0, 0] ![1, 2816] inb_S3x2816_S1x2816_0_0, a (v.readCov [(⟨Rect.unit (s := S3x2816) ![0, 0] ![3, 2816] inb_S3x2816_S3x2816_0_0, k0_pay6 (F := Ideal)⟩ : View.Piece (Elt Ideal) S3x2816 .f32)] (Rect.unit (s := S3x2816) ![0, 0] ![1, 2816] inb_S3x2816_S1x2816_0_0).toLoadRect)⟩ : View.Piece (Elt Ideal) S3x2816 .f32), (⟨Rect.unit (s := S3x2816) ![0, 0] ![3, 2816] inb_S3x2816_S3x2816_0_0, k0_pay6 (F := Ideal)⟩ : View.Piece (Elt Ideal) S3x2816 .f32)] (ix2 i j) = 0 + x i j := by
  rw [canon2, canon1, canon0, canonz]
  split
  · next h =>
    subst h
    refine (hd _ j).trans (congrArg (· + _) ?_)
    rw [View.readCov_eq_canon_ld _ _ _ (fun y => covered _ _ y (List.mem_cons_of_mem _ (List.mem_cons_of_mem _ (List.mem_singleton.mpr rfl))))]
    refine (congrArg (View.canon _) (emb2 j _)).trans ?_
    rw [canon1, if_neg (by decide), canon0, if_neg (by decide), canonz]
  · next h2 =>
    split
    · next h =>
      subst h
      refine (hb _ j).trans (congrArg (· + _) ?_)
      rw [View.readCov_eq_canon_ld _ _ _ (fun y => covered _ _ y (List.mem_cons_of_mem _ (List.mem_singleton.mpr rfl)))]
      refine (congrArg (View.canon _) (emb1 j _)).trans ?_
      rw [canon0, if_neg (by decide), canonz]
    · next h1 =>
      have h : i = 0 := by
        apply Fin.ext; have := i.isLt; have h2' : i.val ≠ 2 := fun e => h2 (Fin.ext e)
        have h1' : i.val ≠ 1 := fun e => h1 (Fin.ext e)
        show i.val = 0; omega
      subst h
      rw [if_pos rfl]
      refine (ha _ j).trans (congrArg (· + _) ?_)
      rw [View.readCov_eq_canon_ld _ _ _ (fun y => covered _ _ y (List.mem_singleton.mpr rfl))]
      exact (congrArg (View.canon _) (emb0 j _)).trans (canonz 0 j)

/-- One tile's part of the taps' gradient. -/
def dcwT (c : Dev nD) (t : Fin cfg0.N) (i : Fin 3) (j : Fin 2816) : EReal :=
  FfnFwdSpec.tile (fun r => FfnFwdSpec.dgc (ops m c) r j * FfnFwdSpec.tapped (ops m c) i r j) t.val

theorem row0_apply (c : Dev nD) (t : Fin cfg0.N) (p : Vec Ideal S1x2816 .f32) (j : Fin 2816) :
    k0_pay47 (abB m c t) (dgcB m c t) p (ix2 0 j) = p (ix2 0 j) + dcwT m c t 0 j := by
  rw [pay47_apply]
  unfold dcwT
  rw [FfnFwdSpec.tile_eq _ (tl t)]
  exact congrArg (_ + ·) (Finset.sum_congr rfl fun r _ => congrArg₂ (· * ·) (dgcB_apply m c t r j) (abB_apply m c t r j))

theorem row1_apply (c : Dev nD) (t : Fin cfg0.N) (p : Vec Ideal S1x2816 .f32) (j : Fin 2816) :
    k0_pay48 (gB m c t) (dgcB m c t) p (ix2 0 j) = p (ix2 0 j) + dcwT m c t 1 j := by
  rw [pay48_apply]
  unfold dcwT
  rw [FfnFwdSpec.tile_eq _ (tl t)]
  exact congrArg (_ + ·) (Finset.sum_congr rfl fun r _ => congrArg₂ (· * ·) (dgcB_apply m c t r j) (gB_apply m c t r j))

theorem row2_apply (c : Dev nD) (t : Fin cfg0.N) (p : Vec Ideal S1x2816 .f32) (j : Fin 2816) :
    k0_pay1 (k0_pay49 p) (k0_pay50 (beB m c t) (dgcB m c t)) (ix2 0 j) = p (ix2 0 j) + dcwT m c t 2 j := by
  rw [pay1_apply]
  unfold dcwT
  rw [FfnFwdSpec.tile_eq _ (tl t)]
  exact congrArg (_ + ·) (Finset.sum_congr rfl fun r _ => congrArg₂ (· * ·) (dgcB_apply m c t r j) (beB_apply m c t r j))

/-- The three rows of a block rewritten through `a`, `b` and `d` from its former contents. -/
theorem canonB (q : Vec Ideal S3x2816 .f32)
    (a b d : Vec Ideal S1x2816 .f32 → Vec Ideal S1x2816 .f32) (x : Fin 3 → Fin 2816 → EReal)
    (ha : ∀ p j, a p (ix2 0 j) = p (ix2 0 j) + x 0 j) (hb : ∀ p j, b p (ix2 0 j) = p (ix2 0 j) + x 1 j)
    (hd : ∀ p j, d p (ix2 0 j) = p (ix2 0 j) + x 2 j) (i : Fin 3) (j : Fin 2816) :
    View.canon [(⟨Rect.unit (s := S3x2816) ![2, 0] ![1, 2816] inb_S3x2816_S1x2816_2_0, d (View.ld q (Rect.unit (s := S3x2816) ![2, 0] ![1, 2816] inb_S3x2816_S1x2816_2_0))⟩ : View.Piece (Elt Ideal) S3x2816 .f32), (⟨Rect.unit (s := S3x2816) ![1, 0] ![1, 2816] inb_S3x2816_S1x2816_1_0, b (View.ld q (Rect.unit (s := S3x2816) ![1, 0] ![1, 2816] inb_S3x2816_S1x2816_1_0))⟩ : View.Piece (Elt Ideal) S3x2816 .f32), (⟨Rect.unit (s := S3x2816) ![0, 0] ![1, 2816] inb_S3x2816_S1x2816_0_0, a (View.ld q (Rect.unit (s := S3x2816) ![0, 0] ![1, 2816] inb_S3x2816_S1x2816_0_0))⟩ : View.Piece (Elt Ideal) S3x2816 .f32)] (ix2 i j)
      = q (ix2 i j) + x i j := by
  rw [canon2, canon1, canon0]
  split
  · next h =>
    rw [h]
    refine (hd _ j).trans (congrArg (· + _) ?_)
    exact congrArg q (emb2 j _)
  · next h2 =>
    split
    · next h =>
      rw [h]
      refine (hb _ j).trans (congrArg (· + _) ?_)
      exact congrArg q (emb1 j _)
    · next h1 =>
      have h : i = 0 := by
        apply Fin.ext; have := i.isLt; have h2' : i.val ≠ 2 := fun e => h2 (Fin.ext e)
        have h1' : i.val ≠ 1 := fun e => h1 (Fin.ext e)
        show i.val = 0; omega
      rw [if_pos h, h]
      refine (ha _ j).trans (congrArg (· + _) ?_)
      exact congrArg q (emb0 j _)

/-- The taps' gradient after the first point. -/
theorem out22_A (c : Dev nD) (t : Fin cfg0.N) (h0 : t.val % 64 = 0) (i : Fin 3) (j : Fin 2816) :
    (outsAt0 m c t.val t.isLt).2.2.2.2.2.2.2.2.2 (ix2 i j) = 0 + dcwT m c t i j := by
  rw [outsAt0_A m c t h0]
  dsimp only
  unfold out0_A_22
  rw [View.read_writes_eq_canon _ _ _ (fun y => cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  exact canonA (ms0_22 t).view (k0_pay47 (abB m c t) (dgcB m c t)) (k0_pay48 (gB m c t) (dgcB m c t)) (fun p => k0_pay1 (k0_pay49 p) (k0_pay50 (beB m c t) (dgcB m c t)))
    (dcwT m c t) (row0_apply m c t) (row1_apply m c t) (row2_apply m c t) i j

/-- The taps' gradient after a later point. -/
theorem out22_B (c : Dev nD) (t : Fin cfg0.N) (h0 : ¬t.val % 64 = 0) (i : Fin 3) (j : Fin 2816) :
    (outsAt0 m c t.val t.isLt).2.2.2.2.2.2.2.2.2 (ix2 i j)
      = (outsAt0 m c (t.val - 1) (Nat.lt_of_le_of_lt (Nat.sub_le _ _) t.isLt)).2.2.2.2.2.2.2.2.2 (ix2 i j) + dcwT m c t i j := by
  rw [outsAt0_B m c t h0]
  dsimp only
  unfold out0_B_22
  rw [View.read_writes_eq_canon _ _ _ (fun y => cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_18 t).read_unread, (hs0_19 t).read_unread, (hs0_20 t).read_unread, (hs0_21 t).read_unread, (hs0_22 t).read_unread]
  simp only [ld_a, ld_b, ld_c, ld_d, ld_e, ld_f, ld_g]
  exact canonB (outsAt0 m c (t.val - 1) (Nat.lt_of_le_of_lt (Nat.sub_le _ _) t.isLt)).2.2.2.2.2.2.2.2.2 (k0_pay47 (abB m c t) (dgcB m c t)) (k0_pay48 (gB m c t) (dgcB m c t)) (fun p => k0_pay1 (k0_pay49 p) (k0_pay50 (beB m c t) (dgcB m c t)))
    (dcwT m c t) (row0_apply m c t) (row1_apply m c t) (row2_apply m c t) i j

end Cert.FfnFwd

end
-- ==== Proof.FfnFwdArr.lean ====
/- The feed-forward forward kernel's output arrays after its last grid point, entry by entry. -/
module

public import proofs.«01_k».proof.Proof.FfnFwdAcc

@[expose] public section

noncomputable section

namespace Cert.FfnFwd

open Cert.KernelFwdIdeal Cert.KernelFwdIdeal.Gen Idealize.ShloMosaic Idealize.ShloMosaic.TcCoe Idealize.SL.Sem
open Idealize.ShloMosaic.Pipeline (Dat)
open Cert.RowMath

variable (m : (ℓ : Loc nD τ sig) → Buf (Elt Ideal) ℓ)

/-! ### Where each output block lies -/

theorem at13 : ∀ t : Fin grid0.N, win0_13.index t 0 = t.val ∧ win0_13.index t 1 = 0 := by decide +kernel
theorem at14 : ∀ t : Fin grid0.N, win0_14.index t 0 = t.val ∧ win0_14.index t 1 = 0 := by decide +kernel
theorem at15 : ∀ t : Fin grid0.N, win0_15.index t 0 = t.val ∧ win0_15.index t 1 = 0 := by decide +kernel
theorem at16 : ∀ t : Fin grid0.N, win0_16.index t 0 = t.val ∧ win0_16.index t 1 = 0 := by decide +kernel
theorem at17 : ∀ t : Fin grid0.N, win0_17.index t 0 = t.val ∧ win0_17.index t 1 = 0 := by decide +kernel
theorem at18 : ∀ t : Fin grid0.N, win0_18.index t 0 = 0 ∧ win0_18.index t 1 = 0 := by decide +kernel
theorem at19 : ∀ t : Fin grid0.N, win0_19.index t 0 = 0 ∧ win0_19.index t 1 = 0 := by decide +kernel
theorem at20 : ∀ t : Fin grid0.N, win0_20.index t 0 = 0 ∧ win0_20.index t 1 = 0 := by decide +kernel
theorem at21 : ∀ t : Fin grid0.N, win0_21.index t 0 = 0 ∧ win0_21.index t 1 = 0 := by decide +kernel
theorem at22 : ∀ t : Fin grid0.N, win0_22.index t 0 = 0 ∧ win0_22.index t 1 = 0 := by decide +kernel

/-! ### The tiled outputs -/

/-- The gradient of the residual sum, as an array. -/
def arr13 (c : Dev nD) : Vec Ideal S8192x1024 .f32 := fun y => FfnFwdSpec.dz (ops m c) (y 0) (y 1)

theorem flushed_eq13 (c : Dev nD) (t : Fin cfg0.N) :
    (dats m 0 c).flushed 13 t = ((cfg0.win 13).blk t).view.read (Elt Ideal) (arr13 m c) := by
  have e : (outsAt0 m c t.val t.isLt).1 = fun y => FfnFwdSpec.dz (ops m c) (row t (y 0)) (y 1) := by
    rw [out13]; funext y
    obtain ⟨r, j, rfl⟩ : ∃ (r : Fin 128) (j : Fin 1024), y = ix2 r j := ⟨y 0, y 1, eq_ix2 y⟩
    exact dzB_apply m c t r j
  rw [Value.flushed13, e]
  funext y
  rw [View.read_apply]
  refine congrArg₂ (FfnFwdSpec.dz (ops m c)) (Fin.ext ?_) (Fin.ext ?_)
  · show 128 * t.val + (y 0).val = win0_13.index t 0 * 128 + 1 * (y 0).val; rw [(at13 t).1]; omega
  · show (y 1).val = win0_13.index t 1 * 1024 + 1 * (y 1).val; rw [(at13 t).2]; omega

theorem cover_13 (i : S8192x1024.Idx) :
    ∃ t : Fin cfg0.N, (cfg0.win 13).flush t = true ∧ i ∈ ((cfg0.win 13).blk t).view.set := by
  have h0 : (i 0 : Nat) < 8192 := (i 0).isLt
  have h1 : (i 1 : Nat) < 1024 := (i 1).isLt
  have hN : cfg0.N = 64 := points
  have ht : (i 0 : Nat) / 128 < cfg0.N := by omega
  refine ⟨⟨(i 0 : Nat) / 128, ht⟩, flush0_13 _, ?_⟩
  show i ∈ ((View.whole main_v8_0).slice (win0_13.rect ⟨(i 0 : Nat) / 128, ht⟩)).set
  rw [View.set_slice_whole, Rect.mem_set_unit]
  intro a
  match a with
  | ⟨0, _⟩ =>
    show win0_13.index ⟨(i 0 : Nat) / 128, ht⟩ 0 * 128 ≤ (i 0 : Nat) ∧ (i 0 : Nat) < win0_13.index ⟨(i 0 : Nat) / 128, ht⟩ 0 * 128 + 128
    rw [(at13 ⟨(i 0 : Nat) / 128, ht⟩).1]; dsimp only; omega
  | ⟨1, _⟩ =>
    show win0_13.index ⟨(i 0 : Nat) / 128, ht⟩ 1 * 1024 ≤ (i 1 : Nat) ∧ (i 1 : Nat) < win0_13.index ⟨(i 0 : Nat) / 128, ht⟩ 1 * 1024 + 1024
    rw [(at13 ⟨(i 0 : Nat) / 128, ht⟩).2]; omega

theorem final13 (c : Dev nD) : (dats m 0 c).arrAt 13 cfg0.N = arr13 m c :=
  (dats m 0 c).arrAt_eq_of_cover 13 (arr13 m c) (fun t _ => flushed_eq13 m c t) cover_13

/-- The gradient of the linear branch, as an array. -/
def arr14 (c : Dev nD) : Vec Ideal S8192x2816 .bf16 := fun y => FfnFwdSpec.da (ops m c) (y 0) (y 1)

theorem flushed_eq14 (c : Dev nD) (t : Fin cfg0.N) :
    (dats m 0 c).flushed 14 t = ((cfg0.win 14).blk t).view.read (Elt Ideal) (arr14 m c) := by
  have e : (outsAt0 m c t.val t.isLt).2.1 = fun y => FfnFwdSpec.da (ops m c) (row t (y 0)) (y 1) := by
    rw [out14]; funext y
    obtain ⟨r, j, rfl⟩ : ∃ (r : Fin 128) (j : Fin 2816), y = ix2 r j := ⟨y 0, y 1, eq_ix2 y⟩
    exact (by unfold k0_pay40; pointwise : k0_pay40 (daB m c t) (ix2 r j) = daB m c t (ix2 r j)).trans (daB_apply m c t r j)
  rw [Value.flushed14, e]
  funext y
  rw [View.read_apply]
  refine congrArg₂ (FfnFwdSpec.da (ops m c)) (Fin.ext ?_) (Fin.ext ?_)
  · show 128 * t.val + (y 0).val = win0_14.index t 0 * 128 + 1 * (y 0).val; rw [(at14 t).1]; omega
  · show (y 1).val = win0_14.index t 1 * 2816 + 1 * (y 1).val; rw [(at14 t).2]; omega

theorem cover_14 (i : S8192x2816.Idx) :
    ∃ t : Fin cfg0.N, (cfg0.win 14).flush t = true ∧ i ∈ ((cfg0.win 14).blk t).view.set := by
  have h0 : (i 0 : Nat) < 8192 := (i 0).isLt
  have h1 : (i 1 : Nat) < 2816 := (i 1).isLt
  have hN : cfg0.N = 64 := points
  have ht : (i 0 : Nat) / 128 < cfg0.N := by omega
  refine ⟨⟨(i 0 : Nat) / 128, ht⟩, flush0_14 _, ?_⟩
  show i ∈ ((View.whole main_v8_1).slice (win0_14.rect ⟨(i 0 : Nat) / 128, ht⟩)).set
  rw [View.set_slice_whole, Rect.mem_set_unit]
  intro a
  match a with
  | ⟨0, _⟩ =>
    show win0_14.index ⟨(i 0 : Nat) / 128, ht⟩ 0 * 128 ≤ (i 0 : Nat) ∧ (i 0 : Nat) < win0_14.index ⟨(i 0 : Nat) / 128, ht⟩ 0 * 128 + 128
    rw [(at14 ⟨(i 0 : Nat) / 128, ht⟩).1]; dsimp only; omega
  | ⟨1, _⟩ =>
    show win0_14.index ⟨(i 0 : Nat) / 128, ht⟩ 1 * 2816 ≤ (i 1 : Nat) ∧ (i 1 : Nat) < win0_14.index ⟨(i 0 : Nat) / 128, ht⟩ 1 * 2816 + 2816
    rw [(at14 ⟨(i 0 : Nat) / 128, ht⟩).2]; omega

theorem final14 (c : Dev nD) : (dats m 0 c).arrAt 14 cfg0.N = arr14 m c :=
  (dats m 0 c).arrAt_eq_of_cover 14 (arr14 m c) (fun t _ => flushed_eq14 m c t) cover_14

/-- The gradient of the convolution, as an array. -/
def arr15 (c : Dev nD) : Vec Ideal S8192x2816 .f32 := fun y => FfnFwdSpec.dgc (ops m c) (y 0) (y 1)

theorem flushed_eq15 (c : Dev nD) (t : Fin cfg0.N) :
    (dats m 0 c).flushed 15 t = ((cfg0.win 15).blk t).view.read (Elt Ideal) (arr15 m c) := by
  have e : (outsAt0 m c t.val t.isLt).2.2.1 = fun y => FfnFwdSpec.dgc (ops m c) (row t (y 0)) (y 1) := by
    rw [out15]; funext y
    obtain ⟨r, j, rfl⟩ : ∃ (r : Fin 128) (j : Fin 2816), y = ix2 r j := ⟨y 0, y 1, eq_ix2 y⟩
    exact dgcB_apply m c t r j
  rw [Value.flushed15, e]
  funext y
  rw [View.read_apply]
  refine congrArg₂ (FfnFwdSpec.dgc (ops m c)) (Fin.ext ?_) (Fin.ext ?_)
  · show 128 * t.val + (y 0).val = win0_15.index t 0 * 128 + 1 * (y 0).val; rw [(at15 t).1]; omega
  · show (y 1).val = win0_15.index t 1 * 2816 + 1 * (y 1).val; rw [(at15 t).2]; omega

theorem cover_15 (i : S8192x2816.Idx) :
    ∃ t : Fin cfg0.N, (cfg0.win 15).flush t = true ∧ i ∈ ((cfg0.win 15).blk t).view.set := by
  have h0 : (i 0 : Nat) < 8192 := (i 0).isLt
  have h1 : (i 1 : Nat) < 2816 := (i 1).isLt
  have hN : cfg0.N = 64 := points
  have ht : (i 0 : Nat) / 128 < cfg0.N := by omega
  refine ⟨⟨(i 0 : Nat) / 128, ht⟩, flush0_15 _, ?_⟩
  show i ∈ ((View.whole main_v8_2).slice (win0_15.rect ⟨(i 0 : Nat) / 128, ht⟩)).set
  rw [View.set_slice_whole, Rect.mem_set_unit]
  intro a
  match a with
  | ⟨0, _⟩ =>
    show win0_15.index ⟨(i 0 : Nat) / 128, ht⟩ 0 * 128 ≤ (i 0 : Nat) ∧ (i 0 : Nat) < win0_15.index ⟨(i 0 : Nat) / 128, ht⟩ 0 * 128 + 128
    rw [(at15 ⟨(i 0 : Nat) / 128, ht⟩).1]; dsimp only; omega
  | ⟨1, _⟩ =>
    show win0_15.index ⟨(i 0 : Nat) / 128, ht⟩ 1 * 2816 ≤ (i 1 : Nat) ∧ (i 1 : Nat) < win0_15.index ⟨(i 0 : Nat) / 128, ht⟩ 1 * 2816 + 2816
    rw [(at15 ⟨(i 0 : Nat) / 128, ht⟩).2]; omega

theorem final15 (c : Dev nD) : (dats m 0 c).arrAt 15 cfg0.N = arr15 m c :=
  (dats m 0 c).arrAt_eq_of_cover 15 (arr15 m c) (fun t _ => flushed_eq15 m c t) cover_15

/-- The gated branch, as an array. -/
def arr16 (c : Dev nD) : Vec Ideal S8192x2816 .bf16 := fun y => FfnFwdSpec.f (ops m c) (y 0) (y 1)

theorem flushed_eq16 (c : Dev nD) (t : Fin cfg0.N) :
    (dats m 0 c).flushed 16 t = ((cfg0.win 16).blk t).view.read (Elt Ideal) (arr16 m c) := by
  have e : (outsAt0 m c t.val t.isLt).2.2.2.1 = fun y => FfnFwdSpec.f (ops m c) (row t (y 0)) (y 1) := by
    rw [out16]; funext y
    obtain ⟨r, j, rfl⟩ : ∃ (r : Fin 128) (j : Fin 2816), y = ix2 r j := ⟨y 0, y 1, eq_ix2 y⟩
    exact (by unfold k0_pay41; pointwise : k0_pay41 (fB m c t) (ix2 r j) = fB m c t (ix2 r j)).trans (fB_apply m c t r j)
  rw [Value.flushed16, e]
  funext y
  rw [View.read_apply]
  refine congrArg₂ (FfnFwdSpec.f (ops m c)) (Fin.ext ?_) (Fin.ext ?_)
  · show 128 * t.val + (y 0).val = win0_16.index t 0 * 128 + 1 * (y 0).val; rw [(at16 t).1]; omega
  · show (y 1).val = win0_16.index t 1 * 2816 + 1 * (y 1).val; rw [(at16 t).2]; omega

theorem cover_16 (i : S8192x2816.Idx) :
    ∃ t : Fin cfg0.N, (cfg0.win 16).flush t = true ∧ i ∈ ((cfg0.win 16).blk t).view.set := by
  have h0 : (i 0 : Nat) < 8192 := (i 0).isLt
  have h1 : (i 1 : Nat) < 2816 := (i 1).isLt
  have hN : cfg0.N = 64 := points
  have ht : (i 0 : Nat) / 128 < cfg0.N := by omega
  refine ⟨⟨(i 0 : Nat) / 128, ht⟩, flush0_16 _, ?_⟩
  show i ∈ ((View.whole main_v8_3).slice (win0_16.rect ⟨(i 0 : Nat) / 128, ht⟩)).set
  rw [View.set_slice_whole, Rect.mem_set_unit]
  intro a
  match a with
  | ⟨0, _⟩ =>
    show win0_16.index ⟨(i 0 : Nat) / 128, ht⟩ 0 * 128 ≤ (i 0 : Nat) ∧ (i 0 : Nat) < win0_16.index ⟨(i 0 : Nat) / 128, ht⟩ 0 * 128 + 128
    rw [(at16 ⟨(i 0 : Nat) / 128, ht⟩).1]; dsimp only; omega
  | ⟨1, _⟩ =>
    show win0_16.index ⟨(i 0 : Nat) / 128, ht⟩ 1 * 2816 ≤ (i 1 : Nat) ∧ (i 1 : Nat) < win0_16.index ⟨(i 0 : Nat) / 128, ht⟩ 1 * 2816 + 2816
    rw [(at16 ⟨(i 0 : Nat) / 128, ht⟩).2]; omega

theorem final16 (c : Dev nD) : (dats m 0 c).arrAt 16 cfg0.N = arr16 m c :=
  (dats m 0 c).arrAt_eq_of_cover 16 (arr16 m c) (fun t _ => flushed_eq16 m c t) cover_16

/-- The gradient of the block's output, as an array. -/
def arr17 (c : Dev nD) : Vec Ideal S8192x1024 .bf16 := fun y => FfnFwdSpec.dffn (ops m c) (y 0) (y 1)

theorem flushed_eq17 (c : Dev nD) (t : Fin cfg0.N) :
    (dats m 0 c).flushed 17 t = ((cfg0.win 17).blk t).view.read (Elt Ideal) (arr17 m c) := by
  have e : (outsAt0 m c t.val t.isLt).2.2.2.2.1 = fun y => FfnFwdSpec.dffn (ops m c) (row t (y 0)) (y 1) := by
    rw [out17]; funext y
    obtain ⟨r, j, rfl⟩ : ∃ (r : Fin 128) (j : Fin 1024), y = ix2 r j := ⟨y 0, y 1, eq_ix2 y⟩
    exact (by unfold k0_pay42; pointwise : k0_pay42 (dffnB m c t) (ix2 r j) = dffnB m c t (ix2 r j)).trans (dffnB_apply m c t r j)
  rw [Value.flushed17, e]
  funext y
  rw [View.read_apply]
  refine congrArg₂ (FfnFwdSpec.dffn (ops m c)) (Fin.ext ?_) (Fin.ext ?_)
  · show 128 * t.val + (y 0).val = win0_17.index t 0 * 128 + 1 * (y 0).val; rw [(at17 t).1]; omega
  · show (y 1).val = win0_17.index t 1 * 1024 + 1 * (y 1).val; rw [(at17 t).2]; omega

theorem cover_17 (i : S8192x1024.Idx) :
    ∃ t : Fin cfg0.N, (cfg0.win 17).flush t = true ∧ i ∈ ((cfg0.win 17).blk t).view.set := by
  have h0 : (i 0 : Nat) < 8192 := (i 0).isLt
  have h1 : (i 1 : Nat) < 1024 := (i 1).isLt
  have hN : cfg0.N = 64 := points
  have ht : (i 0 : Nat) / 128 < cfg0.N := by omega
  refine ⟨⟨(i 0 : Nat) / 128, ht⟩, flush0_17 _, ?_⟩
  show i ∈ ((View.whole main_v8_4).slice (win0_17.rect ⟨(i 0 : Nat) / 128, ht⟩)).set
  rw [View.set_slice_whole, Rect.mem_set_unit]
  intro a
  match a with
  | ⟨0, _⟩ =>
    show win0_17.index ⟨(i 0 : Nat) / 128, ht⟩ 0 * 128 ≤ (i 0 : Nat) ∧ (i 0 : Nat) < win0_17.index ⟨(i 0 : Nat) / 128, ht⟩ 0 * 128 + 128
    rw [(at17 ⟨(i 0 : Nat) / 128, ht⟩).1]; dsimp only; omega
  | ⟨1, _⟩ =>
    show win0_17.index ⟨(i 0 : Nat) / 128, ht⟩ 1 * 1024 ≤ (i 1 : Nat) ∧ (i 1 : Nat) < win0_17.index ⟨(i 0 : Nat) / 128, ht⟩ 1 * 1024 + 1024
    rw [(at17 ⟨(i 0 : Nat) / 128, ht⟩).2]; omega

theorem final17 (c : Dev nD) : (dats m 0 c).arrAt 17 cfg0.N = arr17 m c :=
  (dats m 0 c).arrAt_eq_of_cover 17 (arr17 m c) (fun t _ => flushed_eq17 m c t) cover_17

/-! ### The accumulated outputs -/

theorem step18 (c : Dev nD) (t : Fin cfg0.N) (p : Vec Ideal S1x128 .f32) (j : Fin 128) :
    k0_pay43 (lossB m c t) p (ix2 0 j) = p (ix2 0 j) + (fun s => FfnFwdSpec.half * FfnFwdSpec.tile (FfnFwdSpec.rowLoss (ops m c)) s) t.val := by
  rw [pay43_apply]
  exact congrArg (_ + ·) (lossB_apply m c t)

theorem zero18 (j : Fin 128) : (k0_pay2 (F := Ideal)) (ix2 0 j) = 0 := by
  unfold k0_pay2
  pointwise

/-- The loss after point `n` is the sum of the tiles' parts up to it. -/
theorem acc18 (c : Dev nD) (j : Fin 128) : ∀ (n : ℕ) (h : n < cfg0.N), (outsAt0 m c n h).2.2.2.2.2.1 (ix2 0 j)
    = FfnFwdSpec.upto (fun s => FfnFwdSpec.half * FfnFwdSpec.tile (FfnFwdSpec.rowLoss (ops m c)) s) (n + 1) := by
  intro n
  induction n with
  | zero =>
    intro h
    refine (congrFun (out18_A m c ⟨0, h⟩ rfl) _).trans ?_
    rw [step18, zero18, zero_add, FfnFwdSpec.upto_one]
  | succ n ih =>
    intro h
    have hN : cfg0.N = 64 := points
    refine (congrFun (out18_B m c ⟨n + 1, h⟩ (by dsimp only; omega)) _).trans ?_
    rw [step18, FfnFwdSpec.upto_succ]
    exact congrArg (· + _) (ih _)

theorem step19 (c : Dev nD) (t : Fin cfg0.N) (p : Vec Ideal S1x1024 .f32) (j : Fin 1024) :
    k0_pay44 (dfnB m c t) p (ix2 0 j) = p (ix2 0 j) + (FfnFwdSpec.tile (fun r => FfnFwdSpec.nz (ops m c) r j * FfnFwdSpec.dy (ops m c) r j)) t.val := by
  rw [pay44_apply]
  exact congrArg (_ + ·) (dfnB_apply m c t j)

theorem zero19 (j : Fin 1024) : (k0_pay3 (F := Ideal)) (ix2 0 j) = 0 := by
  unfold k0_pay3
  pointwise

/-- The gradient of the final norm's weight after point `n` is the sum of the tiles' parts up to it. -/
theorem acc19 (c : Dev nD) (j : Fin 1024) : ∀ (n : ℕ) (h : n < cfg0.N), (outsAt0 m c n h).2.2.2.2.2.2.1 (ix2 0 j)
    = FfnFwdSpec.upto (FfnFwdSpec.tile (fun r => FfnFwdSpec.nz (ops m c) r j * FfnFwdSpec.dy (ops m c) r j)) (n + 1) := by
  intro n
  induction n with
  | zero =>
    intro h
    refine (congrFun (out19_A m c ⟨0, h⟩ rfl) _).trans ?_
    rw [step19, zero19, zero_add, FfnFwdSpec.upto_one]
  | succ n ih =>
    intro h
    have hN : cfg0.N = 64 := points
    refine (congrFun (out19_B m c ⟨n + 1, h⟩ (by dsimp only; omega)) _).trans ?_
    rw [step19, FfnFwdSpec.upto_succ]
    exact congrArg (· + _) (ih _)

theorem step20 (c : Dev nD) (t : Fin cfg0.N) (p : Vec Ideal S1x1024 .f32) (j : Fin 1024) :
    k0_pay45 (dg2B m c t) p (ix2 0 j) = p (ix2 0 j) + (FfnFwdSpec.tile (fun r => FfnFwdSpec.dz (ops m c) r j * FfnFwdSpec.ffn (ops m c) r j)) t.val := by
  rw [pay45_apply]
  exact congrArg (_ + ·) (dg2B_apply m c t j)

theorem zero20 (j : Fin 1024) : (k0_pay4 (F := Ideal)) (ix2 0 j) = 0 := by
  unfold k0_pay4
  pointwise

/-- The gradient of the residual's gate after point `n` is the sum of the tiles' parts up to it. -/
theorem acc20 (c : Dev nD) (j : Fin 1024) : ∀ (n : ℕ) (h : n < cfg0.N), (outsAt0 m c n h).2.2.2.2.2.2.2.1 (ix2 0 j)
    = FfnFwdSpec.upto (FfnFwdSpec.tile (fun r => FfnFwdSpec.dz (ops m c) r j * FfnFwdSpec.ffn (ops m c) r j)) (n + 1) := by
  intro n
  induction n with
  | zero =>
    intro h
    refine (congrFun (out20_A m c ⟨0, h⟩ rfl) _).trans ?_
    rw [step20, zero20, zero_add, FfnFwdSpec.upto_one]
  | succ n ih =>
    intro h
    have hN : cfg0.N = 64 := points
    refine (congrFun (out20_B m c ⟨n + 1, h⟩ (by dsimp only; omega)) _).trans ?_
    rw [step20, FfnFwdSpec.upto_succ]
    exact congrArg (· + _) (ih _)

theorem step21 (c : Dev nD) (t : Fin cfg0.N) (p : Vec Ideal S1x2816 .f32) (j : Fin 2816) :
    k0_pay46 (dgcB m c t) p (ix2 0 j) = p (ix2 0 j) + FfnFwdSpec.tile (fun r => FfnFwdSpec.dgc (ops m c) r j) t.val := by
  rw [pay46_apply, FfnFwdSpec.tile_eq _ (tl t)]
  exact congrArg (_ + ·) (Finset.sum_congr rfl fun r _ => dgcB_apply m c t r j)

theorem zero21 (j : Fin 2816) : (k0_pay5 (F := Ideal)) (ix2 0 j) = 0 := by
  unfold k0_pay5
  pointwise

/-- The gradient of the taps' bias after point `n` is the sum of the tiles' parts up to it. -/
theorem acc21 (c : Dev nD) (j : Fin 2816) : ∀ (n : ℕ) (h : n < cfg0.N), (outsAt0 m c n h).2.2.2.2.2.2.2.2.1 (ix2 0 j)
    = FfnFwdSpec.upto (FfnFwdSpec.tile (fun r => FfnFwdSpec.dgc (ops m c) r j)) (n + 1) := by
  intro n
  induction n with
  | zero =>
    intro h
    refine (congrFun (out21_A m c ⟨0, h⟩ rfl) _).trans ?_
    rw [step21, zero21, zero_add, FfnFwdSpec.upto_one]
  | succ n ih =>
    intro h
    have hN : cfg0.N = 64 := points
    refine (congrFun (out21_B m c ⟨n + 1, h⟩ (by dsimp only; omega)) _).trans ?_
    rw [step21, FfnFwdSpec.upto_succ]
    exact congrArg (· + _) (ih _)

theorem acc22 (c : Dev nD) (i : Fin 3) (j : Fin 2816) : ∀ (n : ℕ) (h : n < cfg0.N), (outsAt0 m c n h).2.2.2.2.2.2.2.2.2 (ix2 i j)
    = FfnFwdSpec.upto (FfnFwdSpec.tile (fun r => FfnFwdSpec.dgc (ops m c) r j * FfnFwdSpec.tapped (ops m c) i r j)) (n + 1) := by
  intro n
  induction n with
  | zero =>
    intro h
    refine (out22_A m c ⟨0, h⟩ rfl i j).trans ?_
    rw [zero_add, FfnFwdSpec.upto_one]
    rfl
  | succ n ih =>
    intro h
    have hN : cfg0.N = 64 := points
    refine (out22_B m c ⟨n + 1, h⟩ (by dsimp only; omega) i j).trans ?_
    rw [FfnFwdSpec.upto_succ]
    exact congrArg (· + _) (ih _)

/-- The loss, as an array. -/
def arr18 (c : Dev nD) : Vec Ideal S1x128 .f32 := fun _ => FfnFwdSpec.loss (ops m c)

theorem flushed_eq18 (c : Dev nD) (hI : FfnFwdSpec.Fin' (ops m c)) (t : Fin cfg0.N) (hf : (cfg0.win 18).flush t = true) :
    (dats m 0 c).flushed 18 t = ((cfg0.win 18).blk t).view.read (Elt Ideal) (arr18 m c) := by
  have h63 : t.val = 63 := by have := (flush0_18 t).mp hf; have := point_lt t; omega
  have e : (outsAt0 m c t.val t.isLt).2.2.2.2.2.1 = fun _ => FfnFwdSpec.loss (ops m c) := by
    funext y
    obtain ⟨r, j, rfl⟩ : ∃ (r : Fin 1) (j : Fin 128), y = ix2 r j := ⟨y 0, y 1, eq_ix2 y⟩
    obtain rfl : r = 0 := Subsingleton.elim _ _
    rw [acc18, h63]
    exact FfnFwdSpec.loss_tiles hI
  rw [Value.flushed18, e]
  funext y
  rw [View.read_apply]
  rfl

theorem cover_18 (i : S1x128.Idx) :
    ∃ t : Fin cfg0.N, (cfg0.win 18).flush t = true ∧ i ∈ ((cfg0.win 18).blk t).view.set := by
  have h0 : (i 0 : Nat) < 1 := (i 0).isLt
  have h1 : (i 1 : Nat) < 128 := (i 1).isLt
  have hN : cfg0.N = 64 := points
  have ht : 63 < cfg0.N := by omega
  refine ⟨⟨63, ht⟩, (flush0_18 _).mpr rfl, ?_⟩
  show i ∈ ((View.whole main_v8_5).slice (win0_18.rect ⟨63, ht⟩)).set
  rw [View.set_slice_whole, Rect.mem_set_unit]
  intro a
  match a with
  | ⟨0, _⟩ =>
    show win0_18.index ⟨63, ht⟩ 0 * 1 ≤ (i 0 : Nat) ∧ (i 0 : Nat) < win0_18.index ⟨63, ht⟩ 0 * 1 + 1
    rw [(at18 ⟨63, ht⟩).1]; omega
  | ⟨1, _⟩ =>
    show win0_18.index ⟨63, ht⟩ 1 * 128 ≤ (i 1 : Nat) ∧ (i 1 : Nat) < win0_18.index ⟨63, ht⟩ 1 * 128 + 128
    rw [(at18 ⟨63, ht⟩).2]; omega

theorem final18 (c : Dev nD) (hI : FfnFwdSpec.Fin' (ops m c)) : (dats m 0 c).arrAt 18 cfg0.N = arr18 m c :=
  (dats m 0 c).arrAt_eq_of_cover 18 (arr18 m c) (flushed_eq18 m c hI) cover_18

/-- The gradient of the final norm's weight, as an array. -/
def arr19 (c : Dev nD) : Vec Ideal S1x1024 .f32 := fun y => FfnFwdSpec.dfn (ops m c) (y 1)

theorem flushed_eq19 (c : Dev nD) (t : Fin cfg0.N) (hf : (cfg0.win 19).flush t = true) :
    (dats m 0 c).flushed 19 t = ((cfg0.win 19).blk t).view.read (Elt Ideal) (arr19 m c) := by
  have h63 : t.val = 63 := by have := (flush0_19 t).mp hf; have := point_lt t; omega
  have e : (outsAt0 m c t.val t.isLt).2.2.2.2.2.2.1 = fun y => FfnFwdSpec.dfn (ops m c) (y 1) := by
    funext y
    obtain ⟨r, j, rfl⟩ : ∃ (r : Fin 1) (j : Fin 1024), y = ix2 r j := ⟨y 0, y 1, eq_ix2 y⟩
    obtain rfl : r = 0 := Subsingleton.elim _ _
    rw [acc19, h63]
    exact FfnFwdSpec.upto_tile _
  rw [Value.flushed19, e]
  funext y
  rw [View.read_apply]
  unfold arr19
  rw [cast_eq]
  refine congrArg (FfnFwdSpec.dfn (ops m c)) (Fin.ext ?_)
  show (y 1).val = win0_19.index t 1 * 1024 + 1 * (y 1).val; rw [(at19 t).2]; omega

theorem cover_19 (i : S1x1024.Idx) :
    ∃ t : Fin cfg0.N, (cfg0.win 19).flush t = true ∧ i ∈ ((cfg0.win 19).blk t).view.set := by
  have h0 : (i 0 : Nat) < 1 := (i 0).isLt
  have h1 : (i 1 : Nat) < 1024 := (i 1).isLt
  have hN : cfg0.N = 64 := points
  have ht : 63 < cfg0.N := by omega
  refine ⟨⟨63, ht⟩, (flush0_19 _).mpr rfl, ?_⟩
  show i ∈ ((View.whole main_v8_6).slice (win0_19.rect ⟨63, ht⟩)).set
  rw [View.set_slice_whole, Rect.mem_set_unit]
  intro a
  match a with
  | ⟨0, _⟩ =>
    show win0_19.index ⟨63, ht⟩ 0 * 1 ≤ (i 0 : Nat) ∧ (i 0 : Nat) < win0_19.index ⟨63, ht⟩ 0 * 1 + 1
    rw [(at19 ⟨63, ht⟩).1]; omega
  | ⟨1, _⟩ =>
    show win0_19.index ⟨63, ht⟩ 1 * 1024 ≤ (i 1 : Nat) ∧ (i 1 : Nat) < win0_19.index ⟨63, ht⟩ 1 * 1024 + 1024
    rw [(at19 ⟨63, ht⟩).2]; omega

theorem final19 (c : Dev nD) : (dats m 0 c).arrAt 19 cfg0.N = arr19 m c :=
  (dats m 0 c).arrAt_eq_of_cover 19 (arr19 m c) (flushed_eq19 m c) cover_19

/-- The gradient of the residual's gate, as an array. -/
def arr20 (c : Dev nD) : Vec Ideal S1x1024 .f32 := fun y => FfnFwdSpec.dg2 (ops m c) (y 1)

theorem flushed_eq20 (c : Dev nD) (t : Fin cfg0.N) (hf : (cfg0.win 20).flush t = true) :
    (dats m 0 c).flushed 20 t = ((cfg0.win 20).blk t).view.read (Elt Ideal) (arr20 m c) := by
  have h63 : t.val = 63 := by have := (flush0_20 t).mp hf; have := point_lt t; omega
  have e : (outsAt0 m c t.val t.isLt).2.2.2.2.2.2.2.1 = fun y => FfnFwdSpec.dg2 (ops m c) (y 1) := by
    funext y
    obtain ⟨r, j, rfl⟩ : ∃ (r : Fin 1) (j : Fin 1024), y = ix2 r j := ⟨y 0, y 1, eq_ix2 y⟩
    obtain rfl : r = 0 := Subsingleton.elim _ _
    rw [acc20, h63]
    exact FfnFwdSpec.upto_tile _
  rw [Value.flushed20, e]
  funext y
  rw [View.read_apply]
  unfold arr20
  rw [cast_eq]
  refine congrArg (FfnFwdSpec.dg2 (ops m c)) (Fin.ext ?_)
  show (y 1).val = win0_20.index t 1 * 1024 + 1 * (y 1).val; rw [(at20 t).2]; omega

theorem cover_20 (i : S1x1024.Idx) :
    ∃ t : Fin cfg0.N, (cfg0.win 20).flush t = true ∧ i ∈ ((cfg0.win 20).blk t).view.set := by
  have h0 : (i 0 : Nat) < 1 := (i 0).isLt
  have h1 : (i 1 : Nat) < 1024 := (i 1).isLt
  have hN : cfg0.N = 64 := points
  have ht : 63 < cfg0.N := by omega
  refine ⟨⟨63, ht⟩, (flush0_20 _).mpr rfl, ?_⟩
  show i ∈ ((View.whole main_v8_7).slice (win0_20.rect ⟨63, ht⟩)).set
  rw [View.set_slice_whole, Rect.mem_set_unit]
  intro a
  match a with
  | ⟨0, _⟩ =>
    show win0_20.index ⟨63, ht⟩ 0 * 1 ≤ (i 0 : Nat) ∧ (i 0 : Nat) < win0_20.index ⟨63, ht⟩ 0 * 1 + 1
    rw [(at20 ⟨63, ht⟩).1]; omega
  | ⟨1, _⟩ =>
    show win0_20.index ⟨63, ht⟩ 1 * 1024 ≤ (i 1 : Nat) ∧ (i 1 : Nat) < win0_20.index ⟨63, ht⟩ 1 * 1024 + 1024
    rw [(at20 ⟨63, ht⟩).2]; omega

theorem final20 (c : Dev nD) : (dats m 0 c).arrAt 20 cfg0.N = arr20 m c :=
  (dats m 0 c).arrAt_eq_of_cover 20 (arr20 m c) (flushed_eq20 m c) cover_20

/-- The gradient of the taps' bias, as an array. -/
def arr21 (c : Dev nD) : Vec Ideal S1x2816 .f32 := fun y => FfnFwdSpec.dcb (ops m c) (y 1)

theorem flushed_eq21 (c : Dev nD) (t : Fin cfg0.N) (hf : (cfg0.win 21).flush t = true) :
    (dats m 0 c).flushed 21 t = ((cfg0.win 21).blk t).view.read (Elt Ideal) (arr21 m c) := by
  have h63 : t.val = 63 := by have := (flush0_21 t).mp hf; have := point_lt t; omega
  have e : (outsAt0 m c t.val t.isLt).2.2.2.2.2.2.2.2.1 = fun y => FfnFwdSpec.dcb (ops m c) (y 1) := by
    funext y
    obtain ⟨r, j, rfl⟩ : ∃ (r : Fin 1) (j : Fin 2816), y = ix2 r j := ⟨y 0, y 1, eq_ix2 y⟩
    obtain rfl : r = 0 := Subsingleton.elim _ _
    rw [acc21, h63]
    exact FfnFwdSpec.upto_tile _
  rw [Value.flushed21, e]
  funext y
  rw [View.read_apply]
  unfold arr21
  rw [cast_eq]
  refine congrArg (FfnFwdSpec.dcb (ops m c)) (Fin.ext ?_)
  show (y 1).val = win0_21.index t 1 * 2816 + 1 * (y 1).val; rw [(at21 t).2]; omega

theorem cover_21 (i : S1x2816.Idx) :
    ∃ t : Fin cfg0.N, (cfg0.win 21).flush t = true ∧ i ∈ ((cfg0.win 21).blk t).view.set := by
  have h0 : (i 0 : Nat) < 1 := (i 0).isLt
  have h1 : (i 1 : Nat) < 2816 := (i 1).isLt
  have hN : cfg0.N = 64 := points
  have ht : 63 < cfg0.N := by omega
  refine ⟨⟨63, ht⟩, (flush0_21 _).mpr rfl, ?_⟩
  show i ∈ ((View.whole main_v8_8).slice (win0_21.rect ⟨63, ht⟩)).set
  rw [View.set_slice_whole, Rect.mem_set_unit]
  intro a
  match a with
  | ⟨0, _⟩ =>
    show win0_21.index ⟨63, ht⟩ 0 * 1 ≤ (i 0 : Nat) ∧ (i 0 : Nat) < win0_21.index ⟨63, ht⟩ 0 * 1 + 1
    rw [(at21 ⟨63, ht⟩).1]; omega
  | ⟨1, _⟩ =>
    show win0_21.index ⟨63, ht⟩ 1 * 2816 ≤ (i 1 : Nat) ∧ (i 1 : Nat) < win0_21.index ⟨63, ht⟩ 1 * 2816 + 2816
    rw [(at21 ⟨63, ht⟩).2]; omega

theorem final21 (c : Dev nD) : (dats m 0 c).arrAt 21 cfg0.N = arr21 m c :=
  (dats m 0 c).arrAt_eq_of_cover 21 (arr21 m c) (flushed_eq21 m c) cover_21

/-- The gradient of the taps, as an array. -/
def arr22 (c : Dev nD) : Vec Ideal S3x2816 .f32 := fun y => FfnFwdSpec.dcw (ops m c) (y 0) (y 1)

theorem flushed_eq22 (c : Dev nD) (t : Fin cfg0.N) (hf : (cfg0.win 22).flush t = true) :
    (dats m 0 c).flushed 22 t = ((cfg0.win 22).blk t).view.read (Elt Ideal) (arr22 m c) := by
  have h63 : t.val = 63 := by have := (flush0_22 t).mp hf; have := point_lt t; omega
  have e : (outsAt0 m c t.val t.isLt).2.2.2.2.2.2.2.2.2 = fun y => FfnFwdSpec.dcw (ops m c) (y 0) (y 1) := by
    funext y
    obtain ⟨r, j, rfl⟩ : ∃ (r : Fin 3) (j : Fin 2816), y = ix2 r j := ⟨y 0, y 1, eq_ix2 y⟩
    rw [acc22, h63]
    exact FfnFwdSpec.upto_tile _
  rw [Value.flushed22, e]
  funext y
  rw [View.read_apply]
  unfold arr22
  rw [cast_eq]
  refine congrArg₂ (FfnFwdSpec.dcw (ops m c)) (Fin.ext ?_) (Fin.ext ?_)
  · show (y 0).val = win0_22.index t 0 * 3 + 1 * (y 0).val; rw [(at22 t).1]; omega
  · show (y 1).val = win0_22.index t 1 * 2816 + 1 * (y 1).val; rw [(at22 t).2]; omega

theorem cover_22 (i : S3x2816.Idx) :
    ∃ t : Fin cfg0.N, (cfg0.win 22).flush t = true ∧ i ∈ ((cfg0.win 22).blk t).view.set := by
  have h0 : (i 0 : Nat) < 3 := (i 0).isLt
  have h1 : (i 1 : Nat) < 2816 := (i 1).isLt
  have hN : cfg0.N = 64 := points
  have ht : 63 < cfg0.N := by omega
  refine ⟨⟨63, ht⟩, (flush0_22 _).mpr rfl, ?_⟩
  show i ∈ ((View.whole main_v8_9).slice (win0_22.rect ⟨63, ht⟩)).set
  rw [View.set_slice_whole, Rect.mem_set_unit]
  intro a
  match a with
  | ⟨0, _⟩ =>
    show win0_22.index ⟨63, ht⟩ 0 * 3 ≤ (i 0 : Nat) ∧ (i 0 : Nat) < win0_22.index ⟨63, ht⟩ 0 * 3 + 3
    rw [(at22 ⟨63, ht⟩).1]; omega
  | ⟨1, _⟩ =>
    show win0_22.index ⟨63, ht⟩ 1 * 2816 ≤ (i 1 : Nat) ∧ (i 1 : Nat) < win0_22.index ⟨63, ht⟩ 1 * 2816 + 2816
    rw [(at22 ⟨63, ht⟩).2]; omega

theorem final22 (c : Dev nD) : (dats m 0 c).arrAt 22 cfg0.N = arr22 m c :=
  (dats m 0 c).arrAt_eq_of_cover 22 (arr22 m c) (flushed_eq22 m c) cover_22

end Cert.FfnFwd

end
-- ==== Proof.FfnFwdRef.lean ====
/- The reference of the feed-forward forward pass and its gradients, entry by entry: each result is the formula of
   `FfnFwdSpec`. -/
module

public import proofs.«01_k».proof.Proof.Gen.ReferenceFwdIdeal.Read
public import proofs.«01_k».proof.Proof.FfnFwdSpec
public import Idealize.ShloMosaic.Lib.Pointwise

@[expose] public section

noncomputable section

namespace Cert.FfnFwdRef

open Cert.ReferenceFwdIdeal Cert.ReferenceFwdIdeal.Gen Cert.ReferenceFwdIdeal.Read Idealize.ShloMosaic Idealize.ShloMosaic.TcCoe Idealize.SL.Sem
open Cert.RowMath Cert.FfnFwdSpec

variable (x0 x1 : Vec Ideal S8192x1024 .f32) (x2 : Vec Ideal S1x1024 .f32) (x3 : Vec Ideal S6x1024 .f32)
  (x4 : Vec Ideal S1024x5632 .f32) (x5 : Vec Ideal S3x2816 .f32) (x6 : Vec Ideal S1x2816 .f32)
  (x7 : Vec Ideal S2816x1024 .f32) (x8 : Vec Ideal S1x1024 .f32)

/-- The argument arrays as the operands of the formulas. -/
def ops : FfnFwdSpec.In where
  x r k := x0 (ix2 r k)
  tgt r k := x1 (ix2 r k)
  nw k := x2 (ix2 0 k)
  sh k := x3 (ix2 3 k)
  sc k := x3 (ix2 4 k)
  g2 k := x3 (ix2 5 k)
  w k j := x4 (ix2 k j)
  cw i j := x5 (ix2 i j)
  cb j := x6 (ix2 0 j)
  wd j k := x7 (ix2 j k)
  fn k := x8 (ix2 0 k)

/-! ### The branches -/

theorem v8_apply (r : Fin 8192) :
    val_main_v8 (F := Ideal) x0 (ix2 r 0) = scale fun k => x0 (ix2 r k) := by
  pointwise [val_main_v8, val_main_v7, val_main_v6, val_main_v5, val_main_v4, val_main_v3, val_main_v2, val_main_v1, val_main_cst_1, val_main_cst_0, val_main_cst]
  rfl

theorem v25_apply (r : Fin 8192) (k : Fin 1024) :
    val_main_v25 (F := Ideal) x0 x2 x3 (ix2 r k) = hrow (ops x0 x1 x2 x3 x4 x5 x6 x7 x8) ((ops x0 x1 x2 x3 x4 x5 x6 x7 x8).x r) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v0, val_main_cst_2]
  rw [v8_apply]
  rfl

theorem v26_apply (r : Fin 8192) (q : Fin 5632) :
    val_main_v26 (F := Ideal) x0 x2 x3 x4 (ix2 r q) = ∑ k : Fin 1024, hrow (ops x0 x1 x2 x3 x4 x5 x6 x7 x8) ((ops x0 x1 x2 x3 x4 x5 x6 x7 x8).x r) k * x4 (ix2 k q) := by
  pointwise [val_main_v26]
  simp only [v25_apply x0 x1 x2 x3 x4 x5 x6 x7 x8]

theorem v27_apply (r : Fin 8192) (j : Fin 2816) :
    val_main_v27 (F := Ideal) x0 x2 x3 x4 (ix2 r j) = a (ops x0 x1 x2 x3 x4 x5 x6 x7 x8) r j := by
  pointwise [val_main_v27]
  rw [v26_apply x0 x1 x2 x3 x4 x5 x6 x7 x8]
  rfl

theorem v28_apply (r : Fin 8192) (j : Fin 2816) :
    val_main_v28 (F := Ideal) x0 x2 x3 x4 (ix2 r j) = g (ops x0 x1 x2 x3 x4 x5 x6 x7 x8) r j := by
  pointwise [val_main_v28]
  rw [v26_apply x0 x1 x2 x3 x4 x5 x6 x7 x8]
  rfl

/-! ### The convolution -/

theorem v31_apply (r : Fin 8192) (j : Fin 2816) :
    val_main_v31 (F := Ideal) x0 x2 x3 x4 (ix2 r j) = gp (ops x0 x1 x2 x3 x4 x5 x6 x7 x8) r j := by
  pointwise [val_main_v31, val_main_v30, val_main_v29, val_main_cst_3]
  simp only [v28_apply x0 x1 x2 x3 x4 x5 x6 x7 x8]
  unfold gp
  by_cases h : r.val < 1
  · exact (dif_pos h).trans (Eq.symm (dif_neg (show ¬ 0 < r.val by omega)))
  · refine ((dif_neg h).trans (dif_pos (show r.val - 1 < 8192 by omega))).trans (Eq.symm ?_)
    exact dif_pos (show 0 < r.val by omega)

theorem v37_apply (r : Fin 8192) (j : Fin 2816) :
    val_main_v37 (F := Ideal) x0 x2 x3 x4 (ix2 r j) = g (ops x0 x1 x2 x3 x4 x5 x6 x7 x8) r j := by
  pointwise [val_main_v37, val_main_v30, val_main_v29, val_main_cst_3]
  simp only [v28_apply x0 x1 x2 x3 x4 x5 x6 x7 x8]

theorem v44_apply (r : Fin 8192) (j : Fin 2816) :
    val_main_v44 (F := Ideal) x0 x2 x3 x4 (ix2 r j) = gn (ops x0 x1 x2 x3 x4 x5 x6 x7 x8) r j := by
  pointwise [val_main_v44, val_main_v30, val_main_v29, val_main_cst_3]
  simp only [v28_apply x0 x1 x2 x3 x4 x5 x6 x7 x8]
  unfold gn
  refine (dif_neg (show ¬ 2 + r.val < 1 by omega)).trans ?_
  by_cases h : r.val + 1 < 8192
  · refine (dif_pos (show 2 + r.val - 1 < 8192 by omega)).trans (Eq.trans ?_ (dif_pos h).symm)
    exact congrArg (fun q => g _ q j) (Fin.ext (show 2 + r.val - 1 = r.val + 1 by omega))
  · refine (dif_neg (show ¬ 2 + r.val - 1 < 8192 by omega)).trans (Eq.symm ?_)
    exact dif_neg h

theorem v54_apply (r : Fin 8192) (j : Fin 2816) :
    val_main_v54 (F := Ideal) x0 x2 x3 x4 x5 x6 (ix2 r j) = gc (ops x0 x1 x2 x3 x4 x5 x6 x7 x8) r j := by
  pointwise [val_main_v54, val_main_v53, val_main_v52, val_main_v51, val_main_v50, val_main_v49, val_main_v48, val_main_v47, val_main_v46, val_main_v45, val_main_v43, val_main_v42, val_main_v41, val_main_v40, val_main_v39, val_main_v38, val_main_v36, val_main_v35, val_main_v34, val_main_v33, val_main_v32]
  rw [v31_apply x0 x1 x2 x3 x4 x5 x6 x7 x8, v37_apply x0 x1 x2 x3 x4 x5 x6 x7 x8, v44_apply x0 x1 x2 x3 x4 x5 x6 x7 x8]
  exact gc_eq r j

/-! ### The gate and the block -/

theorem v66_apply (r : Fin 8192) (j : Fin 2816) :
    val_main_v66 (F := Ideal) x0 x2 x3 x4 x5 x6 (ix2 r j) = th (ops x0 x1 x2 x3 x4 x5 x6 x7 x8) r j := by
  pointwise [val_main_v66, val_main_v65, val_main_v64, val_main_v63, val_main_v62, val_main_v61, val_main_v57, val_main_v56, val_main_v55, val_main_cst_7, val_main_cst_4, val_main_cst_5]
  rw [v54_apply x0 x1 x2 x3 x4 x5 x6 x7 x8, c1_eq]
  rfl

theorem v75_apply (r : Fin 8192) (j : Fin 2816) :
    val_main_v75 (F := Ideal) x0 x2 x3 x4 x5 x6 (ix2 r j) = half * (1 + th (ops x0 x1 x2 x3 x4 x5 x6 x7 x8) r j) := by
  pointwise [val_main_v75, val_main_v74, val_main_v73, val_main_v72, val_main_cst_11, val_main_cst_10]
  rw [v66_apply x0 x1 x2 x3 x4 x5 x6 x7 x8]
  rfl

theorem v76_apply (r : Fin 8192) (j : Fin 2816) :
    val_main_v76 (F := Ideal) x0 x2 x3 x4 x5 x6 (ix2 r j) = ge (ops x0 x1 x2 x3 x4 x5 x6 x7 x8) r j := by
  pointwise [val_main_v76]
  rw [v54_apply x0 x1 x2 x3 x4 x5 x6 x7 x8, v75_apply x0 x1 x2 x3 x4 x5 x6 x7 x8]
  rfl

theorem v77_apply (r : Fin 8192) (j : Fin 2816) :
    val_main_v77 (F := Ideal) x0 x2 x3 x4 x5 x6 (ix2 r j) = f (ops x0 x1 x2 x3 x4 x5 x6 x7 x8) r j := by
  pointwise [val_main_v77]
  rw [v76_apply x0 x1 x2 x3 x4 x5 x6 x7 x8, v27_apply x0 x1 x2 x3 x4 x5 x6 x7 x8]
  rfl

theorem v78_apply (r : Fin 8192) (k : Fin 1024) :
    val_main_v78 (F := Ideal) x0 x2 x3 x4 x5 x6 x7 (ix2 r k) = ffn (ops x0 x1 x2 x3 x4 x5 x6 x7 x8) r k := by
  pointwise [val_main_v78]
  simp only [v77_apply x0 x1 x2 x3 x4 x5 x6 x7 x8]
  rfl

theorem v82_apply (r : Fin 8192) (k : Fin 1024) :
    val_main_v82 (F := Ideal) x0 x2 x3 x4 x5 x6 x7 (ix2 r k) = z (ops x0 x1 x2 x3 x4 x5 x6 x7 x8) r k := by
  pointwise [val_main_v82, val_main_v81, val_main_v80, val_main_v79]
  rw [v78_apply x0 x1 x2 x3 x4 x5 x6 x7 x8]
  rfl

theorem v90_apply (r : Fin 8192) :
    val_main_v90 (F := Ideal) x0 x2 x3 x4 x5 x6 x7 (ix2 r 0) = meanSq (z (ops x0 x1 x2 x3 x4 x5 x6 x7 x8) r) := by
  pointwise [val_main_v90, val_main_v89, val_main_v88, val_main_v87, val_main_v86, val_main_v85, val_main_v84, val_main_cst_14, val_main_cst_13, val_main_cst_12]
  simp only [v82_apply x0 x1 x2 x3 x4 x5 x6 x7 x8]
  rfl

theorem v91_apply (r : Fin 8192) :
    val_main_v91 (F := Ideal) x0 x2 x3 x4 x5 x6 x7 (ix2 r 0) = scale (z (ops x0 x1 x2 x3 x4 x5 x6 x7 x8) r) := by
  pointwise [val_main_v91]
  rw [v90_apply x0 x1 x2 x3 x4 x5 x6 x7 x8]
  rfl

theorem v94_apply (r : Fin 8192) :
    val_main_v94 (F := Ideal) x0 x2 x3 x4 x5 x6 x7 (ix2 r 0) = mhalf * Ideal.div (scale (z (ops x0 x1 x2 x3 x4 x5 x6 x7 x8) r)) (meanSq (z (ops x0 x1 x2 x3 x4 x5 x6 x7 x8) r)) := by
  pointwise [val_main_v94, val_main_v93, val_main_v92, val_main_cst_15]
  rw [v91_apply x0 x1 x2 x3 x4 x5 x6 x7 x8, v90_apply x0 x1 x2 x3 x4 x5 x6 x7 x8]
  rfl

theorem v96_apply (r : Fin 8192) (k : Fin 1024) :
    val_main_v96 (F := Ideal) x0 x2 x3 x4 x5 x6 x7 (ix2 r k) = nz (ops x0 x1 x2 x3 x4 x5 x6 x7 x8) r k := by
  pointwise [val_main_v96, val_main_v95]
  rw [v82_apply x0 x1 x2 x3 x4 x5 x6 x7 x8, v91_apply x0 x1 x2 x3 x4 x5 x6 x7 x8]
  rfl

theorem v100_apply (r : Fin 8192) (k : Fin 1024) :
    val_main_v100 (F := Ideal) x0 x1 x2 x3 x4 x5 x6 x7 x8 (ix2 r k) = err (ops x0 x1 x2 x3 x4 x5 x6 x7 x8) r k := by
  pointwise [val_main_v100, val_main_v99, val_main_v98, val_main_v97, val_main_v83]
  rw [v96_apply x0 x1 x2 x3 x4 x5 x6 x7 x8]
  rfl

/-! ### The loss -/

theorem v106_apply (r : Fin 8192) :
    val_main_v106 (F := Ideal) x0 x1 x2 x3 x4 x5 x6 x7 x8 (ix1 r) = rowLoss (ops x0 x1 x2 x3 x4 x5 x6 x7 x8) r := by
  pointwise [val_main_v106, val_main_v105, val_main_v104, val_main_v101, val_main_cst_18, val_main_cst_17]
  simp only [v100_apply x0 x1 x2 x3 x4 x5 x6 x7 x8]
  rfl

theorem v184_apply (k : Fin 128) :
    val_main_v184 (F := Ideal) x0 x1 x2 x3 x4 x5 x6 x7 x8 (ix2 0 k) = loss (ops x0 x1 x2 x3 x4 x5 x6 x7 x8) := by
  pointwise [val_main_v184, val_main_v108, val_main_v107, val_main_cst_20, val_main_cst_19]
  simp only [v106_apply x0 x1 x2 x3 x4 x5 x6 x7 x8]
  rfl

/-! ### The final norm's gradients -/

theorem v114_apply (hI : Fin' (ops x0 x1 x2 x3 x4 x5 x6 x7 x8)) (r : Fin 8192) (k : Fin 1024) :
    val_main_v114 (F := Ideal) x0 x1 x2 x3 x4 x5 x6 x7 x8 (ix2 r k) = dy (ops x0 x1 x2 x3 x4 x5 x6 x7 x8) r k := by
  pointwise [val_main_v114, val_main_v113, val_main_v112, val_main_v111, val_main_v110, val_main_v109, val_main_v103, val_main_v102, val_main_cst_23, val_main_cst_21, val_main_cst_22, val_main_cst_16]
  rw [v100_apply x0 x1 x2 x3 x4 x5 x6 x7 x8]
  exact dy_eq hI r k

theorem v135_apply (hI : Fin' (ops x0 x1 x2 x3 x4 x5 x6 x7 x8)) (k : Fin 1024) :
    val_main_v135 (F := Ideal) x0 x1 x2 x3 x4 x5 x6 x7 x8 (ix2 0 k) = dfn (ops x0 x1 x2 x3 x4 x5 x6 x7 x8) k := by
  pointwise [val_main_v135, val_main_v120, val_main_v117, val_main_v116, val_main_v115, val_main_cst_25, val_main_cst_24]
  simp only [v96_apply x0 x1 x2 x3 x4 x5 x6 x7 x8, v114_apply x0 x1 x2 x3 x4 x5 x6 x7 x8 hI]
  rw [Fin.sum_univ_one]
  rfl

theorem v119_apply (hI : Fin' (ops x0 x1 x2 x3 x4 x5 x6 x7 x8)) (r : Fin 8192) (k : Fin 1024) :
    val_main_v119 (F := Ideal) x0 x1 x2 x3 x4 x5 x6 x7 x8 (ix2 r k) = d (ops x0 x1 x2 x3 x4 x5 x6 x7 x8) r k := by
  pointwise [val_main_v119, val_main_v118, val_main_v97, val_main_v83]
  rw [v114_apply x0 x1 x2 x3 x4 x5 x6 x7 x8 hI]
  rfl

theorem v129_apply (hI : Fin' (ops x0 x1 x2 x3 x4 x5 x6 x7 x8)) (r : Fin 8192) :
    val_main_v129 (F := Ideal) x0 x1 x2 x3 x4 x5 x6 x7 x8 (ix1 r) = gz (ops x0 x1 x2 x3 x4 x5 x6 x7 x8) r := by
  pointwise [val_main_v129, val_main_v128, val_main_v127, val_main_v126, val_main_v123, val_main_v122, val_main_v121, val_main_cst_28, val_main_cst_27, val_main_cst_26]
  simp only [Fin.sum_univ_one, v82_apply x0 x1 x2 x3 x4 x5 x6 x7 x8, v119_apply x0 x1 x2 x3 x4 x5 x6 x7 x8 hI, v94_apply x0 x1 x2 x3 x4 x5 x6 x7 x8]
  rfl

theorem v134_apply (hI : Fin' (ops x0 x1 x2 x3 x4 x5 x6 x7 x8)) (r : Fin 8192) (k : Fin 1024) :
    val_main_v134 (F := Ideal) x0 x1 x2 x3 x4 x5 x6 x7 x8 (ix2 r k) = dz (ops x0 x1 x2 x3 x4 x5 x6 x7 x8) r k := by
  pointwise [val_main_v134, val_main_v133, val_main_v132, val_main_v131, val_main_v130, val_main_v125, val_main_v124]
  rw [v119_apply x0 x1 x2 x3 x4 x5 x6 x7 x8 hI, v129_apply x0 x1 x2 x3 x4 x5 x6 x7 x8 hI, v82_apply x0 x1 x2 x3 x4 x5 x6 x7 x8, v91_apply x0 x1 x2 x3 x4 x5 x6 x7 x8]
  rfl

theorem v137_apply (hI : Fin' (ops x0 x1 x2 x3 x4 x5 x6 x7 x8)) (r : Fin 8192) (k : Fin 1024) :
    val_main_v137 (F := Ideal) x0 x1 x2 x3 x4 x5 x6 x7 x8 (ix2 r k) = dffn (ops x0 x1 x2 x3 x4 x5 x6 x7 x8) r k := by
  pointwise [val_main_v137, val_main_v136, val_main_v79]
  rw [v134_apply x0 x1 x2 x3 x4 x5 x6 x7 x8 hI]
  rfl

theorem v140_apply (hI : Fin' (ops x0 x1 x2 x3 x4 x5 x6 x7 x8)) (k : Fin 1024) :
    val_main_v140 (F := Ideal) x0 x1 x2 x3 x4 x5 x6 x7 x8 (ix2 0 k) = dg2 (ops x0 x1 x2 x3 x4 x5 x6 x7 x8) k := by
  pointwise [val_main_v140, val_main_v139, val_main_v138, val_main_cst_29]
  simp only [v134_apply x0 x1 x2 x3 x4 x5 x6 x7 x8 hI, v78_apply x0 x1 x2 x3 x4 x5 x6 x7 x8]
  rfl

/-! ### The branches' gradients -/

theorem v141_apply (hI : Fin' (ops x0 x1 x2 x3 x4 x5 x6 x7 x8)) (r : Fin 8192) (j : Fin 2816) :
    val_main_v141 (F := Ideal) x0 x1 x2 x3 x4 x5 x6 x7 x8 (ix2 r j) = df (ops x0 x1 x2 x3 x4 x5 x6 x7 x8) r j := by
  pointwise [val_main_v141]
  simp only [v137_apply x0 x1 x2 x3 x4 x5 x6 x7 x8 hI]
  rfl

theorem v142_apply (hI : Fin' (ops x0 x1 x2 x3 x4 x5 x6 x7 x8)) (r : Fin 8192) (j : Fin 2816) :
    val_main_v142 (F := Ideal) x0 x1 x2 x3 x4 x5 x6 x7 x8 (ix2 r j) = da (ops x0 x1 x2 x3 x4 x5 x6 x7 x8) r j := by
  pointwise [val_main_v142]
  rw [v76_apply x0 x1 x2 x3 x4 x5 x6 x7 x8, v141_apply x0 x1 x2 x3 x4 x5 x6 x7 x8 hI]
  rfl

theorem v155_apply (hI : Fin' (ops x0 x1 x2 x3 x4 x5 x6 x7 x8)) (r : Fin 8192) (j : Fin 2816) :
    val_main_v155 (F := Ideal) x0 x1 x2 x3 x4 x5 x6 x7 x8 (ix2 r j) = dgc (ops x0 x1 x2 x3 x4 x5 x6 x7 x8) r j := by
  pointwise [val_main_v155, val_main_v154, val_main_v153, val_main_v152, val_main_v151, val_main_v150, val_main_v149, val_main_v148, val_main_v147, val_main_v146, val_main_v145, val_main_v144, val_main_v143, val_main_v71, val_main_v70, val_main_v69, val_main_v68, val_main_v67, val_main_v60, val_main_v59, val_main_v58, val_main_v55, val_main_cst_31, val_main_cst_30, val_main_cst_9, val_main_cst_8, val_main_cst_6, val_main_cst_4, val_main_cst_5]
  rw [v141_apply x0 x1 x2 x3 x4 x5 x6 x7 x8 hI, v27_apply x0 x1 x2 x3 x4 x5 x6 x7 x8, v54_apply x0 x1 x2 x3 x4 x5 x6 x7 x8, v75_apply x0 x1 x2 x3 x4 x5 x6 x7 x8, v66_apply x0 x1 x2 x3 x4 x5 x6 x7 x8, c1_eq]
  exact dgelu_row hI r j

theorem v160_apply (hI : Fin' (ops x0 x1 x2 x3 x4 x5 x6 x7 x8)) (j : Fin 2816) :
    val_main_v160 (F := Ideal) x0 x1 x2 x3 x4 x5 x6 x7 x8 (ix2 0 j) = dcb (ops x0 x1 x2 x3 x4 x5 x6 x7 x8) j := by
  pointwise [val_main_v160, val_main_v159, val_main_v158, val_main_v157, val_main_cst_34, val_main_cst_33]
  simp only [v155_apply x0 x1 x2 x3 x4 x5 x6 x7 x8 hI]
  rw [Fin.sum_univ_one]
  rfl

theorem v165_apply (hI : Fin' (ops x0 x1 x2 x3 x4 x5 x6 x7 x8)) (j : Fin 2816) :
    val_main_v165 (F := Ideal) x0 x1 x2 x3 x4 x5 x6 x7 x8 (ix2 0 j) = dcw (ops x0 x1 x2 x3 x4 x5 x6 x7 x8) 2 j := by
  pointwise [val_main_v165, val_main_v164, val_main_v163, val_main_v162, val_main_v161, val_main_cst_36, val_main_cst_35]
  simp only [v155_apply x0 x1 x2 x3 x4 x5 x6 x7 x8 hI, v44_apply x0 x1 x2 x3 x4 x5 x6 x7 x8]
  rw [Fin.sum_univ_one]
  exact Finset.sum_congr rfl fun r _ => mul_comm _ _

theorem v171_apply (hI : Fin' (ops x0 x1 x2 x3 x4 x5 x6 x7 x8)) (j : Fin 2816) :
    val_main_v171 (F := Ideal) x0 x1 x2 x3 x4 x5 x6 x7 x8 (ix2 0 j) = dcw (ops x0 x1 x2 x3 x4 x5 x6 x7 x8) 1 j := by
  pointwise [val_main_v171, val_main_v170, val_main_v169, val_main_v168, val_main_v167, val_main_cst_39, val_main_cst_38]
  simp only [v155_apply x0 x1 x2 x3 x4 x5 x6 x7 x8 hI, v37_apply x0 x1 x2 x3 x4 x5 x6 x7 x8]
  rw [Fin.sum_univ_one]
  exact Finset.sum_congr rfl fun r _ => mul_comm _ _

theorem v178_apply (hI : Fin' (ops x0 x1 x2 x3 x4 x5 x6 x7 x8)) (j : Fin 2816) :
    val_main_v178 (F := Ideal) x0 x1 x2 x3 x4 x5 x6 x7 x8 (ix2 0 j) = dcw (ops x0 x1 x2 x3 x4 x5 x6 x7 x8) 0 j := by
  pointwise [val_main_v178, val_main_v177, val_main_v176, val_main_v175, val_main_v174, val_main_cst_42, val_main_cst_41]
  simp only [v155_apply x0 x1 x2 x3 x4 x5 x6 x7 x8 hI, v31_apply x0 x1 x2 x3 x4 x5 x6 x7 x8]
  rw [Fin.sum_univ_one]
  exact Finset.sum_congr rfl fun r _ => mul_comm _ _

theorem v180_apply (hI : Fin' (ops x0 x1 x2 x3 x4 x5 x6 x7 x8)) (i : Fin 3) (j : Fin 2816) :
    val_main_v180 (F := Ideal) x0 x1 x2 x3 x4 x5 x6 x7 x8 (ix2 i j) = dcw (ops x0 x1 x2 x3 x4 x5 x6 x7 x8) i j := by
  pointwise [val_main_v180, val_main_v179, val_main_v173, val_main_v172, val_main_v166, val_main_cst_43, val_main_cst_40, val_main_cst_37]
  match i with
  | ⟨0, _⟩ => simp; exact v178_apply x0 x1 x2 x3 x4 x5 x6 x7 x8 hI j
  | ⟨1, _⟩ => simp; exact v171_apply x0 x1 x2 x3 x4 x5 x6 x7 x8 hI j
  | ⟨2, _⟩ => simp; exact v165_apply x0 x1 x2 x3 x4 x5 x6 x7 x8 hI j

/-! ### The results that are cast -/

theorem v181_apply (hI : Fin' (ops x0 x1 x2 x3 x4 x5 x6 x7 x8)) (r : Fin 8192) (j : Fin 2816) :
    val_main_v181 (F := Ideal) x0 x1 x2 x3 x4 x5 x6 x7 x8 (ix2 r j) = da (ops x0 x1 x2 x3 x4 x5 x6 x7 x8) r j := by
  pointwise [val_main_v181]
  rw [v142_apply x0 x1 x2 x3 x4 x5 x6 x7 x8 hI]

theorem v182_apply (r : Fin 8192) (j : Fin 2816) :
    val_main_v182 (F := Ideal) x0 x2 x3 x4 x5 x6 (ix2 r j) = f (ops x0 x1 x2 x3 x4 x5 x6 x7 x8) r j := by
  pointwise [val_main_v182]
  rw [v77_apply x0 x1 x2 x3 x4 x5 x6 x7 x8]

theorem v183_apply (hI : Fin' (ops x0 x1 x2 x3 x4 x5 x6 x7 x8)) (r : Fin 8192) (k : Fin 1024) :
    val_main_v183 (F := Ideal) x0 x1 x2 x3 x4 x5 x6 x7 x8 (ix2 r k) = dffn (ops x0 x1 x2 x3 x4 x5 x6 x7 x8) r k := by
  pointwise [val_main_v183]
  rw [v137_apply x0 x1 x2 x3 x4 x5 x6 x7 x8 hI]

end Cert.FfnFwdRef

end
-- ==== Proof.FfnFwdClaim.lean ====
/- The feed-forward forward kernel computes what the reference does, over the extended reals, on finite operands. -/
module

public import proofs.«01_k».proof.Defs
public import proofs.«01_k».proof.Proof.FfnBwdClaim
public import proofs.«01_k».proof.Proof.FfnFwdArr
public import proofs.«01_k».proof.Proof.FfnFwdRef

@[expose] public section

noncomputable section

namespace Cert.FfnFwdClaim

open Idealize.ShloMosaic Idealize.ShloMosaic.TcCoe Idealize.SL.Sem
open Cert.RowMath Cert.FfnBwdClaim

/-- The precondition's shape facts. -/
theorem preFacts : Cert.Pre_finite_fwd.Facts where
  bcast_S_S8192x1024 := by decide
  slices_S6x1024_S1x1024_5_0 := by decide
  bcast_S_S1x1024 := by decide

theorem fin_of_pre (m : (ℓ : Loc Cert.KernelFwdIdeal.nD Cert.KernelFwdIdeal.τ Cert.KernelFwdIdeal.sig) → Buf (Elt Ideal) ℓ)
    (h : Cert.Pre_KernelFwdIdeal_finite_fwd (hPre_finite_fwd := preFacts) m) (c : Dev Cert.KernelFwdIdeal.nD) :
    FfnFwdSpec.Fin' (FfnFwd.ops m c) where
  tgt r k := real_of_lt (congrFun (h c).1 (ix2 r k))
  g2 k := real_of_lt (by
    have e := congrFun (h c).2.1 (ix2 (0 : Fin 1) k)
    rw [← e]
    refine congrArg (fun q => Ideal.cmp .olt (max q (-q)) (Ideal.ofBits .f32 0x7F800000#32)) ?_
    exact congrArg (m (c.tc.loc Cert.KernelFwdIdeal.main_arg3)) (by funext a; match a with | ⟨0, _⟩ => rfl | ⟨1, _⟩ => exact Fin.ext (by show k.val = 0 + k.val; omega)))
  fn k := real_of_lt (congrFun (h c).2.2 (ix2 0 k))

theorem algebraic : Cert.algebraic_KernelFwdIdeal_ReferenceFwdIdeal_pre_finite_fwd (hKernelFwdIdeal := Cert.KernelFwdIdeal.Gen.facts)
    (hReferenceFwdIdeal := Cert.ReferenceFwdIdeal.Gen.facts) (hPre_finite_fwd := preFacts) := by
  intro m ρ m' ρ' hpre hm
  have hops : ∀ c : Dev Cert.KernelFwdIdeal.nD, FfnFwd.ops m c = FfnFwdRef.ops
      (m' ((c.tc : Thread Cert.ReferenceFwdIdeal.nD Cert.ReferenceFwdIdeal.τ).loc Cert.ReferenceFwdIdeal.main_arg0))
      (m' ((c.tc : Thread Cert.ReferenceFwdIdeal.nD Cert.ReferenceFwdIdeal.τ).loc Cert.ReferenceFwdIdeal.main_arg1))
      (m' ((c.tc : Thread Cert.ReferenceFwdIdeal.nD Cert.ReferenceFwdIdeal.τ).loc Cert.ReferenceFwdIdeal.main_arg2))
      (m' ((c.tc : Thread Cert.ReferenceFwdIdeal.nD Cert.ReferenceFwdIdeal.τ).loc Cert.ReferenceFwdIdeal.main_arg3))
      (m' ((c.tc : Thread Cert.ReferenceFwdIdeal.nD Cert.ReferenceFwdIdeal.τ).loc Cert.ReferenceFwdIdeal.main_arg4))
      (m' ((c.tc : Thread Cert.ReferenceFwdIdeal.nD Cert.ReferenceFwdIdeal.τ).loc Cert.ReferenceFwdIdeal.main_arg5))
      (m' ((c.tc : Thread Cert.ReferenceFwdIdeal.nD Cert.ReferenceFwdIdeal.τ).loc Cert.ReferenceFwdIdeal.main_arg6))
      (m' ((c.tc : Thread Cert.ReferenceFwdIdeal.nD Cert.ReferenceFwdIdeal.τ).loc Cert.ReferenceFwdIdeal.main_arg7))
      (m' ((c.tc : Thread Cert.ReferenceFwdIdeal.nD Cert.ReferenceFwdIdeal.τ).loc Cert.ReferenceFwdIdeal.main_arg8)) := by
    intro c
    obtain ⟨h0, h1, h2, h3, h4, h5, h6, h7, h8⟩ := hm c
    rw [h0, h1, h2, h3, h4, h5, h6, h7, h8]
    rfl
  have hI := fun c => fin_of_pre m hpre c
  refine ⟨FfnFwd.arr13 m, FfnFwd.arr14 m, FfnFwd.arr15 m, FfnFwd.arr16 m, FfnFwd.arr17 m, FfnFwd.arr18 m, FfnFwd.arr19 m, FfnFwd.arr20 m, FfnFwd.arr21 m, FfnFwd.arr22 m, ?_, ?_⟩
  · refine (θ_run Cert.KernelFwdIdeal.defs _ _).mono (fun r h c => ?_) (Cert.KernelFwdIdeal.Value.run_blocks (F := Ideal) m ρ)
    obtain ⟨h0, h1, h2, h3, h4, h5, h6, h7, h8, h9, hargs⟩ := h c
    exact ⟨h0.trans (FfnFwd.final13 m c), h1.trans (FfnFwd.final14 m c), h2.trans (FfnFwd.final15 m c), h3.trans (FfnFwd.final16 m c), h4.trans (FfnFwd.final17 m c), h5.trans (FfnFwd.final18 m c (hI c)), h6.trans (FfnFwd.final19 m c), h7.trans (FfnFwd.final20 m c), h8.trans (FfnFwd.final21 m c), h9.trans (FfnFwd.final22 m c), hargs⟩
  · refine (θ_run Cert.ReferenceFwdIdeal.defs _ _).mono (fun r h c => ?_) (Cert.ReferenceFwdIdeal.Value.run (F := Ideal) m' ρ')
    obtain ⟨h0, h1, h2, h3, h4, h5, h6, h7, h8, h9, hargs⟩ := h c
    have hIc := hI c
    rw [hops c] at hIc
    refine ⟨h0.trans ((Cert.ReferenceFwdIdeal.Read.val_main_v134_eq _).trans ?_),
      h1.trans ((Cert.ReferenceFwdIdeal.Read.val_main_v181_eq _).trans ?_),
      h2.trans ((Cert.ReferenceFwdIdeal.Read.val_main_v155_eq _).trans ?_),
      h3.trans ((Cert.ReferenceFwdIdeal.Read.val_main_v182_eq _).trans ?_),
      h4.trans ((Cert.ReferenceFwdIdeal.Read.val_main_v183_eq _).trans ?_),
      h5.trans ((Cert.ReferenceFwdIdeal.Read.val_main_v184_eq _).trans ?_),
      h6.trans ((Cert.ReferenceFwdIdeal.Read.val_main_v135_eq _).trans ?_),
      h7.trans ((Cert.ReferenceFwdIdeal.Read.val_main_v140_eq _).trans ?_),
      h8.trans ((Cert.ReferenceFwdIdeal.Read.val_main_v160_eq _).trans ?_),
      h9.trans ((Cert.ReferenceFwdIdeal.Read.val_main_v180_eq _).trans ?_), hargs⟩
    · funext y
      obtain ⟨r, j, rfl⟩ : ∃ (r : Fin 8192) (j : Fin 1024), y = ix2 r j := ⟨y 0, y 1, eq_ix2 y⟩
      refine (FfnFwdRef.v134_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc r j).trans ?_
      exact congrArg (fun q => FfnFwdSpec.dz q r j) (hops c).symm
    · funext y
      obtain ⟨r, j, rfl⟩ : ∃ (r : Fin 8192) (j : Fin 2816), y = ix2 r j := ⟨y 0, y 1, eq_ix2 y⟩
      refine (FfnFwdRef.v181_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc r j).trans ?_
      exact congrArg (fun q => FfnFwdSpec.da q r j) (hops c).symm
    · funext y
      obtain ⟨r, j, rfl⟩ : ∃ (r : Fin 8192) (j : Fin 2816), y = ix2 r j := ⟨y 0, y 1, eq_ix2 y⟩
      refine (FfnFwdRef.v155_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc r j).trans ?_
      exact congrArg (fun q => FfnFwdSpec.dgc q r j) (hops c).symm
    · funext y
      obtain ⟨r, j, rfl⟩ : ∃ (r : Fin 8192) (j : Fin 2816), y = ix2 r j := ⟨y 0, y 1, eq_ix2 y⟩
      refine (FfnFwdRef.v182_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) r j).trans ?_
      exact congrArg (fun q => FfnFwdSpec.f q r j) (hops c).symm
    · funext y
      obtain ⟨r, j, rfl⟩ : ∃ (r : Fin 8192) (j : Fin 1024), y = ix2 r j := ⟨y 0, y 1, eq_ix2 y⟩
      refine (FfnFwdRef.v183_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc r j).trans ?_
      exact congrArg (fun q => FfnFwdSpec.dffn q r j) (hops c).symm
    · funext y
      obtain ⟨r, j, rfl⟩ : ∃ (r : Fin 1) (j : Fin 128), y = ix2 r j := ⟨y 0, y 1, eq_ix2 y⟩
      obtain rfl : r = 0 := Subsingleton.elim _ _
      refine (FfnFwdRef.v184_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) j).trans ?_
      exact congrArg (fun q => FfnFwdSpec.loss q) (hops c).symm
    · funext y
      obtain ⟨r, j, rfl⟩ : ∃ (r : Fin 1) (j : Fin 1024), y = ix2 r j := ⟨y 0, y 1, eq_ix2 y⟩
      obtain rfl : r = 0 := Subsingleton.elim _ _
      refine (FfnFwdRef.v135_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc j).trans ?_
      exact congrArg (fun q => FfnFwdSpec.dfn q j) (hops c).symm
    · funext y
      obtain ⟨r, j, rfl⟩ : ∃ (r : Fin 1) (j : Fin 1024), y = ix2 r j := ⟨y 0, y 1, eq_ix2 y⟩
      obtain rfl : r = 0 := Subsingleton.elim _ _
      refine (FfnFwdRef.v140_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc j).trans ?_
      exact congrArg (fun q => FfnFwdSpec.dg2 q j) (hops c).symm
    · funext y
      obtain ⟨r, j, rfl⟩ : ∃ (r : Fin 1) (j : Fin 2816), y = ix2 r j := ⟨y 0, y 1, eq_ix2 y⟩
      obtain rfl : r = 0 := Subsingleton.elim _ _
      refine (FfnFwdRef.v160_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc j).trans ?_
      exact congrArg (fun q => FfnFwdSpec.dcb q j) (hops c).symm
    · funext y
      obtain ⟨r, j, rfl⟩ : ∃ (r : Fin 3) (j : Fin 2816), y = ix2 r j := ⟨y 0, y 1, eq_ix2 y⟩
      refine (FfnFwdRef.v180_apply
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        (m' ((c.tc : Thread Cert.ReferenceFwdIdeal.nD Cert.ReferenceFwdIdeal.τ).loc Cert.ReferenceFwdIdeal.main_arg7))
        (m' ((c.tc : Thread Cert.ReferenceFwdIdeal.nD Cert.ReferenceFwdIdeal.τ).loc Cert.ReferenceFwdIdeal.main_arg8)) hIc r j).trans ?_
      exact congrArg (fun q => FfnFwdSpec.dcw q r j) (hops c).symm

end Cert.FfnFwdClaim

end
-- ==== Proof.FfnFwdFrame.lean ====
/- The feed-forward forward kernel's named constants, and that its reference runs and changes no argument. -/
module

public import proofs.«01_k».proof.Defs
public import proofs.«01_k».proof.Proof.Gen.ReferenceFwdIdeal.Read

@[expose] public section

noncomputable section

namespace Cert.FfnFwdFrame

open Idealize.ShloMosaic Idealize.ShloMosaic.TcCoe Idealize.SL.Sem

theorem frame_ref : Cert.quiescent_ReferenceFwdIdeal (hReferenceFwdIdeal := Cert.ReferenceFwdIdeal.Gen.facts) := fun m ρ _ =>
  (θ_run Cert.ReferenceFwdIdeal.defs _ _).mono (fun r h => ⟨fun c => (h c).2.2.2.2.2.2.2.2.2.2,
    Idealize.ShloMosaic.sem_eq_zero_of_no_sems (by decide) r.2⟩) (Cert.ReferenceFwdIdeal.Value.run (F := Ideal) m ρ)

theorem preserves : Cert.preserves_KernelFwd_KernelFwdIdeal :=
  ⟨IdealRules.named_const.statement Cert.KernelFwdIdeal.κ "gelu_c1" .f32 0x3D372713#32 ((8943 / 200000 : ℝ) : EReal) rfl,
    IdealRules.named_const.statement Cert.KernelFwdIdeal.κ "gelu_c3" .f32 0x3E095D4F#32 ((26829 / 200000 : ℝ) : EReal) rfl⟩

end Cert.FfnFwdFrame

end
-- ==== Proof.TileSum.lean ====
/- Sums over 8192 rows taken eight tiles of 1024 rows at a time. Names no program. -/
module

public import Idealize.ShloMosaic.PureOps.Ideal
public import Idealize.ShloMosaic.PureOps.Ideal.Laws
public import Idealize.ShloMosaic.Lib.Pointwise

@[expose] public section

noncomputable section

namespace Cert.TileSum
open Idealize.ShloMosaic

/-- The part of a sum over the 8192 rows that tile `s` holds; nothing past the last tile. -/
def tile (f : Fin 8192 → EReal) (s : ℕ) : EReal :=
  if h : s < 8 then ∑ k : Fin 1024, f ⟨1024 * s + k.val, by omega⟩ else 0

theorem tile_of_lt (f : Fin 8192 → EReal) (s : ℕ) (h : s < 8) :
    tile f s = ∑ k : Fin 1024, f ⟨1024 * s + k.val, by omega⟩ := dif_pos h

/-- The first `n` tiles of a sum over the rows. -/
def upto (f : Fin 8192 → EReal) (n : ℕ) : EReal := ∑ s ∈ Finset.range n, tile f s

theorem upto_one (f : Fin 8192 → EReal) : upto f 1 = tile f 0 := by
  unfold upto; exact Finset.sum_range_one _

theorem upto_succ (f : Fin 8192 → EReal) (n : ℕ) : upto f (n + 1) = upto f n + tile f n := by
  unfold upto; exact Finset.sum_range_succ _ _

theorem upto_all (f : Fin 8192 → EReal) : upto f 8 = ∑ r, f r := by
  rw [Fin.sum_univ_tiles 8 1024 (by norm_num) f]
  unfold upto
  rw [Finset.sum_range]
  refine Finset.sum_congr rfl fun s _ => ?_
  rw [tile_of_lt f s.val s.isLt]
  refine Finset.sum_congr rfl fun k _ => congrArg f (Fin.ext ?_)
  show 1024 * s.val + k.val = _
  simp only [mul_comm]

end Cert.TileSum

end
-- ==== Proof.DwUp.lean ====
/- The gradient of the up projection's weight: the kernel's output, accumulated over eight tiles of the rows, is the reference's
   product over all the rows. -/
module

public import proofs.«01_k».proof.Defs
public import proofs.«01_k».proof.Proof.Gen.KernelUpIdeal.Value
public import proofs.«01_k».proof.Proof.Gen.ReferenceUpIdeal.Read
public import proofs.«01_k».proof.Proof.TileSum

@[expose] public section

noncomputable section

namespace Cert.DwUp

open Cert.KernelUpIdeal Cert.KernelUpIdeal.Gen Idealize.ShloMosaic Idealize.ShloMosaic.TcCoe Idealize.SL.Sem
open Idealize.ShloMosaic.Pipeline (Dat)
open Cert.TileSum

variable (m : (ℓ : Loc nD τ sig) → Buf (Elt Ideal) ℓ)

/-! ### Where each window's block lies -/

theorem at0 : ∀ t : Fin grid0.N, win0_0.index t 0 = t.val % 8 ∧ win0_0.index t 1 = t.val / 8 := by decide +kernel
theorem at1 : ∀ t : Fin grid0.N, win0_1.index t 0 = t.val % 8 ∧ win0_1.index t 1 = 0 := by decide +kernel
theorem at2 : ∀ t : Fin grid0.N, win0_2.index t 0 = t.val / 8 ∧ win0_2.index t 1 = 0 := by decide +kernel

theorem points : grid0.N = 32 := by decide +kernel

theorem point_lt (t : Fin cfg0.N) : t.val < 32 := lt_of_lt_of_eq t.isLt points

/-- Row `k` of the tile of rows point `n` reads. -/
abbrev row (n : ℕ) (k : Fin 1024) : Fin 8192 := ⟨1024 * (n % 8) + k.val, by have := k.isLt; omega⟩

/-- Column `r` of the tile of columns point `n` computes. -/
abbrev col (n : ℕ) (h : n < cfg0.N) (r : Fin 1408) : Fin 5632 :=
  ⟨1408 * (n / 8) + r.val, by have : n < 32 := lt_of_lt_of_eq h points; have := r.isLt; omega⟩

theorem blk0 (c : Dev nD) (t : Fin cfg0.N) (k : Fin 1024) (r : Fin 1408) :
    (iblk m c 0 t : Vec Ideal S1024x1408 .bf16) (ix2 k r)
      = m ((c : Thread nD τ).loc main_arg0) (ix2 (row t.val k) (col t.val t.isLt r)) := by
  unfold iblk
  rw [View.read_apply]
  refine Eq.trans (congrArg (V m c main_arg0) ?_) (congrFun (V_main_arg0 m c) _)
  funext a; apply Fin.ext
  match a with
  | ⟨0, _⟩ => show win0_0.index t 0 * 1024 + 1 * k.val = 1024 * (t.val % 8) + k.val; rw [(at0 t).1]; omega
  | ⟨1, _⟩ => show win0_0.index t 1 * 1408 + 1 * r.val = 1408 * (t.val / 8) + r.val; rw [(at0 t).2]; omega

theorem blk1 (c : Dev nD) (t : Fin cfg0.N) (k : Fin 1024) (j : Fin 1024) :
    (iblk m c 1 t : Vec Ideal S1024x1024 .bf16) (ix2 k j)
      = m ((c : Thread nD τ).loc main_arg1) (ix2 (row t.val k) j) := by
  unfold iblk
  rw [View.read_apply]
  refine Eq.trans (congrArg (V m c main_arg1) ?_) (congrFun (V_main_arg1 m c) _)
  funext a; apply Fin.ext
  match a with
  | ⟨0, _⟩ => show win0_1.index t 0 * 1024 + 1 * k.val = 1024 * (t.val % 8) + k.val; rw [(at1 t).1]; omega
  | ⟨1, _⟩ => show win0_1.index t 1 * 1024 + 1 * j.val = j.val; rw [(at1 t).2]; omega

/-! ### The body's arithmetic -/

/-- One product of the sum over the rows. -/
def term (A : Vec Ideal S8192x5632 .bf16) (B : Vec Ideal S8192x1024 .bf16) (p : Fin 5632) (j : Fin 1024) (k : Fin 8192) : EReal :=
  A (ix2 k p) * B (ix2 k j)

/-- `term` at the kernel's operands. -/
def prod (c : Dev nD) (p : Fin 5632) (j : Fin 1024) : Fin 8192 → EReal :=
  term (m ((c : Thread nD τ).loc main_arg0)) (m ((c : Thread nD τ).loc main_arg1)) p j

theorem pay2_apply (v3 : Vec Ideal S1408x1024 .f32) (v4 : Vec Ideal S1024x1408 .bf16) (v5 : Vec Ideal S1024x1024 .bf16)
    (r : Fin 1408) (j : Fin 1024) :
    k0_pay2 v3 v4 v5 (ix2 r j) = v3 (ix2 r j) + ∑ k : Fin 1024, v4 (ix2 k r) * v5 (ix2 k j) := by
  pointwise [k0_pay2]

theorem pay1_apply (r : Fin 1408) (j : Fin 1024) : k0_pay1 (F := Ideal) (ix2 r j) = 0 := by
  pointwise [k0_pay1]

theorem pay2_blk (c : Dev nD) (t : Fin cfg0.N) (v : Vec Ideal S1408x1024 .f32) (r : Fin 1408) (j : Fin 1024) :
    k0_pay2 v (iblk m c 0 t) (iblk m c 1 t) (ix2 r j) = v (ix2 r j) + tile (prod m c (col t.val t.isLt r) j) (t.val % 8) := by
  rw [pay2_apply, tile_of_lt _ _ (Nat.mod_lt _ (by norm_num))]
  refine congrArg (v (ix2 r j) + ·) (Finset.sum_congr rfl fun k _ => ?_)
  rw [blk0, blk1]; rfl

theorem zero2 : (![0, 0] : Fin 2 → ℕ) = fun _ => 0 := by funext a; match a with | ⟨0, _⟩ => rfl | ⟨1, _⟩ => rfl

theorem ld_a (X : Vec Ideal S1408x1024 .f32) (inb) :
    View.ld X (Rect.unit (s := S1408x1024) ![0, 0] ![1408, 1024] inb) = X := View.ld_unit_zero (S := S1408x1024) zero2 inb X
theorem ld_b (X : Vec Ideal S1024x1408 .bf16) (inb) :
    View.ld X (Rect.unit (s := S1024x1408) ![0, 0] ![1024, 1408] inb) = X := View.ld_unit_zero (S := S1024x1408) zero2 inb X
theorem ld_c (X : Vec Ideal S1024x1024 .bf16) (inb) :
    View.ld X (Rect.unit (s := S1024x1024) ![0, 0] ![1024, 1024] inb) = X := View.ld_unit_zero (S := S1024x1024) zero2 inb X

/-! ### What a point leaves in the accumulator and in the output block -/

theorem scr_first (c : Dev nD) (t : Fin cfg0.N) (h0 : t.val % 8 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun y => scover0_A_0 c _ _ _ _ _ _ _ _ _ _ _ _ _ y)]
  unfold kernelRun0_A
  dsimp only
  sl_unfold_words
  refine (View.canon_cons_unit_zero (S := S1408x1024) zero2 _ _ _).trans ?_
  simp only [View.readAt_eq_ld, (hs0_0 t).read_unread, (hs0_1 t).read_unread, (hs0_2 t).read_unread, View.readCov_unit_zero (S := S1408x1024) _ zero2 _ _]
  simp only [ld_a, ld_b, ld_c]

theorem scr_next (c : Dev nD) (t : Fin cfg0.N) (h0 : ¬ t.val % 8 = 0) :
    (outsAt0 m c t.val t.isLt).2 = k0_pay2 (outsAt0 m c (t.val - 1) (Nat.lt_of_le_of_lt (Nat.sub_le _ _) t.isLt)).2
      (iblk m c 0 t) (iblk m c 1 t) := by
  by_cases h1 : t.val % 8 = 7
  · rw [outsAt0_C m c t h0 h1]
    dsimp only
    unfold sout0_C_0
    rw [View.read_writes_eq_canon _ _ _ (fun y => scover0_C_0 c _ _ _ _ _ _ _ _ _ _ _ _ _ _ y)]
    unfold kernelRun0_C
    dsimp only
    sl_unfold_words
    refine (View.canon_unit_zero (S := S1408x1024) zero2 _ _).trans ?_
    simp only [View.readAt_eq_ld, (hs0_0 t).read_unread, (hs0_1 t).read_unread, (hs0_2 t).read_unread, (Memref.isWhole_whole _).read_unread]
    simp only [ld_a, ld_b, ld_c]
  · rw [outsAt0_B m c t h0 h1]
    dsimp only
    unfold sout0_B_0
    rw [View.read_writes_eq_canon _ _ _ (fun y => scover0_B_0 c _ _ _ _ _ _ _ _ _ _ _ _ _ _ y)]
    unfold kernelRun0_B
    dsimp only
    sl_unfold_words
    refine (View.canon_unit_zero (S := S1408x1024) zero2 _ _).trans ?_
    simp only [View.readAt_eq_ld, (hs0_0 t).read_unread, (hs0_1 t).read_unread, (hs0_2 t).read_unread, (Memref.isWhole_whole _).read_unread]
    simp only [ld_a, ld_b, ld_c]

theorem out_last (c : Dev nD) (t : Fin cfg0.N) (h1 : t.val % 8 = 7) :
    (outsAt0 m c t.val t.isLt).1 = k0_pay3 (outsAt0 m c t.val t.isLt).2 := by
  rw [scr_next m c t (by omega), outsAt0_C m c t (by omega) h1]
  dsimp only
  unfold out0_C_2
  rw [View.read_writes_eq_canon _ _ _ (fun y => cover0_C_2 c _ _ _ _ _ _ _ _ _ _ _ _ _ _ y)]
  unfold kernelRun0_C
  dsimp only
  sl_unfold_words
  refine (View.canon_unit_zero (S := S1408x1024) zero2 _ _).trans ?_
  simp only [View.readAt_eq_ld, (hs0_0 t).read_unread, (hs0_1 t).read_unread, (hs0_2 t).read_unread, (Memref.isWhole_whole _).read_unread, View.readCov_unit_zero (S := S1408x1024) _ zero2 _ _]
  simp only [ld_a, ld_b, ld_c]

/-- The accumulator after a point: the tiles of rows met so far. -/
theorem scr (c : Dev nD) : ∀ (n : ℕ) (h : n < cfg0.N) (r : Fin 1408) (j : Fin 1024),
    (outsAt0 m c n h).2 (ix2 r j) = upto (prod m c (col n h r) j) (n % 8 + 1)
  | 0, h, r, j => by
    rw [scr_first m c ⟨0, h⟩ rfl, pay2_blk, pay1_apply, zero_add]
    exact (upto_one _).symm
  | n + 1, h, r, j => by
    by_cases h0 : (n + 1) % 8 = 0
    · rw [scr_first m c ⟨n + 1, h⟩ h0, pay2_blk, pay1_apply, zero_add]
      dsimp only
      rw [h0]; exact (upto_one _).symm
    · rw [scr_next m c ⟨n + 1, h⟩ h0, pay2_blk]
      show (outsAt0 m c n _).2 (ix2 r j) + _ = _
      rw [scr c n (Nat.lt_of_succ_lt h) r j]
      have e : col n (Nat.lt_of_succ_lt h) r = col (n + 1) h r := Fin.ext (by show 1408 * (n / 8) + r.val = 1408 * ((n + 1) / 8) + r.val; omega)
      have e2 : n % 8 + 1 = (n + 1) % 8 := by omega
      rw [e, e2]; exact (upto_succ _ _).symm

/-! ### The output array -/

/-- The product over all the rows. -/
def total (c : Dev nD) (p : Fin 5632) (j : Fin 1024) : EReal := ∑ k, prod m c p j k

/-- The product over all the rows, as an array. -/
def arr (c : Dev nD) : Vec Ideal S5632x1024 .bf16 := fun y => total m c (y 0) (y 1)

/-- The part of it that one point's tile of columns holds. -/
def tileArr (c : Dev nD) (t : Fin cfg0.N) : Vec Ideal S1408x1024 .bf16 := fun y => total m c (col t.val t.isLt (y 0)) (y 1)

theorem tileArr_eq (c : Dev nD) (t : Fin cfg0.N) (y : S1408x1024.Idx) (i : S5632x1024.Idx)
    (h0 : (i 0).val = 1408 * (t.val / 8) + (y 0).val) (h1 : (i 1).val = (y 1).val) : tileArr m c t y = arr m c i :=
  congrArg₂ (total m c) (Fin.ext h0.symm) (Fin.ext h1.symm)

theorem flushed_eq (c : Dev nD) (t : Fin cfg0.N) (hf : (cfg0.win 2).flush t = true) :
    (dats m 0 c).flushed 2 t = ((cfg0.win 2).blk t).view.read (Elt Ideal) (arr m c) := by
  have h1 : t.val % 8 = 7 := (flush0_2 t).mp hf
  have e : (outsAt0 m c t.val t.isLt).1 = tileArr m c t := by
    rw [out_last m c t h1]; funext y
    obtain ⟨r, j, rfl⟩ : ∃ (r : Fin 1408) (j : Fin 1024), y = ix2 r j := ⟨y 0, y 1, eq_ix2 y⟩
    refine (show k0_pay3 (outsAt0 m c t.val t.isLt).2 (ix2 r j) = (outsAt0 m c t.val t.isLt).2 (ix2 r j) from rfl).trans ?_
    rw [scr m c t.val t.isLt r j, h1]
    exact upto_all _
  rw [Value.flushed2, e]
  funext y
  rw [View.read_apply]
  have hb0 : (((cfg0.win 2).blk t).view.emb y 0).val = win0_2.index t (0 : Fin 2) * 1408 + 1 * (y 0).val := rfl
  have hb1 : (((cfg0.win 2).blk t).view.emb y 1).val = win0_2.index t (1 : Fin 2) * 1024 + 1 * (y 1).val := rfl
  refine Eq.trans ?_ (cast_eq rfl (arr m c (((cfg0.win 2).blk t).view.emb y))).symm
  exact tileArr_eq m c t ((cfg0.win 2).xinj (grid0.coords t) y) (((cfg0.win 2).blk t).view.emb y)
    (hb0.trans (by rw [(at2 t).1, one_mul, mul_comm])) (hb1.trans (by rw [(at2 t).2, zero_mul, one_mul, zero_add]))

theorem cover (i : S5632x1024.Idx) :
    ∃ t : Fin cfg0.N, (cfg0.win 2).flush t = true ∧ i ∈ ((cfg0.win 2).blk t).view.set :=
  (Value.covered_iff2 i).2 ⟨Nat.zero_le _, (i 0).isLt, Nat.zero_le _, (i 1).isLt⟩

theorem final (c : Dev nD) : (dats m 0 c).arrAt 2 cfg0.N = arr m c :=
  (dats m 0 c).arrAt_eq_of_cover 2 (arr m c) (fun t hf => flushed_eq m c t hf) cover

/-! ### The reference -/

open Cert.ReferenceUpIdeal.Read in
theorem ref_apply (x0 : Vec Ideal S8192x5632 .bf16) (x1 : Vec Ideal S8192x1024 .bf16) (p : Fin 5632) (j : Fin 1024) :
    val_main_v7 (F := Ideal) x0 x1 (ix2 p j) = ∑ k, term x0 x1 p j k := by
  pointwise [val_main_v7, val_main_v6, val_main_v5, val_main_v4, val_main_v3, val_main_v1]
  rfl

/-! ### The claims -/

theorem frame_ref : Cert.quiescent_ReferenceUpIdeal (hReferenceUpIdeal := Cert.ReferenceUpIdeal.Gen.facts) := fun m ρ _ =>
  (θ_run Cert.ReferenceUpIdeal.defs _ _).mono (fun r h => ⟨fun c => (h c).2,
    Idealize.ShloMosaic.sem_eq_zero_of_no_sems (by decide) r.2⟩) (Cert.ReferenceUpIdeal.Value.run (F := Ideal) m ρ)

theorem algebraic : Cert.algebraic_KernelUpIdeal_ReferenceUpIdeal (hKernelUpIdeal := Cert.KernelUpIdeal.Gen.facts)
    (hReferenceUpIdeal := Cert.ReferenceUpIdeal.Gen.facts) := by
  intro m ρ m' ρ' _ hm
  refine ⟨arr m, ?_, ?_⟩
  · refine (θ_run Cert.KernelUpIdeal.defs _ _).mono (fun r h c => ?_) (Cert.KernelUpIdeal.Value.run_blocks (F := Ideal) m ρ)
    obtain ⟨h0, hargs⟩ := h c
    exact ⟨h0.trans (final m c), hargs⟩
  · refine (θ_run Cert.ReferenceUpIdeal.defs _ _).mono (fun r h c => ?_) (Cert.ReferenceUpIdeal.Value.run (F := Ideal) m' ρ')
    obtain ⟨h0, hargs⟩ := h c
    refine ⟨h0.trans ((Cert.ReferenceUpIdeal.Read.val_main_v7_eq _ _).trans ?_), hargs⟩
    obtain ⟨e0, e1⟩ := hm c
    funext y
    obtain ⟨p, j, rfl⟩ : ∃ (p : Fin 5632) (j : Fin 1024), y = ix2 p j := ⟨y 0, y 1, eq_ix2 y⟩
    refine (ref_apply (m' ((c.tc : Thread Cert.ReferenceUpIdeal.nD Cert.ReferenceUpIdeal.τ).loc Cert.ReferenceUpIdeal.main_arg0))
      (m' ((c.tc : Thread Cert.ReferenceUpIdeal.nD Cert.ReferenceUpIdeal.τ).loc Cert.ReferenceUpIdeal.main_arg1)) p j).trans ?_
    rw [e0, e1]; rfl

end Cert.DwUp

end
-- ==== Proof.DwDown.lean ====
/- The gradient of the down projection's weight: the kernel's output, accumulated over eight tiles of the rows, is the reference's
   product over all the rows. -/
module

public import proofs.«01_k».proof.Defs
public import proofs.«01_k».proof.Proof.Gen.KernelDownIdeal.Value
public import proofs.«01_k».proof.Proof.Gen.ReferenceDownIdeal.Read
public import proofs.«01_k».proof.Proof.TileSum

@[expose] public section

noncomputable section

namespace Cert.DwDown

open Cert.KernelDownIdeal Cert.KernelDownIdeal.Gen Idealize.ShloMosaic Idealize.ShloMosaic.TcCoe Idealize.SL.Sem
open Idealize.ShloMosaic.Pipeline (Dat)
open Cert.TileSum

variable (m : (ℓ : Loc nD τ sig) → Buf (Elt Ideal) ℓ)

/-! ### Where each window's block lies -/

theorem at0 : ∀ t : Fin grid0.N, win0_0.index t 0 = t.val % 8 ∧ win0_0.index t 1 = t.val / 8 := by decide +kernel
theorem at1 : ∀ t : Fin grid0.N, win0_1.index t 0 = t.val % 8 ∧ win0_1.index t 1 = 0 := by decide +kernel
theorem at2 : ∀ t : Fin grid0.N, win0_2.index t 0 = t.val / 8 ∧ win0_2.index t 1 = 0 := by decide +kernel

theorem points : grid0.N = 16 := by decide +kernel

theorem point_lt (t : Fin cfg0.N) : t.val < 16 := lt_of_lt_of_eq t.isLt points

/-- Row `k` of the tile of rows point `n` reads. -/
abbrev row (n : ℕ) (k : Fin 1024) : Fin 8192 := ⟨1024 * (n % 8) + k.val, by have := k.isLt; omega⟩

/-- Column `r` of the tile of columns point `n` computes. -/
abbrev col (n : ℕ) (h : n < cfg0.N) (r : Fin 1408) : Fin 2816 :=
  ⟨1408 * (n / 8) + r.val, by have : n < 16 := lt_of_lt_of_eq h points; have := r.isLt; omega⟩

theorem blk0 (c : Dev nD) (t : Fin cfg0.N) (k : Fin 1024) (r : Fin 1408) :
    (iblk m c 0 t : Vec Ideal S1024x1408 .bf16) (ix2 k r)
      = m ((c : Thread nD τ).loc main_arg0) (ix2 (row t.val k) (col t.val t.isLt r)) := by
  unfold iblk
  rw [View.read_apply]
  refine Eq.trans (congrArg (V m c main_arg0) ?_) (congrFun (V_main_arg0 m c) _)
  funext a; apply Fin.ext
  match a with
  | ⟨0, _⟩ => show win0_0.index t 0 * 1024 + 1 * k.val = 1024 * (t.val % 8) + k.val; rw [(at0 t).1]; omega
  | ⟨1, _⟩ => show win0_0.index t 1 * 1408 + 1 * r.val = 1408 * (t.val / 8) + r.val; rw [(at0 t).2]; omega

theorem blk1 (c : Dev nD) (t : Fin cfg0.N) (k : Fin 1024) (j : Fin 1024) :
    (iblk m c 1 t : Vec Ideal S1024x1024 .bf16) (ix2 k j)
      = m ((c : Thread nD τ).loc main_arg1) (ix2 (row t.val k) j) := by
  unfold iblk
  rw [View.read_apply]
  refine Eq.trans (congrArg (V m c main_arg1) ?_) (congrFun (V_main_arg1 m c) _)
  funext a; apply Fin.ext
  match a with
  | ⟨0, _⟩ => show win0_1.index t 0 * 1024 + 1 * k.val = 1024 * (t.val % 8) + k.val; rw [(at1 t).1]; omega
  | ⟨1, _⟩ => show win0_1.index t 1 * 1024 + 1 * j.val = j.val; rw [(at1 t).2]; omega

/-! ### The body's arithmetic -/

/-- One product of the sum over the rows. -/
def term (A : Vec Ideal S8192x2816 .bf16) (B : Vec Ideal S8192x1024 .bf16) (p : Fin 2816) (j : Fin 1024) (k : Fin 8192) : EReal :=
  A (ix2 k p) * B (ix2 k j)

/-- `term` at the kernel's operands. -/
def prod (c : Dev nD) (p : Fin 2816) (j : Fin 1024) : Fin 8192 → EReal :=
  term (m ((c : Thread nD τ).loc main_arg0)) (m ((c : Thread nD τ).loc main_arg1)) p j

theorem pay2_apply (v3 : Vec Ideal S1408x1024 .f32) (v4 : Vec Ideal S1024x1408 .bf16) (v5 : Vec Ideal S1024x1024 .bf16)
    (r : Fin 1408) (j : Fin 1024) :
    k0_pay2 v3 v4 v5 (ix2 r j) = v3 (ix2 r j) + ∑ k : Fin 1024, v4 (ix2 k r) * v5 (ix2 k j) := by
  pointwise [k0_pay2]

theorem pay1_apply (r : Fin 1408) (j : Fin 1024) : k0_pay1 (F := Ideal) (ix2 r j) = 0 := by
  pointwise [k0_pay1]

theorem pay2_blk (c : Dev nD) (t : Fin cfg0.N) (v : Vec Ideal S1408x1024 .f32) (r : Fin 1408) (j : Fin 1024) :
    k0_pay2 v (iblk m c 0 t) (iblk m c 1 t) (ix2 r j) = v (ix2 r j) + tile (prod m c (col t.val t.isLt r) j) (t.val % 8) := by
  rw [pay2_apply, tile_of_lt _ _ (Nat.mod_lt _ (by norm_num))]
  refine congrArg (v (ix2 r j) + ·) (Finset.sum_congr rfl fun k _ => ?_)
  rw [blk0, blk1]; rfl

theorem zero2 : (![0, 0] : Fin 2 → ℕ) = fun _ => 0 := by funext a; match a with | ⟨0, _⟩ => rfl | ⟨1, _⟩ => rfl

theorem ld_a (X : Vec Ideal S1408x1024 .f32) (inb) :
    View.ld X (Rect.unit (s := S1408x1024) ![0, 0] ![1408, 1024] inb) = X := View.ld_unit_zero (S := S1408x1024) zero2 inb X
theorem ld_b (X : Vec Ideal S1024x1408 .bf16) (inb) :
    View.ld X (Rect.unit (s := S1024x1408) ![0, 0] ![1024, 1408] inb) = X := View.ld_unit_zero (S := S1024x1408) zero2 inb X
theorem ld_c (X : Vec Ideal S1024x1024 .bf16) (inb) :
    View.ld X (Rect.unit (s := S1024x1024) ![0, 0] ![1024, 1024] inb) = X := View.ld_unit_zero (S := S1024x1024) zero2 inb X

/-! ### What a point leaves in the accumulator and in the output block -/

theorem scr_first (c : Dev nD) (t : Fin cfg0.N) (h0 : t.val % 8 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun y => scover0_A_0 c _ _ _ _ _ _ _ _ _ _ _ _ _ y)]
  unfold kernelRun0_A
  dsimp only
  sl_unfold_words
  refine (View.canon_cons_unit_zero (S := S1408x1024) zero2 _ _ _).trans ?_
  simp only [View.readAt_eq_ld, (hs0_0 t).read_unread, (hs0_1 t).read_unread, (hs0_2 t).read_unread, View.readCov_unit_zero (S := S1408x1024) _ zero2 _ _]
  simp only [ld_a, ld_b, ld_c]

theorem scr_next (c : Dev nD) (t : Fin cfg0.N) (h0 : ¬ t.val % 8 = 0) :
    (outsAt0 m c t.val t.isLt).2 = k0_pay2 (outsAt0 m c (t.val - 1) (Nat.lt_of_le_of_lt (Nat.sub_le _ _) t.isLt)).2
      (iblk m c 0 t) (iblk m c 1 t) := by
  by_cases h1 : t.val % 8 = 7
  · rw [outsAt0_C m c t h0 h1]
    dsimp only
    unfold sout0_C_0
    rw [View.read_writes_eq_canon _ _ _ (fun y => scover0_C_0 c _ _ _ _ _ _ _ _ _ _ _ _ _ _ y)]
    unfold kernelRun0_C
    dsimp only
    sl_unfold_words
    refine (View.canon_unit_zero (S := S1408x1024) zero2 _ _).trans ?_
    simp only [View.readAt_eq_ld, (hs0_0 t).read_unread, (hs0_1 t).read_unread, (hs0_2 t).read_unread, (Memref.isWhole_whole _).read_unread]
    simp only [ld_a, ld_b, ld_c]
  · rw [outsAt0_B m c t h0 h1]
    dsimp only
    unfold sout0_B_0
    rw [View.read_writes_eq_canon _ _ _ (fun y => scover0_B_0 c _ _ _ _ _ _ _ _ _ _ _ _ _ _ y)]
    unfold kernelRun0_B
    dsimp only
    sl_unfold_words
    refine (View.canon_unit_zero (S := S1408x1024) zero2 _ _).trans ?_
    simp only [View.readAt_eq_ld, (hs0_0 t).read_unread, (hs0_1 t).read_unread, (hs0_2 t).read_unread, (Memref.isWhole_whole _).read_unread]
    simp only [ld_a, ld_b, ld_c]

theorem out_last (c : Dev nD) (t : Fin cfg0.N) (h1 : t.val % 8 = 7) :
    (outsAt0 m c t.val t.isLt).1 = k0_pay3 (outsAt0 m c t.val t.isLt).2 := by
  rw [scr_next m c t (by omega), outsAt0_C m c t (by omega) h1]
  dsimp only
  unfold out0_C_2
  rw [View.read_writes_eq_canon _ _ _ (fun y => cover0_C_2 c _ _ _ _ _ _ _ _ _ _ _ _ _ _ y)]
  unfold kernelRun0_C
  dsimp only
  sl_unfold_words
  refine (View.canon_unit_zero (S := S1408x1024) zero2 _ _).trans ?_
  simp only [View.readAt_eq_ld, (hs0_0 t).read_unread, (hs0_1 t).read_unread, (hs0_2 t).read_unread, (Memref.isWhole_whole _).read_unread, View.readCov_unit_zero (S := S1408x1024) _ zero2 _ _]
  simp only [ld_a, ld_b, ld_c]

/-- The accumulator after a point: the tiles of rows met so far. -/
theorem scr (c : Dev nD) : ∀ (n : ℕ) (h : n < cfg0.N) (r : Fin 1408) (j : Fin 1024),
    (outsAt0 m c n h).2 (ix2 r j) = upto (prod m c (col n h r) j) (n % 8 + 1)
  | 0, h, r, j => by
    rw [scr_first m c ⟨0, h⟩ rfl, pay2_blk, pay1_apply, zero_add]
    exact (upto_one _).symm
  | n + 1, h, r, j => by
    by_cases h0 : (n + 1) % 8 = 0
    · rw [scr_first m c ⟨n + 1, h⟩ h0, pay2_blk, pay1_apply, zero_add]
      dsimp only
      rw [h0]; exact (upto_one _).symm
    · rw [scr_next m c ⟨n + 1, h⟩ h0, pay2_blk]
      show (outsAt0 m c n _).2 (ix2 r j) + _ = _
      rw [scr c n (Nat.lt_of_succ_lt h) r j]
      have e : col n (Nat.lt_of_succ_lt h) r = col (n + 1) h r := Fin.ext (by show 1408 * (n / 8) + r.val = 1408 * ((n + 1) / 8) + r.val; omega)
      have e2 : n % 8 + 1 = (n + 1) % 8 := by omega
      rw [e, e2]; exact (upto_succ _ _).symm

/-! ### The output array -/

/-- The product over all the rows. -/
def total (c : Dev nD) (p : Fin 2816) (j : Fin 1024) : EReal := ∑ k, prod m c p j k

/-- The product over all the rows, as an array. -/
def arr (c : Dev nD) : Vec Ideal S2816x1024 .bf16 := fun y => total m c (y 0) (y 1)

/-- The part of it that one point's tile of columns holds. -/
def tileArr (c : Dev nD) (t : Fin cfg0.N) : Vec Ideal S1408x1024 .bf16 := fun y => total m c (col t.val t.isLt (y 0)) (y 1)

theorem tileArr_eq (c : Dev nD) (t : Fin cfg0.N) (y : S1408x1024.Idx) (i : S2816x1024.Idx)
    (h0 : (i 0).val = 1408 * (t.val / 8) + (y 0).val) (h1 : (i 1).val = (y 1).val) : tileArr m c t y = arr m c i :=
  congrArg₂ (total m c) (Fin.ext h0.symm) (Fin.ext h1.symm)

theorem flushed_eq (c : Dev nD) (t : Fin cfg0.N) (hf : (cfg0.win 2).flush t = true) :
    (dats m 0 c).flushed 2 t = ((cfg0.win 2).blk t).view.read (Elt Ideal) (arr m c) := by
  have h1 : t.val % 8 = 7 := (flush0_2 t).mp hf
  have e : (outsAt0 m c t.val t.isLt).1 = tileArr m c t := by
    rw [out_last m c t h1]; funext y
    obtain ⟨r, j, rfl⟩ : ∃ (r : Fin 1408) (j : Fin 1024), y = ix2 r j := ⟨y 0, y 1, eq_ix2 y⟩
    refine (show k0_pay3 (outsAt0 m c t.val t.isLt).2 (ix2 r j) = (outsAt0 m c t.val t.isLt).2 (ix2 r j) from rfl).trans ?_
    rw [scr m c t.val t.isLt r j, h1]
    exact upto_all _
  rw [Value.flushed2, e]
  funext y
  rw [View.read_apply]
  have hb0 : (((cfg0.win 2).blk t).view.emb y 0).val = win0_2.index t (0 : Fin 2) * 1408 + 1 * (y 0).val := rfl
  have hb1 : (((cfg0.win 2).blk t).view.emb y 1).val = win0_2.index t (1 : Fin 2) * 1024 + 1 * (y 1).val := rfl
  refine Eq.trans ?_ (cast_eq rfl (arr m c (((cfg0.win 2).blk t).view.emb y))).symm
  exact tileArr_eq m c t ((cfg0.win 2).xinj (grid0.coords t) y) (((cfg0.win 2).blk t).view.emb y)
    (hb0.trans (by rw [(at2 t).1, one_mul, mul_comm])) (hb1.trans (by rw [(at2 t).2, zero_mul, one_mul, zero_add]))

theorem cover (i : S2816x1024.Idx) :
    ∃ t : Fin cfg0.N, (cfg0.win 2).flush t = true ∧ i ∈ ((cfg0.win 2).blk t).view.set :=
  (Value.covered_iff2 i).2 ⟨Nat.zero_le _, (i 0).isLt, Nat.zero_le _, (i 1).isLt⟩

theorem final (c : Dev nD) : (dats m 0 c).arrAt 2 cfg0.N = arr m c :=
  (dats m 0 c).arrAt_eq_of_cover 2 (arr m c) (fun t hf => flushed_eq m c t hf) cover

/-! ### The reference -/

open Cert.ReferenceDownIdeal.Read in
theorem ref_apply (x0 : Vec Ideal S8192x2816 .bf16) (x1 : Vec Ideal S8192x1024 .bf16) (p : Fin 2816) (j : Fin 1024) :
    val_main_v6 (F := Ideal) x0 x1 (ix2 p j) = ∑ k, term x0 x1 p j k := by
  pointwise [val_main_v6, val_main_v5, val_main_v4, val_main_v3, val_main_v1]
  exact Finset.sum_congr rfl fun k _ => mul_comm _ _

/-! ### The claims -/

theorem frame_ref : Cert.quiescent_ReferenceDownIdeal (hReferenceDownIdeal := Cert.ReferenceDownIdeal.Gen.facts) := fun m ρ _ =>
  (θ_run Cert.ReferenceDownIdeal.defs _ _).mono (fun r h => ⟨fun c => (h c).2,
    Idealize.ShloMosaic.sem_eq_zero_of_no_sems (by decide) r.2⟩) (Cert.ReferenceDownIdeal.Value.run (F := Ideal) m ρ)

theorem algebraic : Cert.algebraic_KernelDownIdeal_ReferenceDownIdeal (hKernelDownIdeal := Cert.KernelDownIdeal.Gen.facts)
    (hReferenceDownIdeal := Cert.ReferenceDownIdeal.Gen.facts) := by
  intro m ρ m' ρ' _ hm
  refine ⟨arr m, ?_, ?_⟩
  · refine (θ_run Cert.KernelDownIdeal.defs _ _).mono (fun r h c => ?_) (Cert.KernelDownIdeal.Value.run_blocks (F := Ideal) m ρ)
    obtain ⟨h0, hargs⟩ := h c
    exact ⟨h0.trans (final m c), hargs⟩
  · refine (θ_run Cert.ReferenceDownIdeal.defs _ _).mono (fun r h c => ?_) (Cert.ReferenceDownIdeal.Value.run (F := Ideal) m' ρ')
    obtain ⟨h0, hargs⟩ := h c
    refine ⟨h0.trans ((Cert.ReferenceDownIdeal.Read.val_main_v6_eq _ _).trans ?_), hargs⟩
    obtain ⟨e0, e1⟩ := hm c
    funext y
    obtain ⟨p, j, rfl⟩ : ∃ (p : Fin 2816) (j : Fin 1024), y = ix2 p j := ⟨y 0, y 1, eq_ix2 y⟩
    refine (ref_apply (m' ((c.tc : Thread Cert.ReferenceDownIdeal.nD Cert.ReferenceDownIdeal.τ).loc Cert.ReferenceDownIdeal.main_arg0))
      (m' ((c.tc : Thread Cert.ReferenceDownIdeal.nD Cert.ReferenceDownIdeal.τ).loc Cert.ReferenceDownIdeal.main_arg1)) p j).trans ?_
    rw [e0, e1]; rfl

end Cert.DwDown

end
-- ==== Proof.DwOut.lean ====
/- The gradient of the output projection's weight: the kernel's output, accumulated over eight tiles of the rows, is the reference's
   product over all the rows. -/
module

public import proofs.«01_k».proof.Defs
public import proofs.«01_k».proof.Proof.Gen.KernelOutIdeal.Value
public import proofs.«01_k».proof.Proof.Gen.ReferenceOutIdeal.Read
public import proofs.«01_k».proof.Proof.TileSum

@[expose] public section

noncomputable section

namespace Cert.DwOut

open Cert.KernelOutIdeal Cert.KernelOutIdeal.Gen Idealize.ShloMosaic Idealize.ShloMosaic.TcCoe Idealize.SL.Sem
open Idealize.ShloMosaic.Pipeline (Dat)
open Cert.TileSum

variable (m : (ℓ : Loc nD τ sig) → Buf (Elt Ideal) ℓ)

/-! ### Where each window's block lies -/

theorem at0 : ∀ t : Fin grid0.N, win0_0.index t 0 = t.val % 8 ∧ win0_0.index t 1 = t.val / 8 := by decide +kernel
theorem at1 : ∀ t : Fin grid0.N, win0_1.index t 0 = t.val % 8 ∧ win0_1.index t 1 = 0 := by decide +kernel
theorem at2 : ∀ t : Fin grid0.N, win0_2.index t 0 = t.val / 8 ∧ win0_2.index t 1 = 0 := by decide +kernel

theorem points : grid0.N = 8 := by decide +kernel

theorem point_lt (t : Fin cfg0.N) : t.val < 8 := lt_of_lt_of_eq t.isLt points

/-- Row `k` of the tile of rows point `n` reads. -/
abbrev row (n : ℕ) (k : Fin 1024) : Fin 8192 := ⟨1024 * (n % 8) + k.val, by have := k.isLt; omega⟩

/-- Column `r` of the tile of columns point `n` computes. -/
abbrev col (n : ℕ) (h : n < cfg0.N) (r : Fin 1024) : Fin 1024 :=
  ⟨1024 * (n / 8) + r.val, by have : n < 8 := lt_of_lt_of_eq h points; have := r.isLt; omega⟩

theorem blk0 (c : Dev nD) (t : Fin cfg0.N) (k : Fin 1024) (r : Fin 1024) :
    (iblk m c 0 t : Vec Ideal S1024x1024 .bf16) (ix2 k r)
      = m ((c : Thread nD τ).loc main_arg0) (ix2 (row t.val k) (col t.val t.isLt r)) := by
  unfold iblk
  rw [View.read_apply]
  refine Eq.trans (congrArg (V m c main_arg0) ?_) (congrFun (V_main_arg0 m c) _)
  funext a; apply Fin.ext
  match a with
  | ⟨0, _⟩ => show win0_0.index t 0 * 1024 + 1 * k.val = 1024 * (t.val % 8) + k.val; rw [(at0 t).1]; omega
  | ⟨1, _⟩ => show win0_0.index t 1 * 1024 + 1 * r.val = 1024 * (t.val / 8) + r.val; rw [(at0 t).2]; omega

theorem blk1 (c : Dev nD) (t : Fin cfg0.N) (k : Fin 1024) (j : Fin 1024) :
    (iblk m c 1 t : Vec Ideal S1024x1024 .bf16) (ix2 k j)
      = m ((c : Thread nD τ).loc main_arg1) (ix2 (row t.val k) j) := by
  unfold iblk
  rw [View.read_apply]
  refine Eq.trans (congrArg (V m c main_arg1) ?_) (congrFun (V_main_arg1 m c) _)
  funext a; apply Fin.ext
  match a with
  | ⟨0, _⟩ => show win0_1.index t 0 * 1024 + 1 * k.val = 1024 * (t.val % 8) + k.val; rw [(at1 t).1]; omega
  | ⟨1, _⟩ => show win0_1.index t 1 * 1024 + 1 * j.val = j.val; rw [(at1 t).2]; omega

/-! ### The body's arithmetic -/

/-- One product of the sum over the rows. -/
def term (A : Vec Ideal S8192x1024 .bf16) (B : Vec Ideal S8192x1024 .bf16) (p : Fin 1024) (j : Fin 1024) (k : Fin 8192) : EReal :=
  A (ix2 k p) * B (ix2 k j)

/-- `term` at the kernel's operands. -/
def prod (c : Dev nD) (p : Fin 1024) (j : Fin 1024) : Fin 8192 → EReal :=
  term (m ((c : Thread nD τ).loc main_arg0)) (m ((c : Thread nD τ).loc main_arg1)) p j

theorem pay2_apply (v3 : Vec Ideal S1024x1024 .f32) (v4 : Vec Ideal S1024x1024 .bf16) (v5 : Vec Ideal S1024x1024 .bf16)
    (r : Fin 1024) (j : Fin 1024) :
    k0_pay2 v3 v4 v5 (ix2 r j) = v3 (ix2 r j) + ∑ k : Fin 1024, v4 (ix2 k r) * v5 (ix2 k j) := by
  pointwise [k0_pay2]

theorem pay1_apply (r : Fin 1024) (j : Fin 1024) : k0_pay1 (F := Ideal) (ix2 r j) = 0 := by
  pointwise [k0_pay1]

theorem pay2_blk (c : Dev nD) (t : Fin cfg0.N) (v : Vec Ideal S1024x1024 .f32) (r : Fin 1024) (j : Fin 1024) :
    k0_pay2 v (iblk m c 0 t) (iblk m c 1 t) (ix2 r j) = v (ix2 r j) + tile (prod m c (col t.val t.isLt r) j) (t.val % 8) := by
  rw [pay2_apply, tile_of_lt _ _ (Nat.mod_lt _ (by norm_num))]
  refine congrArg (v (ix2 r j) + ·) (Finset.sum_congr rfl fun k _ => ?_)
  rw [blk0, blk1]; rfl

theorem zero2 : (![0, 0] : Fin 2 → ℕ) = fun _ => 0 := by funext a; match a with | ⟨0, _⟩ => rfl | ⟨1, _⟩ => rfl

theorem ld_a (X : Vec Ideal S1024x1024 .f32) (inb) :
    View.ld X (Rect.unit (s := S1024x1024) ![0, 0] ![1024, 1024] inb) = X := View.ld_unit_zero (S := S1024x1024) zero2 inb X
theorem ld_b (X : Vec Ideal S1024x1024 .bf16) (inb) :
    View.ld X (Rect.unit (s := S1024x1024) ![0, 0] ![1024, 1024] inb) = X := View.ld_unit_zero (S := S1024x1024) zero2 inb X
theorem ld_c (X : Vec Ideal S1024x1024 .bf16) (inb) :
    View.ld X (Rect.unit (s := S1024x1024) ![0, 0] ![1024, 1024] inb) = X := View.ld_unit_zero (S := S1024x1024) zero2 inb X

/-! ### What a point leaves in the accumulator and in the output block -/

theorem scr_first (c : Dev nD) (t : Fin cfg0.N) (h0 : t.val % 8 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun y => scover0_A_0 c _ _ _ _ _ _ _ _ _ _ _ _ _ y)]
  unfold kernelRun0_A
  dsimp only
  sl_unfold_words
  refine (View.canon_cons_unit_zero (S := S1024x1024) zero2 _ _ _).trans ?_
  simp only [View.readAt_eq_ld, (hs0_0 t).read_unread, (hs0_1 t).read_unread, (hs0_2 t).read_unread, View.readCov_unit_zero (S := S1024x1024) _ zero2 _ _]
  simp only [ld_a, ld_b, ld_c]

theorem scr_next (c : Dev nD) (t : Fin cfg0.N) (h0 : ¬ t.val % 8 = 0) :
    (outsAt0 m c t.val t.isLt).2 = k0_pay2 (outsAt0 m c (t.val - 1) (Nat.lt_of_le_of_lt (Nat.sub_le _ _) t.isLt)).2
      (iblk m c 0 t) (iblk m c 1 t) := by
  by_cases h1 : t.val % 8 = 7
  · rw [outsAt0_C m c t h0 h1]
    dsimp only
    unfold sout0_C_0
    rw [View.read_writes_eq_canon _ _ _ (fun y => scover0_C_0 c _ _ _ _ _ _ _ _ _ _ _ _ _ _ y)]
    unfold kernelRun0_C
    dsimp only
    sl_unfold_words
    refine (View.canon_unit_zero (S := S1024x1024) zero2 _ _).trans ?_
    simp only [View.readAt_eq_ld, (hs0_0 t).read_unread, (hs0_1 t).read_unread, (hs0_2 t).read_unread, (Memref.isWhole_whole _).read_unread]
    simp only [ld_a, ld_b, ld_c]
  · rw [outsAt0_B m c t h0 h1]
    dsimp only
    unfold sout0_B_0
    rw [View.read_writes_eq_canon _ _ _ (fun y => scover0_B_0 c _ _ _ _ _ _ _ _ _ _ _ _ _ _ y)]
    unfold kernelRun0_B
    dsimp only
    sl_unfold_words
    refine (View.canon_unit_zero (S := S1024x1024) zero2 _ _).trans ?_
    simp only [View.readAt_eq_ld, (hs0_0 t).read_unread, (hs0_1 t).read_unread, (hs0_2 t).read_unread, (Memref.isWhole_whole _).read_unread]
    simp only [ld_a, ld_b, ld_c]

theorem out_last (c : Dev nD) (t : Fin cfg0.N) (h1 : t.val % 8 = 7) :
    (outsAt0 m c t.val t.isLt).1 = k0_pay3 (outsAt0 m c t.val t.isLt).2 := by
  rw [scr_next m c t (by omega), outsAt0_C m c t (by omega) h1]
  dsimp only
  unfold out0_C_2
  rw [View.read_writes_eq_canon _ _ _ (fun y => cover0_C_2 c _ _ _ _ _ _ _ _ _ _ _ _ _ _ y)]
  unfold kernelRun0_C
  dsimp only
  sl_unfold_words
  refine (View.canon_unit_zero (S := S1024x1024) zero2 _ _).trans ?_
  simp only [View.readAt_eq_ld, (hs0_0 t).read_unread, (hs0_1 t).read_unread, (hs0_2 t).read_unread, (Memref.isWhole_whole _).read_unread, View.readCov_unit_zero (S := S1024x1024) _ zero2 _ _]
  simp only [ld_a, ld_b, ld_c]

/-- The accumulator after a point: the tiles of rows met so far. -/
theorem scr (c : Dev nD) : ∀ (n : ℕ) (h : n < cfg0.N) (r : Fin 1024) (j : Fin 1024),
    (outsAt0 m c n h).2 (ix2 r j) = upto (prod m c (col n h r) j) (n % 8 + 1)
  | 0, h, r, j => by
    rw [scr_first m c ⟨0, h⟩ rfl, pay2_blk, pay1_apply, zero_add]
    exact (upto_one _).symm
  | n + 1, h, r, j => by
    by_cases h0 : (n + 1) % 8 = 0
    · rw [scr_first m c ⟨n + 1, h⟩ h0, pay2_blk, pay1_apply, zero_add]
      dsimp only
      rw [h0]; exact (upto_one _).symm
    · rw [scr_next m c ⟨n + 1, h⟩ h0, pay2_blk]
      show (outsAt0 m c n _).2 (ix2 r j) + _ = _
      rw [scr c n (Nat.lt_of_succ_lt h) r j]
      have e : col n (Nat.lt_of_succ_lt h) r = col (n + 1) h r := Fin.ext (by show 1024 * (n / 8) + r.val = 1024 * ((n + 1) / 8) + r.val; omega)
      have e2 : n % 8 + 1 = (n + 1) % 8 := by omega
      rw [e, e2]; exact (upto_succ _ _).symm

/-! ### The output array -/

/-- The product over all the rows. -/
def total (c : Dev nD) (p : Fin 1024) (j : Fin 1024) : EReal := ∑ k, prod m c p j k

/-- The product over all the rows, as an array. -/
def arr (c : Dev nD) : Vec Ideal S1024x1024 .bf16 := fun y => total m c (y 0) (y 1)

/-- The part of it that one point's tile of columns holds. -/
def tileArr (c : Dev nD) (t : Fin cfg0.N) : Vec Ideal S1024x1024 .bf16 := fun y => total m c (col t.val t.isLt (y 0)) (y 1)

theorem tileArr_eq (c : Dev nD) (t : Fin cfg0.N) (y : S1024x1024.Idx) (i : S1024x1024.Idx)
    (h0 : (i 0).val = 1024 * (t.val / 8) + (y 0).val) (h1 : (i 1).val = (y 1).val) : tileArr m c t y = arr m c i :=
  congrArg₂ (total m c) (Fin.ext h0.symm) (Fin.ext h1.symm)

theorem flushed_eq (c : Dev nD) (t : Fin cfg0.N) (hf : (cfg0.win 2).flush t = true) :
    (dats m 0 c).flushed 2 t = ((cfg0.win 2).blk t).view.read (Elt Ideal) (arr m c) := by
  have h1 : t.val % 8 = 7 := (flush0_2 t).mp hf
  have e : (outsAt0 m c t.val t.isLt).1 = tileArr m c t := by
    rw [out_last m c t h1]; funext y
    obtain ⟨r, j, rfl⟩ : ∃ (r : Fin 1024) (j : Fin 1024), y = ix2 r j := ⟨y 0, y 1, eq_ix2 y⟩
    refine (show k0_pay3 (outsAt0 m c t.val t.isLt).2 (ix2 r j) = (outsAt0 m c t.val t.isLt).2 (ix2 r j) from rfl).trans ?_
    rw [scr m c t.val t.isLt r j, h1]
    exact upto_all _
  rw [Value.flushed2, e]
  funext y
  rw [View.read_apply]
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  refine Eq.trans ?_ (cast_eq rfl (arr m c (((cfg0.win 2).blk t).view.emb y))).symm
  exact tileArr_eq m c t ((cfg0.win 2).xinj (grid0.coords t) y) (((cfg0.win 2).blk t).view.emb y)
    (hb0.trans (by rw [(at2 t).1, one_mul, mul_comm])) (hb1.trans (by rw [(at2 t).2, zero_mul, one_mul, zero_add]))

theorem cover (i : S1024x1024.Idx) :
    ∃ t : Fin cfg0.N, (cfg0.win 2).flush t = true ∧ i ∈ ((cfg0.win 2).blk t).view.set :=
  (Value.covered_iff2 i).2 ⟨Nat.zero_le _, (i 0).isLt, Nat.zero_le _, (i 1).isLt⟩

theorem final (c : Dev nD) : (dats m 0 c).arrAt 2 cfg0.N = arr m c :=
  (dats m 0 c).arrAt_eq_of_cover 2 (arr m c) (fun t hf => flushed_eq m c t hf) cover

/-! ### The reference -/

open Cert.ReferenceOutIdeal.Read in
theorem ref_apply (x0 : Vec Ideal S8192x1024 .bf16) (x1 : Vec Ideal S8192x1024 .bf16) (p : Fin 1024) (j : Fin 1024) :
    val_main_v6 (F := Ideal) x0 x1 (ix2 p j) = ∑ k, term x0 x1 p j k := by
  pointwise [val_main_v6, val_main_v5, val_main_v4, val_main_v3, val_main_v1]
  exact Finset.sum_congr rfl fun k _ => mul_comm _ _

/-! ### The claims -/

theorem frame_ref : Cert.quiescent_ReferenceOutIdeal (hReferenceOutIdeal := Cert.ReferenceOutIdeal.Gen.facts) := fun m ρ _ =>
  (θ_run Cert.ReferenceOutIdeal.defs _ _).mono (fun r h => ⟨fun c => (h c).2,
    Idealize.ShloMosaic.sem_eq_zero_of_no_sems (by decide) r.2⟩) (Cert.ReferenceOutIdeal.Value.run (F := Ideal) m ρ)

theorem algebraic : Cert.algebraic_KernelOutIdeal_ReferenceOutIdeal (hKernelOutIdeal := Cert.KernelOutIdeal.Gen.facts)
    (hReferenceOutIdeal := Cert.ReferenceOutIdeal.Gen.facts) := by
  intro m ρ m' ρ' _ hm
  refine ⟨arr m, ?_, ?_⟩
  · refine (θ_run Cert.KernelOutIdeal.defs _ _).mono (fun r h c => ?_) (Cert.KernelOutIdeal.Value.run_blocks (F := Ideal) m ρ)
    obtain ⟨h0, hargs⟩ := h c
    exact ⟨h0.trans (final m c), hargs⟩
  · refine (θ_run Cert.ReferenceOutIdeal.defs _ _).mono (fun r h c => ?_) (Cert.ReferenceOutIdeal.Value.run (F := Ideal) m' ρ')
    obtain ⟨h0, hargs⟩ := h c
    refine ⟨h0.trans ((Cert.ReferenceOutIdeal.Read.val_main_v6_eq _ _).trans ?_), hargs⟩
    obtain ⟨e0, e1⟩ := hm c
    funext y
    obtain ⟨p, j, rfl⟩ : ∃ (p : Fin 1024) (j : Fin 1024), y = ix2 p j := ⟨y 0, y 1, eq_ix2 y⟩
    refine (ref_apply (m' ((c.tc : Thread Cert.ReferenceOutIdeal.nD Cert.ReferenceOutIdeal.τ).loc Cert.ReferenceOutIdeal.main_arg0))
      (m' ((c.tc : Thread Cert.ReferenceOutIdeal.nD Cert.ReferenceOutIdeal.τ).loc Cert.ReferenceOutIdeal.main_arg1)) p j).trans ?_
    rw [e0, e1]; rfl

end Cert.DwOut

end
-- ==== Proof.DwGlu.lean ====
/- The gradient of the gate's weight: the kernel's output, accumulated over eight tiles of the rows, is the reference's
   product over all the rows. -/
module

public import proofs.«01_k».proof.Defs
public import proofs.«01_k».proof.Proof.Gen.KernelGluIdeal.Value
public import proofs.«01_k».proof.Proof.Gen.ReferenceGluIdeal.Read
public import proofs.«01_k».proof.Proof.TileSum

@[expose] public section

noncomputable section

namespace Cert.DwGlu

open Cert.KernelGluIdeal Cert.KernelGluIdeal.Gen Idealize.ShloMosaic Idealize.ShloMosaic.TcCoe Idealize.SL.Sem
open Idealize.ShloMosaic.Pipeline (Dat)
open Cert.TileSum

variable (m : (ℓ : Loc nD τ sig) → Buf (Elt Ideal) ℓ)

/-! ### Where each window's block lies -/

theorem at0 : ∀ t : Fin grid0.N, win0_0.index t 0 = t.val % 8 ∧ win0_0.index t 1 = t.val / 8 := by decide +kernel
theorem at1 : ∀ t : Fin grid0.N, win0_1.index t 0 = t.val % 8 ∧ win0_1.index t 1 = 0 := by decide +kernel
theorem at2 : ∀ t : Fin grid0.N, win0_2.index t 0 = t.val / 8 ∧ win0_2.index t 1 = 0 := by decide +kernel

theorem points : grid0.N = 8 := by decide +kernel

theorem point_lt (t : Fin cfg0.N) : t.val < 8 := lt_of_lt_of_eq t.isLt points

/-- Row `k` of the tile of rows point `n` reads. -/
abbrev row (n : ℕ) (k : Fin 1024) : Fin 8192 := ⟨1024 * (n % 8) + k.val, by have := k.isLt; omega⟩

/-- Column `r` of the tile of columns point `n` computes. -/
abbrev col (n : ℕ) (h : n < cfg0.N) (r : Fin 512) : Fin 512 :=
  ⟨512 * (n / 8) + r.val, by have : n < 8 := lt_of_lt_of_eq h points; have := r.isLt; omega⟩

theorem blk0 (c : Dev nD) (t : Fin cfg0.N) (k : Fin 1024) (r : Fin 512) :
    (iblk m c 0 t : Vec Ideal S1024x512 .bf16) (ix2 k r)
      = m ((c : Thread nD τ).loc main_arg0) (ix2 (row t.val k) (col t.val t.isLt r)) := by
  unfold iblk
  rw [View.read_apply]
  refine Eq.trans (congrArg (V m c main_arg0) ?_) (congrFun (V_main_arg0 m c) _)
  funext a; apply Fin.ext
  match a with
  | ⟨0, _⟩ => show win0_0.index t 0 * 1024 + 1 * k.val = 1024 * (t.val % 8) + k.val; rw [(at0 t).1]; omega
  | ⟨1, _⟩ => show win0_0.index t 1 * 512 + 1 * r.val = 512 * (t.val / 8) + r.val; rw [(at0 t).2]; omega

theorem blk1 (c : Dev nD) (t : Fin cfg0.N) (k : Fin 1024) (j : Fin 512) :
    (iblk m c 1 t : Vec Ideal S1024x512 .bf16) (ix2 k j)
      = m ((c : Thread nD τ).loc main_arg1) (ix2 (row t.val k) j) := by
  unfold iblk
  rw [View.read_apply]
  refine Eq.trans (congrArg (V m c main_arg1) ?_) (congrFun (V_main_arg1 m c) _)
  funext a; apply Fin.ext
  match a with
  | ⟨0, _⟩ => show win0_1.index t 0 * 1024 + 1 * k.val = 1024 * (t.val % 8) + k.val; rw [(at1 t).1]; omega
  | ⟨1, _⟩ => show win0_1.index t 1 * 512 + 1 * j.val = j.val; rw [(at1 t).2]; omega

/-! ### The body's arithmetic -/

/-- One product of the sum over the rows. -/
def term (A : Vec Ideal S8192x512 .bf16) (B : Vec Ideal S8192x512 .bf16) (p : Fin 512) (j : Fin 512) (k : Fin 8192) : EReal :=
  A (ix2 k p) * B (ix2 k j)

/-- `term` at the kernel's operands. -/
def prod (c : Dev nD) (p : Fin 512) (j : Fin 512) : Fin 8192 → EReal :=
  term (m ((c : Thread nD τ).loc main_arg0)) (m ((c : Thread nD τ).loc main_arg1)) p j

theorem pay2_apply (v3 : Vec Ideal S512x512 .f32) (v4 : Vec Ideal S1024x512 .bf16) (v5 : Vec Ideal S1024x512 .bf16)
    (r : Fin 512) (j : Fin 512) :
    k0_pay2 v3 v4 v5 (ix2 r j) = v3 (ix2 r j) + ∑ k : Fin 1024, v4 (ix2 k r) * v5 (ix2 k j) := by
  pointwise [k0_pay2]

theorem pay1_apply (r : Fin 512) (j : Fin 512) : k0_pay1 (F := Ideal) (ix2 r j) = 0 := by
  pointwise [k0_pay1]

theorem pay2_blk (c : Dev nD) (t : Fin cfg0.N) (v : Vec Ideal S512x512 .f32) (r : Fin 512) (j : Fin 512) :
    k0_pay2 v (iblk m c 0 t) (iblk m c 1 t) (ix2 r j) = v (ix2 r j) + tile (prod m c (col t.val t.isLt r) j) (t.val % 8) := by
  rw [pay2_apply, tile_of_lt _ _ (Nat.mod_lt _ (by norm_num))]
  refine congrArg (v (ix2 r j) + ·) (Finset.sum_congr rfl fun k _ => ?_)
  rw [blk0, blk1]; rfl

theorem zero2 : (![0, 0] : Fin 2 → ℕ) = fun _ => 0 := by funext a; match a with | ⟨0, _⟩ => rfl | ⟨1, _⟩ => rfl

theorem ld_a (X : Vec Ideal S512x512 .f32) (inb) :
    View.ld X (Rect.unit (s := S512x512) ![0, 0] ![512, 512] inb) = X := View.ld_unit_zero (S := S512x512) zero2 inb X
theorem ld_b (X : Vec Ideal S1024x512 .bf16) (inb) :
    View.ld X (Rect.unit (s := S1024x512) ![0, 0] ![1024, 512] inb) = X := View.ld_unit_zero (S := S1024x512) zero2 inb X
theorem ld_c (X : Vec Ideal S1024x512 .bf16) (inb) :
    View.ld X (Rect.unit (s := S1024x512) ![0, 0] ![1024, 512] inb) = X := View.ld_unit_zero (S := S1024x512) zero2 inb X

/-! ### What a point leaves in the accumulator and in the output block -/

theorem scr_first (c : Dev nD) (t : Fin cfg0.N) (h0 : t.val % 8 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun y => scover0_A_0 c _ _ _ _ _ _ _ _ _ _ _ _ _ y)]
  unfold kernelRun0_A
  dsimp only
  sl_unfold_words
  refine (View.canon_cons_unit_zero (S := S512x512) zero2 _ _ _).trans ?_
  simp only [View.readAt_eq_ld, (hs0_0 t).read_unread, (hs0_1 t).read_unread, (hs0_2 t).read_unread, View.readCov_unit_zero (S := S512x512) _ zero2 _ _]
  simp only [ld_a, ld_b, ld_c]

theorem scr_next (c : Dev nD) (t : Fin cfg0.N) (h0 : ¬ t.val % 8 = 0) :
    (outsAt0 m c t.val t.isLt).2 = k0_pay2 (outsAt0 m c (t.val - 1) (Nat.lt_of_le_of_lt (Nat.sub_le _ _) t.isLt)).2
      (iblk m c 0 t) (iblk m c 1 t) := by
  by_cases h1 : t.val % 8 = 7
  · rw [outsAt0_C m c t h0 h1]
    dsimp only
    unfold sout0_C_0
    rw [View.read_writes_eq_canon _ _ _ (fun y => scover0_C_0 c _ _ _ _ _ _ _ _ _ _ _ _ _ _ y)]
    unfold kernelRun0_C
    dsimp only
    sl_unfold_words
    refine (View.canon_unit_zero (S := S512x512) zero2 _ _).trans ?_
    simp only [View.readAt_eq_ld, (hs0_0 t).read_unread, (hs0_1 t).read_unread, (hs0_2 t).read_unread, (Memref.isWhole_whole _).read_unread]
    simp only [ld_a, ld_b, ld_c]
  · rw [outsAt0_B m c t h0 h1]
    dsimp only
    unfold sout0_B_0
    rw [View.read_writes_eq_canon _ _ _ (fun y => scover0_B_0 c _ _ _ _ _ _ _ _ _ _ _ _ _ _ y)]
    unfold kernelRun0_B
    dsimp only
    sl_unfold_words
    refine (View.canon_unit_zero (S := S512x512) zero2 _ _).trans ?_
    simp only [View.readAt_eq_ld, (hs0_0 t).read_unread, (hs0_1 t).read_unread, (hs0_2 t).read_unread, (Memref.isWhole_whole _).read_unread]
    simp only [ld_a, ld_b, ld_c]

theorem out_last (c : Dev nD) (t : Fin cfg0.N) (h1 : t.val % 8 = 7) :
    (outsAt0 m c t.val t.isLt).1 = k0_pay3 (outsAt0 m c t.val t.isLt).2 := by
  rw [scr_next m c t (by omega), outsAt0_C m c t (by omega) h1]
  dsimp only
  unfold out0_C_2
  rw [View.read_writes_eq_canon _ _ _ (fun y => cover0_C_2 c _ _ _ _ _ _ _ _ _ _ _ _ _ _ y)]
  unfold kernelRun0_C
  dsimp only
  sl_unfold_words
  refine (View.canon_unit_zero (S := S512x512) zero2 _ _).trans ?_
  simp only [View.readAt_eq_ld, (hs0_0 t).read_unread, (hs0_1 t).read_unread, (hs0_2 t).read_unread, (Memref.isWhole_whole _).read_unread, View.readCov_unit_zero (S := S512x512) _ zero2 _ _]
  simp only [ld_a, ld_b, ld_c]

/-- The accumulator after a point: the tiles of rows met so far. -/
theorem scr (c : Dev nD) : ∀ (n : ℕ) (h : n < cfg0.N) (r : Fin 512) (j : Fin 512),
    (outsAt0 m c n h).2 (ix2 r j) = upto (prod m c (col n h r) j) (n % 8 + 1)
  | 0, h, r, j => by
    rw [scr_first m c ⟨0, h⟩ rfl, pay2_blk, pay1_apply, zero_add]
    exact (upto_one _).symm
  | n + 1, h, r, j => by
    by_cases h0 : (n + 1) % 8 = 0
    · rw [scr_first m c ⟨n + 1, h⟩ h0, pay2_blk, pay1_apply, zero_add]
      dsimp only
      rw [h0]; exact (upto_one _).symm
    · rw [scr_next m c ⟨n + 1, h⟩ h0, pay2_blk]
      show (outsAt0 m c n _).2 (ix2 r j) + _ = _
      rw [scr c n (Nat.lt_of_succ_lt h) r j]
      have e : col n (Nat.lt_of_succ_lt h) r = col (n + 1) h r := Fin.ext (by show 512 * (n / 8) + r.val = 512 * ((n + 1) / 8) + r.val; omega)
      have e2 : n % 8 + 1 = (n + 1) % 8 := by omega
      rw [e, e2]; exact (upto_succ _ _).symm

/-! ### The output array -/

/-- The product over all the rows. -/
def total (c : Dev nD) (p : Fin 512) (j : Fin 512) : EReal := ∑ k, prod m c p j k

/-- The product over all the rows, as an array. -/
def arr (c : Dev nD) : Vec Ideal S512x512 .bf16 := fun y => total m c (y 0) (y 1)

/-- The part of it that one point's tile of columns holds. -/
def tileArr (c : Dev nD) (t : Fin cfg0.N) : Vec Ideal S512x512 .bf16 := fun y => total m c (col t.val t.isLt (y 0)) (y 1)

theorem tileArr_eq (c : Dev nD) (t : Fin cfg0.N) (y : S512x512.Idx) (i : S512x512.Idx)
    (h0 : (i 0).val = 512 * (t.val / 8) + (y 0).val) (h1 : (i 1).val = (y 1).val) : tileArr m c t y = arr m c i :=
  congrArg₂ (total m c) (Fin.ext h0.symm) (Fin.ext h1.symm)

theorem flushed_eq (c : Dev nD) (t : Fin cfg0.N) (hf : (cfg0.win 2).flush t = true) :
    (dats m 0 c).flushed 2 t = ((cfg0.win 2).blk t).view.read (Elt Ideal) (arr m c) := by
  have h1 : t.val % 8 = 7 := (flush0_2 t).mp hf
  have e : (outsAt0 m c t.val t.isLt).1 = tileArr m c t := by
    rw [out_last m c t h1]; funext y
    obtain ⟨r, j, rfl⟩ : ∃ (r : Fin 512) (j : Fin 512), y = ix2 r j := ⟨y 0, y 1, eq_ix2 y⟩
    refine (show k0_pay3 (outsAt0 m c t.val t.isLt).2 (ix2 r j) = (outsAt0 m c t.val t.isLt).2 (ix2 r j) from rfl).trans ?_
    rw [scr m c t.val t.isLt r j, h1]
    exact upto_all _
  rw [Value.flushed2, e]
  funext y
  rw [View.read_apply]
  have hb0 : (((cfg0.win 2).blk t).view.emb y 0).val = win0_2.index t (0 : Fin 2) * 512 + 1 * (y 0).val := rfl
  have hb1 : (((cfg0.win 2).blk t).view.emb y 1).val = win0_2.index t (1 : Fin 2) * 512 + 1 * (y 1).val := rfl
  refine Eq.trans ?_ (cast_eq rfl (arr m c (((cfg0.win 2).blk t).view.emb y))).symm
  exact tileArr_eq m c t ((cfg0.win 2).xinj (grid0.coords t) y) (((cfg0.win 2).blk t).view.emb y)
    (hb0.trans (by rw [(at2 t).1, one_mul, mul_comm])) (hb1.trans (by rw [(at2 t).2, zero_mul, one_mul, zero_add]))

theorem cover (i : S512x512.Idx) :
    ∃ t : Fin cfg0.N, (cfg0.win 2).flush t = true ∧ i ∈ ((cfg0.win 2).blk t).view.set :=
  (Value.covered_iff2 i).2 ⟨Nat.zero_le _, (i 0).isLt, Nat.zero_le _, (i 1).isLt⟩

theorem final (c : Dev nD) : (dats m 0 c).arrAt 2 cfg0.N = arr m c :=
  (dats m 0 c).arrAt_eq_of_cover 2 (arr m c) (fun t hf => flushed_eq m c t hf) cover

/-! ### The reference -/

open Cert.ReferenceGluIdeal.Read in
theorem ref_apply (x0 : Vec Ideal S8192x512 .bf16) (x1 : Vec Ideal S8192x512 .bf16) (p : Fin 512) (j : Fin 512) :
    val_main_v6 (F := Ideal) x0 x1 (ix2 p j) = ∑ k, term x0 x1 p j k := by
  pointwise [val_main_v6, val_main_v5, val_main_v4, val_main_v3, val_main_v1]
  exact Finset.sum_congr rfl fun k _ => mul_comm _ _

/-! ### The claims -/

theorem frame_ref : Cert.quiescent_ReferenceGluIdeal (hReferenceGluIdeal := Cert.ReferenceGluIdeal.Gen.facts) := fun m ρ _ =>
  (θ_run Cert.ReferenceGluIdeal.defs _ _).mono (fun r h => ⟨fun c => (h c).2,
    Idealize.ShloMosaic.sem_eq_zero_of_no_sems (by decide) r.2⟩) (Cert.ReferenceGluIdeal.Value.run (F := Ideal) m ρ)

theorem algebraic : Cert.algebraic_KernelGluIdeal_ReferenceGluIdeal (hKernelGluIdeal := Cert.KernelGluIdeal.Gen.facts)
    (hReferenceGluIdeal := Cert.ReferenceGluIdeal.Gen.facts) := by
  intro m ρ m' ρ' _ hm
  refine ⟨arr m, ?_, ?_⟩
  · refine (θ_run Cert.KernelGluIdeal.defs _ _).mono (fun r h c => ?_) (Cert.KernelGluIdeal.Value.run_blocks (F := Ideal) m ρ)
    obtain ⟨h0, hargs⟩ := h c
    exact ⟨h0.trans (final m c), hargs⟩
  · refine (θ_run Cert.ReferenceGluIdeal.defs _ _).mono (fun r h c => ?_) (Cert.ReferenceGluIdeal.Value.run (F := Ideal) m' ρ')
    obtain ⟨h0, hargs⟩ := h c
    refine ⟨h0.trans ((Cert.ReferenceGluIdeal.Read.val_main_v6_eq _ _).trans ?_), hargs⟩
    obtain ⟨e0, e1⟩ := hm c
    funext y
    obtain ⟨p, j, rfl⟩ : ∃ (p : Fin 512) (j : Fin 512), y = ix2 p j := ⟨y 0, y 1, eq_ix2 y⟩
    refine (ref_apply (m' ((c.tc : Thread Cert.ReferenceGluIdeal.nD Cert.ReferenceGluIdeal.τ).loc Cert.ReferenceGluIdeal.main_arg0))
      (m' ((c.tc : Thread Cert.ReferenceGluIdeal.nD Cert.ReferenceGluIdeal.τ).loc Cert.ReferenceGluIdeal.main_arg1)) p j).trans ?_
    rw [e0, e1]; rfl

end Cert.DwGlu

end
-- ==== Proof.OptSumUp.lean ====
/- The sum of the eight landed parts of the up projection's gradient: the kernel's output, eleven blocks of 64 rows, is the
   reference's sum over the parts. -/
module

public import proofs.«01_k».proof.Defs
public import proofs.«01_k».proof.Proof.Gen.KernelSumUpIdeal.Value
public import proofs.«01_k».proof.Proof.Gen.ReferenceSumUpIdeal.Read
public import Idealize.ShloMosaic.PureOps.Ideal.Laws
public import Idealize.ShloMosaic.Lib.Pointwise

@[expose] public section

noncomputable section

namespace Cert.OptSumUp

open Cert.KernelSumUpIdeal Cert.KernelSumUpIdeal.Gen Idealize.ShloMosaic Idealize.ShloMosaic.TcCoe Idealize.SL.Sem
open Idealize.ShloMosaic.Pipeline (Dat)

variable (m : (ℓ : Loc nD τ sig) → Buf (Elt Ideal) ℓ)

theorem at0 : ∀ t : Fin grid0.N, win0_0.index t 0 = 0 ∧ win0_0.index t 1 = t.val ∧ win0_0.index t 2 = 0 := by decide +kernel
theorem at1 : ∀ t : Fin grid0.N, win0_1.index t 0 = t.val ∧ win0_1.index t 1 = 0 := by decide +kernel

theorem points : grid0.N = 11 := by decide +kernel

/-- Row `r` of the block of rows point `n` computes. -/
abbrev row (n : ℕ) (h : n < cfg0.N) (r : Fin 64) : Fin 704 :=
  ⟨64 * n + r.val, by have : n < 11 := lt_of_lt_of_eq h points; have := r.isLt; omega⟩

theorem blk0 (c : Dev nD) (t : Fin cfg0.N) (k : Fin 8) (r : Fin 64) (j : Fin 1024) :
    (iblk m c 0 t : Vec Ideal S8x64x1024 .bf16) (ix3 k r j)
      = m ((c : Thread nD τ).loc main_arg0) (ix3 k (row t.val t.isLt r) j) := by
  unfold iblk
  rw [View.read_apply]
  refine Eq.trans (congrArg (V m c main_arg0) ?_) (congrFun (V_main_arg0 m c) _)
  funext a; apply Fin.ext
  match a with
  | ⟨0, _⟩ => show win0_0.index t 0 * 8 + 1 * k.val = k.val; rw [(at0 t).1]; omega
  | ⟨1, _⟩ => show win0_0.index t 1 * 64 + 1 * r.val = 64 * t.val + r.val; rw [(at0 t).2.1]; omega
  | ⟨2, _⟩ => show win0_0.index t 2 * 1024 + 1 * j.val = j.val; rw [(at0 t).2.2]; omega

/-- Part `k` as a load of one slice. -/
theorem ld_part (X : Vec Ideal S8x64x1024 .bf16) (k : Fin 8) (inb) (r : Fin 64) (j : Fin 1024) :
    View.ld X (Rect.unit (s := S8x64x1024) ![k.val, 0, 0] ![1, 64, 1024] inb) (ix3 (0 : Fin 1) r j) = X (ix3 k r j) := by
  refine congrArg X ?_
  funext a; apply Fin.ext
  match a with
  | ⟨0, _⟩ => show k.val + 1 * 0 = k.val; omega
  | ⟨1, _⟩ => show 0 + 1 * r.val = r.val; omega
  | ⟨2, _⟩ => show 0 + 1 * j.val = j.val; omega

theorem pay1_apply (P0 P1 P2 P3 P4 P5 P6 P7 : Vec Ideal S1x64x1024 .bf16) (r : Fin 64) (j : Fin 1024) :
    k0_pay1 P0 P1 P2 P3 P4 P5 P6 P7 (ix2 r j)
      = P0 (ix3 0 r j) + P1 (ix3 0 r j) + P2 (ix3 0 r j) + P3 (ix3 0 r j) + P4 (ix3 0 r j) + P5 (ix3 0 r j) + P6 (ix3 0 r j)
        + P7 (ix3 0 r j) := by
  pointwise [k0_pay1]

theorem zero2 : (![0, 0] : Fin 2 → ℕ) = fun _ => 0 := by funext a; match a with | ⟨0, _⟩ => rfl | ⟨1, _⟩ => rfl

theorem out_apply (X : Vec Ideal S8x64x1024 .bf16) (r : Fin 64) (j : Fin 1024) :
    out0_1 X (ix2 r j) = ∑ k : Fin 8, X (ix3 k r j) := by
  unfold out0_1
  rw [View.canon_unit_zero (S := S64x1024) zero2, pay1_apply, Fin.sum_univ_eight]
  exact congrArg₂ (· + ·) (congrArg₂ (· + ·) (congrArg₂ (· + ·) (congrArg₂ (· + ·) (congrArg₂ (· + ·) (congrArg₂ (· + ·)
    (congrArg₂ (· + ·) (ld_part X 0 _ r j) (ld_part X 1 _ r j)) (ld_part X 2 _ r j)) (ld_part X 3 _ r j)) (ld_part X 4 _ r j))
    (ld_part X 5 _ r j)) (ld_part X 6 _ r j)) (ld_part X 7 _ r j)

/-! ### The output array -/

/-- The sum over the parts. -/
def total (A : Vec Ideal S8x704x1024 .bf16) (p : Fin 704) (j : Fin 1024) : EReal := ∑ k : Fin 8, A (ix3 k p j)

/-- The sum over the parts, as an array. -/
def arr (c : Dev nD) : Vec Ideal S704x1024 .f32 := fun y => total (m ((c : Thread nD τ).loc main_arg0)) (y 0) (y 1)

/-- The part of it that one point's block of rows holds. -/
def tileArr (c : Dev nD) (t : Fin cfg0.N) : Vec Ideal S64x1024 .f32 :=
  fun y => total (m ((c : Thread nD τ).loc main_arg0)) (row t.val t.isLt (y 0)) (y 1)

theorem tileArr_eq (c : Dev nD) (t : Fin cfg0.N) (y : S64x1024.Idx) (i : S704x1024.Idx)
    (h0 : (i 0).val = 64 * t.val + (y 0).val) (h1 : (i 1).val = (y 1).val) : tileArr m c t y = arr m c i :=
  congrArg₂ (total (m ((c : Thread nD τ).loc main_arg0))) (Fin.ext h0.symm) (Fin.ext h1.symm)

theorem flushed_eq (c : Dev nD) (t : Fin cfg0.N) :
    (dats m 0 c).flushed 1 t = ((cfg0.win 1).blk t).view.read (Elt Ideal) (arr m c) := by
  have e : out0_1 (iblk m c 0 t) = tileArr m c t := by
    funext y
    obtain ⟨r, j, rfl⟩ : ∃ (r : Fin 64) (j : Fin 1024), y = ix2 r j := ⟨y 0, y 1, eq_ix2 y⟩
    have h : (fun k : Fin 8 => ((iblk m c 0 t : Vec Ideal S8x64x1024 .bf16) (ix3 k r j) : EReal))
        = fun k => m ((c : Thread nD τ).loc main_arg0) (ix3 k (row t.val t.isLt r) j) := funext fun k => blk0 m c t k r j
    exact (out_apply _ r j).trans (congrArg (fun f : Fin 8 → EReal => ∑ k, f k) h)
  rw [Value.flushed1, e]
  funext y
  rw [View.read_apply]
  have hb0 : (((cfg0.win 1).blk t).view.emb y 0).val = win0_1.index t (0 : Fin 2) * 64 + 1 * (y 0).val := rfl
  have hb1 : (((cfg0.win 1).blk t).view.emb y 1).val = win0_1.index t (1 : Fin 2) * 1024 + 1 * (y 1).val := rfl
  refine Eq.trans ?_ (cast_eq rfl (arr m c (((cfg0.win 1).blk t).view.emb y))).symm
  exact tileArr_eq m c t ((cfg0.win 1).xinj (grid0.coords t) y) (((cfg0.win 1).blk t).view.emb y)
    (hb0.trans (by rw [(at1 t).1, one_mul, mul_comm])) (hb1.trans (by rw [(at1 t).2, zero_mul, one_mul, zero_add]))

theorem cover (i : S704x1024.Idx) :
    ∃ t : Fin cfg0.N, (cfg0.win 1).flush t = true ∧ i ∈ ((cfg0.win 1).blk t).view.set := by
  have hi0 : (i 0).val < 704 := (i 0).isLt
  have hi1 : (i 1).val < 1024 := (i 1).isLt
  have hN : (i 0).val / 64 < cfg0.N := lt_of_lt_of_eq (by omega : (i 0).val / 64 < 11) points.symm
  refine ⟨⟨(i 0).val / 64, hN⟩, flush0_1 _, ?_⟩
  show i ∈ ((View.whole main_v0).slice (win0_1.rect ⟨(i 0).val / 64, hN⟩)).set
  rw [View.set_slice_whole, Rect.mem_set_unit]
  intro a
  have h := at1 ⟨(i 0).val / 64, hN⟩
  match a with
  | ⟨0, _⟩ =>
    show win0_1.index ⟨(i 0).val / 64, hN⟩ 0 * 64 ≤ (i 0).val ∧ (i 0).val < win0_1.index ⟨(i 0).val / 64, hN⟩ 0 * 64 + 64
    rw [h.1]; dsimp only; omega
  | ⟨1, _⟩ =>
    show win0_1.index ⟨(i 0).val / 64, hN⟩ 1 * 1024 ≤ (i 1).val ∧ (i 1).val < win0_1.index ⟨(i 0).val / 64, hN⟩ 1 * 1024 + 1024
    rw [h.2]; omega

theorem final (c : Dev nD) : (dats m 0 c).arrAt 1 cfg0.N = arr m c :=
  (dats m 0 c).arrAt_eq_of_cover 1 (arr m c) (fun t _ => flushed_eq m c t) cover

/-! ### The reference -/

open Cert.ReferenceSumUpIdeal.Read in
theorem ref_apply (x0 : Vec Ideal S8x704x1024 .bf16) (p : Fin 704) (j : Fin 1024) :
    val_main_v1 (F := Ideal) x0 (ix2 p j) = total x0 p j := by
  pointwise [val_main_v1, val_main_v0, val_main_cst]
  all_goals try rfl

/-! ### The claims -/

theorem frame_ref : Cert.quiescent_ReferenceSumUpIdeal (hReferenceSumUpIdeal := Cert.ReferenceSumUpIdeal.Gen.facts) := fun m ρ _ =>
  (θ_run Cert.ReferenceSumUpIdeal.defs _ _).mono (fun r h => ⟨fun c => (h c).2,
    Idealize.ShloMosaic.sem_eq_zero_of_no_sems (by decide) r.2⟩) (Cert.ReferenceSumUpIdeal.Value.run (F := Ideal) m ρ)

theorem algebraic : Cert.algebraic_KernelSumUpIdeal_ReferenceSumUpIdeal (hKernelSumUpIdeal := Cert.KernelSumUpIdeal.Gen.facts)
    (hReferenceSumUpIdeal := Cert.ReferenceSumUpIdeal.Gen.facts) := by
  intro m ρ m' ρ' _ hm
  refine ⟨arr m, ?_, ?_⟩
  · refine (θ_run Cert.KernelSumUpIdeal.defs _ _).mono (fun r h c => ?_) (Cert.KernelSumUpIdeal.Value.run_blocks (F := Ideal) m ρ)
    obtain ⟨h0, hargs⟩ := h c
    exact ⟨h0.trans (final m c), hargs⟩
  · refine (θ_run Cert.ReferenceSumUpIdeal.defs _ _).mono (fun r h c => ?_) (Cert.ReferenceSumUpIdeal.Value.run (F := Ideal) m' ρ')
    obtain ⟨h0, hargs⟩ := h c
    refine ⟨h0.trans ((Cert.ReferenceSumUpIdeal.Read.val_main_v1_eq _).trans ?_), hargs⟩
    have e0 := hm c
    funext y
    obtain ⟨p, j, rfl⟩ : ∃ (p : Fin 704) (j : Fin 1024), y = ix2 p j := ⟨y 0, y 1, eq_ix2 y⟩
    refine (ref_apply (m' ((c.tc : Thread Cert.ReferenceSumUpIdeal.nD Cert.ReferenceSumUpIdeal.τ).loc
      Cert.ReferenceSumUpIdeal.main_arg0)) p j).trans ?_
    rw [e0]; rfl

end Cert.OptSumUp

end
-- ==== Proof.OptWMod.lean ====
/- One step of AdamW for the modulation's weight: the kernel's three outputs are the reference's, entry by entry. -/
module

public import proofs.«01_k».proof.Defs
public import proofs.«01_k».proof.Proof.Gen.KernelWModIdeal.Value
public import proofs.«01_k».proof.Proof.Gen.ReferenceWModIdeal.Read
public import Idealize.ShloMosaic.PureOps.Ideal.Laws
public import Idealize.ShloMosaic.Lib.Pointwise

@[expose] public section

noncomputable section

namespace Cert.OptWMod

open Cert.KernelWModIdeal Cert.KernelWModIdeal.Gen Idealize.ShloMosaic Idealize.ShloMosaic.TcCoe Idealize.SL.Sem

/-! ### The reference, in the kernel's terms -/

open Cert.ReferenceWModIdeal.Read in
theorem momentum (x1 x2 : Vec Ideal S1024x768 .f32) : val_main_v4 (F := Ideal) x1 x2 = Value.G5 x1 x2 := by
  funext y
  obtain ⟨p, j, rfl⟩ : ∃ (p : Fin 1024) (j : Fin 768), y = ix2 p j := ⟨y 0, y 1, eq_ix2 y⟩
  pointwise [val_main_v4, val_main_v3, val_main_v2, val_main_v1, val_main_v0]
  all_goals try rfl

open Cert.ReferenceWModIdeal.Read in
theorem variance (x1 x3 : Vec Ideal S1024x768 .f32) : val_main_v10 (F := Ideal) x1 x3 = Value.G6 x1 x3 := by
  funext y
  obtain ⟨p, j, rfl⟩ : ∃ (p : Fin 1024) (j : Fin 768), y = ix2 p j := ⟨y 0, y 1, eq_ix2 y⟩
  pointwise [val_main_v10, val_main_v9, val_main_v8, val_main_v7, val_main_v6, val_main_v5]
  all_goals try rfl

open Cert.ReferenceWModIdeal.Read in
theorem delta (x0 x1 x2 x3 : Vec Ideal S1024x768 .f32) : val_main_v23 (F := Ideal) x0 x1 x2 x3 = Value.G4 x1 x2 x3 x0 := by
  funext y
  obtain ⟨p, j, rfl⟩ : ∃ (p : Fin 1024) (j : Fin 768), y = ix2 p j := ⟨y 0, y 1, eq_ix2 y⟩
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  all_goals try rfl

/-! ### The claims -/

theorem frame_ref : Cert.quiescent_ReferenceWModIdeal (hReferenceWModIdeal := Cert.ReferenceWModIdeal.Gen.facts) := fun m ρ _ =>
  (θ_run Cert.ReferenceWModIdeal.defs _ _).mono (fun r h => ⟨fun c => (h c).2.2.2,
    Idealize.ShloMosaic.sem_eq_zero_of_no_sems (by decide) r.2⟩) (Cert.ReferenceWModIdeal.Value.run (F := Ideal) m ρ)

theorem algebraic : Cert.algebraic_KernelWModIdeal_ReferenceWModIdeal (hKernelWModIdeal := Cert.KernelWModIdeal.Gen.facts)
    (hReferenceWModIdeal := Cert.ReferenceWModIdeal.Gen.facts) := by
  intro m ρ m' ρ' _ hm
  refine ⟨_, _, _, Cert.KernelWModIdeal.Value.run (F := Ideal) m ρ, ?_⟩
  refine (θ_run Cert.ReferenceWModIdeal.defs _ _).mono (fun r h c => ?_) (Cert.ReferenceWModIdeal.Value.run (F := Ideal) m' ρ')
  obtain ⟨h0, h1, h2, hargs⟩ := h c
  obtain ⟨e0, e1, e2, e3⟩ := hm c
  refine ⟨h0.trans ((Cert.ReferenceWModIdeal.Read.val_main_v23_eq _ _ _ _).trans ?_), h1.trans ((Cert.ReferenceWModIdeal.Read.val_main_v4_eq _ _).trans ?_),
    h2.trans ((Cert.ReferenceWModIdeal.Read.val_main_v10_eq _ _).trans ?_), hargs⟩
  · refine (delta _ _ _ _).trans ?_; rw [e0, e1, e2, e3]
  · refine (momentum _ _).trans ?_; rw [e1, e2]
  · refine (variance _ _).trans ?_; rw [e1, e3]

end Cert.OptWMod

end
-- ==== Proof.OptWIn.lean ====
/- One step of AdamW for the input projection: the kernel's three outputs are the reference's, entry by entry. -/
module

public import proofs.«01_k».proof.Defs
public import proofs.«01_k».proof.Proof.Gen.KernelWInIdeal.Value
public import proofs.«01_k».proof.Proof.Gen.ReferenceWInIdeal.Read
public import Idealize.ShloMosaic.PureOps.Ideal.Laws
public import Idealize.ShloMosaic.Lib.Pointwise

@[expose] public section

noncomputable section

namespace Cert.OptWIn

open Cert.KernelWInIdeal Cert.KernelWInIdeal.Gen Idealize.ShloMosaic Idealize.ShloMosaic.TcCoe Idealize.SL.Sem

/-! ### The reference, in the kernel's terms -/

open Cert.ReferenceWInIdeal.Read in
theorem momentum (x1 x2 : Vec Ideal S1024x320 .f32) : val_main_v4 (F := Ideal) x1 x2 = Value.G5 x1 x2 := by
  funext y
  obtain ⟨p, j, rfl⟩ : ∃ (p : Fin 1024) (j : Fin 320), y = ix2 p j := ⟨y 0, y 1, eq_ix2 y⟩
  pointwise [val_main_v4, val_main_v3, val_main_v2, val_main_v1, val_main_v0]
  all_goals try rfl

open Cert.ReferenceWInIdeal.Read in
theorem variance (x1 x3 : Vec Ideal S1024x320 .f32) : val_main_v10 (F := Ideal) x1 x3 = Value.G6 x1 x3 := by
  funext y
  obtain ⟨p, j, rfl⟩ : ∃ (p : Fin 1024) (j : Fin 320), y = ix2 p j := ⟨y 0, y 1, eq_ix2 y⟩
  pointwise [val_main_v10, val_main_v9, val_main_v8, val_main_v7, val_main_v6, val_main_v5]
  all_goals try rfl

open Cert.ReferenceWInIdeal.Read in
theorem delta (x0 x1 x2 x3 : Vec Ideal S1024x320 .f32) : val_main_v23 (F := Ideal) x0 x1 x2 x3 = Value.G4 x1 x2 x3 x0 := by
  funext y
  obtain ⟨p, j, rfl⟩ : ∃ (p : Fin 1024) (j : Fin 320), y = ix2 p j := ⟨y 0, y 1, eq_ix2 y⟩
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  all_goals try rfl

/-! ### The claims -/

theorem frame_ref : Cert.quiescent_ReferenceWInIdeal (hReferenceWInIdeal := Cert.ReferenceWInIdeal.Gen.facts) := fun m ρ _ =>
  (θ_run Cert.ReferenceWInIdeal.defs _ _).mono (fun r h => ⟨fun c => (h c).2.2.2,
    Idealize.ShloMosaic.sem_eq_zero_of_no_sems (by decide) r.2⟩) (Cert.ReferenceWInIdeal.Value.run (F := Ideal) m ρ)

theorem algebraic : Cert.algebraic_KernelWInIdeal_ReferenceWInIdeal (hKernelWInIdeal := Cert.KernelWInIdeal.Gen.facts)
    (hReferenceWInIdeal := Cert.ReferenceWInIdeal.Gen.facts) := by
  intro m ρ m' ρ' _ hm
  refine ⟨_, _, _, Cert.KernelWInIdeal.Value.run (F := Ideal) m ρ, ?_⟩
  refine (θ_run Cert.ReferenceWInIdeal.defs _ _).mono (fun r h c => ?_) (Cert.ReferenceWInIdeal.Value.run (F := Ideal) m' ρ')
  obtain ⟨h0, h1, h2, hargs⟩ := h c
  obtain ⟨e0, e1, e2, e3⟩ := hm c
  refine ⟨h0.trans ((Cert.ReferenceWInIdeal.Read.val_main_v23_eq _ _ _ _).trans ?_), h1.trans ((Cert.ReferenceWInIdeal.Read.val_main_v4_eq _ _).trans ?_),
    h2.trans ((Cert.ReferenceWInIdeal.Read.val_main_v10_eq _ _).trans ?_), hargs⟩
  · refine (delta _ _ _ _).trans ?_; rw [e0, e1, e2, e3]
  · refine (momentum _ _).trans ?_; rw [e1, e2]
  · refine (variance _ _).trans ?_; rw [e1, e3]

end Cert.OptWIn

end
-- ==== Proof.OptWUp.lean ====
/- One step of AdamW for the up projection: the kernel's three outputs are the reference's, entry by entry. -/
module

public import proofs.«01_k».proof.Defs
public import proofs.«01_k».proof.Proof.Gen.KernelWUpIdeal.Value
public import proofs.«01_k».proof.Proof.Gen.ReferenceWUpIdeal.Read
public import Idealize.ShloMosaic.PureOps.Ideal.Laws
public import Idealize.ShloMosaic.Lib.Pointwise

@[expose] public section

noncomputable section

namespace Cert.OptWUp

open Cert.KernelWUpIdeal Cert.KernelWUpIdeal.Gen Idealize.ShloMosaic Idealize.ShloMosaic.TcCoe Idealize.SL.Sem

/-! ### The reference, in the kernel's terms -/

open Cert.ReferenceWUpIdeal.Read in
theorem momentum (x1 x2 : Vec Ideal S1024x704 .f32) : val_main_v4 (F := Ideal) x1 x2 = Value.G5 x1 x2 := by
  funext y
  obtain ⟨p, j, rfl⟩ : ∃ (p : Fin 1024) (j : Fin 704), y = ix2 p j := ⟨y 0, y 1, eq_ix2 y⟩
  pointwise [val_main_v4, val_main_v3, val_main_v2, val_main_v1, val_main_v0]
  all_goals try rfl

open Cert.ReferenceWUpIdeal.Read in
theorem variance (x1 x3 : Vec Ideal S1024x704 .f32) : val_main_v10 (F := Ideal) x1 x3 = Value.G6 x1 x3 := by
  funext y
  obtain ⟨p, j, rfl⟩ : ∃ (p : Fin 1024) (j : Fin 704), y = ix2 p j := ⟨y 0, y 1, eq_ix2 y⟩
  pointwise [val_main_v10, val_main_v9, val_main_v8, val_main_v7, val_main_v6, val_main_v5]
  all_goals try rfl

open Cert.ReferenceWUpIdeal.Read in
theorem delta (x0 x1 x2 x3 : Vec Ideal S1024x704 .f32) : val_main_v23 (F := Ideal) x0 x1 x2 x3 = Value.G4 x1 x2 x3 x0 := by
  funext y
  obtain ⟨p, j, rfl⟩ : ∃ (p : Fin 1024) (j : Fin 704), y = ix2 p j := ⟨y 0, y 1, eq_ix2 y⟩
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  all_goals try rfl

/-! ### The claims -/

theorem frame_ref : Cert.quiescent_ReferenceWUpIdeal (hReferenceWUpIdeal := Cert.ReferenceWUpIdeal.Gen.facts) := fun m ρ _ =>
  (θ_run Cert.ReferenceWUpIdeal.defs _ _).mono (fun r h => ⟨fun c => (h c).2.2.2,
    Idealize.ShloMosaic.sem_eq_zero_of_no_sems (by decide) r.2⟩) (Cert.ReferenceWUpIdeal.Value.run (F := Ideal) m ρ)

theorem algebraic : Cert.algebraic_KernelWUpIdeal_ReferenceWUpIdeal (hKernelWUpIdeal := Cert.KernelWUpIdeal.Gen.facts)
    (hReferenceWUpIdeal := Cert.ReferenceWUpIdeal.Gen.facts) := by
  intro m ρ m' ρ' _ hm
  refine ⟨_, _, _, Cert.KernelWUpIdeal.Value.run (F := Ideal) m ρ, ?_⟩
  refine (θ_run Cert.ReferenceWUpIdeal.defs _ _).mono (fun r h c => ?_) (Cert.ReferenceWUpIdeal.Value.run (F := Ideal) m' ρ')
  obtain ⟨h0, h1, h2, hargs⟩ := h c
  obtain ⟨e0, e1, e2, e3⟩ := hm c
  refine ⟨h0.trans ((Cert.ReferenceWUpIdeal.Read.val_main_v23_eq _ _ _ _).trans ?_), h1.trans ((Cert.ReferenceWUpIdeal.Read.val_main_v4_eq _ _).trans ?_),
    h2.trans ((Cert.ReferenceWUpIdeal.Read.val_main_v10_eq _ _).trans ?_), hargs⟩
  · refine (delta _ _ _ _).trans ?_; rw [e0, e1, e2, e3]
  · refine (momentum _ _).trans ?_; rw [e1, e2]
  · refine (variance _ _).trans ?_; rw [e1, e3]

end Cert.OptWUp

end
-- ==== Proof.OptConvW.lean ====
/- One step of AdamW for the convolution's taps: the kernel's three outputs are the reference's, entry by entry. -/
module

public import proofs.«01_k».proof.Defs
public import proofs.«01_k».proof.Proof.Gen.KernelConvWIdeal.Value
public import proofs.«01_k».proof.Proof.Gen.ReferenceConvWIdeal.Read
public import Idealize.ShloMosaic.PureOps.Ideal.Laws
public import Idealize.ShloMosaic.Lib.Pointwise

@[expose] public section

noncomputable section

namespace Cert.OptConvW

open Cert.KernelConvWIdeal Cert.KernelConvWIdeal.Gen Idealize.ShloMosaic Idealize.ShloMosaic.TcCoe Idealize.SL.Sem

/-! ### The reference, in the kernel's terms -/

open Cert.ReferenceConvWIdeal.Read in
theorem momentum (x1 x2 : Vec Ideal S3x352 .f32) : val_main_v4 (F := Ideal) x1 x2 = Value.G5 x1 x2 := by
  funext y
  obtain ⟨p, j, rfl⟩ : ∃ (p : Fin 3) (j : Fin 352), y = ix2 p j := ⟨y 0, y 1, eq_ix2 y⟩
  pointwise [val_main_v4, val_main_v3, val_main_v2, val_main_v1, val_main_v0]
  all_goals try rfl

open Cert.ReferenceConvWIdeal.Read in
theorem variance (x1 x3 : Vec Ideal S3x352 .f32) : val_main_v10 (F := Ideal) x1 x3 = Value.G6 x1 x3 := by
  funext y
  obtain ⟨p, j, rfl⟩ : ∃ (p : Fin 3) (j : Fin 352), y = ix2 p j := ⟨y 0, y 1, eq_ix2 y⟩
  pointwise [val_main_v10, val_main_v9, val_main_v8, val_main_v7, val_main_v6, val_main_v5]
  all_goals try rfl

open Cert.ReferenceConvWIdeal.Read in
theorem delta (x0 x1 x2 x3 : Vec Ideal S3x352 .f32) : val_main_v23 (F := Ideal) x0 x1 x2 x3 = Value.G4 x1 x2 x3 x0 := by
  funext y
  obtain ⟨p, j, rfl⟩ : ∃ (p : Fin 3) (j : Fin 352), y = ix2 p j := ⟨y 0, y 1, eq_ix2 y⟩
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  all_goals try rfl

/-! ### The claims -/

theorem frame_ref : Cert.quiescent_ReferenceConvWIdeal (hReferenceConvWIdeal := Cert.ReferenceConvWIdeal.Gen.facts) := fun m ρ _ =>
  (θ_run Cert.ReferenceConvWIdeal.defs _ _).mono (fun r h => ⟨fun c => (h c).2.2.2,
    Idealize.ShloMosaic.sem_eq_zero_of_no_sems (by decide) r.2⟩) (Cert.ReferenceConvWIdeal.Value.run (F := Ideal) m ρ)

theorem algebraic : Cert.algebraic_KernelConvWIdeal_ReferenceConvWIdeal (hKernelConvWIdeal := Cert.KernelConvWIdeal.Gen.facts)
    (hReferenceConvWIdeal := Cert.ReferenceConvWIdeal.Gen.facts) := by
  intro m ρ m' ρ' _ hm
  refine ⟨_, _, _, Cert.KernelConvWIdeal.Value.run (F := Ideal) m ρ, ?_⟩
  refine (θ_run Cert.ReferenceConvWIdeal.defs _ _).mono (fun r h c => ?_) (Cert.ReferenceConvWIdeal.Value.run (F := Ideal) m' ρ')
  obtain ⟨h0, h1, h2, hargs⟩ := h c
  obtain ⟨e0, e1, e2, e3⟩ := hm c
  refine ⟨h0.trans ((Cert.ReferenceConvWIdeal.Read.val_main_v23_eq _ _ _ _).trans ?_), h1.trans ((Cert.ReferenceConvWIdeal.Read.val_main_v4_eq _ _).trans ?_),
    h2.trans ((Cert.ReferenceConvWIdeal.Read.val_main_v10_eq _ _).trans ?_), hargs⟩
  · refine (delta _ _ _ _).trans ?_; rw [e0, e1, e2, e3]
  · refine (momentum _ _).trans ?_; rw [e1, e2]
  · refine (variance _ _).trans ?_; rw [e1, e3]

end Cert.OptConvW

end
-- ==== Proof.OptWOut.lean ====
/- One step of AdamW for the output projection, from the eight landed parts of its gradient: the kernel's four outputs are the
   reference's, entry by entry. -/
module

public import proofs.«01_k».proof.Defs
public import proofs.«01_k».proof.Proof.Gen.KernelWOutIdeal.Value
public import proofs.«01_k».proof.Proof.Gen.ReferenceWOutIdeal.Read
public import Idealize.ShloMosaic.PureOps.Ideal.Laws
public import Idealize.ShloMosaic.Lib.Pointwise

@[expose] public section

noncomputable section

namespace Cert.OptWOut

open Cert.KernelWOutIdeal Cert.KernelWOutIdeal.Gen Idealize.ShloMosaic Idealize.ShloMosaic.TcCoe Idealize.SL.Sem
open Idealize.ShloMosaic.Pipeline (Dat)

/-! ### The body's arithmetic is the reference's -/

/-- Part `k` as a load of one slice. -/
theorem ld_part (X : Vec Ideal S8x128x1024 .bf16) (k : Fin 8) (inb) (p : Fin 128) (j : Fin 1024) :
    View.ld X (Rect.unit (s := S8x128x1024) ![k.val, 0, 0] ![1, 128, 1024] inb) (ix3 (0 : Fin 1) p j) = X (ix3 k p j) := by
  refine congrArg X ?_
  funext a; apply Fin.ext
  match a with
  | ⟨0, _⟩ => show k.val + 1 * 0 = k.val; omega
  | ⟨1, _⟩ => show 0 + 1 * p.val = p.val; omega
  | ⟨2, _⟩ => show 0 + 1 * j.val = j.val; omega

/-- The kernel's sum, one part after the other. -/
theorem sum_apply (P0 P1 P2 P3 P4 P5 P6 P7 : Vec Ideal S1x128x1024 .bf16) (p : Fin 128) (j : Fin 1024) :
    k0_pay5 P0 P1 P2 P3 P4 P5 P6 P7 (ix2 p j) = P0 (ix3 0 p j) + P1 (ix3 0 p j) + P2 (ix3 0 p j) + P3 (ix3 0 p j)
      + P4 (ix3 0 p j) + P5 (ix3 0 p j) + P6 (ix3 0 p j) + P7 (ix3 0 p j) := by
  pointwise [k0_pay5]

/-- The reference's. -/
theorem ref_sum (A : Vec Ideal S8x128x1024 .bf16) (p : Fin 128) (j : Fin 1024) :
    Cert.ReferenceWOutIdeal.Read.val_main_v1 (F := Ideal) A (ix2 p j) = ∑ k : Fin 8, A (ix3 k p j) := by
  pointwise [Cert.ReferenceWOutIdeal.Read.val_main_v1, Cert.ReferenceWOutIdeal.Read.val_main_v0, Cert.ReferenceWOutIdeal.Read.val_main_cst]

theorem pay_g (X : Vec Ideal S8x128x1024 .bf16) (i0 i1 i2 i3 i4 i5 i6 i7) :
    k0_pay5 (View.ld X (Rect.unit (s := S8x128x1024) ![0, 0, 0] ![1, 128, 1024] i0)) (View.ld X (Rect.unit (s := S8x128x1024) ![1, 0, 0] ![1, 128, 1024] i1))
        (View.ld X (Rect.unit (s := S8x128x1024) ![2, 0, 0] ![1, 128, 1024] i2)) (View.ld X (Rect.unit (s := S8x128x1024) ![3, 0, 0] ![1, 128, 1024] i3))
        (View.ld X (Rect.unit (s := S8x128x1024) ![4, 0, 0] ![1, 128, 1024] i4)) (View.ld X (Rect.unit (s := S8x128x1024) ![5, 0, 0] ![1, 128, 1024] i5))
        (View.ld X (Rect.unit (s := S8x128x1024) ![6, 0, 0] ![1, 128, 1024] i6)) (View.ld X (Rect.unit (s := S8x128x1024) ![7, 0, 0] ![1, 128, 1024] i7))
      = Cert.ReferenceWOutIdeal.Read.val_main_v1 (F := Ideal) X := by
  funext y
  obtain ⟨p, j, rfl⟩ : ∃ (p : Fin 128) (j : Fin 1024), y = ix2 p j := ⟨y 0, y 1, eq_ix2 y⟩
  rw [sum_apply, ref_sum, Fin.sum_univ_eight]
  exact congrArg₂ (· + ·) (congrArg₂ (· + ·) (congrArg₂ (· + ·) (congrArg₂ (· + ·) (congrArg₂ (· + ·) (congrArg₂ (· + ·)
    (congrArg₂ (· + ·) (ld_part X 0 _ p j) (ld_part X 1 _ p j)) (ld_part X 2 _ p j)) (ld_part X 3 _ p j)) (ld_part X 4 _ p j))
    (ld_part X 5 _ p j)) (ld_part X 6 _ p j)) (ld_part X 7 _ p j)

theorem pay_m (x0 : Vec Ideal S8x128x1024 .bf16) (x2 : Vec Ideal S128x1024 .f32) :
    k0_pay2 (Cert.ReferenceWOutIdeal.Read.val_main_v1 (F := Ideal) x0) x2 = Cert.ReferenceWOutIdeal.Read.val_main_v6 (F := Ideal) x0 x2 := by
  funext y
  obtain ⟨p, j, rfl⟩ : ∃ (p : Fin 128) (j : Fin 1024), y = ix2 p j := ⟨y 0, y 1, eq_ix2 y⟩
  generalize hg : Cert.ReferenceWOutIdeal.Read.val_main_v1 (F := Ideal) x0 = g
  pointwise [k0_pay2, k0_pay1, Cert.ReferenceWOutIdeal.Read.val_main_v6, Cert.ReferenceWOutIdeal.Read.val_main_v5, Cert.ReferenceWOutIdeal.Read.val_main_v4, Cert.ReferenceWOutIdeal.Read.val_main_v3, Cert.ReferenceWOutIdeal.Read.val_main_v2]
  all_goals rw [hg]
  all_goals rfl

theorem pay_v (x0 : Vec Ideal S8x128x1024 .bf16) (x3 : Vec Ideal S128x1024 .f32) :
    k0_pay3 (Cert.ReferenceWOutIdeal.Read.val_main_v1 (F := Ideal) x0) x3 = Cert.ReferenceWOutIdeal.Read.val_main_v12 (F := Ideal) x0 x3 := by
  funext y
  obtain ⟨p, j, rfl⟩ : ∃ (p : Fin 128) (j : Fin 1024), y = ix2 p j := ⟨y 0, y 1, eq_ix2 y⟩
  generalize hg : Cert.ReferenceWOutIdeal.Read.val_main_v1 (F := Ideal) x0 = g
  pointwise [k0_pay3, k0_pay1, Cert.ReferenceWOutIdeal.Read.val_main_v12, Cert.ReferenceWOutIdeal.Read.val_main_v11, Cert.ReferenceWOutIdeal.Read.val_main_v10, Cert.ReferenceWOutIdeal.Read.val_main_v9, Cert.ReferenceWOutIdeal.Read.val_main_v8, Cert.ReferenceWOutIdeal.Read.val_main_v7]
  all_goals rw [hg]
  all_goals rfl

theorem pay_d (x0 : Vec Ideal S8x128x1024 .bf16) (x1 x2 x3 : Vec Ideal S128x1024 .f32) :
    k0_pay4 (Cert.ReferenceWOutIdeal.Read.val_main_v1 (F := Ideal) x0) x2 x3 x1 = Cert.ReferenceWOutIdeal.Read.val_main_v25 (F := Ideal) x0 x1 x2 x3 := by
  funext y
  obtain ⟨p, j, rfl⟩ : ∃ (p : Fin 128) (j : Fin 1024), y = ix2 p j := ⟨y 0, y 1, eq_ix2 y⟩
  unfold k0_pay4
  rw [pay_m, pay_v]
  pointwise [Cert.ReferenceWOutIdeal.Read.val_main_v25, Cert.ReferenceWOutIdeal.Read.val_main_v24, Cert.ReferenceWOutIdeal.Read.val_main_v23, Cert.ReferenceWOutIdeal.Read.val_main_v22, Cert.ReferenceWOutIdeal.Read.val_main_v21, Cert.ReferenceWOutIdeal.Read.val_main_v20, Cert.ReferenceWOutIdeal.Read.val_main_v19, Cert.ReferenceWOutIdeal.Read.val_main_v18, Cert.ReferenceWOutIdeal.Read.val_main_v17, Cert.ReferenceWOutIdeal.Read.val_main_v16, Cert.ReferenceWOutIdeal.Read.val_main_v15, Cert.ReferenceWOutIdeal.Read.val_main_v14, Cert.ReferenceWOutIdeal.Read.val_main_v13, Cert.ReferenceWOutIdeal.Read.val_main_cst_4, Cert.ReferenceWOutIdeal.Read.val_main_cst_5, Cert.ReferenceWOutIdeal.Read.val_main_cst_6, Cert.ReferenceWOutIdeal.Read.val_main_cst_7, Cert.ReferenceWOutIdeal.Read.val_main_cst_8]
  all_goals try rfl

theorem zero2 : (![0, 0] : Fin 2 → ℕ) = fun _ => 0 := by funext a; match a with | ⟨0, _⟩ => rfl | ⟨1, _⟩ => rfl

theorem ld_a (X : Vec Ideal S128x1024 .f32) (inb) :
    View.ld X (Rect.unit (s := S128x1024) ![0, 0] ![128, 1024] inb) = X := View.ld_unit_zero (S := S128x1024) zero2 inb X

/-! ### Where each window's block lies: each is the whole array -/

variable (m : (ℓ : Loc nD τ sig) → Buf (Elt Ideal) ℓ)

theorem at0 : ∀ t : Fin grid0.N, win0_0.index t 0 = 0 ∧ win0_0.index t 1 = 0 ∧ win0_0.index t 2 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel

theorem point : 0 < cfg0.N := by decide +kernel

theorem blk0 (c : Dev nD) (t : Fin cfg0.N) : (iblk m c 0 t : Vec Ideal S8x128x1024 .bf16) = m ((c : Thread nD τ).loc main_arg0) := by
  unfold iblk
  funext y
  rw [View.read_apply]
  refine Eq.trans (congrArg (V m c main_arg0) ?_) (congrFun (V_main_arg0 m c) _)
  funext a; apply Fin.ext
  match a with
  | ⟨0, _⟩ => show win0_0.index t 0 * 8 + 1 * (y 0).val = (y 0).val; rw [(at0 t).1]; omega
  | ⟨1, _⟩ => show win0_0.index t 1 * 128 + 1 * (y 1).val = (y 1).val; rw [(at0 t).2.1]; omega
  | ⟨2, _⟩ => show win0_0.index t 2 * 1024 + 1 * (y 2).val = (y 2).val; rw [(at0 t).2.2]; omega

theorem blk1 (c : Dev nD) (t : Fin cfg0.N) : (iblk m c 1 t : Vec Ideal S128x1024 .f32) = m ((c : Thread nD τ).loc main_arg1) := by
  unfold iblk
  funext y
  rw [View.read_apply]
  refine Eq.trans (congrArg (V m c main_arg1) ?_) (congrFun (V_main_arg1 m c) _)
  funext a; apply Fin.ext
  match a with
  | ⟨0, _⟩ => show win0_1.index t 0 * 128 + 1 * (y 0).val = (y 0).val; rw [(at1 t).1]; omega
  | ⟨1, _⟩ => show win0_1.index t 1 * 1024 + 1 * (y 1).val = (y 1).val; rw [(at1 t).2]; omega

theorem blk2 (c : Dev nD) (t : Fin cfg0.N) : (iblk m c 2 t : Vec Ideal S128x1024 .f32) = m ((c : Thread nD τ).loc main_arg2) := by
  unfold iblk
  funext y
  rw [View.read_apply]
  refine Eq.trans (congrArg (V m c main_arg2) ?_) (congrFun (V_main_arg2 m c) _)
  funext a; apply Fin.ext
  match a with
  | ⟨0, _⟩ => show win0_2.index t 0 * 128 + 1 * (y 0).val = (y 0).val; rw [(at2 t).1]; omega
  | ⟨1, _⟩ => show win0_2.index t 1 * 1024 + 1 * (y 1).val = (y 1).val; rw [(at2 t).2]; omega

theorem blk3 (c : Dev nD) (t : Fin cfg0.N) : (iblk m c 3 t : Vec Ideal S128x1024 .f32) = m ((c : Thread nD τ).loc main_arg3) := by
  unfold iblk
  funext y
  rw [View.read_apply]
  refine Eq.trans (congrArg (V m c main_arg3) ?_) (congrFun (V_main_arg3 m c) _)
  funext a; apply Fin.ext
  match a with
  | ⟨0, _⟩ => show win0_3.index t 0 * 128 + 1 * (y 0).val = (y 0).val; rw [(at3 t).1]; omega
  | ⟨1, _⟩ => show win0_3.index t 1 * 1024 + 1 * (y 1).val = (y 1).val; rw [(at3 t).2]; omega

/-! ### Output 4 -/

theorem out4 (c : Dev nD) (a0 : Memref sig .tc .vmem S8x128x1024 .bf16) (h0 : a0.IsWhole) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole)
    (x0 : Vec Ideal S8x128x1024 .bf16) (x1 x2 x3 : Vec Ideal S128x1024 .f32) :
    out0_A_4 (F := Ideal) c a0 h0 a1 h1 a2 h2 a3 h3 a4 h4 a5 h5 a6 h6 a7 h7 x0 x1 x2 x3 = Cert.ReferenceWOutIdeal.Read.val_main_v1 (F := Ideal) x0 := by
  unfold out0_A_4
  rw [View.read_writes_eq_canon _ _ _ (fun y => cover0_A_4 c _ _ _ _ _ _ _ _ _ _ _ _ _ _ _ _ _ _ _ _ y)]
  unfold kernelRun0_A
  dsimp only
  sl_unfold_words
  refine (View.canon_unit_zero (S := S128x1024) zero2 _ _).trans ?_
  simp only [View.readAt_eq_ld, h0.read_unread, h1.read_unread, h2.read_unread, h3.read_unread, h4.read_unread, h5.read_unread, h6.read_unread, h7.read_unread, View.readCov_unit_zero (S := S128x1024) _ zero2 _ _]
  simp only [ld_a, pay_g]

/-- What the run leaves in it. -/
def arr4 (c : Dev nD) : Vec Ideal S128x1024 .f32 := Cert.ReferenceWOutIdeal.Read.val_main_v1 (F := Ideal) (m ((c : Thread nD τ).loc main_arg0))

theorem flushed4 (c : Dev nD) (t : Fin cfg0.N) :
    (dats m 0 c).flushed 4 t = ((cfg0.win 4).blk t).view.read (Elt Ideal) (arr4 m c) := by
  have e : out0_A_4 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr4 m c := by
    refine (out4 c _ _ _ _ _ _ _ _ _ _ _ _ _ _ _ _ _ _ _ _).trans ?_
    unfold arr4
    rw [blk0]
  rw [Value.flushed4_A, e]
  funext y
  rw [View.read_apply]
  have hb0 : (((cfg0.win 4).blk t).view.emb y 0).val = win0_4.index t (0 : Fin 2) * 128 + 1 * (y 0).val := rfl
  have hb1 : (((cfg0.win 4).blk t).view.emb y 1).val = win0_4.index t (1 : Fin 2) * 1024 + 1 * (y 1).val := rfl
  refine Eq.trans ?_ (cast_eq rfl (arr4 m c (((cfg0.win 4).blk t).view.emb y))).symm
  refine congrArg (arr4 m c) ?_
  funext a; apply Fin.ext
  match a with
  | ⟨0, _⟩ => exact (hb0.trans (by rw [(at4 t).1, zero_mul, one_mul, zero_add]; rfl)).symm
  | ⟨1, _⟩ => exact (hb1.trans (by rw [(at4 t).2, zero_mul, one_mul, zero_add]; rfl)).symm

theorem cover4 (i : S128x1024.Idx) :
    ∃ t : Fin cfg0.N, (cfg0.win 4).flush t = true ∧ i ∈ ((cfg0.win 4).blk t).view.set := by
  have hi0 : (i 0).val < 128 := (i 0).isLt
  have hi1 : (i 1).val < 1024 := (i 1).isLt
  refine ⟨⟨0, point⟩, flush0_4 _, ?_⟩
  show i ∈ ((View.whole main_v0_0).slice (win0_4.rect ⟨0, point⟩)).set
  rw [View.set_slice_whole, Rect.mem_set_unit]
  intro a
  have h := at4 ⟨0, point⟩
  match a with
  | ⟨0, _⟩ =>
    show win0_4.index ⟨0, point⟩ 0 * 128 ≤ (i 0).val ∧ (i 0).val < win0_4.index ⟨0, point⟩ 0 * 128 + 128
    rw [h.1]; omega
  | ⟨1, _⟩ =>
    show win0_4.index ⟨0, point⟩ 1 * 1024 ≤ (i 1).val ∧ (i 1).val < win0_4.index ⟨0, point⟩ 1 * 1024 + 1024
    rw [h.2]; omega

theorem final4 (c : Dev nD) : (dats m 0 c).arrAt 4 cfg0.N = arr4 m c :=
  (dats m 0 c).arrAt_eq_of_cover 4 (arr4 m c) (fun t _ => flushed4 m c t) cover4

/-! ### Output 5 -/

theorem out5 (c : Dev nD) (a0 : Memref sig .tc .vmem S8x128x1024 .bf16) (h0 : a0.IsWhole) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole)
    (x0 : Vec Ideal S8x128x1024 .bf16) (x1 x2 x3 : Vec Ideal S128x1024 .f32) :
    out0_A_5 (F := Ideal) c a0 h0 a1 h1 a2 h2 a3 h3 a4 h4 a5 h5 a6 h6 a7 h7 x0 x1 x2 x3 = Cert.ReferenceWOutIdeal.Read.val_main_v25 (F := Ideal) x0 x1 x2 x3 := by
  unfold out0_A_5
  rw [View.read_writes_eq_canon _ _ _ (fun y => cover0_A_5 c _ _ _ _ _ _ _ _ _ _ _ _ _ _ _ _ _ _ _ _ y)]
  unfold kernelRun0_A
  dsimp only
  sl_unfold_words
  refine (View.canon_unit_zero (S := S128x1024) zero2 _ _).trans ?_
  simp only [View.readAt_eq_ld, h0.read_unread, h1.read_unread, h2.read_unread, h3.read_unread, h4.read_unread, h5.read_unread, h6.read_unread, h7.read_unread, View.readCov_unit_zero (S := S128x1024) _ zero2 _ _]
  simp only [ld_a, pay_g]
  exact pay_d x0 x1 x2 x3

/-- What the run leaves in it. -/
def arr5 (c : Dev nD) : Vec Ideal S128x1024 .f32 := Cert.ReferenceWOutIdeal.Read.val_main_v25 (F := Ideal) (m ((c : Thread nD τ).loc main_arg0)) (m ((c : Thread nD τ).loc main_arg1)) (m ((c : Thread nD τ).loc main_arg2)) (m ((c : Thread nD τ).loc main_arg3))

theorem flushed5 (c : Dev nD) (t : Fin cfg0.N) :
    (dats m 0 c).flushed 5 t = ((cfg0.win 5).blk t).view.read (Elt Ideal) (arr5 m c) := by
  have e : out0_A_5 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr5 m c := by
    refine (out5 c _ _ _ _ _ _ _ _ _ _ _ _ _ _ _ _ _ _ _ _).trans ?_
    unfold arr5
    rw [blk0, blk1, blk2, blk3]
  rw [Value.flushed5_A, e]
  funext y
  rw [View.read_apply]
  have hb0 : (((cfg0.win 5).blk t).view.emb y 0).val = win0_5.index t (0 : Fin 2) * 128 + 1 * (y 0).val := rfl
  have hb1 : (((cfg0.win 5).blk t).view.emb y 1).val = win0_5.index t (1 : Fin 2) * 1024 + 1 * (y 1).val := rfl
  refine Eq.trans ?_ (cast_eq rfl (arr5 m c (((cfg0.win 5).blk t).view.emb y))).symm
  refine congrArg (arr5 m c) ?_
  funext a; apply Fin.ext
  match a with
  | ⟨0, _⟩ => exact (hb0.trans (by rw [(at5 t).1, zero_mul, one_mul, zero_add]; rfl)).symm
  | ⟨1, _⟩ => exact (hb1.trans (by rw [(at5 t).2, zero_mul, one_mul, zero_add]; rfl)).symm

theorem cover5 (i : S128x1024.Idx) :
    ∃ t : Fin cfg0.N, (cfg0.win 5).flush t = true ∧ i ∈ ((cfg0.win 5).blk t).view.set := by
  have hi0 : (i 0).val < 128 := (i 0).isLt
  have hi1 : (i 1).val < 1024 := (i 1).isLt
  refine ⟨⟨0, point⟩, flush0_5 _, ?_⟩
  show i ∈ ((View.whole main_v0_1).slice (win0_5.rect ⟨0, point⟩)).set
  rw [View.set_slice_whole, Rect.mem_set_unit]
  intro a
  have h := at5 ⟨0, point⟩
  match a with
  | ⟨0, _⟩ =>
    show win0_5.index ⟨0, point⟩ 0 * 128 ≤ (i 0).val ∧ (i 0).val < win0_5.index ⟨0, point⟩ 0 * 128 + 128
    rw [h.1]; omega
  | ⟨1, _⟩ =>
    show win0_5.index ⟨0, point⟩ 1 * 1024 ≤ (i 1).val ∧ (i 1).val < win0_5.index ⟨0, point⟩ 1 * 1024 + 1024
    rw [h.2]; omega

theorem final5 (c : Dev nD) : (dats m 0 c).arrAt 5 cfg0.N = arr5 m c :=
  (dats m 0 c).arrAt_eq_of_cover 5 (arr5 m c) (fun t _ => flushed5 m c t) cover5

/-! ### Output 6 -/

theorem out6 (c : Dev nD) (a0 : Memref sig .tc .vmem S8x128x1024 .bf16) (h0 : a0.IsWhole) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole)
    (x0 : Vec Ideal S8x128x1024 .bf16) (x1 x2 x3 : Vec Ideal S128x1024 .f32) :
    out0_A_6 (F := Ideal) c a0 h0 a1 h1 a2 h2 a3 h3 a4 h4 a5 h5 a6 h6 a7 h7 x0 x1 x2 x3 = Cert.ReferenceWOutIdeal.Read.val_main_v6 (F := Ideal) x0 x2 := by
  unfold out0_A_6
  rw [View.read_writes_eq_canon _ _ _ (fun y => cover0_A_6 c _ _ _ _ _ _ _ _ _ _ _ _ _ _ _ _ _ _ _ _ y)]
  unfold kernelRun0_A
  dsimp only
  sl_unfold_words
  refine (View.canon_unit_zero (S := S128x1024) zero2 _ _).trans ?_
  simp only [View.readAt_eq_ld, h0.read_unread, h1.read_unread, h2.read_unread, h3.read_unread, h4.read_unread, h5.read_unread, h6.read_unread, h7.read_unread, View.readCov_unit_zero (S := S128x1024) _ zero2 _ _]
  simp only [ld_a, pay_g]
  exact pay_m x0 x2

/-- What the run leaves in it. -/
def arr6 (c : Dev nD) : Vec Ideal S128x1024 .f32 := Cert.ReferenceWOutIdeal.Read.val_main_v6 (F := Ideal) (m ((c : Thread nD τ).loc main_arg0)) (m ((c : Thread nD τ).loc main_arg2))

theorem flushed6 (c : Dev nD) (t : Fin cfg0.N) :
    (dats m 0 c).flushed 6 t = ((cfg0.win 6).blk t).view.read (Elt Ideal) (arr6 m c) := by
  have e : out0_A_6 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr6 m c := by
    refine (out6 c _ _ _ _ _ _ _ _ _ _ _ _ _ _ _ _ _ _ _ _).trans ?_
    unfold arr6
    rw [blk0, blk2]
  rw [Value.flushed6_A, e]
  funext y
  rw [View.read_apply]
  have hb0 : (((cfg0.win 6).blk t).view.emb y 0).val = win0_6.index t (0 : Fin 2) * 128 + 1 * (y 0).val := rfl
  have hb1 : (((cfg0.win 6).blk t).view.emb y 1).val = win0_6.index t (1 : Fin 2) * 1024 + 1 * (y 1).val := rfl
  refine Eq.trans ?_ (cast_eq rfl (arr6 m c (((cfg0.win 6).blk t).view.emb y))).symm
  refine congrArg (arr6 m c) ?_
  funext a; apply Fin.ext
  match a with
  | ⟨0, _⟩ => exact (hb0.trans (by rw [(at6 t).1, zero_mul, one_mul, zero_add]; rfl)).symm
  | ⟨1, _⟩ => exact (hb1.trans (by rw [(at6 t).2, zero_mul, one_mul, zero_add]; rfl)).symm

theorem cover6 (i : S128x1024.Idx) :
    ∃ t : Fin cfg0.N, (cfg0.win 6).flush t = true ∧ i ∈ ((cfg0.win 6).blk t).view.set := by
  have hi0 : (i 0).val < 128 := (i 0).isLt
  have hi1 : (i 1).val < 1024 := (i 1).isLt
  refine ⟨⟨0, point⟩, flush0_6 _, ?_⟩
  show i ∈ ((View.whole main_v0_2).slice (win0_6.rect ⟨0, point⟩)).set
  rw [View.set_slice_whole, Rect.mem_set_unit]
  intro a
  have h := at6 ⟨0, point⟩
  match a with
  | ⟨0, _⟩ =>
    show win0_6.index ⟨0, point⟩ 0 * 128 ≤ (i 0).val ∧ (i 0).val < win0_6.index ⟨0, point⟩ 0 * 128 + 128
    rw [h.1]; omega
  | ⟨1, _⟩ =>
    show win0_6.index ⟨0, point⟩ 1 * 1024 ≤ (i 1).val ∧ (i 1).val < win0_6.index ⟨0, point⟩ 1 * 1024 + 1024
    rw [h.2]; omega

theorem final6 (c : Dev nD) : (dats m 0 c).arrAt 6 cfg0.N = arr6 m c :=
  (dats m 0 c).arrAt_eq_of_cover 6 (arr6 m c) (fun t _ => flushed6 m c t) cover6

/-! ### Output 7 -/

theorem out7 (c : Dev nD) (a0 : Memref sig .tc .vmem S8x128x1024 .bf16) (h0 : a0.IsWhole) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S128x1024 .f32) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole)
    (x0 : Vec Ideal S8x128x1024 .bf16) (x1 x2 x3 : Vec Ideal S128x1024 .f32) :
    out0_A_7 (F := Ideal) c a0 h0 a1 h1 a2 h2 a3 h3 a4 h4 a5 h5 a6 h6 a7 h7 x0 x1 x2 x3 = Cert.ReferenceWOutIdeal.Read.val_main_v12 (F := Ideal) x0 x3 := by
  unfold out0_A_7
  rw [View.read_writes_eq_canon _ _ _ (fun y => cover0_A_7 c _ _ _ _ _ _ _ _ _ _ _ _ _ _ _ _ _ _ _ _ y)]
  unfold kernelRun0_A
  dsimp only
  sl_unfold_words
  refine (View.canon_unit_zero (S := S128x1024) zero2 _ _).trans ?_
  simp only [View.readAt_eq_ld, h0.read_unread, h1.read_unread, h2.read_unread, h3.read_unread, h4.read_unread, h5.read_unread, h6.read_unread, h7.read_unread, View.readCov_unit_zero (S := S128x1024) _ zero2 _ _]
  simp only [ld_a, pay_g]
  exact pay_v x0 x3

/-- What the run leaves in it. -/
def arr7 (c : Dev nD) : Vec Ideal S128x1024 .f32 := Cert.ReferenceWOutIdeal.Read.val_main_v12 (F := Ideal) (m ((c : Thread nD τ).loc main_arg0)) (m ((c : Thread nD τ).loc main_arg3))

theorem flushed7 (c : Dev nD) (t : Fin cfg0.N) :
    (dats m 0 c).flushed 7 t = ((cfg0.win 7).blk t).view.read (Elt Ideal) (arr7 m c) := by
  have e : out0_A_7 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr7 m c := by
    refine (out7 c _ _ _ _ _ _ _ _ _ _ _ _ _ _ _ _ _ _ _ _).trans ?_
    unfold arr7
    rw [blk0, blk3]
  rw [Value.flushed7_A, e]
  funext y
  rw [View.read_apply]
  have hb0 : (((cfg0.win 7).blk t).view.emb y 0).val = win0_7.index t (0 : Fin 2) * 128 + 1 * (y 0).val := rfl
  have hb1 : (((cfg0.win 7).blk t).view.emb y 1).val = win0_7.index t (1 : Fin 2) * 1024 + 1 * (y 1).val := rfl
  refine Eq.trans ?_ (cast_eq rfl (arr7 m c (((cfg0.win 7).blk t).view.emb y))).symm
  refine congrArg (arr7 m c) ?_
  funext a; apply Fin.ext
  match a with
  | ⟨0, _⟩ => exact (hb0.trans (by rw [(at7 t).1, zero_mul, one_mul, zero_add]; rfl)).symm
  | ⟨1, _⟩ => exact (hb1.trans (by rw [(at7 t).2, zero_mul, one_mul, zero_add]; rfl)).symm

theorem cover7 (i : S128x1024.Idx) :
    ∃ t : Fin cfg0.N, (cfg0.win 7).flush t = true ∧ i ∈ ((cfg0.win 7).blk t).view.set := by
  have hi0 : (i 0).val < 128 := (i 0).isLt
  have hi1 : (i 1).val < 1024 := (i 1).isLt
  refine ⟨⟨0, point⟩, flush0_7 _, ?_⟩
  show i ∈ ((View.whole main_v0_3).slice (win0_7.rect ⟨0, point⟩)).set
  rw [View.set_slice_whole, Rect.mem_set_unit]
  intro a
  have h := at7 ⟨0, point⟩
  match a with
  | ⟨0, _⟩ =>
    show win0_7.index ⟨0, point⟩ 0 * 128 ≤ (i 0).val ∧ (i 0).val < win0_7.index ⟨0, point⟩ 0 * 128 + 128
    rw [h.1]; omega
  | ⟨1, _⟩ =>
    show win0_7.index ⟨0, point⟩ 1 * 1024 ≤ (i 1).val ∧ (i 1).val < win0_7.index ⟨0, point⟩ 1 * 1024 + 1024
    rw [h.2]; omega

theorem final7 (c : Dev nD) : (dats m 0 c).arrAt 7 cfg0.N = arr7 m c :=
  (dats m 0 c).arrAt_eq_of_cover 7 (arr7 m c) (fun t _ => flushed7 m c t) cover7

/-! ### The claims -/

theorem frame_ref : Cert.quiescent_ReferenceWOutIdeal (hReferenceWOutIdeal := Cert.ReferenceWOutIdeal.Gen.facts) := fun m ρ _ =>
  (θ_run Cert.ReferenceWOutIdeal.defs _ _).mono (fun r h => ⟨fun c => (h c).2.2.2.2,
    Idealize.ShloMosaic.sem_eq_zero_of_no_sems (by decide) r.2⟩) (Cert.ReferenceWOutIdeal.Value.run (F := Ideal) m ρ)

theorem algebraic : Cert.algebraic_KernelWOutIdeal_ReferenceWOutIdeal (hKernelWOutIdeal := Cert.KernelWOutIdeal.Gen.facts)
    (hReferenceWOutIdeal := Cert.ReferenceWOutIdeal.Gen.facts) := by
  intro m ρ m' ρ' _ hm
  refine ⟨arr4 m, arr5 m, arr6 m, arr7 m, ?_, ?_⟩
  · refine (θ_run Cert.KernelWOutIdeal.defs _ _).mono (fun r h c => ?_) (Cert.KernelWOutIdeal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run Cert.ReferenceWOutIdeal.defs _ _).mono (fun r h c => ?_) (Cert.ReferenceWOutIdeal.Value.run (F := Ideal) m' ρ')
    obtain ⟨h0, h1, h2, h3, hargs⟩ := h c
    obtain ⟨e0, e1, e2, e3⟩ := hm c
    refine ⟨h0.trans ((Cert.ReferenceWOutIdeal.Read.val_main_v1_eq _).trans ?_), h1.trans ((Cert.ReferenceWOutIdeal.Read.val_main_v25_eq _ _ _ _).trans ?_),
      h2.trans ((Cert.ReferenceWOutIdeal.Read.val_main_v6_eq _ _).trans ?_), h3.trans ((Cert.ReferenceWOutIdeal.Read.val_main_v12_eq _ _).trans ?_), hargs⟩
    · unfold arr4; rw [e0]
    · unfold arr5; rw [e0, e1, e2, e3]
    · unfold arr6; rw [e0, e2]
    · unfold arr7; rw [e0, e3]

end Cert.OptWOut

end
-- ==== Proof.OptWDown.lean ====
/- One step of AdamW for the down projection, from the eight landed parts of its gradient: the kernel's four outputs are the
   reference's, entry by entry. -/
module

public import proofs.«01_k».proof.Defs
public import proofs.«01_k».proof.Proof.Gen.KernelWDownIdeal.Value
public import proofs.«01_k».proof.Proof.Gen.ReferenceWDownIdeal.Read
public import Idealize.ShloMosaic.PureOps.Ideal.Laws
public import Idealize.ShloMosaic.Lib.Pointwise

@[expose] public section

noncomputable section

namespace Cert.OptWDown

open Cert.KernelWDownIdeal Cert.KernelWDownIdeal.Gen Idealize.ShloMosaic Idealize.ShloMosaic.TcCoe Idealize.SL.Sem
open Idealize.ShloMosaic.Pipeline (Dat)

/-! ### The body's arithmetic is the reference's -/

/-- Part `k` as a load of one slice. -/
theorem ld_part (X : Vec Ideal S8x352x1024 .bf16) (k : Fin 8) (inb) (p : Fin 352) (j : Fin 1024) :
    View.ld X (Rect.unit (s := S8x352x1024) ![k.val, 0, 0] ![1, 352, 1024] inb) (ix3 (0 : Fin 1) p j) = X (ix3 k p j) := by
  refine congrArg X ?_
  funext a; apply Fin.ext
  match a with
  | ⟨0, _⟩ => show k.val + 1 * 0 = k.val; omega
  | ⟨1, _⟩ => show 0 + 1 * p.val = p.val; omega
  | ⟨2, _⟩ => show 0 + 1 * j.val = j.val; omega

/-- The kernel's sum, one part after the other. -/
theorem sum_apply (P0 P1 P2 P3 P4 P5 P6 P7 : Vec Ideal S1x352x1024 .bf16) (p : Fin 352) (j : Fin 1024) :
    k0_pay5 P0 P1 P2 P3 P4 P5 P6 P7 (ix2 p j) = P0 (ix3 0 p j) + P1 (ix3 0 p j) + P2 (ix3 0 p j) + P3 (ix3 0 p j)
      + P4 (ix3 0 p j) + P5 (ix3 0 p j) + P6 (ix3 0 p j) + P7 (ix3 0 p j) := by
  pointwise [k0_pay5]

/-- The reference's. -/
theorem ref_sum (A : Vec Ideal S8x352x1024 .bf16) (p : Fin 352) (j : Fin 1024) :
    Cert.ReferenceWDownIdeal.Read.val_main_v1 (F := Ideal) A (ix2 p j) = ∑ k : Fin 8, A (ix3 k p j) := by
  pointwise [Cert.ReferenceWDownIdeal.Read.val_main_v1, Cert.ReferenceWDownIdeal.Read.val_main_v0, Cert.ReferenceWDownIdeal.Read.val_main_cst]

theorem pay_g (X : Vec Ideal S8x352x1024 .bf16) (i0 i1 i2 i3 i4 i5 i6 i7) :
    k0_pay5 (View.ld X (Rect.unit (s := S8x352x1024) ![0, 0, 0] ![1, 352, 1024] i0)) (View.ld X (Rect.unit (s := S8x352x1024) ![1, 0, 0] ![1, 352, 1024] i1))
        (View.ld X (Rect.unit (s := S8x352x1024) ![2, 0, 0] ![1, 352, 1024] i2)) (View.ld X (Rect.unit (s := S8x352x1024) ![3, 0, 0] ![1, 352, 1024] i3))
        (View.ld X (Rect.unit (s := S8x352x1024) ![4, 0, 0] ![1, 352, 1024] i4)) (View.ld X (Rect.unit (s := S8x352x1024) ![5, 0, 0] ![1, 352, 1024] i5))
        (View.ld X (Rect.unit (s := S8x352x1024) ![6, 0, 0] ![1, 352, 1024] i6)) (View.ld X (Rect.unit (s := S8x352x1024) ![7, 0, 0] ![1, 352, 1024] i7))
      = Cert.ReferenceWDownIdeal.Read.val_main_v1 (F := Ideal) X := by
  funext y
  obtain ⟨p, j, rfl⟩ : ∃ (p : Fin 352) (j : Fin 1024), y = ix2 p j := ⟨y 0, y 1, eq_ix2 y⟩
  rw [sum_apply, ref_sum, Fin.sum_univ_eight]
  exact congrArg₂ (· + ·) (congrArg₂ (· + ·) (congrArg₂ (· + ·) (congrArg₂ (· + ·) (congrArg₂ (· + ·) (congrArg₂ (· + ·)
    (congrArg₂ (· + ·) (ld_part X 0 _ p j) (ld_part X 1 _ p j)) (ld_part X 2 _ p j)) (ld_part X 3 _ p j)) (ld_part X 4 _ p j))
    (ld_part X 5 _ p j)) (ld_part X 6 _ p j)) (ld_part X 7 _ p j)

theorem pay_m (x0 : Vec Ideal S8x352x1024 .bf16) (x2 : Vec Ideal S352x1024 .f32) :
    k0_pay2 (Cert.ReferenceWDownIdeal.Read.val_main_v1 (F := Ideal) x0) x2 = Cert.ReferenceWDownIdeal.Read.val_main_v6 (F := Ideal) x0 x2 := by
  funext y
  obtain ⟨p, j, rfl⟩ : ∃ (p : Fin 352) (j : Fin 1024), y = ix2 p j := ⟨y 0, y 1, eq_ix2 y⟩
  generalize hg : Cert.ReferenceWDownIdeal.Read.val_main_v1 (F := Ideal) x0 = g
  pointwise [k0_pay2, k0_pay1, Cert.ReferenceWDownIdeal.Read.val_main_v6, Cert.ReferenceWDownIdeal.Read.val_main_v5, Cert.ReferenceWDownIdeal.Read.val_main_v4, Cert.ReferenceWDownIdeal.Read.val_main_v3, Cert.ReferenceWDownIdeal.Read.val_main_v2]
  all_goals rw [hg]
  all_goals rfl

theorem pay_v (x0 : Vec Ideal S8x352x1024 .bf16) (x3 : Vec Ideal S352x1024 .f32) :
    k0_pay3 (Cert.ReferenceWDownIdeal.Read.val_main_v1 (F := Ideal) x0) x3 = Cert.ReferenceWDownIdeal.Read.val_main_v12 (F := Ideal) x0 x3 := by
  funext y
  obtain ⟨p, j, rfl⟩ : ∃ (p : Fin 352) (j : Fin 1024), y = ix2 p j := ⟨y 0, y 1, eq_ix2 y⟩
  generalize hg : Cert.ReferenceWDownIdeal.Read.val_main_v1 (F := Ideal) x0 = g
  pointwise [k0_pay3, k0_pay1, Cert.ReferenceWDownIdeal.Read.val_main_v12, Cert.ReferenceWDownIdeal.Read.val_main_v11, Cert.ReferenceWDownIdeal.Read.val_main_v10, Cert.ReferenceWDownIdeal.Read.val_main_v9, Cert.ReferenceWDownIdeal.Read.val_main_v8, Cert.ReferenceWDownIdeal.Read.val_main_v7]
  all_goals rw [hg]
  all_goals rfl

theorem pay_d (x0 : Vec Ideal S8x352x1024 .bf16) (x1 x2 x3 : Vec Ideal S352x1024 .f32) :
    k0_pay4 (Cert.ReferenceWDownIdeal.Read.val_main_v1 (F := Ideal) x0) x2 x3 x1 = Cert.ReferenceWDownIdeal.Read.val_main_v25 (F := Ideal) x0 x1 x2 x3 := by
  funext y
  obtain ⟨p, j, rfl⟩ : ∃ (p : Fin 352) (j : Fin 1024), y = ix2 p j := ⟨y 0, y 1, eq_ix2 y⟩
  unfold k0_pay4
  rw [pay_m, pay_v]
  pointwise [Cert.ReferenceWDownIdeal.Read.val_main_v25, Cert.ReferenceWDownIdeal.Read.val_main_v24, Cert.ReferenceWDownIdeal.Read.val_main_v23, Cert.ReferenceWDownIdeal.Read.val_main_v22, Cert.ReferenceWDownIdeal.Read.val_main_v21, Cert.ReferenceWDownIdeal.Read.val_main_v20, Cert.ReferenceWDownIdeal.Read.val_main_v19, Cert.ReferenceWDownIdeal.Read.val_main_v18, Cert.ReferenceWDownIdeal.Read.val_main_v17, Cert.ReferenceWDownIdeal.Read.val_main_v16, Cert.ReferenceWDownIdeal.Read.val_main_v15, Cert.ReferenceWDownIdeal.Read.val_main_v14, Cert.ReferenceWDownIdeal.Read.val_main_v13, Cert.ReferenceWDownIdeal.Read.val_main_cst_4, Cert.ReferenceWDownIdeal.Read.val_main_cst_5, Cert.ReferenceWDownIdeal.Read.val_main_cst_6, Cert.ReferenceWDownIdeal.Read.val_main_cst_7, Cert.ReferenceWDownIdeal.Read.val_main_cst_8]
  all_goals try rfl

theorem zero2 : (![0, 0] : Fin 2 → ℕ) = fun _ => 0 := by funext a; match a with | ⟨0, _⟩ => rfl | ⟨1, _⟩ => rfl

theorem ld_a (X : Vec Ideal S352x1024 .f32) (inb) :
    View.ld X (Rect.unit (s := S352x1024) ![0, 0] ![352, 1024] inb) = X := View.ld_unit_zero (S := S352x1024) zero2 inb X

/-! ### Where each window's block lies: each is the whole array -/

variable (m : (ℓ : Loc nD τ sig) → Buf (Elt Ideal) ℓ)

theorem at0 : ∀ t : Fin grid0.N, win0_0.index t 0 = 0 ∧ win0_0.index t 1 = 0 ∧ win0_0.index t 2 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel

theorem point : 0 < cfg0.N := by decide +kernel

theorem blk0 (c : Dev nD) (t : Fin cfg0.N) : (iblk m c 0 t : Vec Ideal S8x352x1024 .bf16) = m ((c : Thread nD τ).loc main_arg0) := by
  unfold iblk
  funext y
  rw [View.read_apply]
  refine Eq.trans (congrArg (V m c main_arg0) ?_) (congrFun (V_main_arg0 m c) _)
  funext a; apply Fin.ext
  match a with
  | ⟨0, _⟩ => show win0_0.index t 0 * 8 + 1 * (y 0).val = (y 0).val; rw [(at0 t).1]; omega
  | ⟨1, _⟩ => show win0_0.index t 1 * 352 + 1 * (y 1).val = (y 1).val; rw [(at0 t).2.1]; omega
  | ⟨2, _⟩ => show win0_0.index t 2 * 1024 + 1 * (y 2).val = (y 2).val; rw [(at0 t).2.2]; omega

theorem blk1 (c : Dev nD) (t : Fin cfg0.N) : (iblk m c 1 t : Vec Ideal S352x1024 .f32) = m ((c : Thread nD τ).loc main_arg1) := by
  unfold iblk
  funext y
  rw [View.read_apply]
  refine Eq.trans (congrArg (V m c main_arg1) ?_) (congrFun (V_main_arg1 m c) _)
  funext a; apply Fin.ext
  match a with
  | ⟨0, _⟩ => show win0_1.index t 0 * 352 + 1 * (y 0).val = (y 0).val; rw [(at1 t).1]; omega
  | ⟨1, _⟩ => show win0_1.index t 1 * 1024 + 1 * (y 1).val = (y 1).val; rw [(at1 t).2]; omega

theorem blk2 (c : Dev nD) (t : Fin cfg0.N) : (iblk m c 2 t : Vec Ideal S352x1024 .f32) = m ((c : Thread nD τ).loc main_arg2) := by
  unfold iblk
  funext y
  rw [View.read_apply]
  refine Eq.trans (congrArg (V m c main_arg2) ?_) (congrFun (V_main_arg2 m c) _)
  funext a; apply Fin.ext
  match a with
  | ⟨0, _⟩ => show win0_2.index t 0 * 352 + 1 * (y 0).val = (y 0).val; rw [(at2 t).1]; omega
  | ⟨1, _⟩ => show win0_2.index t 1 * 1024 + 1 * (y 1).val = (y 1).val; rw [(at2 t).2]; omega

theorem blk3 (c : Dev nD) (t : Fin cfg0.N) : (iblk m c 3 t : Vec Ideal S352x1024 .f32) = m ((c : Thread nD τ).loc main_arg3) := by
  unfold iblk
  funext y
  rw [View.read_apply]
  refine Eq.trans (congrArg (V m c main_arg3) ?_) (congrFun (V_main_arg3 m c) _)
  funext a; apply Fin.ext
  match a with
  | ⟨0, _⟩ => show win0_3.index t 0 * 352 + 1 * (y 0).val = (y 0).val; rw [(at3 t).1]; omega
  | ⟨1, _⟩ => show win0_3.index t 1 * 1024 + 1 * (y 1).val = (y 1).val; rw [(at3 t).2]; omega

/-! ### Output 4 -/

theorem out4 (c : Dev nD) (a0 : Memref sig .tc .vmem S8x352x1024 .bf16) (h0 : a0.IsWhole) (a1 : Memref sig .tc .vmem S352x1024 .f32) (h1 : a1.IsWhole) (a2 : Memref sig .tc .vmem S352x1024 .f32) (h2 : a2.IsWhole) (a3 : Memref sig .tc .vmem S352x1024 .f32) (h3 : a3.IsWhole) (a4 : Memref sig .tc .vmem S352x1024 .f32) (h4 : a4.IsWhole) (a5 : Memref sig .tc .vmem S352x1024 .f32) (h5 : a5.IsWhole) (a6 : Memref sig .tc .vmem S352x1024 .f32) (h6 : a6.IsWhole) (a7 : Memref sig .tc .vmem S352x1024 .f32) (h7 : a7.IsWhole)
    (x0 : Vec Ideal S8x352x1024 .bf16) (x1 x2 x3 : Vec Ideal S352x1024 .f32) :
    out0_A_4 (F := Ideal) c a0 h0 a1 h1 a2 h2 a3 h3 a4 h4 a5 h5 a6 h6 a7 h7 x0 x1 x2 x3 = Cert.ReferenceWDownIdeal.Read.val_main_v1 (F := Ideal) x0 := by
  unfold out0_A_4
  rw [View.read_writes_eq_canon _ _ _ (fun y => cover0_A_4 c _ _ _ _ _ _ _ _ _ _ _ _ _ _ _ _ _ _ _ _ y)]
  unfold kernelRun0_A
  dsimp only
  sl_unfold_words
  refine (View.canon_unit_zero (S := S352x1024) zero2 _ _).trans ?_
  simp only [View.readAt_eq_ld, h0.read_unread, h1.read_unread, h2.read_unread, h3.read_unread, h4.read_unread, h5.read_unread, h6.read_unread, h7.read_unread, View.readCov_unit_zero (S := S352x1024) _ zero2 _ _]
  simp only [ld_a, pay_g]

/-- What the run leaves in it. -/
def arr4 (c : Dev nD) : Vec Ideal S352x1024 .f32 := Cert.ReferenceWDownIdeal.Read.val_main_v1 (F := Ideal) (m ((c : Thread nD τ).loc main_arg0))

theorem flushed4 (c : Dev nD) (t : Fin cfg0.N) :
    (dats m 0 c).flushed 4 t = ((cfg0.win 4).blk t).view.read (Elt Ideal) (arr4 m c) := by
  have e : out0_A_4 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr4 m c := by
    refine (out4 c _ _ _ _ _ _ _ _ _ _ _ _ _ _ _ _ _ _ _ _).trans ?_
    unfold arr4
    rw [blk0]
  rw [Value.flushed4_A, e]
  funext y
  rw [View.read_apply]
  have hb0 : (((cfg0.win 4).blk t).view.emb y 0).val = win0_4.index t (0 : Fin 2) * 352 + 1 * (y 0).val := rfl
  have hb1 : (((cfg0.win 4).blk t).view.emb y 1).val = win0_4.index t (1 : Fin 2) * 1024 + 1 * (y 1).val := rfl
  refine Eq.trans ?_ (cast_eq rfl (arr4 m c (((cfg0.win 4).blk t).view.emb y))).symm
  refine congrArg (arr4 m c) ?_
  funext a; apply Fin.ext
  match a with
  | ⟨0, _⟩ => exact (hb0.trans (by rw [(at4 t).1, zero_mul, one_mul, zero_add]; rfl)).symm
  | ⟨1, _⟩ => exact (hb1.trans (by rw [(at4 t).2, zero_mul, one_mul, zero_add]; rfl)).symm

theorem cover4 (i : S352x1024.Idx) :
    ∃ t : Fin cfg0.N, (cfg0.win 4).flush t = true ∧ i ∈ ((cfg0.win 4).blk t).view.set := by
  have hi0 : (i 0).val < 352 := (i 0).isLt
  have hi1 : (i 1).val < 1024 := (i 1).isLt
  refine ⟨⟨0, point⟩, flush0_4 _, ?_⟩
  show i ∈ ((View.whole main_v0_0).slice (win0_4.rect ⟨0, point⟩)).set
  rw [View.set_slice_whole, Rect.mem_set_unit]
  intro a
  have h := at4 ⟨0, point⟩
  match a with
  | ⟨0, _⟩ =>
    show win0_4.index ⟨0, point⟩ 0 * 352 ≤ (i 0).val ∧ (i 0).val < win0_4.index ⟨0, point⟩ 0 * 352 + 352
    rw [h.1]; omega
  | ⟨1, _⟩ =>
    show win0_4.index ⟨0, point⟩ 1 * 1024 ≤ (i 1).val ∧ (i 1).val < win0_4.index ⟨0, point⟩ 1 * 1024 + 1024
    rw [h.2]; omega

theorem final4 (c : Dev nD) : (dats m 0 c).arrAt 4 cfg0.N = arr4 m c :=
  (dats m 0 c).arrAt_eq_of_cover 4 (arr4 m c) (fun t _ => flushed4 m c t) cover4

/-! ### Output 5 -/

theorem out5 (c : Dev nD) (a0 : Memref sig .tc .vmem S8x352x1024 .bf16) (h0 : a0.IsWhole) (a1 : Memref sig .tc .vmem S352x1024 .f32) (h1 : a1.IsWhole) (a2 : Memref sig .tc .vmem S352x1024 .f32) (h2 : a2.IsWhole) (a3 : Memref sig .tc .vmem S352x1024 .f32) (h3 : a3.IsWhole) (a4 : Memref sig .tc .vmem S352x1024 .f32) (h4 : a4.IsWhole) (a5 : Memref sig .tc .vmem S352x1024 .f32) (h5 : a5.IsWhole) (a6 : Memref sig .tc .vmem S352x1024 .f32) (h6 : a6.IsWhole) (a7 : Memref sig .tc .vmem S352x1024 .f32) (h7 : a7.IsWhole)
    (x0 : Vec Ideal S8x352x1024 .bf16) (x1 x2 x3 : Vec Ideal S352x1024 .f32) :
    out0_A_5 (F := Ideal) c a0 h0 a1 h1 a2 h2 a3 h3 a4 h4 a5 h5 a6 h6 a7 h7 x0 x1 x2 x3 = Cert.ReferenceWDownIdeal.Read.val_main_v25 (F := Ideal) x0 x1 x2 x3 := by
  unfold out0_A_5
  rw [View.read_writes_eq_canon _ _ _ (fun y => cover0_A_5 c _ _ _ _ _ _ _ _ _ _ _ _ _ _ _ _ _ _ _ _ y)]
  unfold kernelRun0_A
  dsimp only
  sl_unfold_words
  refine (View.canon_unit_zero (S := S352x1024) zero2 _ _).trans ?_
  simp only [View.readAt_eq_ld, h0.read_unread, h1.read_unread, h2.read_unread, h3.read_unread, h4.read_unread, h5.read_unread, h6.read_unread, h7.read_unread, View.readCov_unit_zero (S := S352x1024) _ zero2 _ _]
  simp only [ld_a, pay_g]
  exact pay_d x0 x1 x2 x3

/-- What the run leaves in it. -/
def arr5 (c : Dev nD) : Vec Ideal S352x1024 .f32 := Cert.ReferenceWDownIdeal.Read.val_main_v25 (F := Ideal) (m ((c : Thread nD τ).loc main_arg0)) (m ((c : Thread nD τ).loc main_arg1)) (m ((c : Thread nD τ).loc main_arg2)) (m ((c : Thread nD τ).loc main_arg3))

theorem flushed5 (c : Dev nD) (t : Fin cfg0.N) :
    (dats m 0 c).flushed 5 t = ((cfg0.win 5).blk t).view.read (Elt Ideal) (arr5 m c) := by
  have e : out0_A_5 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr5 m c := by
    refine (out5 c _ _ _ _ _ _ _ _ _ _ _ _ _ _ _ _ _ _ _ _).trans ?_
    unfold arr5
    rw [blk0, blk1, blk2, blk3]
  rw [Value.flushed5_A, e]
  funext y
  rw [View.read_apply]
  have hb0 : (((cfg0.win 5).blk t).view.emb y 0).val = win0_5.index t (0 : Fin 2) * 352 + 1 * (y 0).val := rfl
  have hb1 : (((cfg0.win 5).blk t).view.emb y 1).val = win0_5.index t (1 : Fin 2) * 1024 + 1 * (y 1).val := rfl
  refine Eq.trans ?_ (cast_eq rfl (arr5 m c (((cfg0.win 5).blk t).view.emb y))).symm
  refine congrArg (arr5 m c) ?_
  funext a; apply Fin.ext
  match a with
  | ⟨0, _⟩ => exact (hb0.trans (by rw [(at5 t).1, zero_mul, one_mul, zero_add]; rfl)).symm
  | ⟨1, _⟩ => exact (hb1.trans (by rw [(at5 t).2, zero_mul, one_mul, zero_add]; rfl)).symm

theorem cover5 (i : S352x1024.Idx) :
    ∃ t : Fin cfg0.N, (cfg0.win 5).flush t = true ∧ i ∈ ((cfg0.win 5).blk t).view.set := by
  have hi0 : (i 0).val < 352 := (i 0).isLt
  have hi1 : (i 1).val < 1024 := (i 1).isLt
  refine ⟨⟨0, point⟩, flush0_5 _, ?_⟩
  show i ∈ ((View.whole main_v0_1).slice (win0_5.rect ⟨0, point⟩)).set
  rw [View.set_slice_whole, Rect.mem_set_unit]
  intro a
  have h := at5 ⟨0, point⟩
  match a with
  | ⟨0, _⟩ =>
    show win0_5.index ⟨0, point⟩ 0 * 352 ≤ (i 0).val ∧ (i 0).val < win0_5.index ⟨0, point⟩ 0 * 352 + 352
    rw [h.1]; omega
  | ⟨1, _⟩ =>
    show win0_5.index ⟨0, point⟩ 1 * 1024 ≤ (i 1).val ∧ (i 1).val < win0_5.index ⟨0, point⟩ 1 * 1024 + 1024
    rw [h.2]; omega

theorem final5 (c : Dev nD) : (dats m 0 c).arrAt 5 cfg0.N = arr5 m c :=
  (dats m 0 c).arrAt_eq_of_cover 5 (arr5 m c) (fun t _ => flushed5 m c t) cover5

/-! ### Output 6 -/

theorem out6 (c : Dev nD) (a0 : Memref sig .tc .vmem S8x352x1024 .bf16) (h0 : a0.IsWhole) (a1 : Memref sig .tc .vmem S352x1024 .f32) (h1 : a1.IsWhole) (a2 : Memref sig .tc .vmem S352x1024 .f32) (h2 : a2.IsWhole) (a3 : Memref sig .tc .vmem S352x1024 .f32) (h3 : a3.IsWhole) (a4 : Memref sig .tc .vmem S352x1024 .f32) (h4 : a4.IsWhole) (a5 : Memref sig .tc .vmem S352x1024 .f32) (h5 : a5.IsWhole) (a6 : Memref sig .tc .vmem S352x1024 .f32) (h6 : a6.IsWhole) (a7 : Memref sig .tc .vmem S352x1024 .f32) (h7 : a7.IsWhole)
    (x0 : Vec Ideal S8x352x1024 .bf16) (x1 x2 x3 : Vec Ideal S352x1024 .f32) :
    out0_A_6 (F := Ideal) c a0 h0 a1 h1 a2 h2 a3 h3 a4 h4 a5 h5 a6 h6 a7 h7 x0 x1 x2 x3 = Cert.ReferenceWDownIdeal.Read.val_main_v6 (F := Ideal) x0 x2 := by
  unfold out0_A_6
  rw [View.read_writes_eq_canon _ _ _ (fun y => cover0_A_6 c _ _ _ _ _ _ _ _ _ _ _ _ _ _ _ _ _ _ _ _ y)]
  unfold kernelRun0_A
  dsimp only
  sl_unfold_words
  refine (View.canon_unit_zero (S := S352x1024) zero2 _ _).trans ?_
  simp only [View.readAt_eq_ld, h0.read_unread, h1.read_unread, h2.read_unread, h3.read_unread, h4.read_unread, h5.read_unread, h6.read_unread, h7.read_unread, View.readCov_unit_zero (S := S352x1024) _ zero2 _ _]
  simp only [ld_a, pay_g]
  exact pay_m x0 x2

/-- What the run leaves in it. -/
def arr6 (c : Dev nD) : Vec Ideal S352x1024 .f32 := Cert.ReferenceWDownIdeal.Read.val_main_v6 (F := Ideal) (m ((c : Thread nD τ).loc main_arg0)) (m ((c : Thread nD τ).loc main_arg2))

theorem flushed6 (c : Dev nD) (t : Fin cfg0.N) :
    (dats m 0 c).flushed 6 t = ((cfg0.win 6).blk t).view.read (Elt Ideal) (arr6 m c) := by
  have e : out0_A_6 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr6 m c := by
    refine (out6 c _ _ _ _ _ _ _ _ _ _ _ _ _ _ _ _ _ _ _ _).trans ?_
    unfold arr6
    rw [blk0, blk2]
  rw [Value.flushed6_A, e]
  funext y
  rw [View.read_apply]
  have hb0 : (((cfg0.win 6).blk t).view.emb y 0).val = win0_6.index t (0 : Fin 2) * 352 + 1 * (y 0).val := rfl
  have hb1 : (((cfg0.win 6).blk t).view.emb y 1).val = win0_6.index t (1 : Fin 2) * 1024 + 1 * (y 1).val := rfl
  refine Eq.trans ?_ (cast_eq rfl (arr6 m c (((cfg0.win 6).blk t).view.emb y))).symm
  refine congrArg (arr6 m c) ?_
  funext a; apply Fin.ext
  match a with
  | ⟨0, _⟩ => exact (hb0.trans (by rw [(at6 t).1, zero_mul, one_mul, zero_add]; rfl)).symm
  | ⟨1, _⟩ => exact (hb1.trans (by rw [(at6 t).2, zero_mul, one_mul, zero_add]; rfl)).symm

theorem cover6 (i : S352x1024.Idx) :
    ∃ t : Fin cfg0.N, (cfg0.win 6).flush t = true ∧ i ∈ ((cfg0.win 6).blk t).view.set := by
  have hi0 : (i 0).val < 352 := (i 0).isLt
  have hi1 : (i 1).val < 1024 := (i 1).isLt
  refine ⟨⟨0, point⟩, flush0_6 _, ?_⟩
  show i ∈ ((View.whole main_v0_2).slice (win0_6.rect ⟨0, point⟩)).set
  rw [View.set_slice_whole, Rect.mem_set_unit]
  intro a
  have h := at6 ⟨0, point⟩
  match a with
  | ⟨0, _⟩ =>
    show win0_6.index ⟨0, point⟩ 0 * 352 ≤ (i 0).val ∧ (i 0).val < win0_6.index ⟨0, point⟩ 0 * 352 + 352
    rw [h.1]; omega
  | ⟨1, _⟩ =>
    show win0_6.index ⟨0, point⟩ 1 * 1024 ≤ (i 1).val ∧ (i 1).val < win0_6.index ⟨0, point⟩ 1 * 1024 + 1024
    rw [h.2]; omega

theorem final6 (c : Dev nD) : (dats m 0 c).arrAt 6 cfg0.N = arr6 m c :=
  (dats m 0 c).arrAt_eq_of_cover 6 (arr6 m c) (fun t _ => flushed6 m c t) cover6

/-! ### Output 7 -/

theorem out7 (c : Dev nD) (a0 : Memref sig .tc .vmem S8x352x1024 .bf16) (h0 : a0.IsWhole) (a1 : Memref sig .tc .vmem S352x1024 .f32) (h1 : a1.IsWhole) (a2 : Memref sig .tc .vmem S352x1024 .f32) (h2 : a2.IsWhole) (a3 : Memref sig .tc .vmem S352x1024 .f32) (h3 : a3.IsWhole) (a4 : Memref sig .tc .vmem S352x1024 .f32) (h4 : a4.IsWhole) (a5 : Memref sig .tc .vmem S352x1024 .f32) (h5 : a5.IsWhole) (a6 : Memref sig .tc .vmem S352x1024 .f32) (h6 : a6.IsWhole) (a7 : Memref sig .tc .vmem S352x1024 .f32) (h7 : a7.IsWhole)
    (x0 : Vec Ideal S8x352x1024 .bf16) (x1 x2 x3 : Vec Ideal S352x1024 .f32) :
    out0_A_7 (F := Ideal) c a0 h0 a1 h1 a2 h2 a3 h3 a4 h4 a5 h5 a6 h6 a7 h7 x0 x1 x2 x3 = Cert.ReferenceWDownIdeal.Read.val_main_v12 (F := Ideal) x0 x3 := by
  unfold out0_A_7
  rw [View.read_writes_eq_canon _ _ _ (fun y => cover0_A_7 c _ _ _ _ _ _ _ _ _ _ _ _ _ _ _ _ _ _ _ _ y)]
  unfold kernelRun0_A
  dsimp only
  sl_unfold_words
  refine (View.canon_unit_zero (S := S352x1024) zero2 _ _).trans ?_
  simp only [View.readAt_eq_ld, h0.read_unread, h1.read_unread, h2.read_unread, h3.read_unread, h4.read_unread, h5.read_unread, h6.read_unread, h7.read_unread, View.readCov_unit_zero (S := S352x1024) _ zero2 _ _]
  simp only [ld_a, pay_g]
  exact pay_v x0 x3

/-- What the run leaves in it. -/
def arr7 (c : Dev nD) : Vec Ideal S352x1024 .f32 := Cert.ReferenceWDownIdeal.Read.val_main_v12 (F := Ideal) (m ((c : Thread nD τ).loc main_arg0)) (m ((c : Thread nD τ).loc main_arg3))

theorem flushed7 (c : Dev nD) (t : Fin cfg0.N) :
    (dats m 0 c).flushed 7 t = ((cfg0.win 7).blk t).view.read (Elt Ideal) (arr7 m c) := by
  have e : out0_A_7 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr7 m c := by
    refine (out7 c _ _ _ _ _ _ _ _ _ _ _ _ _ _ _ _ _ _ _ _).trans ?_
    unfold arr7
    rw [blk0, blk3]
  rw [Value.flushed7_A, e]
  funext y
  rw [View.read_apply]
  have hb0 : (((cfg0.win 7).blk t).view.emb y 0).val = win0_7.index t (0 : Fin 2) * 352 + 1 * (y 0).val := rfl
  have hb1 : (((cfg0.win 7).blk t).view.emb y 1).val = win0_7.index t (1 : Fin 2) * 1024 + 1 * (y 1).val := rfl
  refine Eq.trans ?_ (cast_eq rfl (arr7 m c (((cfg0.win 7).blk t).view.emb y))).symm
  refine congrArg (arr7 m c) ?_
  funext a; apply Fin.ext
  match a with
  | ⟨0, _⟩ => exact (hb0.trans (by rw [(at7 t).1, zero_mul, one_mul, zero_add]; rfl)).symm
  | ⟨1, _⟩ => exact (hb1.trans (by rw [(at7 t).2, zero_mul, one_mul, zero_add]; rfl)).symm

theorem cover7 (i : S352x1024.Idx) :
    ∃ t : Fin cfg0.N, (cfg0.win 7).flush t = true ∧ i ∈ ((cfg0.win 7).blk t).view.set := by
  have hi0 : (i 0).val < 352 := (i 0).isLt
  have hi1 : (i 1).val < 1024 := (i 1).isLt
  refine ⟨⟨0, point⟩, flush0_7 _, ?_⟩
  show i ∈ ((View.whole main_v0_3).slice (win0_7.rect ⟨0, point⟩)).set
  rw [View.set_slice_whole, Rect.mem_set_unit]
  intro a
  have h := at7 ⟨0, point⟩
  match a with
  | ⟨0, _⟩ =>
    show win0_7.index ⟨0, point⟩ 0 * 352 ≤ (i 0).val ∧ (i 0).val < win0_7.index ⟨0, point⟩ 0 * 352 + 352
    rw [h.1]; omega
  | ⟨1, _⟩ =>
    show win0_7.index ⟨0, point⟩ 1 * 1024 ≤ (i 1).val ∧ (i 1).val < win0_7.index ⟨0, point⟩ 1 * 1024 + 1024
    rw [h.2]; omega

theorem final7 (c : Dev nD) : (dats m 0 c).arrAt 7 cfg0.N = arr7 m c :=
  (dats m 0 c).arrAt_eq_of_cover 7 (arr7 m c) (fun t _ => flushed7 m c t) cover7

/-! ### The claims -/

theorem frame_ref : Cert.quiescent_ReferenceWDownIdeal (hReferenceWDownIdeal := Cert.ReferenceWDownIdeal.Gen.facts) := fun m ρ _ =>
  (θ_run Cert.ReferenceWDownIdeal.defs _ _).mono (fun r h => ⟨fun c => (h c).2.2.2.2,
    Idealize.ShloMosaic.sem_eq_zero_of_no_sems (by decide) r.2⟩) (Cert.ReferenceWDownIdeal.Value.run (F := Ideal) m ρ)

theorem algebraic : Cert.algebraic_KernelWDownIdeal_ReferenceWDownIdeal (hKernelWDownIdeal := Cert.KernelWDownIdeal.Gen.facts)
    (hReferenceWDownIdeal := Cert.ReferenceWDownIdeal.Gen.facts) := by
  intro m ρ m' ρ' _ hm
  refine ⟨arr4 m, arr5 m, arr6 m, arr7 m, ?_, ?_⟩
  · refine (θ_run Cert.KernelWDownIdeal.defs _ _).mono (fun r h c => ?_) (Cert.KernelWDownIdeal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run Cert.ReferenceWDownIdeal.defs _ _).mono (fun r h c => ?_) (Cert.ReferenceWDownIdeal.Value.run (F := Ideal) m' ρ')
    obtain ⟨h0, h1, h2, h3, hargs⟩ := h c
    obtain ⟨e0, e1, e2, e3⟩ := hm c
    refine ⟨h0.trans ((Cert.ReferenceWDownIdeal.Read.val_main_v1_eq _).trans ?_), h1.trans ((Cert.ReferenceWDownIdeal.Read.val_main_v25_eq _ _ _ _).trans ?_),
      h2.trans ((Cert.ReferenceWDownIdeal.Read.val_main_v6_eq _ _).trans ?_), h3.trans ((Cert.ReferenceWDownIdeal.Read.val_main_v12_eq _ _).trans ?_), hargs⟩
    · unfold arr4; rw [e0]
    · unfold arr5; rw [e0, e1, e2, e3]
    · unfold arr6; rw [e0, e2]
    · unfold arr7; rw [e0, e3]

end Cert.OptWDown

end
-- ==== Proof.OptWGlu.lean ====
/- One step of AdamW for the gate's weight, from the eight landed parts of its gradient: the kernel's four outputs are the
   reference's, entry by entry. -/
module

public import proofs.«01_k».proof.Defs
public import proofs.«01_k».proof.Proof.Gen.KernelWGluIdeal.Value
public import proofs.«01_k».proof.Proof.Gen.ReferenceWGluIdeal.Read
public import Idealize.ShloMosaic.PureOps.Ideal.Laws
public import Idealize.ShloMosaic.Lib.Pointwise

@[expose] public section

noncomputable section

namespace Cert.OptWGlu

open Cert.KernelWGluIdeal Cert.KernelWGluIdeal.Gen Idealize.ShloMosaic Idealize.ShloMosaic.TcCoe Idealize.SL.Sem
open Idealize.ShloMosaic.Pipeline (Dat)

/-! ### The body's arithmetic is the reference's -/

/-- Part `k` as a load of one slice. -/
theorem ld_part (X : Vec Ideal S8x64x512 .bf16) (k : Fin 8) (inb) (p : Fin 64) (j : Fin 512) :
    View.ld X (Rect.unit (s := S8x64x512) ![k.val, 0, 0] ![1, 64, 512] inb) (ix3 (0 : Fin 1) p j) = X (ix3 k p j) := by
  refine congrArg X ?_
  funext a; apply Fin.ext
  match a with
  | ⟨0, _⟩ => show k.val + 1 * 0 = k.val; omega
  | ⟨1, _⟩ => show 0 + 1 * p.val = p.val; omega
  | ⟨2, _⟩ => show 0 + 1 * j.val = j.val; omega

/-- The kernel's sum, one part after the other. -/
theorem sum_apply (P0 P1 P2 P3 P4 P5 P6 P7 : Vec Ideal S1x64x512 .bf16) (p : Fin 64) (j : Fin 512) :
    k0_pay5 P0 P1 P2 P3 P4 P5 P6 P7 (ix2 p j) = P0 (ix3 0 p j) + P1 (ix3 0 p j) + P2 (ix3 0 p j) + P3 (ix3 0 p j)
      + P4 (ix3 0 p j) + P5 (ix3 0 p j) + P6 (ix3 0 p j) + P7 (ix3 0 p j) := by
  pointwise [k0_pay5]

/-- The reference's. -/
theorem ref_sum (A : Vec Ideal S8x64x512 .bf16) (p : Fin 64) (j : Fin 512) :
    Cert.ReferenceWGluIdeal.Read.val_main_v1 (F := Ideal) A (ix2 p j) = ∑ k : Fin 8, A (ix3 k p j) := by
  pointwise [Cert.ReferenceWGluIdeal.Read.val_main_v1, Cert.ReferenceWGluIdeal.Read.val_main_v0, Cert.ReferenceWGluIdeal.Read.val_main_cst]

theorem pay_g (X : Vec Ideal S8x64x512 .bf16) (i0 i1 i2 i3 i4 i5 i6 i7) :
    k0_pay5 (View.ld X (Rect.unit (s := S8x64x512) ![0, 0, 0] ![1, 64, 512] i0)) (View.ld X (Rect.unit (s := S8x64x512) ![1, 0, 0] ![1, 64, 512] i1))
        (View.ld X (Rect.unit (s := S8x64x512) ![2, 0, 0] ![1, 64, 512] i2)) (View.ld X (Rect.unit (s := S8x64x512) ![3, 0, 0] ![1, 64, 512] i3))
        (View.ld X (Rect.unit (s := S8x64x512) ![4, 0, 0] ![1, 64, 512] i4)) (View.ld X (Rect.unit (s := S8x64x512) ![5, 0, 0] ![1, 64, 512] i5))
        (View.ld X (Rect.unit (s := S8x64x512) ![6, 0, 0] ![1, 64, 512] i6)) (View.ld X (Rect.unit (s := S8x64x512) ![7, 0, 0] ![1, 64, 512] i7))
      = Cert.ReferenceWGluIdeal.Read.val_main_v1 (F := Ideal) X := by
  funext y
  obtain ⟨p, j, rfl⟩ : ∃ (p : Fin 64) (j : Fin 512), y = ix2 p j := ⟨y 0, y 1, eq_ix2 y⟩
  rw [sum_apply, ref_sum, Fin.sum_univ_eight]
  exact congrArg₂ (· + ·) (congrArg₂ (· + ·) (congrArg₂ (· + ·) (congrArg₂ (· + ·) (congrArg₂ (· + ·) (congrArg₂ (· + ·)
    (congrArg₂ (· + ·) (ld_part X 0 _ p j) (ld_part X 1 _ p j)) (ld_part X 2 _ p j)) (ld_part X 3 _ p j)) (ld_part X 4 _ p j))
    (ld_part X 5 _ p j)) (ld_part X 6 _ p j)) (ld_part X 7 _ p j)

theorem pay_m (x0 : Vec Ideal S8x64x512 .bf16) (x2 : Vec Ideal S64x512 .f32) :
    k0_pay2 (Cert.ReferenceWGluIdeal.Read.val_main_v1 (F := Ideal) x0) x2 = Cert.ReferenceWGluIdeal.Read.val_main_v6 (F := Ideal) x0 x2 := by
  funext y
  obtain ⟨p, j, rfl⟩ : ∃ (p : Fin 64) (j : Fin 512), y = ix2 p j := ⟨y 0, y 1, eq_ix2 y⟩
  generalize hg : Cert.ReferenceWGluIdeal.Read.val_main_v1 (F := Ideal) x0 = g
  pointwise [k0_pay2, k0_pay1, Cert.ReferenceWGluIdeal.Read.val_main_v6, Cert.ReferenceWGluIdeal.Read.val_main_v5, Cert.ReferenceWGluIdeal.Read.val_main_v4, Cert.ReferenceWGluIdeal.Read.val_main_v3, Cert.ReferenceWGluIdeal.Read.val_main_v2]
  all_goals rw [hg]
  all_goals rfl

theorem pay_v (x0 : Vec Ideal S8x64x512 .bf16) (x3 : Vec Ideal S64x512 .f32) :
    k0_pay3 (Cert.ReferenceWGluIdeal.Read.val_main_v1 (F := Ideal) x0) x3 = Cert.ReferenceWGluIdeal.Read.val_main_v12 (F := Ideal) x0 x3 := by
  funext y
  obtain ⟨p, j, rfl⟩ : ∃ (p : Fin 64) (j : Fin 512), y = ix2 p j := ⟨y 0, y 1, eq_ix2 y⟩
  generalize hg : Cert.ReferenceWGluIdeal.Read.val_main_v1 (F := Ideal) x0 = g
  pointwise [k0_pay3, k0_pay1, Cert.ReferenceWGluIdeal.Read.val_main_v12, Cert.ReferenceWGluIdeal.Read.val_main_v11, Cert.ReferenceWGluIdeal.Read.val_main_v10, Cert.ReferenceWGluIdeal.Read.val_main_v9, Cert.ReferenceWGluIdeal.Read.val_main_v8, Cert.ReferenceWGluIdeal.Read.val_main_v7]
  all_goals rw [hg]
  all_goals rfl

theorem pay_d (x0 : Vec Ideal S8x64x512 .bf16) (x1 x2 x3 : Vec Ideal S64x512 .f32) :
    k0_pay4 (Cert.ReferenceWGluIdeal.Read.val_main_v1 (F := Ideal) x0) x2 x3 x1 = Cert.ReferenceWGluIdeal.Read.val_main_v25 (F := Ideal) x0 x1 x2 x3 := by
  funext y
  obtain ⟨p, j, rfl⟩ : ∃ (p : Fin 64) (j : Fin 512), y = ix2 p j := ⟨y 0, y 1, eq_ix2 y⟩
  unfold k0_pay4
  rw [pay_m, pay_v]
  pointwise [Cert.ReferenceWGluIdeal.Read.val_main_v25, Cert.ReferenceWGluIdeal.Read.val_main_v24, Cert.ReferenceWGluIdeal.Read.val_main_v23, Cert.ReferenceWGluIdeal.Read.val_main_v22, Cert.ReferenceWGluIdeal.Read.val_main_v21, Cert.ReferenceWGluIdeal.Read.val_main_v20, Cert.ReferenceWGluIdeal.Read.val_main_v19, Cert.ReferenceWGluIdeal.Read.val_main_v18, Cert.ReferenceWGluIdeal.Read.val_main_v17, Cert.ReferenceWGluIdeal.Read.val_main_v16, Cert.ReferenceWGluIdeal.Read.val_main_v15, Cert.ReferenceWGluIdeal.Read.val_main_v14, Cert.ReferenceWGluIdeal.Read.val_main_v13, Cert.ReferenceWGluIdeal.Read.val_main_cst_4, Cert.ReferenceWGluIdeal.Read.val_main_cst_5, Cert.ReferenceWGluIdeal.Read.val_main_cst_6, Cert.ReferenceWGluIdeal.Read.val_main_cst_7, Cert.ReferenceWGluIdeal.Read.val_main_cst_8]
  all_goals try rfl

theorem zero2 : (![0, 0] : Fin 2 → ℕ) = fun _ => 0 := by funext a; match a with | ⟨0, _⟩ => rfl | ⟨1, _⟩ => rfl

theorem ld_a (X : Vec Ideal S64x512 .f32) (inb) :
    View.ld X (Rect.unit (s := S64x512) ![0, 0] ![64, 512] inb) = X := View.ld_unit_zero (S := S64x512) zero2 inb X

/-! ### Where each window's block lies: each is the whole array -/

variable (m : (ℓ : Loc nD τ sig) → Buf (Elt Ideal) ℓ)

theorem at0 : ∀ t : Fin grid0.N, win0_0.index t 0 = 0 ∧ win0_0.index t 1 = 0 ∧ win0_0.index t 2 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel

theorem point : 0 < cfg0.N := by decide +kernel

theorem blk0 (c : Dev nD) (t : Fin cfg0.N) : (iblk m c 0 t : Vec Ideal S8x64x512 .bf16) = m ((c : Thread nD τ).loc main_arg0) := by
  unfold iblk
  funext y
  rw [View.read_apply]
  refine Eq.trans (congrArg (V m c main_arg0) ?_) (congrFun (V_main_arg0 m c) _)
  funext a; apply Fin.ext
  match a with
  | ⟨0, _⟩ => show win0_0.index t 0 * 8 + 1 * (y 0).val = (y 0).val; rw [(at0 t).1]; omega
  | ⟨1, _⟩ => show win0_0.index t 1 * 64 + 1 * (y 1).val = (y 1).val; rw [(at0 t).2.1]; omega
  | ⟨2, _⟩ => show win0_0.index t 2 * 512 + 1 * (y 2).val = (y 2).val; rw [(at0 t).2.2]; omega

theorem blk1 (c : Dev nD) (t : Fin cfg0.N) : (iblk m c 1 t : Vec Ideal S64x512 .f32) = m ((c : Thread nD τ).loc main_arg1) := by
  unfold iblk
  funext y
  rw [View.read_apply]
  refine Eq.trans (congrArg (V m c main_arg1) ?_) (congrFun (V_main_arg1 m c) _)
  funext a; apply Fin.ext
  match a with
  | ⟨0, _⟩ => show win0_1.index t 0 * 64 + 1 * (y 0).val = (y 0).val; rw [(at1 t).1]; omega
  | ⟨1, _⟩ => show win0_1.index t 1 * 512 + 1 * (y 1).val = (y 1).val; rw [(at1 t).2]; omega

theorem blk2 (c : Dev nD) (t : Fin cfg0.N) : (iblk m c 2 t : Vec Ideal S64x512 .f32) = m ((c : Thread nD τ).loc main_arg2) := by
  unfold iblk
  funext y
  rw [View.read_apply]
  refine Eq.trans (congrArg (V m c main_arg2) ?_) (congrFun (V_main_arg2 m c) _)
  funext a; apply Fin.ext
  match a with
  | ⟨0, _⟩ => show win0_2.index t 0 * 64 + 1 * (y 0).val = (y 0).val; rw [(at2 t).1]; omega
  | ⟨1, _⟩ => show win0_2.index t 1 * 512 + 1 * (y 1).val = (y 1).val; rw [(at2 t).2]; omega

theorem blk3 (c : Dev nD) (t : Fin cfg0.N) : (iblk m c 3 t : Vec Ideal S64x512 .f32) = m ((c : Thread nD τ).loc main_arg3) := by
  unfold iblk
  funext y
  rw [View.read_apply]
  refine Eq.trans (congrArg (V m c main_arg3) ?_) (congrFun (V_main_arg3 m c) _)
  funext a; apply Fin.ext
  match a with
  | ⟨0, _⟩ => show win0_3.index t 0 * 64 + 1 * (y 0).val = (y 0).val; rw [(at3 t).1]; omega
  | ⟨1, _⟩ => show win0_3.index t 1 * 512 + 1 * (y 1).val = (y 1).val; rw [(at3 t).2]; omega

/-! ### Output 4 -/

theorem out4 (c : Dev nD) (a0 : Memref sig .tc .vmem S8x64x512 .bf16) (h0 : a0.IsWhole) (a1 : Memref sig .tc .vmem S64x512 .f32) (h1 : a1.IsWhole) (a2 : Memref sig .tc .vmem S64x512 .f32) (h2 : a2.IsWhole) (a3 : Memref sig .tc .vmem S64x512 .f32) (h3 : a3.IsWhole) (a4 : Memref sig .tc .vmem S64x512 .f32) (h4 : a4.IsWhole) (a5 : Memref sig .tc .vmem S64x512 .f32) (h5 : a5.IsWhole) (a6 : Memref sig .tc .vmem S64x512 .f32) (h6 : a6.IsWhole) (a7 : Memref sig .tc .vmem S64x512 .f32) (h7 : a7.IsWhole)
    (x0 : Vec Ideal S8x64x512 .bf16) (x1 x2 x3 : Vec Ideal S64x512 .f32) :
    out0_A_4 (F := Ideal) c a0 h0 a1 h1 a2 h2 a3 h3 a4 h4 a5 h5 a6 h6 a7 h7 x0 x1 x2 x3 = Cert.ReferenceWGluIdeal.Read.val_main_v1 (F := Ideal) x0 := by
  unfold out0_A_4
  rw [View.read_writes_eq_canon _ _ _ (fun y => cover0_A_4 c _ _ _ _ _ _ _ _ _ _ _ _ _ _ _ _ _ _ _ _ y)]
  unfold kernelRun0_A
  dsimp only
  sl_unfold_words
  refine (View.canon_unit_zero (S := S64x512) zero2 _ _).trans ?_
  simp only [View.readAt_eq_ld, h0.read_unread, h1.read_unread, h2.read_unread, h3.read_unread, h4.read_unread, h5.read_unread, h6.read_unread, h7.read_unread, View.readCov_unit_zero (S := S64x512) _ zero2 _ _]
  simp only [ld_a, pay_g]

/-- What the run leaves in it. -/
def arr4 (c : Dev nD) : Vec Ideal S64x512 .f32 := Cert.ReferenceWGluIdeal.Read.val_main_v1 (F := Ideal) (m ((c : Thread nD τ).loc main_arg0))

theorem flushed4 (c : Dev nD) (t : Fin cfg0.N) :
    (dats m 0 c).flushed 4 t = ((cfg0.win 4).blk t).view.read (Elt Ideal) (arr4 m c) := by
  have e : out0_A_4 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr4 m c := by
    refine (out4 c _ _ _ _ _ _ _ _ _ _ _ _ _ _ _ _ _ _ _ _).trans ?_
    unfold arr4
    rw [blk0]
  rw [Value.flushed4_A, e]
  funext y
  rw [View.read_apply]
  have hb0 : (((cfg0.win 4).blk t).view.emb y 0).val = win0_4.index t (0 : Fin 2) * 64 + 1 * (y 0).val := rfl
  have hb1 : (((cfg0.win 4).blk t).view.emb y 1).val = win0_4.index t (1 : Fin 2) * 512 + 1 * (y 1).val := rfl
  refine Eq.trans ?_ (cast_eq rfl (arr4 m c (((cfg0.win 4).blk t).view.emb y))).symm
  refine congrArg (arr4 m c) ?_
  funext a; apply Fin.ext
  match a with
  | ⟨0, _⟩ => exact (hb0.trans (by rw [(at4 t).1, zero_mul, one_mul, zero_add]; rfl)).symm
  | ⟨1, _⟩ => exact (hb1.trans (by rw [(at4 t).2, zero_mul, one_mul, zero_add]; rfl)).symm

theorem cover4 (i : S64x512.Idx) :
    ∃ t : Fin cfg0.N, (cfg0.win 4).flush t = true ∧ i ∈ ((cfg0.win 4).blk t).view.set := by
  have hi0 : (i 0).val < 64 := (i 0).isLt
  have hi1 : (i 1).val < 512 := (i 1).isLt
  refine ⟨⟨0, point⟩, flush0_4 _, ?_⟩
  show i ∈ ((View.whole main_v0_0).slice (win0_4.rect ⟨0, point⟩)).set
  rw [View.set_slice_whole, Rect.mem_set_unit]
  intro a
  have h := at4 ⟨0, point⟩
  match a with
  | ⟨0, _⟩ =>
    show win0_4.index ⟨0, point⟩ 0 * 64 ≤ (i 0).val ∧ (i 0).val < win0_4.index ⟨0, point⟩ 0 * 64 + 64
    rw [h.1]; omega
  | ⟨1, _⟩ =>
    show win0_4.index ⟨0, point⟩ 1 * 512 ≤ (i 1).val ∧ (i 1).val < win0_4.index ⟨0, point⟩ 1 * 512 + 512
    rw [h.2]; omega

theorem final4 (c : Dev nD) : (dats m 0 c).arrAt 4 cfg0.N = arr4 m c :=
  (dats m 0 c).arrAt_eq_of_cover 4 (arr4 m c) (fun t _ => flushed4 m c t) cover4

/-! ### Output 5 -/

theorem out5 (c : Dev nD) (a0 : Memref sig .tc .vmem S8x64x512 .bf16) (h0 : a0.IsWhole) (a1 : Memref sig .tc .vmem S64x512 .f32) (h1 : a1.IsWhole) (a2 : Memref sig .tc .vmem S64x512 .f32) (h2 : a2.IsWhole) (a3 : Memref sig .tc .vmem S64x512 .f32) (h3 : a3.IsWhole) (a4 : Memref sig .tc .vmem S64x512 .f32) (h4 : a4.IsWhole) (a5 : Memref sig .tc .vmem S64x512 .f32) (h5 : a5.IsWhole) (a6 : Memref sig .tc .vmem S64x512 .f32) (h6 : a6.IsWhole) (a7 : Memref sig .tc .vmem S64x512 .f32) (h7 : a7.IsWhole)
    (x0 : Vec Ideal S8x64x512 .bf16) (x1 x2 x3 : Vec Ideal S64x512 .f32) :
    out0_A_5 (F := Ideal) c a0 h0 a1 h1 a2 h2 a3 h3 a4 h4 a5 h5 a6 h6 a7 h7 x0 x1 x2 x3 = Cert.ReferenceWGluIdeal.Read.val_main_v25 (F := Ideal) x0 x1 x2 x3 := by
  unfold out0_A_5
  rw [View.read_writes_eq_canon _ _ _ (fun y => cover0_A_5 c _ _ _ _ _ _ _ _ _ _ _ _ _ _ _ _ _ _ _ _ y)]
  unfold kernelRun0_A
  dsimp only
  sl_unfold_words
  refine (View.canon_unit_zero (S := S64x512) zero2 _ _).trans ?_
  simp only [View.readAt_eq_ld, h0.read_unread, h1.read_unread, h2.read_unread, h3.read_unread, h4.read_unread, h5.read_unread, h6.read_unread, h7.read_unread, View.readCov_unit_zero (S := S64x512) _ zero2 _ _]
  simp only [ld_a, pay_g]
  exact pay_d x0 x1 x2 x3

/-- What the run leaves in it. -/
def arr5 (c : Dev nD) : Vec Ideal S64x512 .f32 := Cert.ReferenceWGluIdeal.Read.val_main_v25 (F := Ideal) (m ((c : Thread nD τ).loc main_arg0)) (m ((c : Thread nD τ).loc main_arg1)) (m ((c : Thread nD τ).loc main_arg2)) (m ((c : Thread nD τ).loc main_arg3))

theorem flushed5 (c : Dev nD) (t : Fin cfg0.N) :
    (dats m 0 c).flushed 5 t = ((cfg0.win 5).blk t).view.read (Elt Ideal) (arr5 m c) := by
  have e : out0_A_5 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr5 m c := by
    refine (out5 c _ _ _ _ _ _ _ _ _ _ _ _ _ _ _ _ _ _ _ _).trans ?_
    unfold arr5
    rw [blk0, blk1, blk2, blk3]
  rw [Value.flushed5_A, e]
  funext y
  rw [View.read_apply]
  have hb0 : (((cfg0.win 5).blk t).view.emb y 0).val = win0_5.index t (0 : Fin 2) * 64 + 1 * (y 0).val := rfl
  have hb1 : (((cfg0.win 5).blk t).view.emb y 1).val = win0_5.index t (1 : Fin 2) * 512 + 1 * (y 1).val := rfl
  refine Eq.trans ?_ (cast_eq rfl (arr5 m c (((cfg0.win 5).blk t).view.emb y))).symm
  refine congrArg (arr5 m c) ?_
  funext a; apply Fin.ext
  match a with
  | ⟨0, _⟩ => exact (hb0.trans (by rw [(at5 t).1, zero_mul, one_mul, zero_add]; rfl)).symm
  | ⟨1, _⟩ => exact (hb1.trans (by rw [(at5 t).2, zero_mul, one_mul, zero_add]; rfl)).symm

theorem cover5 (i : S64x512.Idx) :
    ∃ t : Fin cfg0.N, (cfg0.win 5).flush t = true ∧ i ∈ ((cfg0.win 5).blk t).view.set := by
  have hi0 : (i 0).val < 64 := (i 0).isLt
  have hi1 : (i 1).val < 512 := (i 1).isLt
  refine ⟨⟨0, point⟩, flush0_5 _, ?_⟩
  show i ∈ ((View.whole main_v0_1).slice (win0_5.rect ⟨0, point⟩)).set
  rw [View.set_slice_whole, Rect.mem_set_unit]
  intro a
  have h := at5 ⟨0, point⟩
  match a with
  | ⟨0, _⟩ =>
    show win0_5.index ⟨0, point⟩ 0 * 64 ≤ (i 0).val ∧ (i 0).val < win0_5.index ⟨0, point⟩ 0 * 64 + 64
    rw [h.1]; omega
  | ⟨1, _⟩ =>
    show win0_5.index ⟨0, point⟩ 1 * 512 ≤ (i 1).val ∧ (i 1).val < win0_5.index ⟨0, point⟩ 1 * 512 + 512
    rw [h.2]; omega

theorem final5 (c : Dev nD) : (dats m 0 c).arrAt 5 cfg0.N = arr5 m c :=
  (dats m 0 c).arrAt_eq_of_cover 5 (arr5 m c) (fun t _ => flushed5 m c t) cover5

/-! ### Output 6 -/

theorem out6 (c : Dev nD) (a0 : Memref sig .tc .vmem S8x64x512 .bf16) (h0 : a0.IsWhole) (a1 : Memref sig .tc .vmem S64x512 .f32) (h1 : a1.IsWhole) (a2 : Memref sig .tc .vmem S64x512 .f32) (h2 : a2.IsWhole) (a3 : Memref sig .tc .vmem S64x512 .f32) (h3 : a3.IsWhole) (a4 : Memref sig .tc .vmem S64x512 .f32) (h4 : a4.IsWhole) (a5 : Memref sig .tc .vmem S64x512 .f32) (h5 : a5.IsWhole) (a6 : Memref sig .tc .vmem S64x512 .f32) (h6 : a6.IsWhole) (a7 : Memref sig .tc .vmem S64x512 .f32) (h7 : a7.IsWhole)
    (x0 : Vec Ideal S8x64x512 .bf16) (x1 x2 x3 : Vec Ideal S64x512 .f32) :
    out0_A_6 (F := Ideal) c a0 h0 a1 h1 a2 h2 a3 h3 a4 h4 a5 h5 a6 h6 a7 h7 x0 x1 x2 x3 = Cert.ReferenceWGluIdeal.Read.val_main_v6 (F := Ideal) x0 x2 := by
  unfold out0_A_6
  rw [View.read_writes_eq_canon _ _ _ (fun y => cover0_A_6 c _ _ _ _ _ _ _ _ _ _ _ _ _ _ _ _ _ _ _ _ y)]
  unfold kernelRun0_A
  dsimp only
  sl_unfold_words
  refine (View.canon_unit_zero (S := S64x512) zero2 _ _).trans ?_
  simp only [View.readAt_eq_ld, h0.read_unread, h1.read_unread, h2.read_unread, h3.read_unread, h4.read_unread, h5.read_unread, h6.read_unread, h7.read_unread, View.readCov_unit_zero (S := S64x512) _ zero2 _ _]
  simp only [ld_a, pay_g]
  exact pay_m x0 x2

/-- What the run leaves in it. -/
def arr6 (c : Dev nD) : Vec Ideal S64x512 .f32 := Cert.ReferenceWGluIdeal.Read.val_main_v6 (F := Ideal) (m ((c : Thread nD τ).loc main_arg0)) (m ((c : Thread nD τ).loc main_arg2))

theorem flushed6 (c : Dev nD) (t : Fin cfg0.N) :
    (dats m 0 c).flushed 6 t = ((cfg0.win 6).blk t).view.read (Elt Ideal) (arr6 m c) := by
  have e : out0_A_6 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr6 m c := by
    refine (out6 c _ _ _ _ _ _ _ _ _ _ _ _ _ _ _ _ _ _ _ _).trans ?_
    unfold arr6
    rw [blk0, blk2]
  rw [Value.flushed6_A, e]
  funext y
  rw [View.read_apply]
  have hb0 : (((cfg0.win 6).blk t).view.emb y 0).val = win0_6.index t (0 : Fin 2) * 64 + 1 * (y 0).val := rfl
  have hb1 : (((cfg0.win 6).blk t).view.emb y 1).val = win0_6.index t (1 : Fin 2) * 512 + 1 * (y 1).val := rfl
  refine Eq.trans ?_ (cast_eq rfl (arr6 m c (((cfg0.win 6).blk t).view.emb y))).symm
  refine congrArg (arr6 m c) ?_
  funext a; apply Fin.ext
  match a with
  | ⟨0, _⟩ => exact (hb0.trans (by rw [(at6 t).1, zero_mul, one_mul, zero_add]; rfl)).symm
  | ⟨1, _⟩ => exact (hb1.trans (by rw [(at6 t).2, zero_mul, one_mul, zero_add]; rfl)).symm

theorem cover6 (i : S64x512.Idx) :
    ∃ t : Fin cfg0.N, (cfg0.win 6).flush t = true ∧ i ∈ ((cfg0.win 6).blk t).view.set := by
  have hi0 : (i 0).val < 64 := (i 0).isLt
  have hi1 : (i 1).val < 512 := (i 1).isLt
  refine ⟨⟨0, point⟩, flush0_6 _, ?_⟩
  show i ∈ ((View.whole main_v0_2).slice (win0_6.rect ⟨0, point⟩)).set
  rw [View.set_slice_whole, Rect.mem_set_unit]
  intro a
  have h := at6 ⟨0, point⟩
  match a with
  | ⟨0, _⟩ =>
    show win0_6.index ⟨0, point⟩ 0 * 64 ≤ (i 0).val ∧ (i 0).val < win0_6.index ⟨0, point⟩ 0 * 64 + 64
    rw [h.1]; omega
  | ⟨1, _⟩ =>
    show win0_6.index ⟨0, point⟩ 1 * 512 ≤ (i 1).val ∧ (i 1).val < win0_6.index ⟨0, point⟩ 1 * 512 + 512
    rw [h.2]; omega

theorem final6 (c : Dev nD) : (dats m 0 c).arrAt 6 cfg0.N = arr6 m c :=
  (dats m 0 c).arrAt_eq_of_cover 6 (arr6 m c) (fun t _ => flushed6 m c t) cover6

/-! ### Output 7 -/

theorem out7 (c : Dev nD) (a0 : Memref sig .tc .vmem S8x64x512 .bf16) (h0 : a0.IsWhole) (a1 : Memref sig .tc .vmem S64x512 .f32) (h1 : a1.IsWhole) (a2 : Memref sig .tc .vmem S64x512 .f32) (h2 : a2.IsWhole) (a3 : Memref sig .tc .vmem S64x512 .f32) (h3 : a3.IsWhole) (a4 : Memref sig .tc .vmem S64x512 .f32) (h4 : a4.IsWhole) (a5 : Memref sig .tc .vmem S64x512 .f32) (h5 : a5.IsWhole) (a6 : Memref sig .tc .vmem S64x512 .f32) (h6 : a6.IsWhole) (a7 : Memref sig .tc .vmem S64x512 .f32) (h7 : a7.IsWhole)
    (x0 : Vec Ideal S8x64x512 .bf16) (x1 x2 x3 : Vec Ideal S64x512 .f32) :
    out0_A_7 (F := Ideal) c a0 h0 a1 h1 a2 h2 a3 h3 a4 h4 a5 h5 a6 h6 a7 h7 x0 x1 x2 x3 = Cert.ReferenceWGluIdeal.Read.val_main_v12 (F := Ideal) x0 x3 := by
  unfold out0_A_7
  rw [View.read_writes_eq_canon _ _ _ (fun y => cover0_A_7 c _ _ _ _ _ _ _ _ _ _ _ _ _ _ _ _ _ _ _ _ y)]
  unfold kernelRun0_A
  dsimp only
  sl_unfold_words
  refine (View.canon_unit_zero (S := S64x512) zero2 _ _).trans ?_
  simp only [View.readAt_eq_ld, h0.read_unread, h1.read_unread, h2.read_unread, h3.read_unread, h4.read_unread, h5.read_unread, h6.read_unread, h7.read_unread, View.readCov_unit_zero (S := S64x512) _ zero2 _ _]
  simp only [ld_a, pay_g]
  exact pay_v x0 x3

/-- What the run leaves in it. -/
def arr7 (c : Dev nD) : Vec Ideal S64x512 .f32 := Cert.ReferenceWGluIdeal.Read.val_main_v12 (F := Ideal) (m ((c : Thread nD τ).loc main_arg0)) (m ((c : Thread nD τ).loc main_arg3))

theorem flushed7 (c : Dev nD) (t : Fin cfg0.N) :
    (dats m 0 c).flushed 7 t = ((cfg0.win 7).blk t).view.read (Elt Ideal) (arr7 m c) := by
  have e : out0_A_7 (F := Ideal) c (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (iblk m c 0 t) (iblk m c 1 t) (iblk m c 2 t) (iblk m c 3 t) = arr7 m c := by
    refine (out7 c _ _ _ _ _ _ _ _ _ _ _ _ _ _ _ _ _ _ _ _).trans ?_
    unfold arr7
    rw [blk0, blk3]
  rw [Value.flushed7_A, e]
  funext y
  rw [View.read_apply]
  have hb0 : (((cfg0.win 7).blk t).view.emb y 0).val = win0_7.index t (0 : Fin 2) * 64 + 1 * (y 0).val := rfl
  have hb1 : (((cfg0.win 7).blk t).view.emb y 1).val = win0_7.index t (1 : Fin 2) * 512 + 1 * (y 1).val := rfl
  refine Eq.trans ?_ (cast_eq rfl (arr7 m c (((cfg0.win 7).blk t).view.emb y))).symm
  refine congrArg (arr7 m c) ?_
  funext a; apply Fin.ext
  match a with
  | ⟨0, _⟩ => exact (hb0.trans (by rw [(at7 t).1, zero_mul, one_mul, zero_add]; rfl)).symm
  | ⟨1, _⟩ => exact (hb1.trans (by rw [(at7 t).2, zero_mul, one_mul, zero_add]; rfl)).symm

theorem cover7 (i : S64x512.Idx) :
    ∃ t : Fin cfg0.N, (cfg0.win 7).flush t = true ∧ i ∈ ((cfg0.win 7).blk t).view.set := by
  have hi0 : (i 0).val < 64 := (i 0).isLt
  have hi1 : (i 1).val < 512 := (i 1).isLt
  refine ⟨⟨0, point⟩, flush0_7 _, ?_⟩
  show i ∈ ((View.whole main_v0_3).slice (win0_7.rect ⟨0, point⟩)).set
  rw [View.set_slice_whole, Rect.mem_set_unit]
  intro a
  have h := at7 ⟨0, point⟩
  match a with
  | ⟨0, _⟩ =>
    show win0_7.index ⟨0, point⟩ 0 * 64 ≤ (i 0).val ∧ (i 0).val < win0_7.index ⟨0, point⟩ 0 * 64 + 64
    rw [h.1]; omega
  | ⟨1, _⟩ =>
    show win0_7.index ⟨0, point⟩ 1 * 512 ≤ (i 1).val ∧ (i 1).val < win0_7.index ⟨0, point⟩ 1 * 512 + 512
    rw [h.2]; omega

theorem final7 (c : Dev nD) : (dats m 0 c).arrAt 7 cfg0.N = arr7 m c :=
  (dats m 0 c).arrAt_eq_of_cover 7 (arr7 m c) (fun t _ => flushed7 m c t) cover7

/-! ### The claims -/

theorem frame_ref : Cert.quiescent_ReferenceWGluIdeal (hReferenceWGluIdeal := Cert.ReferenceWGluIdeal.Gen.facts) := fun m ρ _ =>
  (θ_run Cert.ReferenceWGluIdeal.defs _ _).mono (fun r h => ⟨fun c => (h c).2.2.2.2,
    Idealize.ShloMosaic.sem_eq_zero_of_no_sems (by decide) r.2⟩) (Cert.ReferenceWGluIdeal.Value.run (F := Ideal) m ρ)

theorem algebraic : Cert.algebraic_KernelWGluIdeal_ReferenceWGluIdeal (hKernelWGluIdeal := Cert.KernelWGluIdeal.Gen.facts)
    (hReferenceWGluIdeal := Cert.ReferenceWGluIdeal.Gen.facts) := by
  intro m ρ m' ρ' _ hm
  refine ⟨arr4 m, arr5 m, arr6 m, arr7 m, ?_, ?_⟩
  · refine (θ_run Cert.KernelWGluIdeal.defs _ _).mono (fun r h c => ?_) (Cert.KernelWGluIdeal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run Cert.ReferenceWGluIdeal.defs _ _).mono (fun r h c => ?_) (Cert.ReferenceWGluIdeal.Value.run (F := Ideal) m' ρ')
    obtain ⟨h0, h1, h2, h3, hargs⟩ := h c
    obtain ⟨e0, e1, e2, e3⟩ := hm c
    refine ⟨h0.trans ((Cert.ReferenceWGluIdeal.Read.val_main_v1_eq _).trans ?_), h1.trans ((Cert.ReferenceWGluIdeal.Read.val_main_v25_eq _ _ _ _).trans ?_),
      h2.trans ((Cert.ReferenceWGluIdeal.Read.val_main_v6_eq _ _).trans ?_), h3.trans ((Cert.ReferenceWGluIdeal.Read.val_main_v12_eq _ _).trans ?_), hargs⟩
    · unfold arr4; rw [e0]
    · unfold arr5; rw [e0, e1, e2, e3]
    · unfold arr6; rw [e0, e2]
    · unfold arr7; rw [e0, e3]

end Cert.OptWGlu

end
-- ==== Proof.AdaFwd.lean ====
/- The forward call of the conditioning projection: the gated conditions times the weight, entry by entry. -/
module

public import proofs.«01_k».proof.Defs
public import proofs.«01_k».proof.Proof.Gen.KernelAdaFwdIdeal.Value
public import proofs.«01_k».proof.Proof.Gen.ReferenceAdaFwdIdeal.Read
public import Idealize.ShloMosaic.PureOps.Ideal.Laws
public import Idealize.ShloMosaic.Lib.Pointwise

@[expose] public section

noncomputable section

namespace Cert.AdaFwd

open Cert.KernelAdaFwdIdeal Cert.KernelAdaFwdIdeal.Gen Idealize.ShloMosaic Idealize.ShloMosaic.TcCoe Idealize.SL.Sem

theorem gate (x0 : Vec Ideal S16x1024 .f32) (p : Fin 16) (i : Fin 1024) :
    Cert.ReferenceAdaFwdIdeal.Read.val_main_v0 (F := Ideal) x0 (ix2 p i) = x0 (ix2 p i) * Ideal.logistic (x0 (ix2 p i)) := by
  have h : Cert.ReferenceAdaFwdIdeal.Read.val_main_call0_v5 (F := Ideal) x0 (ix2 p i) = Ideal.logistic (x0 (ix2 p i)) := by
    pointwise [Cert.ReferenceAdaFwdIdeal.Read.val_main_call0_v5, Cert.ReferenceAdaFwdIdeal.Read.val_main_call0_v4, Cert.ReferenceAdaFwdIdeal.Read.val_main_call0_cst_0, Cert.ReferenceAdaFwdIdeal.Read.val_main_call0_v3, Cert.ReferenceAdaFwdIdeal.Read.val_main_call0_v2, Cert.ReferenceAdaFwdIdeal.Read.val_main_call0_cst, Cert.ReferenceAdaFwdIdeal.Read.val_main_call0_v1, Cert.ReferenceAdaFwdIdeal.Read.val_main_call0_v0]
    rfl
  rw [← h]
  pointwise [Cert.ReferenceAdaFwdIdeal.Read.val_main_v0]

theorem product_k (x0 : Vec Ideal S16x1024 .f32) (x1 : Vec Ideal S1024x768 .f32) (p : Fin 16) (j : Fin 768) :
    k0_pay1 x0 x1 (ix2 p j) = ∑ i : Fin 1024, x0 (ix2 p i) * Ideal.logistic (x0 (ix2 p i)) * x1 (ix2 i j) := by
  pointwise [k0_pay1]

theorem product_r (x0 : Vec Ideal S16x1024 .f32) (x1 : Vec Ideal S1024x768 .f32) (p : Fin 16) (j : Fin 768) :
    Cert.ReferenceAdaFwdIdeal.Read.val_main_v1 (F := Ideal) x0 x1 (ix2 p j) = ∑ i : Fin 1024, Cert.ReferenceAdaFwdIdeal.Read.val_main_v0 (F := Ideal) x0 (ix2 p i) * x1 (ix2 i j) := by
  pointwise [Cert.ReferenceAdaFwdIdeal.Read.val_main_v1]

theorem product_eq (x0 : Vec Ideal S16x1024 .f32) (x1 : Vec Ideal S1024x768 .f32) :
    k0_pay1 x0 x1 = Cert.ReferenceAdaFwdIdeal.Read.val_main_v1 (F := Ideal) x0 x1 := by
  funext y
  obtain ⟨p, j, rfl⟩ : ∃ (p : Fin 16) (j : Fin 768), y = ix2 p j := ⟨y 0, y 1, eq_ix2 y⟩
  rw [product_k, product_r]
  exact Finset.sum_congr rfl fun i _ => by rw [gate]

theorem frame_ref : Cert.quiescent_ReferenceAdaFwdIdeal (hReferenceAdaFwdIdeal := Cert.ReferenceAdaFwdIdeal.Gen.facts) := fun m ρ _ =>
  (θ_run Cert.ReferenceAdaFwdIdeal.defs _ _).mono (fun r h => ⟨fun c => (h c).2,
    Idealize.ShloMosaic.sem_eq_zero_of_no_sems (by decide) r.2⟩) (Cert.ReferenceAdaFwdIdeal.Value.run (F := Ideal) m ρ)

theorem algebraic : Cert.algebraic_KernelAdaFwdIdeal_ReferenceAdaFwdIdeal (hKernelAdaFwdIdeal := Cert.KernelAdaFwdIdeal.Gen.facts)
    (hReferenceAdaFwdIdeal := Cert.ReferenceAdaFwdIdeal.Gen.facts) := by
  intro m ρ m' ρ' _ hm
  refine ⟨_, Cert.KernelAdaFwdIdeal.Value.run (F := Ideal) m ρ, ?_⟩
  refine (θ_run Cert.ReferenceAdaFwdIdeal.defs _ _).mono (fun r h c => ?_) (Cert.ReferenceAdaFwdIdeal.Value.run (F := Ideal) m' ρ')
  obtain ⟨h0, hargs⟩ := h c
  obtain ⟨e0, e1⟩ := hm c
  refine ⟨h0.trans ((Cert.ReferenceAdaFwdIdeal.Read.val_main_v1_eq _ _).trans ?_), hargs⟩
  rw [e0, e1]; exact (product_eq _ _).symm

end Cert.AdaFwd

end
-- ==== Proof.AdaBwd.lean ====
/- The backward call of the conditioning projection: the kernel puts the eight devices' rows, the summed context row and
   seven zero rows in one array; its product with the sixteen rows of conditions is the reference's two products. -/
module

public import proofs.«01_k».proof.Defs
public import proofs.«01_k».proof.Proof.Gen.KernelAdaBwdIdeal.Value
public import proofs.«01_k».proof.Proof.Gen.ReferenceAdaBwdIdeal.Read
public import Idealize.ShloMosaic.PureOps.Ideal.Laws
public import Idealize.ShloMosaic.Lib.Pointwise

@[expose] public section

noncomputable section

namespace Cert.AdaBwd

open Cert.KernelAdaBwdIdeal Cert.KernelAdaBwdIdeal.Gen Idealize.ShloMosaic Idealize.ShloMosaic.TcCoe Idealize.SL.Sem

/-! ### Rows -/

/-- Row `r` of the first eight. -/
abbrev lo (r : Fin 8) : Fin 16 := ⟨r.val, by omega⟩

/-- Row `r` of the last seven. -/
abbrev hi (r : Fin 7) : Fin 16 := ⟨9 + r.val, by omega⟩

theorem rows (p : Fin 16) : (∃ r, p = lo r) ∨ p = 8 ∨ ∃ r, p = hi r := by
  rcases Nat.lt_trichotomy p.val 8 with h | h | h
  · exact .inl ⟨⟨p.val, h⟩, rfl⟩
  · exact .inr (.inl (Fin.ext h))
  · exact .inr (.inr ⟨⟨p.val - 9, by omega⟩, Fin.ext (by show p.val = 9 + (p.val - 9); omega)⟩)

theorem sum_rows (f : Fin 16 → EReal) (h : ∀ r, f (hi r) = 0) : ∑ k, f k = (∑ k, f (lo k)) + f 8 := by
  refine (Fin.sum_univ_add (a := 8) (b := 8) f).trans (congrArg₂ (· + ·) rfl ?_)
  rw [Fin.sum_univ_succ]
  refine Eq.trans (congrArg₂ (· + ·) rfl ?_) (add_zero _)
  refine Finset.sum_eq_zero fun r _ => Eq.trans (congrArg f (Fin.ext ?_)) (h r)
  show 8 + (r.val + 1) = 9 + r.val
  omega

/-! ### The array of incoming gradients -/

theorem dm_lo (x3 x4 : Vec Ideal S8x768 .f32) (r : Fin 8) (j : Fin 768) : k0_pay5 x3 x4 (ix2 (lo r) j) = x3 (ix2 r j) := by
  have := r.isLt
  pointwise [k0_pay5]

theorem dm_mid (x3 x4 : Vec Ideal S8x768 .f32) (j : Fin 768) : k0_pay5 x3 x4 (ix2 8 j) = ∑ k : Fin 8, x4 (ix2 k j) := by
  rw [Fin.sum_univ_eight]
  pointwise [k0_pay5]

theorem dm_hi (x3 x4 : Vec Ideal S8x768 .f32) (r : Fin 7) (j : Fin 768) : k0_pay5 x3 x4 (ix2 (hi r) j) = 0 := by
  pointwise [k0_pay5]
  rw [dif_neg (by omega), dif_neg (by omega)]

/-! ### The gate of the conditions -/

theorem gate_k (x0 : Vec Ideal S16x1024 .f32) (p : Fin 16) (i : Fin 1024) :
    k0_pay3 x0 (ix2 p i) = Ideal.logistic (x0 (ix2 p i)) := by
  pointwise [k0_pay3]

theorem slope_k (x0 : Vec Ideal S16x1024 .f32) (p : Fin 16) (i : Fin 1024) :
    k0_pay4 x0 (ix2 p i) = Ideal.logistic (x0 (ix2 p i)) * (1 - Ideal.logistic (x0 (ix2 p i))) := by
  pointwise [k0_pay4, k0_pay3]

theorem gate_x (x0 : Vec Ideal S16x1024 .f32) (r : Fin 8) (i : Fin 1024) :
    Cert.ReferenceAdaBwdIdeal.Read.val_main_v2_2 (F := Ideal) x0 (ix2 r i) = Ideal.logistic (x0 (ix2 (lo r) i)) := by
  pointwise [Cert.ReferenceAdaBwdIdeal.Read.val_main_v2_2, Cert.ReferenceAdaBwdIdeal.Read.val_main_call0_v4, Cert.ReferenceAdaBwdIdeal.Read.val_main_call0_cst_0, Cert.ReferenceAdaBwdIdeal.Read.val_main_call0_v3, Cert.ReferenceAdaBwdIdeal.Read.val_main_call0_v2, Cert.ReferenceAdaBwdIdeal.Read.val_main_call0_cst, Cert.ReferenceAdaBwdIdeal.Read.val_main_call0_v1, Cert.ReferenceAdaBwdIdeal.Read.val_main_call0_v0, Cert.ReferenceAdaBwdIdeal.Read.val_main_v0]
  rfl

theorem gate_c (x0 : Vec Ideal S16x1024 .f32) (i : Fin 1024) :
    Cert.ReferenceAdaBwdIdeal.Read.val_main_v4_2 (F := Ideal) x0 (ix2 0 i) = Ideal.logistic (x0 (ix2 8 i)) := by
  pointwise [Cert.ReferenceAdaBwdIdeal.Read.val_main_v4_2, Cert.ReferenceAdaBwdIdeal.Read.val_main_call1_v4, Cert.ReferenceAdaBwdIdeal.Read.val_main_call1_cst_0, Cert.ReferenceAdaBwdIdeal.Read.val_main_call1_v3, Cert.ReferenceAdaBwdIdeal.Read.val_main_call1_v2, Cert.ReferenceAdaBwdIdeal.Read.val_main_call1_cst, Cert.ReferenceAdaBwdIdeal.Read.val_main_call1_v1, Cert.ReferenceAdaBwdIdeal.Read.val_main_call1_v0, Cert.ReferenceAdaBwdIdeal.Read.val_main_v1]
  rfl

theorem silu_x (x0 : Vec Ideal S16x1024 .f32) (r : Fin 8) (i : Fin 1024) :
    Cert.ReferenceAdaBwdIdeal.Read.val_main_v2_0 (F := Ideal) x0 (ix2 r i) = x0 (ix2 (lo r) i) * Ideal.logistic (x0 (ix2 (lo r) i)) := by
  rw [← gate_x]
  pointwise [Cert.ReferenceAdaBwdIdeal.Read.val_main_v2_0, Cert.ReferenceAdaBwdIdeal.Read.val_main_v0]

theorem silu_c (x0 : Vec Ideal S16x1024 .f32) (i : Fin 1024) :
    Cert.ReferenceAdaBwdIdeal.Read.val_main_v4_0 (F := Ideal) x0 (ix2 0 i) = x0 (ix2 8 i) * Ideal.logistic (x0 (ix2 8 i)) := by
  rw [← gate_c]
  pointwise [Cert.ReferenceAdaBwdIdeal.Read.val_main_v4_0, Cert.ReferenceAdaBwdIdeal.Read.val_main_v1]

theorem slope_x (x0 : Vec Ideal S16x1024 .f32) (r : Fin 8) (i : Fin 1024) :
    Cert.ReferenceAdaBwdIdeal.Read.val_main_v2_1 (F := Ideal) x0 (ix2 r i)
      = Ideal.logistic (x0 (ix2 (lo r) i)) * (1 - Ideal.logistic (x0 (ix2 (lo r) i))) := by
  rw [← gate_x]
  pointwise [Cert.ReferenceAdaBwdIdeal.Read.val_main_v2_1, Cert.ReferenceAdaBwdIdeal.Read.val_main_call0_v7, Cert.ReferenceAdaBwdIdeal.Read.val_main_call0_v6, Cert.ReferenceAdaBwdIdeal.Read.val_main_call0_cst_1]

theorem slope_c (x0 : Vec Ideal S16x1024 .f32) (i : Fin 1024) :
    Cert.ReferenceAdaBwdIdeal.Read.val_main_v4_1 (F := Ideal) x0 (ix2 0 i)
      = Ideal.logistic (x0 (ix2 8 i)) * (1 - Ideal.logistic (x0 (ix2 8 i))) := by
  rw [← gate_c]
  pointwise [Cert.ReferenceAdaBwdIdeal.Read.val_main_v4_1, Cert.ReferenceAdaBwdIdeal.Read.val_main_call1_v7, Cert.ReferenceAdaBwdIdeal.Read.val_main_call1_v6, Cert.ReferenceAdaBwdIdeal.Read.val_main_call1_cst_1]

/-! ### The gradient of the weight -/

theorem sum_c (x4 : Vec Ideal S8x768 .f32) (j : Fin 768) :
    Cert.ReferenceAdaBwdIdeal.Read.val_main_v8 (F := Ideal) x4 (ix2 0 j) = ∑ k : Fin 8, x4 (ix2 k j) := by
  pointwise [Cert.ReferenceAdaBwdIdeal.Read.val_main_v8, Cert.ReferenceAdaBwdIdeal.Read.val_main_v7, Cert.ReferenceAdaBwdIdeal.Read.val_main_cst]

theorem weight_k (x0 : Vec Ideal S16x1024 .f32) (x3 x4 : Vec Ideal S8x768 .f32) (i : Fin 1024) (j : Fin 768) :
    k0_pay6 x0 x3 x4 (ix2 i j) = ∑ k : Fin 16, x0 (ix2 k i) * k0_pay3 x0 (ix2 k i) * k0_pay5 x3 x4 (ix2 k j) := by
  pointwise [k0_pay6]

theorem weight_r (x0 : Vec Ideal S16x1024 .f32) (x3 x4 : Vec Ideal S8x768 .f32) (i : Fin 1024) (j : Fin 768) :
    Cert.ReferenceAdaBwdIdeal.Read.val_main_v15 (F := Ideal) x0 x3 x4 (ix2 i j)
      = Cert.ReferenceAdaBwdIdeal.Read.val_main_v8 (F := Ideal) x4 (ix2 0 j) * Cert.ReferenceAdaBwdIdeal.Read.val_main_v4_0 (F := Ideal) x0 (ix2 0 i)
        + ∑ k : Fin 8, x3 (ix2 k j) * Cert.ReferenceAdaBwdIdeal.Read.val_main_v2_0 (F := Ideal) x0 (ix2 k i) := by
  pointwise [Cert.ReferenceAdaBwdIdeal.Read.val_main_v15, Cert.ReferenceAdaBwdIdeal.Read.val_main_v14, Cert.ReferenceAdaBwdIdeal.Read.val_main_v13, Cert.ReferenceAdaBwdIdeal.Read.val_main_v10, Cert.ReferenceAdaBwdIdeal.Read.val_main_v9]
  rw [Fin.sum_univ_one]

theorem weight_eq (x0 : Vec Ideal S16x1024 .f32) (x3 x4 : Vec Ideal S8x768 .f32) :
    k0_pay6 x0 x3 x4 = Cert.ReferenceAdaBwdIdeal.Read.val_main_v15 (F := Ideal) x0 x3 x4 := by
  funext y
  obtain ⟨i, j, rfl⟩ : ∃ (i : Fin 1024) (j : Fin 768), y = ix2 i j := ⟨y 0, y 1, eq_ix2 y⟩
  rw [weight_k, weight_r, sum_rows _ fun r => by rw [dm_hi, mul_zero], dm_mid, sum_c, silu_c, gate_k, add_comm]
  refine congrArg₂ (· + ·) (mul_comm _ _) (Finset.sum_congr rfl fun k _ => ?_)
  rw [dm_lo, silu_x, gate_k, mul_comm]

/-! ### The gradient of the bias -/

theorem bias_eq (x1 x2 : Vec Ideal S8x6144 .f32) :
    k0_pay1 (k0_pay7 x1) x2 = Cert.ReferenceAdaBwdIdeal.Read.val_main_v25 (F := Ideal) x1 x2 := by
  funext y
  obtain ⟨p, j, rfl⟩ : ∃ (p : Fin 1) (j : Fin 6144), y = ix2 p j := ⟨y 0, y 1, eq_ix2 y⟩
  have h1 : Cert.ReferenceAdaBwdIdeal.Read.val_main_v24 (F := Ideal) x1 (ix2 p j) = ∑ k : Fin 8, x1 (ix2 k j) := by
    pointwise [Cert.ReferenceAdaBwdIdeal.Read.val_main_v24, Cert.ReferenceAdaBwdIdeal.Read.val_main_v23, Cert.ReferenceAdaBwdIdeal.Read.val_main_cst_2]
  have h2 : Cert.ReferenceAdaBwdIdeal.Read.val_main_v22 (F := Ideal) x2 (ix2 p j) = ∑ k : Fin 8, x2 (ix2 k j) := by
    pointwise [Cert.ReferenceAdaBwdIdeal.Read.val_main_v22, Cert.ReferenceAdaBwdIdeal.Read.val_main_v21, Cert.ReferenceAdaBwdIdeal.Read.val_main_cst_1]
  have hr : Cert.ReferenceAdaBwdIdeal.Read.val_main_v25 (F := Ideal) x1 x2 (ix2 p j)
      = Cert.ReferenceAdaBwdIdeal.Read.val_main_v22 (F := Ideal) x2 (ix2 p j) + Cert.ReferenceAdaBwdIdeal.Read.val_main_v24 (F := Ideal) x1 (ix2 p j) := rfl
  rw [hr, h1, h2, Fin.sum_univ_eight, Fin.sum_univ_eight, add_comm]
  pointwise [k0_pay1, k0_pay7]

/-! ### The gradient of the conditions -/

theorem cond_k (x0 g s : Vec Ideal S16x1024 .f32) (d : Vec Ideal S16x768 .f32) (x5 : Vec Ideal S1024x768 .f32) (p : Fin 16) (i : Fin 1024) :
    k0_pay2 x0 g s d x5 (ix2 p i) = (∑ j : Fin 768, d (ix2 p j) * x5 (ix2 i j)) * g (ix2 p i)
      + x0 (ix2 p i) * (∑ j : Fin 768, d (ix2 p j) * x5 (ix2 i j)) * s (ix2 p i) := by
  pointwise [k0_pay2]

theorem back_x (x3 : Vec Ideal S8x768 .f32) (x5 : Vec Ideal S1024x768 .f32) (r : Fin 8) (i : Fin 1024) :
    Cert.ReferenceAdaBwdIdeal.Read.val_main_v16 (F := Ideal) x3 x5 (ix2 r i) = ∑ j : Fin 768, x3 (ix2 r j) * x5 (ix2 i j) := by
  pointwise [Cert.ReferenceAdaBwdIdeal.Read.val_main_v16]

theorem back_c (x4 : Vec Ideal S8x768 .f32) (x5 : Vec Ideal S1024x768 .f32) (i : Fin 1024) :
    Cert.ReferenceAdaBwdIdeal.Read.val_main_v11 (F := Ideal) x4 x5 (ix2 0 i) = ∑ j : Fin 768, Cert.ReferenceAdaBwdIdeal.Read.val_main_v8 (F := Ideal) x4 (ix2 0 j) * x5 (ix2 i j) := by
  pointwise [Cert.ReferenceAdaBwdIdeal.Read.val_main_v11]

theorem cond_x (x0 : Vec Ideal S16x1024 .f32) (x3 : Vec Ideal S8x768 .f32) (x5 : Vec Ideal S1024x768 .f32) (r : Fin 8) (i : Fin 1024) :
    Cert.ReferenceAdaBwdIdeal.Read.val_main_v17 (F := Ideal) x0 x3 x5 (ix2 r i)
      = Cert.ReferenceAdaBwdIdeal.Read.val_main_v16 (F := Ideal) x3 x5 (ix2 r i) * Cert.ReferenceAdaBwdIdeal.Read.val_main_v2_2 (F := Ideal) x0 (ix2 r i)
        + x0 (ix2 (lo r) i) * Cert.ReferenceAdaBwdIdeal.Read.val_main_v16 (F := Ideal) x3 x5 (ix2 r i) * Cert.ReferenceAdaBwdIdeal.Read.val_main_v2_1 (F := Ideal) x0 (ix2 r i) := by
  pointwise [Cert.ReferenceAdaBwdIdeal.Read.val_main_v17, Cert.ReferenceAdaBwdIdeal.Read.val_main_call3_v0, Cert.ReferenceAdaBwdIdeal.Read.val_main_call3_v1, Cert.ReferenceAdaBwdIdeal.Read.val_main_call3_v2, Cert.ReferenceAdaBwdIdeal.Read.val_main_v0]

theorem cond_c (x0 : Vec Ideal S16x1024 .f32) (x4 : Vec Ideal S8x768 .f32) (x5 : Vec Ideal S1024x768 .f32) (i : Fin 1024) :
    Cert.ReferenceAdaBwdIdeal.Read.val_main_v12 (F := Ideal) x0 x4 x5 (ix2 0 i)
      = Cert.ReferenceAdaBwdIdeal.Read.val_main_v11 (F := Ideal) x4 x5 (ix2 0 i) * Cert.ReferenceAdaBwdIdeal.Read.val_main_v4_2 (F := Ideal) x0 (ix2 0 i)
        + x0 (ix2 8 i) * Cert.ReferenceAdaBwdIdeal.Read.val_main_v11 (F := Ideal) x4 x5 (ix2 0 i) * Cert.ReferenceAdaBwdIdeal.Read.val_main_v4_1 (F := Ideal) x0 (ix2 0 i) := by
  pointwise [Cert.ReferenceAdaBwdIdeal.Read.val_main_v12, Cert.ReferenceAdaBwdIdeal.Read.val_main_call2_v0, Cert.ReferenceAdaBwdIdeal.Read.val_main_call2_v1, Cert.ReferenceAdaBwdIdeal.Read.val_main_call2_v2, Cert.ReferenceAdaBwdIdeal.Read.val_main_v1]

theorem rows_lo (x0 : Vec Ideal S16x1024 .f32) (x3 x4 : Vec Ideal S8x768 .f32) (x5 : Vec Ideal S1024x768 .f32) (r : Fin 8) (i : Fin 1024) :
    Cert.ReferenceAdaBwdIdeal.Read.val_main_v27 (F := Ideal) x0 x3 x4 x5 (ix2 (lo r) i) = Cert.ReferenceAdaBwdIdeal.Read.val_main_v17 (F := Ideal) x0 x3 x5 (ix2 r i) := by
  have := r.isLt
  pointwise [Cert.ReferenceAdaBwdIdeal.Read.val_main_v27]

theorem rows_mid (x0 : Vec Ideal S16x1024 .f32) (x3 x4 : Vec Ideal S8x768 .f32) (x5 : Vec Ideal S1024x768 .f32) (i : Fin 1024) :
    Cert.ReferenceAdaBwdIdeal.Read.val_main_v27 (F := Ideal) x0 x3 x4 x5 (ix2 8 i) = Cert.ReferenceAdaBwdIdeal.Read.val_main_v12 (F := Ideal) x0 x4 x5 (ix2 0 i) := by
  pointwise [Cert.ReferenceAdaBwdIdeal.Read.val_main_v27]

theorem rows_hi (x0 : Vec Ideal S16x1024 .f32) (x3 x4 : Vec Ideal S8x768 .f32) (x5 : Vec Ideal S1024x768 .f32) (r : Fin 7) (i : Fin 1024) :
    Cert.ReferenceAdaBwdIdeal.Read.val_main_v27 (F := Ideal) x0 x3 x4 x5 (ix2 (hi r) i) = 0 := by
  pointwise [Cert.ReferenceAdaBwdIdeal.Read.val_main_v27, Cert.ReferenceAdaBwdIdeal.Read.val_main_v26, Cert.ReferenceAdaBwdIdeal.Read.val_main_cst_3]
  rw [dif_neg (by omega), dif_neg (by omega)]

theorem cond_eq (x0 : Vec Ideal S16x1024 .f32) (x3 x4 : Vec Ideal S8x768 .f32) (x5 : Vec Ideal S1024x768 .f32) :
    k0_pay2 x0 (k0_pay3 x0) (k0_pay4 x0) (k0_pay5 x3 x4) x5 = Cert.ReferenceAdaBwdIdeal.Read.val_main_v27 (F := Ideal) x0 x3 x4 x5 := by
  funext y
  obtain ⟨p, i, rfl⟩ : ∃ (p : Fin 16) (i : Fin 1024), y = ix2 p i := ⟨y 0, y 1, eq_ix2 y⟩
  rw [cond_k, gate_k, slope_k]
  rcases rows p with ⟨r, rfl⟩ | rfl | ⟨r, rfl⟩
  · rw [rows_lo, cond_x, gate_x, slope_x, back_x]
    simp only [dm_lo]
  · rw [rows_mid, cond_c, gate_c, slope_c, back_c]
    simp only [dm_mid, sum_c]
  · rw [rows_hi]
    simp only [dm_hi, zero_mul, mul_zero, Finset.sum_const_zero, add_zero]

/-! ### The claims -/

theorem frame_ref : Cert.quiescent_ReferenceAdaBwdIdeal (hReferenceAdaBwdIdeal := Cert.ReferenceAdaBwdIdeal.Gen.facts) := fun m ρ _ =>
  (θ_run Cert.ReferenceAdaBwdIdeal.defs _ _).mono (fun r h => ⟨fun c => (h c).2.2.2,
    Idealize.ShloMosaic.sem_eq_zero_of_no_sems (by decide) r.2⟩) (Cert.ReferenceAdaBwdIdeal.Value.run (F := Ideal) m ρ)

theorem algebraic : Cert.algebraic_KernelAdaBwdIdeal_ReferenceAdaBwdIdeal (hKernelAdaBwdIdeal := Cert.KernelAdaBwdIdeal.Gen.facts)
    (hReferenceAdaBwdIdeal := Cert.ReferenceAdaBwdIdeal.Gen.facts) := by
  intro m ρ m' ρ' _ hm
  refine ⟨_, _, _, Cert.KernelAdaBwdIdeal.Value.run (F := Ideal) m ρ, ?_⟩
  refine (θ_run Cert.ReferenceAdaBwdIdeal.defs _ _).mono (fun r h c => ?_) (Cert.ReferenceAdaBwdIdeal.Value.run (F := Ideal) m' ρ')
  obtain ⟨h0, h1, h2, hargs⟩ := h c
  obtain ⟨e0, e1, e2, e3, e4, e5⟩ := hm c
  refine ⟨h0.trans ((Cert.ReferenceAdaBwdIdeal.Read.val_main_v15_eq _ _ _).trans ?_), h1.trans ((Cert.ReferenceAdaBwdIdeal.Read.val_main_v25_eq _ _).trans ?_),
    h2.trans ((Cert.ReferenceAdaBwdIdeal.Read.val_main_v27_eq _ _ _ _).trans ?_), hargs⟩
  · rw [e0, e3, e4]; exact (weight_eq _ _ _).symm
  · rw [e1, e2]; exact (bias_eq _ _).symm
  · rw [e0, e3, e4, e5]; exact (cond_eq _ _ _ _).symm

end Cert.AdaBwd

end
-- ==== Proof.lean ====
module

public import proofs.«01_k».proof.Defs
public import proofs.«01_k».proof.Proof.FfnBwdClaim
public import proofs.«01_k».proof.Proof.FfnFwdClaim
public import proofs.«01_k».proof.Proof.FfnFwdFrame
public import proofs.«01_k».proof.Proof.DwUp
public import proofs.«01_k».proof.Proof.DwDown
public import proofs.«01_k».proof.Proof.DwOut
public import proofs.«01_k».proof.Proof.DwGlu
public import proofs.«01_k».proof.Proof.OptSumUp
public import proofs.«01_k».proof.Proof.OptWMod
public import proofs.«01_k».proof.Proof.OptWIn
public import proofs.«01_k».proof.Proof.OptWUp
public import proofs.«01_k».proof.Proof.OptConvW
public import proofs.«01_k».proof.Proof.OptWOut
public import proofs.«01_k».proof.Proof.OptWDown
public import proofs.«01_k».proof.Proof.OptWGlu
public import proofs.«01_k».proof.Proof.AdaFwd
public import proofs.«01_k».proof.Proof.AdaBwd
public import proofs.«01_k».proof.Proof.Gen.Kernel.Frame
public import proofs.«01_k».proof.Proof.Gen.KernelIdeal.Frame
public import proofs.«01_k».proof.Proof.Gen.KernelFwd.Frame
public import proofs.«01_k».proof.Proof.Gen.KernelFwdIdeal.Frame
public import proofs.«01_k».proof.Proof.Gen.KernelUp.Frame
public import proofs.«01_k».proof.Proof.Gen.KernelUpIdeal.Frame
public import proofs.«01_k».proof.Proof.Gen.KernelDown.Frame
public import proofs.«01_k».proof.Proof.Gen.KernelDownIdeal.Frame
public import proofs.«01_k».proof.Proof.Gen.KernelOut.Frame
public import proofs.«01_k».proof.Proof.Gen.KernelOutIdeal.Frame
public import proofs.«01_k».proof.Proof.Gen.KernelGlu.Frame
public import proofs.«01_k».proof.Proof.Gen.KernelGluIdeal.Frame
public import proofs.«01_k».proof.Proof.Gen.KernelSumUp.Frame
public import proofs.«01_k».proof.Proof.Gen.KernelSumUpIdeal.Frame
public import proofs.«01_k».proof.Proof.Gen.KernelWMod.Frame
public import proofs.«01_k».proof.Proof.Gen.KernelWModIdeal.Frame
public import proofs.«01_k».proof.Proof.Gen.KernelWIn.Frame
public import proofs.«01_k».proof.Proof.Gen.KernelWInIdeal.Frame
public import proofs.«01_k».proof.Proof.Gen.KernelWUp.Frame
public import proofs.«01_k».proof.Proof.Gen.KernelWUpIdeal.Frame
public import proofs.«01_k».proof.Proof.Gen.KernelConvW.Frame
public import proofs.«01_k».proof.Proof.Gen.KernelConvWIdeal.Frame
public import proofs.«01_k».proof.Proof.Gen.KernelWOut.Frame
public import proofs.«01_k».proof.Proof.Gen.KernelWOutIdeal.Frame
public import proofs.«01_k».proof.Proof.Gen.KernelWDown.Frame
public import proofs.«01_k».proof.Proof.Gen.KernelWDownIdeal.Frame
public import proofs.«01_k».proof.Proof.Gen.KernelWGlu.Frame
public import proofs.«01_k».proof.Proof.Gen.KernelWGluIdeal.Frame
public import proofs.«01_k».proof.Proof.Gen.KernelAdaFwd.Frame
public import proofs.«01_k».proof.Proof.Gen.KernelAdaFwdIdeal.Frame
public import proofs.«01_k».proof.Proof.Gen.KernelAdaBwd.Frame
public import proofs.«01_k».proof.Proof.Gen.KernelAdaBwdIdeal.Frame
public import proofs.«01_k».proof.Proof.Gen.KernelFwdIdeal.Value
public import proofs.«01_k».proof.Proof.Gen.KernelUpIdeal.Value
public import proofs.«01_k».proof.Proof.Gen.KernelDownIdeal.Value
public import proofs.«01_k».proof.Proof.Gen.KernelOutIdeal.Value
public import proofs.«01_k».proof.Proof.Gen.KernelGluIdeal.Value
public import proofs.«01_k».proof.Proof.Gen.KernelSumUpIdeal.Value
public import proofs.«01_k».proof.Proof.Gen.KernelWModIdeal.Value
public import proofs.«01_k».proof.Proof.Gen.KernelWInIdeal.Value
public import proofs.«01_k».proof.Proof.Gen.KernelWUpIdeal.Value
public import proofs.«01_k».proof.Proof.Gen.KernelConvWIdeal.Value
public import proofs.«01_k».proof.Proof.Gen.KernelWOutIdeal.Value
public import proofs.«01_k».proof.Proof.Gen.KernelWDownIdeal.Value
public import proofs.«01_k».proof.Proof.Gen.KernelWGluIdeal.Value
public import proofs.«01_k».proof.Proof.Gen.KernelAdaFwdIdeal.Value
public import proofs.«01_k».proof.Proof.Gen.KernelAdaBwdIdeal.Value
public import proofs.«01_k».proof.Proof.Gen.ReferenceFwdIdeal.Read
public import proofs.«01_k».proof.Proof.Gen.ReferenceUpIdeal.Read
public import proofs.«01_k».proof.Proof.Gen.ReferenceDownIdeal.Read
public import proofs.«01_k».proof.Proof.Gen.ReferenceOutIdeal.Read
public import proofs.«01_k».proof.Proof.Gen.ReferenceGluIdeal.Read
public import proofs.«01_k».proof.Proof.Gen.ReferenceSumUpIdeal.Read
public import proofs.«01_k».proof.Proof.Gen.ReferenceWModIdeal.Read
public import proofs.«01_k».proof.Proof.Gen.ReferenceWInIdeal.Read
public import proofs.«01_k».proof.Proof.Gen.ReferenceWUpIdeal.Read
public import proofs.«01_k».proof.Proof.Gen.ReferenceConvWIdeal.Read
public import proofs.«01_k».proof.Proof.Gen.ReferenceWOutIdeal.Read
public import proofs.«01_k».proof.Proof.Gen.ReferenceWDownIdeal.Read
public import proofs.«01_k».proof.Proof.Gen.ReferenceWGluIdeal.Read
public import proofs.«01_k».proof.Proof.Gen.ReferenceAdaFwdIdeal.Read
public import proofs.«01_k».proof.Proof.Gen.ReferenceAdaBwdIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.KernelFwd.Gen.facts,
    Cert.KernelFwdIdeal.Gen.facts,
    Cert.ReferenceFwdIdeal.Gen.facts,
    Cert.KernelUp.Gen.facts,
    Cert.KernelUpIdeal.Gen.facts,
    Cert.ReferenceUpIdeal.Gen.facts,
    Cert.KernelDown.Gen.facts,
    Cert.KernelDownIdeal.Gen.facts,
    Cert.ReferenceDownIdeal.Gen.facts,
    Cert.KernelOut.Gen.facts,
    Cert.KernelOutIdeal.Gen.facts,
    Cert.ReferenceOutIdeal.Gen.facts,
    Cert.KernelGlu.Gen.facts,
    Cert.KernelGluIdeal.Gen.facts,
    Cert.ReferenceGluIdeal.Gen.facts,
    Cert.KernelSumUp.Gen.facts,
    Cert.KernelSumUpIdeal.Gen.facts,
    Cert.ReferenceSumUpIdeal.Gen.facts,
    Cert.KernelWMod.Gen.facts,
    Cert.KernelWModIdeal.Gen.facts,
    Cert.ReferenceWModIdeal.Gen.facts,
    Cert.KernelWIn.Gen.facts,
    Cert.KernelWInIdeal.Gen.facts,
    Cert.ReferenceWInIdeal.Gen.facts,
    Cert.KernelWUp.Gen.facts,
    Cert.KernelWUpIdeal.Gen.facts,
    Cert.ReferenceWUpIdeal.Gen.facts,
    Cert.KernelConvW.Gen.facts,
    Cert.KernelConvWIdeal.Gen.facts,
    Cert.ReferenceConvWIdeal.Gen.facts,
    Cert.KernelWOut.Gen.facts,
    Cert.KernelWOutIdeal.Gen.facts,
    Cert.ReferenceWOutIdeal.Gen.facts,
    Cert.KernelWDown.Gen.facts,
    Cert.KernelWDownIdeal.Gen.facts,
    Cert.ReferenceWDownIdeal.Gen.facts,
    Cert.KernelWGlu.Gen.facts,
    Cert.KernelWGluIdeal.Gen.facts,
    Cert.ReferenceWGluIdeal.Gen.facts,
    Cert.KernelAdaFwd.Gen.facts,
    Cert.KernelAdaFwdIdeal.Gen.facts,
    Cert.ReferenceAdaFwdIdeal.Gen.facts,
    Cert.KernelAdaBwd.Gen.facts,
    Cert.KernelAdaBwdIdeal.Gen.facts,
    Cert.ReferenceAdaBwdIdeal.Gen.facts,
    Cert.FfnBwdClaim.preFacts,
    Cert.FfnFwdClaim.preFacts,
    fun m ρ _ => Cert.Kernel.Gen.frame m ρ,
    fun m ρ _ => Cert.KernelIdeal.Gen.frame m ρ,
    fun m ρ _ => Cert.KernelIdeal.Gen.frame m ρ,
    Cert.FfnBwdClaim.frame_ref,
    fun m ρ _ => Cert.FfnBwdClaim.frame_ref m ρ trivial,
    fun m ρ _ => Cert.KernelFwd.Gen.frame m ρ,
    fun m ρ _ => Cert.KernelFwdIdeal.Gen.frame m ρ,
    fun m ρ _ => Cert.KernelFwdIdeal.Gen.frame m ρ,
    Cert.FfnFwdFrame.frame_ref,
    fun m ρ _ => Cert.FfnFwdFrame.frame_ref m ρ trivial,
    fun m ρ _ => Cert.KernelUp.Gen.frame m ρ,
    fun m ρ _ => Cert.KernelUpIdeal.Gen.frame m ρ,
    Cert.DwUp.frame_ref,
    fun m ρ _ => Cert.KernelDown.Gen.frame m ρ,
    fun m ρ _ => Cert.KernelDownIdeal.Gen.frame m ρ,
    Cert.DwDown.frame_ref,
    fun m ρ _ => Cert.KernelOut.Gen.frame m ρ,
    fun m ρ _ => Cert.KernelOutIdeal.Gen.frame m ρ,
    Cert.DwOut.frame_ref,
    fun m ρ _ => Cert.KernelGlu.Gen.frame m ρ,
    fun m ρ _ => Cert.KernelGluIdeal.Gen.frame m ρ,
    Cert.DwGlu.frame_ref,
    fun m ρ _ => Cert.KernelSumUp.Gen.frame m ρ,
    fun m ρ _ => Cert.KernelSumUpIdeal.Gen.frame m ρ,
    Cert.OptSumUp.frame_ref,
    fun m ρ _ => Cert.KernelWMod.Gen.frame m ρ,
    fun m ρ _ => Cert.KernelWModIdeal.Gen.frame m ρ,
    Cert.OptWMod.frame_ref,
    fun m ρ _ => Cert.KernelWIn.Gen.frame m ρ,
    fun m ρ _ => Cert.KernelWInIdeal.Gen.frame m ρ,
    Cert.OptWIn.frame_ref,
    fun m ρ _ => Cert.KernelWUp.Gen.frame m ρ,
    fun m ρ _ => Cert.KernelWUpIdeal.Gen.frame m ρ,
    Cert.OptWUp.frame_ref,
    fun m ρ _ => Cert.KernelConvW.Gen.frame m ρ,
    fun m ρ _ => Cert.KernelConvWIdeal.Gen.frame m ρ,
    Cert.OptConvW.frame_ref,
    fun m ρ _ => Cert.KernelWOut.Gen.frame m ρ,
    fun m ρ _ => Cert.KernelWOutIdeal.Gen.frame m ρ,
    Cert.OptWOut.frame_ref,
    fun m ρ _ => Cert.KernelWDown.Gen.frame m ρ,
    fun m ρ _ => Cert.KernelWDownIdeal.Gen.frame m ρ,
    Cert.OptWDown.frame_ref,
    fun m ρ _ => Cert.KernelWGlu.Gen.frame m ρ,
    fun m ρ _ => Cert.KernelWGluIdeal.Gen.frame m ρ,
    Cert.OptWGlu.frame_ref,
    fun m ρ _ => Cert.KernelAdaFwd.Gen.frame m ρ,
    fun m ρ _ => Cert.KernelAdaFwdIdeal.Gen.frame m ρ,
    Cert.AdaFwd.frame_ref,
    fun m ρ _ => Cert.KernelAdaBwd.Gen.frame m ρ,
    fun m ρ _ => Cert.KernelAdaBwdIdeal.Gen.frame m ρ,
    Cert.AdaBwd.frame_ref,
    trivial,
    Cert.FfnBwdClaim.algebraic,
    Cert.FfnFwdFrame.preserves,
    Cert.FfnFwdClaim.algebraic,
    trivial,
    Cert.DwUp.algebraic,
    trivial,
    Cert.DwDown.algebraic,
    trivial,
    Cert.DwOut.algebraic,
    trivial,
    Cert.DwGlu.algebraic,
    trivial,
    Cert.OptSumUp.algebraic,
    trivial,
    Cert.OptWMod.algebraic,
    trivial,
    Cert.OptWIn.algebraic,
    trivial,
    Cert.OptWUp.algebraic,
    trivial,
    Cert.OptConvW.algebraic,
    trivial,
    Cert.OptWOut.algebraic,
    trivial,
    Cert.OptWDown.algebraic,
    trivial,
    Cert.OptWGlu.algebraic,
    trivial,
    Cert.AdaFwd.algebraic,
    trivial,
    Cert.AdaBwd.algebraic⟩

end Cert.Proof

end
